-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_scores [hPre_finite_scores : Cert.Pre_finite_scores.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_scores.fn (F := Ideal) (m ((c.tc : Thread Cert.Kernel20Ideal.nD Cert.Kernel20Ideal.τ).loc Cert.Kernel20Ideal.main_arg0))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_scores [hPre_finite_scores : Cert.Pre_finite_scores.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_scores.fn (F := Ideal) (m ((c.tc : Thread Cert.Reference20Ideal.nD Cert.Reference20Ideal.τ).loc Cert.Reference20Ideal.main_arg0))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Kernel20Ideal_pre_finite_scores [hKernel20Ideal : Cert.Kernel20Ideal.Facts] [hPre_finite_scores : Cert.Pre_finite_scores.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_scores m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Reference20Ideal_pre_finite_scores [hReference20Ideal : Cert.Reference20Ideal.Facts] [hPre_finite_scores : Cert.Pre_finite_scores.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_scores m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3)) (v4 : (c : Dev Cert.Kernel6Ideal.nD) → Buf (Elt Ideal) ((c.tc : Thread Cert.Kernel6Ideal.nD Cert.Kernel6Ideal.τ).loc Cert.Kernel6Ideal.main_v4)) (v5 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_v4) = v4 c
          ∧ r.2.mem ((c.tc : Thread Cert.Kernel6Ideal.nD Cert.Kernel6Ideal.τ).loc Cert.Kernel6Ideal.main_v5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_v13) = v4 c
          ∧ r.2.mem ((c.tc : Thread Cert.Reference6Ideal.nD Cert.Reference6Ideal.τ).loc Cert.Reference6Ideal.main_v16) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v2)) (v3 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_v3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v14) = v2 c
          ∧ r.2.mem ((c.tc : Thread Cert.Reference7Ideal.nD Cert.Reference7Ideal.τ).loc Cert.Reference7Ideal.main_v19) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v1_0)) (v4 : (c : Dev Cert.Kernel14Ideal.nD) → Buf (Elt Ideal) ((c.tc : Thread Cert.Kernel14Ideal.nD Cert.Kernel14Ideal.τ).loc Cert.Kernel14Ideal.main_v1_1)) (v5 : (c : Dev Cert.Kernel14Ideal.nD) → Buf (Elt Ideal) ((c.tc : Thread Cert.Kernel14Ideal.nD Cert.Kernel14Ideal.τ).loc Cert.Kernel14Ideal.main_v1_2)) (v6 : (c : Dev Cert.Kernel14Ideal.nD) → Buf (Elt Ideal) ((c.tc : Thread Cert.Kernel14Ideal.nD Cert.Kernel14Ideal.τ).loc Cert.Kernel14Ideal.main_v1_3)) (v7 : (c : Dev Cert.Kernel14Ideal.nD) → Buf (Elt Ideal) ((c.tc : Thread Cert.Kernel14Ideal.nD Cert.Kernel14Ideal.τ).loc Cert.Kernel14Ideal.main_v1_4)) (v8 : (c : Dev Cert.Kernel14Ideal.nD) → Buf (Elt Ideal) ((c.tc : Thread Cert.Kernel14Ideal.nD Cert.Kernel14Ideal.τ).loc Cert.Kernel14Ideal.main_v1_5)) (v9 : (c : Dev Cert.Kernel14Ideal.nD) → Buf (Elt Ideal) ((c.tc : Thread Cert.Kernel14Ideal.nD Cert.Kernel14Ideal.τ).loc Cert.Kernel14Ideal.main_v1_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v1_0) = v3 c
          ∧ r.2.mem ((c.tc : Thread Cert.Kernel14Ideal.nD Cert.Kernel14Ideal.τ).loc Cert.Kernel14Ideal.main_v1_1) = v4 c
          ∧ r.2.mem ((c.tc : Thread Cert.Kernel14Ideal.nD Cert.Kernel14Ideal.τ).loc Cert.Kernel14Ideal.main_v1_2) = v5 c
          ∧ r.2.mem ((c.tc : Thread Cert.Kernel14Ideal.nD Cert.Kernel14Ideal.τ).loc Cert.Kernel14Ideal.main_v1_3) = v6 c
          ∧ r.2.mem ((c.tc : Thread Cert.Kernel14Ideal.nD Cert.Kernel14Ideal.τ).loc Cert.Kernel14Ideal.main_v1_4) = v7 c
          ∧ r.2.mem ((c.tc : Thread Cert.Kernel14Ideal.nD Cert.Kernel14Ideal.τ).loc Cert.Kernel14Ideal.main_v1_5) = v8 c
          ∧ r.2.mem ((c.tc : Thread Cert.Kernel14Ideal.nD Cert.Kernel14Ideal.τ).loc Cert.Kernel14Ideal.main_v1_6) = v9 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v44) = v1 c
          ∧ r.2.mem ((c.tc : Thread Cert.Reference14Ideal.nD Cert.Reference14Ideal.τ).loc Cert.Reference14Ideal.main_v51) = v2 c
          ∧ r.2.mem ((c.tc : Thread Cert.Reference14Ideal.nD Cert.Reference14Ideal.τ).loc Cert.Reference14Ideal.main_v125) = v3 c
          ∧ r.2.mem ((c.tc : Thread Cert.Reference14Ideal.nD Cert.Reference14Ideal.τ).loc Cert.Reference14Ideal.main_v120) = v4 c
          ∧ r.2.mem ((c.tc : Thread Cert.Reference14Ideal.nD Cert.Reference14Ideal.τ).loc Cert.Reference14Ideal.main_v126) = v5 c
          ∧ r.2.mem ((c.tc : Thread Cert.Reference14Ideal.nD Cert.Reference14Ideal.τ).loc Cert.Reference14Ideal.main_v73) = v6 c
          ∧ r.2.mem ((c.tc : Thread Cert.Reference14Ideal.nD Cert.Reference14Ideal.τ).loc Cert.Reference14Ideal.main_v127) = v7 c
          ∧ r.2.mem ((c.tc : Thread Cert.Reference14Ideal.nD Cert.Reference14Ideal.τ).loc Cert.Reference14Ideal.main_v62) = v8 c
          ∧ r.2.mem ((c.tc : Thread Cert.Reference14Ideal.nD Cert.Reference14Ideal.τ).loc Cert.Reference14Ideal.main_v128) = v9 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v0)) (v1 : (c : Dev Cert.Kernel15Ideal.nD) → Buf (Elt Ideal) ((c.tc : Thread Cert.Kernel15Ideal.nD Cert.Kernel15Ideal.τ).loc Cert.Kernel15Ideal.main_v1_0)) (v2 : (c : Dev Cert.Kernel15Ideal.nD) → Buf (Elt Ideal) ((c.tc : Thread Cert.Kernel15Ideal.nD Cert.Kernel15Ideal.τ).loc Cert.Kernel15Ideal.main_v1_1)) (v3 : (c : Dev Cert.Kernel15Ideal.nD) → Buf (Elt Ideal) ((c.tc : Thread Cert.Kernel15Ideal.nD Cert.Kernel15Ideal.τ).loc Cert.Kernel15Ideal.main_v2_0)) (v4 : (c : Dev Cert.Kernel15Ideal.nD) → Buf (Elt Ideal) ((c.tc : Thread Cert.Kernel15Ideal.nD Cert.Kernel15Ideal.τ).loc Cert.Kernel15Ideal.main_v2_1)) (v5 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_v1_0) = v1 c
          ∧ r.2.mem ((c.tc : Thread Cert.Kernel15Ideal.nD Cert.Kernel15Ideal.τ).loc Cert.Kernel15Ideal.main_v1_1) = v2 c
          ∧ r.2.mem ((c.tc : Thread Cert.Kernel15Ideal.nD Cert.Kernel15Ideal.τ).loc Cert.Kernel15Ideal.main_v2_0) = v3 c
          ∧ r.2.mem ((c.tc : Thread Cert.Kernel15Ideal.nD Cert.Kernel15Ideal.τ).loc Cert.Kernel15Ideal.main_v2_1) = v4 c
          ∧ r.2.mem ((c.tc : Thread Cert.Kernel15Ideal.nD Cert.Kernel15Ideal.τ).loc Cert.Kernel15Ideal.main_v3) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v66) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_v81) = v2 c
          ∧ r.2.mem ((c.tc : Thread Cert.Reference15Ideal.nD Cert.Reference15Ideal.τ).loc Cert.Reference15Ideal.main_v29) = v3 c
          ∧ r.2.mem ((c.tc : Thread Cert.Reference15Ideal.nD Cert.Reference15Ideal.τ).loc Cert.Reference15Ideal.main_v82) = v4 c
          ∧ r.2.mem ((c.tc : Thread Cert.Reference15Ideal.nD Cert.Reference15Ideal.τ).loc Cert.Reference15Ideal.main_v51) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v50) = v0 c
          ∧ r.2.mem ((c.tc : Thread Cert.Reference16Ideal.nD Cert.Reference16Ideal.τ).loc Cert.Reference16Ideal.main_v51) = v1 c
          ∧ r.2.mem ((c.tc : Thread Cert.Reference16Ideal.nD Cert.Reference16Ideal.τ).loc Cert.Reference16Ideal.main_v52) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v38) = v1 c
          ∧ r.2.mem ((c.tc : Thread Cert.Reference17Ideal.nD Cert.Reference17Ideal.τ).loc Cert.Reference17Ideal.main_v39) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v37) = v0 c
          ∧ r.2.mem ((c.tc : Thread Cert.Reference18Ideal.nD Cert.Reference18Ideal.τ).loc Cert.Reference18Ideal.main_v75) = v1 c
          ∧ r.2.mem ((c.tc : Thread Cert.Reference18Ideal.nD Cert.Reference18Ideal.τ).loc Cert.Reference18Ideal.main_v76) = v2 c
          ∧ r.2.mem ((c.tc : Thread Cert.Reference18Ideal.nD Cert.Reference18Ideal.τ).loc Cert.Reference18Ideal.main_v77) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v38) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite_scores [hKernel20Ideal : Cert.Kernel20Ideal.Facts] [hReference20Ideal : Cert.Reference20Ideal.Facts] [hPre_finite_scores : Cert.Pre_finite_scores.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_scores m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v29) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v51) = v0 c
          ∧ r.2.mem ((c.tc : Thread Cert.Reference21Ideal.nD Cert.Reference21Ideal.τ).loc Cert.Reference21Ideal.main_v66) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_scores (hKernel20Ideal := hKernel20Ideal) (hPre_finite_scores := hPre_finite_scores)
    ∧ quiescent_Reference20Ideal (hReference20Ideal := hReference20Ideal)
    ∧ quiescent_Reference20Ideal_pre_finite_scores (hReference20Ideal := hReference20Ideal) (hPre_finite_scores := hPre_finite_scores)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_scores (hKernel20Ideal := hKernel20Ideal) (hReference20Ideal := hReference20Ideal) (hPre_finite_scores := hPre_finite_scores)
    ∧ preserves_Kernel21_Kernel21Ideal
    ∧ algebraic_Kernel21Ideal_Reference21Ideal (hKernel21Ideal := hKernel21Ideal) (hReference21Ideal := hReference21Ideal)
-- ==== Pre_finite.lean ====
abbrev S2048x7168 : Shape := ⟨2, ![2048, 7168]⟩
abbrev S2048x2048 : Shape := ⟨2, ![2048, 2048]⟩
abbrev S2048x3072 : Shape := ⟨2, ![2048, 3072]⟩
abbrev S_ : Shape := ⟨0, ![]⟩
abbrev S2048x1024 : Shape := ⟨2, ![2048, 1024]⟩

class Facts : Prop where
  slices_S2048x7168_S2048x3072_0_0 : S2048x7168.Slices ![0, 0] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel
  slices_S2048x2048_S2048x1024_0_0 : S2048x2048.Slices ![0, 0] S2048x1024
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x7168 .f32) (main_arg1 : FVec F S2048x2048 .f32) : IVec S_ 1 :=
  let main_v0 : FVec F S2048x3072 .f32 := (extractStridedSlice S2048x3072 ![0, 0] · slices_S2048x7168_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S2048x1024 .f32 := (extractStridedSlice S2048x1024 ![0, 0] · slices_S2048x2048_S2048x1024_0_0) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  main_v10
-- ==== Pre_finite_scores.lean ====
abbrev S2048x7168 : Shape := ⟨2, ![2048, 7168]⟩
abbrev S2048x2048 : Shape := ⟨2, ![2048, 2048]⟩
abbrev S_ : Shape := ⟨0, ![]⟩

class Facts : Prop where
  slices_S2048x7168_S2048x2048_0_0 : S2048x7168.Slices ![0, 0] S2048x2048
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x7168 .f32) : IVec S_ 1 :=
  let main_v0 : FVec F S2048x2048 .f32 := (extractStridedSlice S2048x2048 ![0, 0] · slices_S2048x7168_S2048x2048_0_0) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  main_v4
-- ==== Kernel.lean ====
abbrev S2048x7168 : Shape := ⟨2, ![2048, 7168]⟩
abbrev S2048x2048 : Shape := ⟨2, ![2048, 2048]⟩
abbrev S2048x1024 : Shape := ⟨2, ![2048, 1024]⟩
abbrev S512x128 : Shape := ⟨2, ![512, 128]⟩
abbrev S2048x128 : Shape := ⟨2, ![2048, 128]⟩
abbrev S4x512x512 : Shape := ⟨3, ![4, 512, 512]⟩
abbrev S512x512 : Shape := ⟨2, ![512, 512]⟩
abbrev S512x1 : Shape := ⟨2, ![512, 1]⟩
abbrev S1x512x512 : Shape := ⟨3, ![1, 512, 512]⟩
abbrev S512 : Shape := ⟨1, ![512]⟩

abbrev nBuf : Space → Nat
  | .hbm => 5
  | .vmem => 16
  | .smem => 0
  | _ => 0

abbrev bufTy : (tb : Table) → Fin (tcTables nBuf tb) → BufTy
  | .hbm, ⟨0, _⟩ => ⟨S2048x7168, .f32⟩
  | .hbm, ⟨1, _⟩ => ⟨S2048x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S4x512x512, .f32⟩
  | .local _ .vmem, ⟨15, _⟩ => ⟨S4x512x512, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1_i32 : BitVec 32 := 1#32
  let v27 : BitVec 32 := Scalar.muli arg1 c1_i32
  let c1_i32_6 : BitVec 32 := 1#32
  let v28 : BitVec 32 := Scalar.addi v27 c1_i32_6
  let c1_i32_7 : BitVec 32 := 1#32
  let v29 : BitVec 32 := Scalar.subi v28 c1_i32_7
  let c0_i32_5 : BitVec 32 := 0#32
  let v30 : BitVec 32 := Scalar.subi v29 c0_i32_5
  let c512_i32_8 : BitVec 32 := 512#32
  let v31 : BitVec 32 := Scalar.muli v30 c512_i32_8
  v31
def k0_off1 (i : grid0.Coords) : Fin 2 → Nat :=
  let arg1 : BitVec 32 := BitVec.ofNat 32 (i 1).val
  let c1_i32 : BitVec 32 := 1#32
  let v27 : BitVec 32 := Scalar.muli arg1 c1_i32
  let c1_i32_6 : BitVec 32 := 1#32
  let v28 : BitVec 32 := Scalar.addi v27 c1_i32_6
  let c1_i32_7 : BitVec 32 := 1#32
  let v29 : BitVec 32 := Scalar.subi v28 c1_i32_7
  let c0_i32_5 : BitVec 32 := 0#32
  let v30 : BitVec 32 := Scalar.subi v29 c0_i32_5
  let c512_i32_8 : BitVec 32 := 512#32
  let v31 : BitVec 32 := Scalar.muli v30 c512_i32_8
  let v32 : BitVec 32 := v31
  let v33 : Index := Scalar.indexCast v32
  let c0_9 : Index := 0#32
  ![v33.toNat, 0]
def k0_off2 (i : grid0.Coords) : Fin 3 → Nat :=
  let arg1 : BitVec 32 := BitVec.ofNat 32 (i 1).val
  let c1_i32 : BitVec 32 := 1#32
  let v27 : BitVec 32 := Scalar.muli arg1 c1_i32
  let c1_i32_6 : BitVec 32 := 1#32
  let v28 : BitVec 32 := Scalar.addi v27 c1_i32_6
  let c1_i32_7 : BitVec 32 := 1#32
  let v29 : BitVec 32 := Scalar.subi v28 c1_i32_7
  let c0_i32_5 : BitVec 32 := 0#32
  let v30 : BitVec 32 := Scalar.subi v29 c0_i32_5
  let v84 : Index := Scalar.indexCast v30
  let c0_26 : Index := 0#32
  let c0_27 : Index := 0#32
  ![v84.toNat, 0, 0]
@[reducible] def k0_t1_loop (i : grid0.Coords) : Scf.Loop 32 :=
  let c0_i32_33 : BitVec 32 := 0#32
  let arg1 : BitVec 32 := BitVec.ofNat 32 (i 1).val
  let c1_i32 : BitVec 32 := 1#32
  let v27 : BitVec 32 := Scalar.muli arg1 c1_i32
  let v99 : BitVec 32 := Scalar.subi v27 c0_i32_33
  let c1_i32_34 : BitVec 32 := 1#32
  let v101 : BitVec 32 := Scalar.divsi v99 c1_i32_34
  let v102 : BitVec 32 := Scalar.muli v101 c1_i32_34
  let v103 : BitVec 32 := Scalar.addi c0_i32_33 v102
  let c1_i32_35 : BitVec 32 := 1#32
  ⟨c0_i32_33, v103, c1_i32_35⟩
def k0_mult2 (i : grid0.Coords) (k0_t1 : Fin (k0_t1_loop i).trips) : BitVec 32 :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let c1_i32_35 : BitVec 32 := 1#32
  let arg11 : BitVec 32 := Scf.iv c0_i32_33 c1_i32_35 k0_t1
  let v175 : BitVec 32 := Scalar.subi v174 arg11
  let c512_i32_69 : BitVec 32 := 512#32
  let v176 : BitVec 32 := Scalar.muli v175 c512_i32_69
  v176
def k0_off3 (i : grid0.Coords) (k0_t1 : Fin (k0_t1_loop i).trips) : Fin 2 → Nat :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let c1_i32_35 : BitVec 32 := 1#32
  let arg11 : BitVec 32 := Scf.iv c0_i32_33 c1_i32_35 k0_t1
  let v175 : BitVec 32 := Scalar.subi v174 arg11
  let c512_i32_69 : BitVec 32 := 512#32
  let v176 : BitVec 32 := Scalar.muli v175 c512_i32_69
  let v177 : BitVec 32 := v176
  let v178 : Index := Scalar.indexCast v177
  let c0_70 : Index := 0#32
  ![v178.toNat, 0]
def k0_off4 (i : grid0.Coords) (k0_t1 : Fin (k0_t1_loop i).trips) : Fin 3 → Nat :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let c1_i32_35 : BitVec 32 := 1#32
  let arg11 : BitVec 32 := Scf.iv c0_i32_33 c1_i32_35 k0_t1
  let v175 : BitVec 32 := Scalar.subi v174 arg11
  let v221 : Index := Scalar.indexCast v175
  let c0_84 : Index := 0#32
  let c0_85 : Index := 0#32
  ![v221.toNat, 0, 0]
@[reducible] def k0_t2_loop (i : grid0.Coords) : Scf.Loop 32 :=
  let c0_i32_33 : BitVec 32 := 0#32
  let arg1 : BitVec 32 := BitVec.ofNat 32 (i 1).val
  let c1_i32 : BitVec 32 := 1#32
  let v27 : BitVec 32 := Scalar.muli arg1 c1_i32
  let v99 : BitVec 32 := Scalar.subi v27 c0_i32_33
  let c1_i32_34 : BitVec 32 := 1#32
  let v101 : BitVec 32 := Scalar.divsi v99 c1_i32_34
  let v102 : BitVec 32 := Scalar.muli v101 c1_i32_34
  let v103 : BitVec 32 := Scalar.addi c0_i32_33 v102
  let v100 : BitVec 32 := Scalar.addi c0_i32_33 v99
  let c1_i32_36 : BitVec 32 := 1#32
  ⟨v103, v100, c1_i32_36⟩
def k0_mult3 (i : grid0.Coords) (k0_t2 : Fin (k0_t2_loop i).trips) : BitVec 32 :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let v99 : BitVec 32 := Scalar.subi v27 c0_i32_33
  let c1_i32_34 : BitVec 32 := 1#32
  let v101 : BitVec 32 := Scalar.divsi v99 c1_i32_34
  let v102 : BitVec 32 := Scalar.muli v101 c1_i32_34
  let v103 : BitVec 32 := Scalar.addi c0_i32_33 v102
  let c1_i32_36 : BitVec 32 := 1#32
  let arg11 : BitVec 32 := Scf.iv v103 c1_i32_36 k0_t2
  let v175 : BitVec 32 := Scalar.subi v174 arg11
  let c512_i32_69 : BitVec 32 := 512#32
  let v176 : BitVec 32 := Scalar.muli v175 c512_i32_69
  v176
def k0_off5 (i : grid0.Coords) (k0_t2 : Fin (k0_t2_loop i).trips) : Fin 2 → Nat :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let v99 : BitVec 32 := Scalar.subi v27 c0_i32_33
  let c1_i32_34 : BitVec 32 := 1#32
  let v101 : BitVec 32 := Scalar.divsi v99 c1_i32_34
  let v102 : BitVec 32 := Scalar.muli v101 c1_i32_34
  let v103 : BitVec 32 := Scalar.addi c0_i32_33 v102
  let c1_i32_36 : BitVec 32 := 1#32
  let arg11 : BitVec 32 := Scf.iv v103 c1_i32_36 k0_t2
  let v175 : BitVec 32 := Scalar.subi v174 arg11
  let c512_i32_69 : BitVec 32 := 512#32
  let v176 : BitVec 32 := Scalar.muli v175 c512_i32_69
  let v177 : BitVec 32 := v176
  let v178 : Index := Scalar.indexCast v177
  let c0_70 : Index := 0#32
  ![v178.toNat, 0]
def k0_off6 (i : grid0.Coords) (k0_t2 : Fin (k0_t2_loop i).trips) : Fin 3 → Nat :=
  let arg1 : BitVec 32 := BitVec.ofNat 32 (i 1).val
  let c1_i32 : BitVec 32 := 1#32
  let v27 : BitVec 32 := Scalar.muli arg1 c1_i32
  let c1_i32_68 : BitVec 32 := 1#32
  let v174 : BitVec 32 := Scalar.subi v27 c1_i32_68
  let c0_i32_33 : BitVec 32 := 0#32
  let v99 : BitVec 32 := Scalar.subi v27 c0_i32_33
  let c1_i32_34 : BitVec 32 := 1#32
  let v101 : BitVec 32 := Scalar.divsi v99 c1_i32_34
  let v102 : BitVec 32 := Scalar.muli v101 c1_i32_34
  let v103 : BitVec 32 := Scalar.addi c0_i32_33 v102
  let c1_i32_36 : BitVec 32 := 1#32
  let arg11 : BitVec 32 := Scf.iv v103 c1_i32_36 k0_t2
  let v175 : BitVec 32 := Scalar.subi v174 arg11
  let v221 : Index := Scalar.indexCast v175
  let c0_84 : Index := 0#32
  let c0_85 : Index := 0#32
  ![v221.toNat, 0, 0]
def k0_mult4 (i : grid0.Coords) : BitVec 32 :=
  let arg1 : BitVec 32 := BitVec.ofNat 32 (i 1).val
  let c1_i32_38 : BitVec 32 := 1#32
  let v107 : BitVec 32 := Scalar.muli arg1 c1_i32_38
  let c1_i32_40 : BitVec 32 := 1#32
  let v108 : BitVec 32 := Scalar.addi v107 c1_i32_40
  let c1_i32_41 : BitVec 32 := 1#32
  let v109 : BitVec 32 := Scalar.subi v108 c1_i32_41
  let c0_i32_39 : BitVec 32 := 0#32
  let v110 : BitVec 32 := Scalar.subi v109 c0_i32_39
  let c512_i32_42 : BitVec 32 := 512#32
  let v111 : BitVec 32 := Scalar.muli v110 c512_i32_42
  v111
@[reducible] def k0_t3_loop (i : grid0.Coords) : Scf.Loop 32 :=
  let c0_i32_61 : BitVec 32 := 0#32
  let arg1 : BitVec 32 := BitVec.ofNat 32 (i 1).val
  let c1_i32_38 : BitVec 32 := 1#32
  let v107 : BitVec 32 := Scalar.muli arg1 c1_i32_38
  let v164 : BitVec 32 := Scalar.subi v107 c0_i32_61
  let c1_i32_62 : BitVec 32 := 1#32
  let v166 : BitVec 32 := Scalar.divsi v164 c1_i32_62
  let v167 : BitVec 32 := Scalar.muli v166 c1_i32_62
  let v168 : BitVec 32 := Scalar.addi c0_i32_61 v167
  let c1_i32_63 : BitVec 32 := 1#32
  ⟨c0_i32_61, v168, c1_i32_63⟩
def k0_mult5 (i : grid0.Coords) (k0_t3 : Fin (k0_t3_loop i).trips) : BitVec 32 :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let c1_i32_63 : BitVec 32 := 1#32
  let arg11 : BitVec 32 := Scf.iv c0_i32_61 c1_i32_63 k0_t3
  let v175 : BitVec 32 := Scalar.subi v174 arg11
  let c512_i32_69 : BitVec 32 := 512#32
  let v176 : BitVec 32 := Scalar.muli v175 c512_i32_69
  v176
def k0_off7 (i : grid0.Coords) (k0_t3 : Fin (k0_t3_loop i).trips) : Fin 3 → Nat :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let c1_i32_63 : BitVec 32 := 1#32
  let arg11 : BitVec 32 := Scf.iv c0_i32_61 c1_i32_63 k0_t3
  let v175 : BitVec 32 := Scalar.subi v174 arg11
  let v178 : Index := Scalar.indexCast v175
  let c0_70 : Index := 0#32
  let c0_71 : Index := 0#32
  ![v178.toNat, 0, 0]
def k0_off8 (i : grid0.Coords) (k0_t3 : Fin (k0_t3_loop i).trips) : Fin 2 → Nat :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let c1_i32_63 : BitVec 32 := 1#32
  let arg11 : BitVec 32 := Scf.iv c0_i32_61 c1_i32_63 k0_t3
  let v175 : BitVec 32 := Scalar.subi v174 arg11
  let c512_i32_69 : BitVec 32 := 512#32
  let v176 : BitVec 32 := Scalar.muli v175 c512_i32_69
  let v177 : BitVec 32 := v176
  let v208 : Index := Scalar.indexCast v177
  let c0_79 : Index := 0#32
  ![v208.toNat, 0]
@[reducible] def k0_t4_loop (i : grid0.Coords) : Scf.Loop 32 :=
  let c0_i32_61 : BitVec 32 := 0#32
  let arg1 : BitVec 32 := BitVec.ofNat 32 (i 1).val
  let c1_i32_38 : BitVec 32 := 1#32
  let v107 : BitVec 32 := Scalar.muli arg1 c1_i32_38
  let v164 : BitVec 32 := Scalar.subi v107 c0_i32_61
  let c1_i32_62 : BitVec 32 := 1#32
  let v166 : BitVec 32 := Scalar.divsi v164 c1_i32_62
  let v167 : BitVec 32 := Scalar.muli v166 c1_i32_62
  let v168 : BitVec 32 := Scalar.addi c0_i32_61 v167
  let v165 : BitVec 32 := Scalar.addi c0_i32_61 v164
  let c1_i32_64 : BitVec 32 := 1#32
  ⟨v168, v165, c1_i32_64⟩
def k0_mult6 (i : grid0.Coords) (k0_t4 : Fin (k0_t4_loop i).trips) : BitVec 32 :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let v164 : BitVec 32 := Scalar.subi v107 c0_i32_61
  let c1_i32_62 : BitVec 32 := 1#32
  let v166 : BitVec 32 := Scalar.divsi v164 c1_i32_62
  let v167 : BitVec 32 := Scalar.muli v166 c1_i32_62
  let v168 : BitVec 32 := Scalar.addi c0_i32_61 v167
  let c1_i32_64 : BitVec 32 := 1#32
  let arg11 : BitVec 32 := Scf.iv v168 c1_i32_64 k0_t4
  let v175 : BitVec 32 := Scalar.subi v174 arg11
  let c512_i32_69 : BitVec 32 := 512#32
  let v176 : BitVec 32 := Scalar.muli v175 c512_i32_69
  v176
def k0_off9 (i : grid0.Coords) (k0_t4 : Fin (k0_t4_loop i).trips) : Fin 3 → Nat :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let v164 : BitVec 32 := Scalar.subi v107 c0_i32_61
  let c1_i32_62 : BitVec 32 := 1#32
  let v166 : BitVec 32 := Scalar.divsi v164 c1_i32_62
  let v167 : BitVec 32 := Scalar.muli v166 c1_i32_62
  let v168 : BitVec 32 := Scalar.addi c0_i32_61 v167
  let c1_i32_64 : BitVec 32 := 1#32
  let arg11 : BitVec 32 := Scf.iv v168 c1_i32_64 k0_t4
  let v175 : BitVec 32 := Scalar.subi v174 arg11
  let v178 : Index := Scalar.indexCast v175
  let c0_70 : Index := 0#32
  let c0_71 : Index := 0#32
  ![v178.toNat, 0, 0]
def k0_off10 (i : grid0.Coords) (k0_t4 : Fin (k0_t4_loop i).trips) : Fin 2 → Nat :=
  let arg1 : BitVec 32 := BitVec.ofNat 32 (i 1).val
  let c1_i32_38 : BitVec 32 := 1#32
  let v107 : BitVec 32 := Scalar.muli arg1 c1_i32_38
  let c1_i32_68 : BitVec 32 := 1#32
  let v174 : BitVec 32 := Scalar.subi v107 c1_i32_68
  let c0_i32_61 : BitVec 32 := 0#32
  let v164 : BitVec 32 := Scalar.subi v107 c0_i32_61
  let c1_i32_62 : BitVec 32 := 1#32
  let v166 : BitVec 32 := Scalar.divsi v164 c1_i32_62
  let v167 : BitVec 32 := Scalar.muli v166 c1_i32_62
  let v168 : BitVec 32 := Scalar.addi c0_i32_61 v167
  let c1_i32_64 : BitVec 32 := 1#32
  let arg11 : BitVec 32 := Scf.iv v168 c1_i32_64 k0_t4
  let v175 : BitVec 32 := Scalar.subi v174 arg11
  let c512_i32_69 : BitVec 32 := 512#32
  let v176 : BitVec 32 := Scalar.muli v175 c512_i32_69
  let v177 : BitVec 32 := v176
  let v208 : Index := Scalar.indexCast v177
  let c0_79 : Index := 0#32
  ![v208.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x7168 : Shape := ⟨2, ![2048, 7168]⟩
abbrev S2048x2048 : Shape := ⟨2, ![2048, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S8x128x2048 : Shape := ⟨3, ![8, 128, 2048]⟩

abbrev nBuf : Space → Nat
  | .hbm => 129
  | .vmem => 0
  | .smem => 0
  | _ => 0

abbrev hbmTy0_0 (i : Nat) : BufTy := match i % 128 with
  | 0 => ⟨S2048x7168, .f32⟩
  | 1 => ⟨S2048x2048, .f32⟩
  | 2 => ⟨S2048x1024, .f32⟩
  | 3 => ⟨S2048x1024, .f32⟩
  | 4 => ⟨S2048x1024, .f32⟩
  | 5 => ⟨S2048x8x128, .f32⟩
  | 6 => ⟨S8x2048x128, .f32⟩
  | 7 => ⟨S2048x8x128, .f32⟩
  | 8 => ⟨S8x2048x128, .f32⟩
  | 9 => ⟨S2048x8x128, .f32⟩
  | 10 => ⟨S8x2048x128, .f32⟩
  | 11 => ⟨S_, .f32⟩
  | 12 => ⟨S8x2048x128, .f32⟩
  | 13 => ⟨S8x2048x128, .f32⟩
  | 14 => ⟨S8x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .i1⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .i1⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .i1⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x2048x2048, .f32⟩
  | 59 => ⟨S8x2048x2048, .i1⟩
  | 60 => ⟨S_, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x2048, .f32⟩
  | 70 => ⟨S8x2048x2048, .f32⟩
  | 71 => ⟨S_, .f32⟩
  | 72 => ⟨S_, .f32⟩
  | 73 => ⟨S8x2048x2048, .i1⟩
  | 74 => ⟨S8x2048x2048, .f32⟩
  | 75 => ⟨S8x2048x2048, .f32⟩
  | 76 => ⟨S_, .f32⟩
  | 77 => ⟨S8x2048x2048, .f32⟩
  | 78 => ⟨S_, .f32⟩
  | 79 => ⟨S_, .f32⟩
  | 80 => ⟨S8x2048x2048, .f32⟩
  | 81 => ⟨S8x2048x2048, .f32⟩
  | 82 => ⟨S8x2048x2048, .f32⟩
  | 83 => ⟨S8x2048x2048, .f32⟩
  | 84 => ⟨S_, .f32⟩
  | 85 => ⟨S_, .f32⟩
  | 86 => ⟨S8x2048x2048, .i1⟩
  | 87 => ⟨S8x2048x2048, .f32⟩
  | 88 => ⟨S8x2048x2048, .f32⟩
  | 89 => ⟨S_, .f32⟩
  | 90 => ⟨S8x2048x2048, .f32⟩
  | 91 => ⟨S8x2048x128, .f32⟩
  | 92 => ⟨S2048x8x128, .f32⟩
  | 93 => ⟨S2048x1024, .f32⟩
  | 94 => ⟨S2048x1024, .f32⟩
  | 95 => ⟨S2048x8x128, .f32⟩
  | 96 => ⟨S8x2048x128, .f32⟩
  | 97 => ⟨S8x128x2048, .f32⟩
  | 98 => ⟨S8x2048x128, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S_, .f32⟩
  | 107 => ⟨S8x2048x2048, .f32⟩
  | 108 => ⟨S8x2048x2048, .f32⟩
  | 109 => ⟨S_, .f32⟩
  | 110 => ⟨S8x2048x2048, .f32⟩
  | 111 => ⟨S8x2048x2048, .f32⟩
  | 112 => ⟨S8x2048x2048, .f32⟩
  | 113 => ⟨S8x2048x2048, .f32⟩
  | 114 => ⟨S8x2048x2048, .f32⟩
  | 115 => ⟨S8x2048x2048, .f32⟩
  | 116 => ⟨S8x2048x2048, .f32⟩
  | 117 => ⟨S8x2048x2048, .f32⟩
  | 118 => ⟨S8x2048x128, .f32⟩
  | 119 => ⟨S8x2048x128, .f32⟩
  | 120 => ⟨S_, .f32⟩
  | 121 => ⟨S8x2048x128, .f32⟩
  | 122 => ⟨S8x2048x128, .f32⟩
  | 123 => ⟨S2048x8x128, .f32⟩
  | 124 => ⟨S2048x1024, .f32⟩
  | 125 => ⟨S2048x8x128, .f32⟩
  | 126 => ⟨S2048x1024, .f32⟩
  | 127 => ⟨S2048x8x128, .f32⟩
  | _ => ⟨S2048x7168, .f32⟩

abbrev hbmTy0_1 (i : Nat) : BufTy := match i % 128 with
  | 0 => ⟨S2048x1024, .f32⟩
  | _ => ⟨S2048x7168, .f32⟩

abbrev hbmTy (i : Nat) : BufTy := match i / 128 with
  | 0 => hbmTy0_0 i
  | 1 => hbmTy0_1 i
  | _ => ⟨S2048x7168, .f32⟩

abbrev bufTy : (tb : Table) → Fin (tcTables nBuf tb) → BufTy
  | .hbm, ⟨i, _⟩ => hbmTy i
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_1 : Ref sig .tc := ⟨.hbm, 84, rfl⟩
abbrev main_call3_v0 : Ref sig .tc := ⟨.hbm, 85, rfl⟩
abbrev main_v26_1 : Ref sig .tc := ⟨.hbm, 86, rfl⟩
abbrev main_call3_v2 : Ref sig .tc := ⟨.hbm, 87, rfl⟩
abbrev main_v26_0 : Ref sig .tc := ⟨.hbm, 88, rfl⟩
abbrev main_call3_cst : Ref sig .tc := ⟨.hbm, 89, rfl⟩
abbrev main_v26_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_call4_cst : Ref sig .tc := ⟨.hbm, 100, rfl⟩
abbrev main_call4_v0 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_call5_cst : Ref sig .tc := ⟨.hbm, 105, rfl⟩
abbrev main_call5_v0 : Ref sig .tc := ⟨.hbm, 106, rfl⟩
abbrev main_v39 : Ref sig .tc := ⟨.hbm, 107, rfl⟩
abbrev main_v40 : Ref sig .tc := ⟨.hbm, 108, rfl⟩
abbrev main_call6_cst : Ref sig .tc := ⟨.hbm, 109, rfl⟩
abbrev main_call6_v0 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call7_v0 : Ref sig .tc := ⟨.hbm, 114, rfl⟩
abbrev main_call7_v1 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_cst_2 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S2048x256 : Shape := ⟨2, ![2048, 256]⟩
abbrev S1024x5632 : Shape := ⟨2, ![1024, 5632]⟩
abbrev S5632x512 : Shape := ⟨2, ![5632, 512]⟩
abbrev S1024x512 : Shape := ⟨2, ![1024, 512]⟩
abbrev S512x2048 : Shape := ⟨2, ![512, 2048]⟩
abbrev S2048x512 : Shape := ⟨2, ![2048, 512]⟩
abbrev S128x5632 : Shape := ⟨2, ![128, 5632]⟩
abbrev S128x11264 : Shape := ⟨2, ![128, 11264]⟩

abbrev nBuf : Space → Nat
  | .hbm => 10
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x5632, .bf16⟩
  | .hbm, ⟨5, _⟩ => ⟨S2048x5632, .bf16⟩
  | .hbm, ⟨6, _⟩ => ⟨S2048x5632, .bf16⟩
  | .hbm, ⟨7, _⟩ => ⟨S2048x2048, .f32⟩
  | .hbm, ⟨8, _⟩ => ⟨S2048x5632, .bf16⟩
  | .hbm, ⟨9, _⟩ => ⟨S2048x11264, .bf16⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S1024x5632, .bf16⟩
  | .local _ .vmem, ⟨12, _⟩ => ⟨S1024x5632, .bf16⟩
  | .local _ .vmem, ⟨13, _⟩ => ⟨S5632x512, .bf16⟩
  | .local _ .vmem, ⟨14, _⟩ => ⟨S5632x512, .bf16⟩
  | .local _ .vmem, ⟨15, _⟩ => ⟨S1024x512, .f32⟩
  | .local _ .vmem, ⟨16, _⟩ => ⟨S1024x512, .f32⟩
  | .local _ .vmem, ⟨17, _⟩ => ⟨S2048x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x512, .bf16⟩
  | .local _ .vmem, ⟨21, _⟩ => ⟨S2048x512, .bf16⟩
  | .local _ .vmem, ⟨22, _⟩ => ⟨S128x5632, .bf16⟩
  | .local _ .vmem, ⟨23, _⟩ => ⟨S128x5632, .bf16⟩
  | .local _ .vmem, ⟨24, _⟩ => ⟨S128x5632, .bf16⟩
  | .local _ .vmem, ⟨25, _⟩ => ⟨S128x5632, .bf16⟩
  | .local _ .vmem, ⟨26, _⟩ => ⟨S128x5632, .bf16⟩
  | .local _ .vmem, ⟨27, _⟩ => ⟨S128x5632, .bf16⟩
  | .local _ .vmem, ⟨28, _⟩ => ⟨S128x11264, .bf16⟩
  | .local _ .vmem, ⟨29, _⟩ => ⟨S128x11264, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x5632 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x11264 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== Reference2Ideal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S5632x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x11264, .f32⟩
  | .hbm, ⟨34, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S2048x2048 : Shape := ⟨2, ![2048, 2048]⟩
abbrev S2048x11264 : Shape := ⟨2, ![2048, 11264]⟩
abbrev S2048x512 : Shape := ⟨2, ![2048, 512]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x11264 : Shape := ⟨2, ![2048, 11264]⟩
abbrev S2048x2048 : Shape := ⟨2, ![2048, 2048]⟩
abbrev S1024x5632 : Shape := ⟨2, ![1024, 5632]⟩
abbrev S512x5632 : Shape := ⟨2, ![512, 5632]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S2048x7168 : Shape := ⟨2, ![2048, 7168]⟩
abbrev S2048x5632 : Shape := ⟨2, ![2048, 5632]⟩
abbrev S2048x2816 : Shape := ⟨2, ![2048, 2816]⟩
abbrev S2816x2048 : Shape := ⟨2, ![2816, 2048]⟩
abbrev S2048x256 : Shape := ⟨2, ![2048, 256]⟩
abbrev S256x2048 : Shape := ⟨2, ![256, 2048]⟩
abbrev S2048x512 : Shape := ⟨2, ![2048, 512]⟩
abbrev S2816x512 : Shape := ⟨2, ![2816, 512]⟩
abbrev S256x512 : Shape := ⟨2, ![256, 512]⟩

abbrev nBuf : Space → Nat
  | .hbm => 18
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x5632, .bf16⟩
  | .hbm, ⟨6, _⟩ => ⟨S2048x2816, .bf16⟩
  | .hbm, ⟨7, _⟩ => ⟨S2816x2048, .bf16⟩
  | .hbm, ⟨8, _⟩ => ⟨S2048x256, .f32⟩
  | .hbm, ⟨9, _⟩ => ⟨S256x2048, .bf16⟩
  | .hbm, ⟨10, _⟩ => ⟨S2048x2048, .bf16⟩
  | .hbm, ⟨11, _⟩ => ⟨S2048x2048, .bf16⟩
  | .hbm, ⟨12, _⟩ => ⟨S2048x7168, .f32⟩
  | .hbm, ⟨13, _⟩ => ⟨S2048x2048, .f32⟩
  | .hbm, ⟨14, _⟩ => ⟨S2048x5632, .f32⟩
  | .hbm, ⟨15, _⟩ => ⟨S2048x2048, .f32⟩
  | .hbm, ⟨16, _⟩ => ⟨S2048x2048, .f32⟩
  | .hbm, ⟨17, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S2048x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .f32⟩
  | .local _ .vmem, ⟨14, _⟩ => ⟨S2048x512, .f32⟩
  | .local _ .vmem, ⟨15, _⟩ => ⟨S2048x2816, .bf16⟩
  | .local _ .vmem, ⟨16, _⟩ => ⟨S2816x512, .bf16⟩
  | .local _ .vmem, ⟨17, _⟩ => ⟨S2816x512, .bf16⟩
  | .local _ .vmem, ⟨18, _⟩ => ⟨S2048x512, .f32⟩
  | .local _ .vmem, ⟨19, _⟩ => ⟨S2048x512, .f32⟩
  | .local _ .vmem, ⟨20, _⟩ => ⟨S2048x256, .f32⟩
  | .local _ .vmem, ⟨21, _⟩ => ⟨S256x512, .bf16⟩
  | .local _ .vmem, ⟨22, _⟩ => ⟨S256x512, .bf16⟩
  | .local _ .vmem, ⟨23, _⟩ => ⟨S2048x512, .f32⟩
  | .local _ .vmem, ⟨24, _⟩ => ⟨S2048x512, .f32⟩
  | .local _ .vmem, ⟨25, _⟩ => ⟨S2048x2048, .bf16⟩
  | .local _ .vmem, ⟨26, _⟩ => ⟨S2048x512, .bf16⟩
  | .local _ .vmem, ⟨27, _⟩ => ⟨S2048x512, .bf16⟩
  | .local _ .vmem, ⟨28, _⟩ => ⟨S2048x512, .f32⟩
  | .local _ .vmem, ⟨29, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨3, ![1, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2816 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2816x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S256x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference6Ideal.lean ====
abbrev S2048x2048 : Shape := ⟨2, ![2048, 2048]⟩
abbrev S2048x7168 : Shape := ⟨2, ![2048, 7168]⟩
abbrev S2048x5632 : Shape := ⟨2, ![2048, 5632]⟩
abbrev S2048x2816 : Shape := ⟨2, ![2048, 2816]⟩
abbrev S2816x2048 : Shape := ⟨2, ![2816, 2048]⟩
abbrev S2048x256 : Shape := ⟨2, ![2048, 256]⟩
abbrev S256x2048 : Shape := ⟨2, ![256, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x5632, .bf16⟩
  | .hbm, ⟨6, _⟩ => ⟨S2048x2816, .bf16⟩
  | .hbm, ⟨7, _⟩ => ⟨S2816x2048, .bf16⟩
  | .hbm, ⟨8, _⟩ => ⟨S2048x256, .f32⟩
  | .hbm, ⟨9, _⟩ => ⟨S256x2048, .bf16⟩
  | .hbm, ⟨10, _⟩ => ⟨S2048x2048, .bf16⟩
  | .hbm, ⟨11, _⟩ => ⟨S2048x2048, .bf16⟩
  | .hbm, ⟨12, _⟩ => ⟨S2048x2048, .f32⟩
  | .hbm, ⟨13, _⟩ => ⟨S2048x7168, .f32⟩
  | .hbm, ⟨14, _⟩ => ⟨S2048x7168, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x2816, .f32⟩
  | .hbm, ⟨22, _⟩ => ⟨S2816x2048, .f32⟩
  | .hbm, ⟨23, _⟩ => ⟨S2048x2048, .f32⟩
  | .hbm, ⟨24, _⟩ => ⟨S256x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel7.lean ====
abbrev S2048x2048 : Shape := ⟨2, ![2048, 2048]⟩
abbrev S2816x2048 : Shape := ⟨2, ![2816, 2048]⟩
abbrev S2048x5632 : Shape := ⟨2, ![2048, 5632]⟩
abbrev S512x2048 : Shape := ⟨2, ![512, 2048]⟩
abbrev S2048x512 : Shape := ⟨2, ![2048, 512]⟩
abbrev S2048x2816 : Shape := ⟨2, ![2048, 2816]⟩
abbrev S256x2048 : Shape := ⟨2, ![256, 2048]⟩
abbrev S2048x256 : Shape := ⟨2, ![2048, 256]⟩
abbrev S1024x5632 : Shape := ⟨2, ![1024, 5632]⟩
abbrev S512x5632 : Shape := ⟨2, ![512, 5632]⟩
abbrev S1024x512 : Shape := ⟨2, ![1024, 512]⟩

abbrev nBuf : Space → Nat
  | .hbm => 12
  | .vmem => 21
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2816x2048, .bf16⟩
  | .hbm, ⟨6, _⟩ => ⟨S2048x5632, .bf16⟩
  | .hbm, ⟨7, _⟩ => ⟨S2048x5632, .bf16⟩
  | .hbm, ⟨8, _⟩ => ⟨S2048x2048, .f32⟩
  | .hbm, ⟨9, _⟩ => ⟨S2048x2048, .f32⟩
  | .hbm, ⟨10, _⟩ => ⟨S2048x2816, .f32⟩
  | .hbm, ⟨11, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .f32⟩
  | .local _ .vmem, ⟨9, _⟩ => ⟨S2048x512, .f32⟩
  | .local _ .vmem, ⟨10, _⟩ => ⟨S2048x2048, .bf16⟩
  | .local _ .vmem, ⟨11, _⟩ => ⟨S256x2048, .bf16⟩
  | .local _ .vmem, ⟨12, _⟩ => ⟨S256x2048, .bf16⟩
  | .local _ .vmem, ⟨13, _⟩ => ⟨S2048x256, .f32⟩
  | .local _ .vmem, ⟨14, _⟩ => ⟨S2048x256, .f32⟩
  | .local _ .vmem, ⟨15, _⟩ => ⟨S1024x5632, .bf16⟩
  | .local _ .vmem, ⟨16, _⟩ => ⟨S1024x5632, .bf16⟩
  | .local _ .vmem, ⟨17, _⟩ => ⟨S512x5632, .bf16⟩
  | .local _ .vmem, ⟨18, _⟩ => ⟨S512x5632, .bf16⟩
  | .local _ .vmem, ⟨19, _⟩ => ⟨S1024x512, .f32⟩
  | .local _ .vmem, ⟨20, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference7Ideal.lean ====
abbrev S2048x2048 : Shape := ⟨2, ![2048, 2048]⟩
abbrev S2816x2048 : Shape := ⟨2, ![2816, 2048]⟩
abbrev S2048x5632 : Shape := ⟨2, ![2048, 5632]⟩
abbrev S_ : Shape := ⟨0, ![]⟩
abbrev S2048x2816 : Shape := ⟨2, ![2048, 2816]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2816x2048, .bf16⟩
  | .hbm, ⟨6, _⟩ => ⟨S2048x5632, .bf16⟩
  | .hbm, ⟨7, _⟩ => ⟨S2048x5632, .bf16⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2816, .f32⟩
  | .hbm, ⟨22, _⟩ => ⟨S2816x2048, .f32⟩
  | .hbm, ⟨23, _⟩ => ⟨S2048x2048, .f32⟩
  | .hbm, ⟨24, _⟩ => ⟨S2048x2048, .f32⟩
  | .hbm, ⟨25, _⟩ => ⟨S2048x2816, .f32⟩
  | .hbm, ⟨26, _⟩ => ⟨S_, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel8.lean ====
abbrev S2048x7168 : Shape := ⟨2, ![2048, 7168]⟩
abbrev S2048x2048 : Shape := ⟨2, ![2048, 2048]⟩
abbrev S1024x3584 : Shape := ⟨2, ![1024, 3584]⟩
abbrev S512x3584 : Shape := ⟨2, ![512, 3584]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x7168, .bf16⟩
  | .hbm, ⟨1, _⟩ => ⟨S2048x7168, .bf16⟩
  | .hbm, ⟨2, _⟩ => ⟨S2048x2048, .f32⟩
  | .local _ .vmem, ⟨0, _⟩ => ⟨S1024x3584, .bf16⟩
  | .local _ .vmem, ⟨1, _⟩ => ⟨S1024x3584, .bf16⟩
  | .local _ .vmem, ⟨2, _⟩ => ⟨S512x3584, .bf16⟩
  | .local _ .vmem, ⟨3, _⟩ => ⟨S512x3584, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x7168 : Shape := ⟨2, ![2048, 7168]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x7168, .bf16⟩
  | .hbm, ⟨2, _⟩ => ⟨S_, .f32⟩
  | .hbm, ⟨3, _⟩ => ⟨S2048x2048, .f32⟩
  | .hbm, ⟨4, _⟩ => ⟨S2048x7168, .f32⟩
  | .hbm, ⟨5, _⟩ => ⟨S2048x7168, .f32⟩
  | .hbm, ⟨6, _⟩ => ⟨S2048x7168, .f32⟩
  | .hbm, ⟨7, _⟩ => ⟨S2048x2048, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x7168 : Shape := ⟨2, ![2048, 7168]⟩
abbrev S2048x512 : Shape := ⟨2, ![2048, 512]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S2048x7168 : Shape := ⟨2, ![2048, 7168]⟩
abbrev S_ : Shape := ⟨0, ![]⟩
abbrev S7168x2048 : Shape := ⟨2, ![7168, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S_, .f32⟩
  | .hbm, ⟨3, _⟩ => ⟨S2048x7168, .f32⟩
  | .hbm, ⟨4, _⟩ => ⟨S2048x2048, .f32⟩
  | .hbm, ⟨5, _⟩ => ⟨S2048x7168, .f32⟩
  | .hbm, ⟨6, _⟩ => ⟨S2048x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x2816 : Shape := ⟨2, ![2048, 2816]⟩
abbrev S2048x2048 : Shape := ⟨2, ![2048, 2048]⟩
abbrev S2816x2048 : Shape := ⟨2, ![2816, 2048]⟩
abbrev S2048x256 : Shape := ⟨2, ![2048, 256]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2048, .bf16⟩
  | .hbm, ⟨2, _⟩ => ⟨S2816x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2816 : Shape := ⟨2, ![2048, 2816]⟩
abbrev S2048x2048 : Shape := ⟨2, ![2048, 2048]⟩
abbrev S_ : Shape := ⟨0, ![]⟩
abbrev S2816x2048 : Shape := ⟨2, ![2816, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2048, .bf16⟩
  | .hbm, ⟨2, _⟩ => ⟨S_, .f32⟩
  | .hbm, ⟨3, _⟩ => ⟨S2816x2048, .f32⟩
  | .hbm, ⟨4, _⟩ => ⟨S2048x2816, .f32⟩
  | .hbm, ⟨5, _⟩ => ⟨S2048x2048, .f32⟩
  | .hbm, ⟨6, _⟩ => ⟨S2048x2048, .f32⟩
  | .hbm, ⟨7, _⟩ => ⟨S2048x2816, .f32⟩
  | .hbm, ⟨8, _⟩ => ⟨S2816x2048, .f32⟩
  | .hbm, ⟨9, _⟩ => ⟨S2816x2048, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x2048 : Shape := ⟨2, ![2048, 2048]⟩
abbrev S2048x5632 : Shape := ⟨2, ![2048, 5632]⟩
abbrev S2048x512 : Shape := ⟨2, ![2048, 512]⟩
abbrev S512x512 : Shape := ⟨2, ![512, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x256 : Shape := ⟨2, ![2048, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S256x2048, .bf16⟩
  | .local _ .vmem, ⟨0, _⟩ => ⟨S2048x256, .f32⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x5632 : Shape := ⟨2, ![2048, 5632]⟩
abbrev S4x2816 : Shape := ⟨2, ![4, 2816]⟩
abbrev S1x2816 : Shape := ⟨2, ![1, 2816]⟩
abbrev S11x256x256 : Shape := ⟨3, ![11, 256, 256]⟩
abbrev S11x1x256 : Shape := ⟨3, ![11, 1, 256]⟩
abbrev S2048x2816 : Shape := ⟨2, ![2048, 2816]⟩
abbrev S2048x256 : Shape := ⟨2, ![2048, 256]⟩
abbrev S4x256 : Shape := ⟨2, ![4, 256]⟩
abbrev S1x256 : Shape := ⟨2, ![1, 256]⟩
abbrev S1x256x256 : Shape := ⟨3, ![1, 256, 256]⟩
abbrev S1x1x256 : Shape := ⟨3, ![1, 1, 256]⟩
abbrev S256x256 : Shape := ⟨2, ![256, 256]⟩
abbrev S256x2048 : Shape := ⟨2, ![256, 2048]⟩
abbrev S256 : Shape := ⟨1, ![256]⟩

abbrev nBuf : Space → Nat
  | .hbm => 20
  | .vmem => 50
  | .smem => 0
  | _ => 0

abbrev bufTy : (tb : Table) → Fin (tcTables nBuf tb) → BufTy
  | .hbm, ⟨0, _⟩ => ⟨S2048x5632, .f32⟩
  | .hbm, ⟨1, _⟩ => ⟨S4x2816, .f32⟩
  | .hbm, ⟨2, _⟩ => ⟨S1x2816, .f32⟩
  | .hbm, ⟨3, _⟩ => ⟨S11x256x256, .f32⟩
  | .hbm, ⟨4, _⟩ => ⟨S11x1x256, .f32⟩
  | .hbm, ⟨5, _⟩ => ⟨S11x256x256, .f32⟩
  | .hbm, ⟨6, _⟩ => ⟨S11x1x256, .f32⟩
  | .hbm, ⟨7, _⟩ => ⟨S2048x2816, .bf16⟩
  | .hbm, ⟨8, _⟩ => ⟨S2048x2816, .bf16⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .bf16⟩
  | .hbm, ⟨14, _⟩ => ⟨S4x2816, .f32⟩
  | .hbm, ⟨15, _⟩ => ⟨S1x2816, .f32⟩
  | .hbm, ⟨16, _⟩ => ⟨S11x256x256, .f32⟩
  | .hbm, ⟨17, _⟩ => ⟨S11x1x256, .f32⟩
  | .hbm, ⟨18, _⟩ => ⟨S11x256x256, .f32⟩
  | .hbm, ⟨19, _⟩ => ⟨S11x1x256, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S4x256, .f32⟩
  | .local _ .vmem, ⟨31, _⟩ => ⟨S4x256, .f32⟩
  | .local _ .vmem, ⟨32, _⟩ => ⟨S1x256x256, .f32⟩
  | .local _ .vmem, ⟨33, _⟩ => ⟨S1x256x256, .f32⟩
  | .local _ .vmem, ⟨34, _⟩ => ⟨S1x256x256, .f32⟩
  | .local _ .vmem, ⟨35, _⟩ => ⟨S1x256x256, .f32⟩
  | .local _ .vmem, ⟨36, _⟩ => ⟨S2048x256, .bf16⟩
  | .local _ .vmem, ⟨37, _⟩ => ⟨S2048x256, .bf16⟩
  | .local _ .vmem, ⟨38, _⟩ => ⟨S4x256, .f32⟩
  | .local _ .vmem, ⟨39, _⟩ => ⟨S4x256, .f32⟩
  | .local _ .vmem, ⟨40, _⟩ => ⟨S1x256, .f32⟩
  | .local _ .vmem, ⟨41, _⟩ => ⟨S1x256, .f32⟩
  | .local _ .vmem, ⟨42, _⟩ => ⟨S1x256x256, .f32⟩
  | .local _ .vmem, ⟨43, _⟩ => ⟨S1x256x256, .f32⟩
  | .local _ .vmem, ⟨44, _⟩ => ⟨S1x1x256, .f32⟩
  | .local _ .vmem, ⟨45, _⟩ => ⟨S1x1x256, .f32⟩
  | .local _ .vmem, ⟨46, _⟩ => ⟨S1x256x256, .f32⟩
  | .local _ .vmem, ⟨47, _⟩ => ⟨S1x256x256, .f32⟩
  | .local _ .vmem, ⟨48, _⟩ => ⟨S1x1x256, .f32⟩
  | .local _ .vmem, ⟨49, _⟩ => ⟨S1x1x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== Reference14Ideal.lean ====
abbrev S2048x5632 : Shape := ⟨2, ![2048, 5632]⟩
abbrev S4x2816 : Shape := ⟨2, ![4, 2816]⟩
abbrev S1x2816 : Shape := ⟨2, ![1, 2816]⟩
abbrev S11x256x256 : Shape := ⟨3, ![11, 256, 256]⟩
abbrev S11x1x256 : Shape := ⟨3, ![11, 1, 256]⟩
abbrev S2048x2816 : Shape := ⟨2, ![2048, 2816]⟩
abbrev S2816 : Shape := ⟨1, ![2816]⟩
abbrev S11x256 : Shape := ⟨2, ![11, 256]⟩
abbrev S_ : Shape := ⟨0, ![]⟩
abbrev S3x2816 : Shape := ⟨2, ![3, 2816]⟩
abbrev S2051x2816 : Shape := ⟨2, ![2051, 2816]⟩
abbrev S2048x11x256 : Shape := ⟨3, ![2048, 11, 256]⟩
abbrev S11x256x2048 : Shape := ⟨3, ![11, 256, 2048]⟩
abbrev S1x11x256 : Shape := ⟨3, ![1, 11, 256]⟩
abbrev S11x2048x256 : Shape := ⟨3, ![11, 2048, 256]⟩

abbrev nBuf : Space → Nat
  | .hbm => 163
  | .vmem => 0
  | .smem => 0
  | _ => 0

abbrev hbmTy0_0 (i : Nat) : BufTy := match i % 128 with
  | 0 => ⟨S2048x5632, .f32⟩
  | 1 => ⟨S4x2816, .f32⟩
  | 2 => ⟨S1x2816, .f32⟩
  | 3 => ⟨S11x256x256, .f32⟩
  | 4 => ⟨S11x1x256, .f32⟩
  | 5 => ⟨S11x256x256, .f32⟩
  | 6 => ⟨S11x1x256, .f32⟩
  | 7 => ⟨S2048x2816, .bf16⟩
  | 8 => ⟨S2048x2816, .bf16⟩
  | 9 => ⟨S2048x2816, .f32⟩
  | 10 => ⟨S2048x2816, .f32⟩
  | 11 => ⟨S2048x2816, .f32⟩
  | 12 => ⟨S2816, .f32⟩
  | 13 => ⟨S11x256, .f32⟩
  | 14 => ⟨S11x256, .f32⟩
  | 15 => ⟨S_, .f32⟩
  | 16 => ⟨S3x2816, .f32⟩
  | 17 => ⟨S2051x2816, .f32⟩
  | 18 => ⟨S_, .f32⟩
  | 19 => ⟨S3x2816, .f32⟩
  | 20 => ⟨S2048x2816, .f32⟩
  | 21 => ⟨S1x2816, .f32⟩
  | 22 => ⟨S2816, .f32⟩
  | 23 => ⟨S1x2816, .f32⟩
  | 24 => ⟨S2048x2816, .f32⟩
  | 25 => ⟨S2048x2816, .f32⟩
  | 26 => ⟨S1x2816, .f32⟩
  | 27 => ⟨S2048x2816, .f32⟩
  | 28 => ⟨S2048x2816, .f32⟩
  | 29 => ⟨S2048x2816, .f32⟩
  | 30 => ⟨S1x2816, .f32⟩
  | 31 => ⟨S2816, .f32⟩
  | 32 => ⟨S1x2816, .f32⟩
  | 33 => ⟨S2048x2816, .f32⟩
  | 34 => ⟨S2048x2816, .f32⟩
  | 35 => ⟨S2048x2816, .f32⟩
  | 36 => ⟨S2048x2816, .f32⟩
  | 37 => ⟨S1x2816, .f32⟩
  | 38 => ⟨S2816, .f32⟩
  | 39 => ⟨S1x2816, .f32⟩
  | 40 => ⟨S2048x2816, .f32⟩
  | 41 => ⟨S2048x2816, .f32⟩
  | 42 => ⟨S2048x2816, .f32⟩
  | 43 => ⟨S2048x2816, .f32⟩
  | 44 => ⟨S1x2816, .f32⟩
  | 45 => ⟨S2816, .f32⟩
  | 46 => ⟨S1x2816, .f32⟩
  | 47 => ⟨S2048x2816, .f32⟩
  | 48 => ⟨S2048x2816, .f32⟩
  | 49 => ⟨S2048x2816, .f32⟩
  | 50 => ⟨S2048x11x256, .f32⟩
  | 51 => ⟨S11x256x2048, .f32⟩
  | 52 => ⟨S2048x11x256, .f32⟩
  | 53 => ⟨S1x11x256, .f32⟩
  | 54 => ⟨S2048x11x256, .f32⟩
  | 55 => ⟨S2048x11x256, .f32⟩
  | 56 => ⟨S2048x2816, .f32⟩
  | 57 => ⟨S2048x11x256, .f32⟩
  | 58 => ⟨S11x256x2048, .f32⟩
  | 59 => ⟨S2048x11x256, .f32⟩
  | 60 => ⟨S1x11x256, .f32⟩
  | 61 => ⟨S2048x11x256, .f32⟩
  | 62 => ⟨S2048x11x256, .f32⟩
  | 63 => ⟨S2048x2816, .f32⟩
  | 64 => ⟨S2048x2816, .f32⟩
  | 65 => ⟨S2048x2816, .f32⟩
  | 66 => ⟨S2048x11x256, .f32⟩
  | 67 => ⟨S_, .f32⟩
  | 68 => ⟨S11x256, .f32⟩
  | 69 => ⟨S1x11x256, .f32⟩
  | 70 => ⟨S_, .f32⟩
  | 71 => ⟨S11x256, .f32⟩
  | 72 => ⟨S11x256x2048, .f32⟩
  | 73 => ⟨S11x2048x256, .f32⟩
  | 74 => ⟨S2048x11x256, .f32⟩
  | 75 => ⟨S11x256x256, .f32⟩
  | 76 => ⟨S11x256x256, .f32⟩
  | 77 => ⟨S2048x2816, .f32⟩
  | 78 => ⟨S2048x2816, .f32⟩
  | 79 => ⟨S2048x11x256, .f32⟩
  | 80 => ⟨S_, .f32⟩
  | 81 => ⟨S11x256, .f32⟩
  | 82 => ⟨S1x11x256, .f32⟩
  | 83 => ⟨S_, .f32⟩
  | 84 => ⟨S11x256, .f32⟩
  | 85 => ⟨S11x256x2048, .f32⟩
  | 86 => ⟨S11x2048x256, .f32⟩
  | 87 => ⟨S2048x11x256, .f32⟩
  | 88 => ⟨S11x256x256, .f32⟩
  | 89 => ⟨S11x256x256, .f32⟩
  | 90 => ⟨S2048x2816, .f32⟩
  | 91 => ⟨S2048x2816, .f32⟩
  | 92 => ⟨S2048x2816, .f32⟩
  | 93 => ⟨S2048x2816, .f32⟩
  | 94 => ⟨S2048x2816, .f32⟩
  | 95 => ⟨S_, .f32⟩
  | 96 => ⟨S2816, .f32⟩
  | 97 => ⟨S1x2816, .f32⟩
  | 98 => ⟨S2048x2816, .f32⟩
  | 99 => ⟨S2048x2816, .f32⟩
  | 100 => ⟨S_, .f32⟩
  | 101 => ⟨S2816, .f32⟩
  | 102 => ⟨S1x2816, .f32⟩
  | 103 => ⟨S_, .f32⟩
  | 104 => ⟨S4x2816, .f32⟩
  | 105 => ⟨S_, .f32⟩
  | 106 => ⟨S2051x2816, .f32⟩
  | 107 => ⟨S2048x2816, .f32⟩
  | 108 => ⟨S_, .f32⟩
  | 109 => ⟨S2816, .f32⟩
  | 110 => ⟨S1x2816, .f32⟩
  | 111 => ⟨S2048x2816, .f32⟩
  | 112 => ⟨S2048x2816, .f32⟩
  | 113 => ⟨S_, .f32⟩
  | 114 => ⟨S2816, .f32⟩
  | 115 => ⟨S1x2816, .f32⟩
  | 116 => ⟨S_, .f32⟩
  | 117 => ⟨S4x2816, .f32⟩
  | 118 => ⟨S4x2816, .f32⟩
  | 119 => ⟨S_, .f32⟩
  | 120 => ⟨S2051x2816, .f32⟩
  | 121 => ⟨S2051x2816, .f32⟩
  | 122 => ⟨S2048x2816, .f32⟩
  | 123 => ⟨S_, .f32⟩
  | 124 => ⟨S2816, .f32⟩
  | 125 => ⟨S1x2816, .f32⟩
  | 126 => ⟨S2048x2816, .f32⟩
  | 127 => ⟨S2048x2816, .f32⟩
  | _ => ⟨S2048x5632, .f32⟩

abbrev hbmTy0_1 (i : Nat) : BufTy := match i % 128 with
  | 0 => ⟨S_, .f32⟩
  | 1 => ⟨S2816, .f32⟩
  | 2 => ⟨S1x2816, .f32⟩
  | 3 => ⟨S_, .f32⟩
  | 4 => ⟨S4x2816, .f32⟩
  | 5 => ⟨S4x2816, .f32⟩
  | 6 => ⟨S_, .f32⟩
  | 7 => ⟨S2051x2816, .f32⟩
  | 8 => ⟨S2051x2816, .f32⟩
  | 9 => ⟨S_, .f32⟩
  | 10 => ⟨S2816, .f32⟩
  | 11 => ⟨S1x2816, .f32⟩
  | 12 => ⟨S_, .f32⟩
  | 13 => ⟨S2816, .f32⟩
  | 14 => ⟨S2048x2816, .f32⟩
  | 15 => ⟨S_, .f32⟩
  | 16 => ⟨S2816, .f32⟩
  | 17 => ⟨S1x2816, .f32⟩
  | 18 => ⟨S2048x2816, .f32⟩
  | 19 => ⟨S2048x2816, .f32⟩
  | 20 => ⟨S_, .f32⟩
  | 21 => ⟨S2816, .f32⟩
  | 22 => ⟨S1x2816, .f32⟩
  | 23 => ⟨S_, .f32⟩
  | 24 => ⟨S4x2816, .f32⟩
  | 25 => ⟨S4x2816, .f32⟩
  | 26 => ⟨S_, .f32⟩
  | 27 => ⟨S2051x2816, .f32⟩
  | 28 => ⟨S2051x2816, .f32⟩
  | 29 => ⟨S3x2816, .f32⟩
  | 30 => ⟨S2048x2816, .f32⟩
  | 31 => ⟨S2048x2816, .bf16⟩
  | 32 => ⟨S1x2816, .f32⟩
  | 33 => ⟨S11x1x256, .f32⟩
  | 34 => ⟨S11x1x256, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_cst_4 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_5 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_6 : Ref sig .tc := ⟨.hbm, 100, rfl⟩
abbrev main_v83 : Ref sig .tc := ⟨.hbm, 101, rfl⟩
abbrev main_v84 : Ref sig .tc := ⟨.hbm, 102, rfl⟩
abbrev main_cst_7 : Ref sig .tc := ⟨.hbm, 103, rfl⟩
abbrev main_v85 : Ref sig .tc := ⟨.hbm, 104, rfl⟩
abbrev main_cst_8 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_10 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_14 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_cst_17 : Ref sig .tc := ⟨.hbm, 137, rfl⟩
abbrev main_v109 : Ref sig .tc := ⟨.hbm, 138, rfl⟩
abbrev main_v110 : Ref sig .tc := ⟨.hbm, 139, rfl⟩
abbrev main_cst_18 : Ref sig .tc := ⟨.hbm, 140, rfl⟩
abbrev main_v111 : Ref sig .tc := ⟨.hbm, 141, rfl⟩
abbrev main_v112 : Ref sig .tc := ⟨.hbm, 142, rfl⟩
abbrev main_cst_19 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩
abbrev main_cst_21 : Ref sig .tc := ⟨.hbm, 151, rfl⟩
abbrev main_v119 : Ref sig .tc := ⟨.hbm, 152, rfl⟩
abbrev main_v120 : Ref sig .tc := ⟨.hbm, 153, rfl⟩
abbrev main_cst_22 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩

abbrev nD : Nat := 1
abbrev τ : Topo := Topo.v7x

variable {F : FTy → Type} [FloatOps F]
-- ==== Kernel15.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 33
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S1x2048, .f32⟩
  | .local _ .vmem, ⟨31, _⟩ => ⟨S256x2048, .f32⟩
  | .local _ .vmem, ⟨32, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference15Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S1x2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S2048, .f32⟩
  | .hbm, ⟨92, _⟩ => ⟨S2048x2048, .f32⟩
  | .hbm, ⟨93, _⟩ => ⟨S_, .f32⟩
  | .hbm, ⟨94, _⟩ => ⟨S2048, .f32⟩
  | .hbm, ⟨95, _⟩ => ⟨S2048x1, .f32⟩
  | .hbm, ⟨96, _⟩ => ⟨S_, .f32⟩
  | .hbm, ⟨97, _⟩ => ⟨S2048x1, .f32⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S2048x1, .f32⟩
  | .hbm, ⟨103, _⟩ => ⟨S2048x2048, .f32⟩
  | .hbm, ⟨104, _⟩ => ⟨S2048x2048, .f32⟩
  | .hbm, ⟨105, _⟩ => ⟨S1x2048, .f32⟩
  | .hbm, ⟨106, _⟩ => ⟨S2048x2048, .f32⟩
  | .hbm, ⟨107, _⟩ => ⟨S2048x2048, .f32⟩
  | .hbm, ⟨108, _⟩ => ⟨S2048x2048, .bf16⟩
  | .hbm, ⟨109, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Kernel16.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_19 : BitVec 32 := 0#32
  let v51 : BitVec 1 := Scalar.cmpi .ne v50 c0_i32_19
  v51

def k0_cond2 (i : grid0.Coords) : BitVec 1 :=
  let arg1 : BitVec 32 := BitVec.ofNat 32 (i 1).val
  let c0_i32 : BitVec 32 := 0#32
  let v49 : BitVec 1 := Scalar.cmpi .eq arg1 c0_i32
  let v_true : BitVec 1 := 1#1
  let v52 : BitVec 1 := Scalar.xori v49 v_true
  let v53 : BitVec 32 := Scalar.extui v52
  let c0_i32_20 : BitVec 32 := 0#32
  let v54 : BitVec 1 := Scalar.cmpi .ne v53 c0_i32_20
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference16Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .bf16⟩
  | .hbm, ⟨67, _⟩ => ⟨S2048x2048, .bf16⟩
  | .hbm, ⟨68, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg1 : BitVec 32 := BitVec.ofNat 32 (i 1).val
  let c0_i32 : BitVec 32 := 0#32
  let v41 : BitVec 1 := Scalar.cmpi .eq arg1 c0_i32
  let v_true : BitVec 1 := 1#1
  let v44 : BitVec 1 := Scalar.xori v41 v_true
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference17Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_30 : BitVec 32 := 0#32
  let v78 : BitVec 1 := Scalar.cmpi .ne v77 c0_i32_30
  v78

def k0_cond2 (i : grid0.Coords) : BitVec 1 :=
  let arg1 : BitVec 32 := BitVec.ofNat 32 (i 1).val
  let c0_i32 : BitVec 32 := 0#32
  let v76 : BitVec 1 := Scalar.cmpi .eq arg1 c0_i32
  let v_true : BitVec 1 := 1#1
  let v79 : BitVec 1 := Scalar.xori v76 v_true
  let v80 : BitVec 32 := Scalar.extui v79
  let c0_i32_31 : BitVec 32 := 0#32
  let v81 : BitVec 1 := Scalar.cmpi .ne v80 c0_i32_31
  v81

def k0_cond3 (i : grid0.Coords) : BitVec 1 :=
  let arg1 : BitVec 32 := BitVec.ofNat 32 (i 1).val
  let c0_i32 : BitVec 32 := 0#32
  let v76 : BitVec 1 := Scalar.cmpi .eq arg1 c0_i32
  let v82 : BitVec 32 := Scalar.extui v76
  let c0_i32_32 : BitVec 32 := 0#32
  let v83 : BitVec 1 := Scalar.cmpi .ne v82 c0_i32_32
  v83

def k0_cond4 (i : grid0.Coords) : BitVec 1 :=
  let arg1 : BitVec 32 := BitVec.ofNat 32 (i 1).val
  let c0_i32 : BitVec 32 := 0#32
  let v76 : BitVec 1 := Scalar.cmpi .eq arg1 c0_i32
  let true_33 : BitVec 1 := 1#1
  let v84 : BitVec 1 := Scalar.xori v76 true_33
  let v85 : BitVec 32 := Scalar.extui v84
  let c0_i32_34 : BitVec 32 := 0#32
  let v86 : BitVec 1 := Scalar.cmpi .ne v85 c0_i32_34
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference18Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .bf16⟩
  | .hbm, ⟨100, _⟩ => ⟨S1x2048, .f32⟩
  | .hbm, ⟨101, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg1 : BitVec 32 := BitVec.ofNat 32 (i 1).val
  let c0_i32 : BitVec 32 := 0#32
  let v39 : BitVec 1 := Scalar.cmpi .eq arg1 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference19Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel20.lean ====
abbrev S2048x7168 : Shape := ⟨2, ![2048, 7168]⟩
abbrev S2048x1024 : Shape := ⟨2, ![2048, 1024]⟩
abbrev S512x128 : Shape := ⟨2, ![512, 128]⟩
abbrev S2048x128 : Shape := ⟨2, ![2048, 128]⟩
abbrev S512x512 : Shape := ⟨2, ![512, 512]⟩
abbrev S512x1 : Shape := ⟨2, ![512, 1]⟩
abbrev S512 : Shape := ⟨1, ![512]⟩

abbrev nBuf : Space → Nat
  | .hbm => 2
  | .vmem => 8
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1_i32 : BitVec 32 := 1#32
  let v17 : BitVec 32 := Scalar.muli arg1 c1_i32
  let c1_i32_3 : BitVec 32 := 1#32
  let v18 : BitVec 32 := Scalar.addi v17 c1_i32_3
  let c1_i32_4 : BitVec 32 := 1#32
  let v19 : BitVec 32 := Scalar.subi v18 c1_i32_4
  let c0_i32 : BitVec 32 := 0#32
  let v20 : BitVec 32 := Scalar.subi v19 c0_i32
  let c512_i32_5 : BitVec 32 := 512#32
  let v21 : BitVec 32 := Scalar.muli v20 c512_i32_5
  v21
def k0_off1 (i : grid0.Coords) : Fin 2 → Nat :=
  let arg1 : BitVec 32 := BitVec.ofNat 32 (i 1).val
  let c1_i32 : BitVec 32 := 1#32
  let v17 : BitVec 32 := Scalar.muli arg1 c1_i32
  let c1_i32_3 : BitVec 32 := 1#32
  let v18 : BitVec 32 := Scalar.addi v17 c1_i32_3
  let c1_i32_4 : BitVec 32 := 1#32
  let v19 : BitVec 32 := Scalar.subi v18 c1_i32_4
  let c0_i32 : BitVec 32 := 0#32
  let v20 : BitVec 32 := Scalar.subi v19 c0_i32
  let c512_i32_5 : BitVec 32 := 512#32
  let v21 : BitVec 32 := Scalar.muli v20 c512_i32_5
  let v22 : BitVec 32 := v21
  let v23 : Index := Scalar.indexCast v22
  let c0_6 : Index := 0#32
  ![v23.toNat, 0]
@[reducible] def k0_t1_loop (i : grid0.Coords) : Scf.Loop 32 :=
  let c0_i32_22 : BitVec 32 := 0#32
  let arg1 : BitVec 32 := BitVec.ofNat 32 (i 1).val
  let c1_i32 : BitVec 32 := 1#32
  let v17 : BitVec 32 := Scalar.muli arg1 c1_i32
  let v70 : BitVec 32 := Scalar.subi v17 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_24 : BitVec 32 := 1#32
  ⟨c0_i32_22, v74, c1_i32_24⟩
def k0_mult2 (i : grid0.Coords) (k0_t1 : Fin (k0_t1_loop i).trips) : BitVec 32 :=
  let arg1 : BitVec 32 := BitVec.ofNat 32 (i 1).val
  let c1_i32 : BitVec 32 := 1#32
  let v17 : BitVec 32 := Scalar.muli arg1 c1_i32
  let c1_i32_28 : BitVec 32 := 1#32
  let v78 : BitVec 32 := Scalar.subi v17 c1_i32_28
  let c0_i32_22 : BitVec 32 := 0#32
  let c1_i32_24 : BitVec 32 := 1#32
  let arg6 : BitVec 32 := Scf.iv c0_i32_22 c1_i32_24 k0_t1
  let v79 : BitVec 32 := Scalar.subi v78 arg6
  let c512_i32_29 : BitVec 32 := 512#32
  let v80 : BitVec 32 := Scalar.muli v79 c512_i32_29
  v80
def k0_off2 (i : grid0.Coords) (k0_t1 : Fin (k0_t1_loop i).trips) : Fin 2 → Nat :=
  let arg1 : BitVec 32 := BitVec.ofNat 32 (i 1).val
  let c1_i32 : BitVec 32 := 1#32
  let v17 : BitVec 32 := Scalar.muli arg1 c1_i32
  let c1_i32_28 : BitVec 32 := 1#32
  let v78 : BitVec 32 := Scalar.subi v17 c1_i32_28
  let c0_i32_22 : BitVec 32 := 0#32
  let c1_i32_24 : BitVec 32 := 1#32
  let arg6 : BitVec 32 := Scf.iv c0_i32_22 c1_i32_24 k0_t1
  let v79 : BitVec 32 := Scalar.subi v78 arg6
  let c512_i32_29 : BitVec 32 := 512#32
  let v80 : BitVec 32 := Scalar.muli v79 c512_i32_29
  let v81 : BitVec 32 := v80
  let v82 : Index := Scalar.indexCast v81
  let c0_30 : Index := 0#32
  ![v82.toNat, 0]
@[reducible] def k0_t2_loop (i : grid0.Coords) : Scf.Loop 32 :=
  let c0_i32_22 : BitVec 32 := 0#32
  let arg1 : BitVec 32 := BitVec.ofNat 32 (i 1).val
  let c1_i32 : BitVec 32 := 1#32
  let v17 : BitVec 32 := Scalar.muli arg1 c1_i32
  let v70 : BitVec 32 := Scalar.subi v17 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let v71 : BitVec 32 := Scalar.addi c0_i32_22 v70
  let c1_i32_25 : BitVec 32 := 1#32
  ⟨v74, v71, c1_i32_25⟩
def k0_mult3 (i : grid0.Coords) (k0_t2 : Fin (k0_t2_loop i).trips) : BitVec 32 :=
  let arg1 : BitVec 32 := BitVec.ofNat 32 (i 1).val
  let c1_i32 : BitVec 32 := 1#32
  let v17 : BitVec 32 := Scalar.muli arg1 c1_i32
  let c1_i32_28 : BitVec 32 := 1#32
  let v78 : BitVec 32 := Scalar.subi v17 c1_i32_28
  let c0_i32_22 : BitVec 32 := 0#32
  let v70 : BitVec 32 := Scalar.subi v17 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_25 : BitVec 32 := 1#32
  let arg6 : BitVec 32 := Scf.iv v74 c1_i32_25 k0_t2
  let v79 : BitVec 32 := Scalar.subi v78 arg6
  let c512_i32_29 : BitVec 32 := 512#32
  let v80 : BitVec 32 := Scalar.muli v79 c512_i32_29
  v80
def k0_off3 (i : grid0.Coords) (k0_t2 : Fin (k0_t2_loop i).trips) : Fin 2 → Nat :=
  let arg1 : BitVec 32 := BitVec.ofNat 32 (i 1).val
  let c1_i32 : BitVec 32 := 1#32
  let v17 : BitVec 32 := Scalar.muli arg1 c1_i32
  let c1_i32_28 : BitVec 32 := 1#32
  let v78 : BitVec 32 := Scalar.subi v17 c1_i32_28
  let c0_i32_22 : BitVec 32 := 0#32
  let v70 : BitVec 32 := Scalar.subi v17 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_25 : BitVec 32 := 1#32
  let arg6 : BitVec 32 := Scf.iv v74 c1_i32_25 k0_t2
  let v79 : BitVec 32 := Scalar.subi v78 arg6
  let c512_i32_29 : BitVec 32 := 512#32
  let v80 : BitVec 32 := Scalar.muli v79 c512_i32_29
  let v81 : BitVec 32 := v80
  let v82 : Index := Scalar.indexCast v81
  let c0_30 : Index := 0#32
  ![v82.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S2048x7168 : Shape := ⟨2, ![2048, 7168]⟩
abbrev S2048x1024 : Shape := ⟨2, ![2048, 1024]⟩
abbrev S2048x8x128 : Shape := ⟨3, ![2048, 8, 128]⟩
abbrev S8x2048x128 : Shape := ⟨3, ![8, 2048, 128]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x8x128, .f32⟩
  | .hbm, ⟨5, _⟩ => ⟨S8x2048x128, .f32⟩
  | .hbm, ⟨6, _⟩ => ⟨S2048x8x128, .f32⟩
  | .hbm, ⟨7, _⟩ => ⟨S8x2048x128, .f32⟩
  | .hbm, ⟨8, _⟩ => ⟨S2048x8x128, .f32⟩
  | .hbm, ⟨9, _⟩ => ⟨S8x2048x128, .f32⟩
  | .hbm, ⟨10, _⟩ => ⟨S_, .f32⟩
  | .hbm, ⟨11, _⟩ => ⟨S8x2048x128, .f32⟩
  | .hbm, ⟨12, _⟩ => ⟨S8x2048x128, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S_, .f32⟩
  | .hbm, ⟨40, _⟩ => ⟨S8x2048x2048, .i1⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S_, .f32⟩
  | .hbm, ⟨51, _⟩ => ⟨S8x2048x2048, .i1⟩
  | .hbm, ⟨52, _⟩ => ⟨S8x2048x2048, .f32⟩
  | .hbm, ⟨53, _⟩ => ⟨S8x2048x2048, .f32⟩
  | .hbm, ⟨54, _⟩ => ⟨S8x2048x128, .f32⟩
  | .hbm, ⟨55, _⟩ => ⟨S2048x8x128, .f32⟩
  | .hbm, ⟨56, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Kernel21.lean ====
abbrev S2048x5632 : Shape := ⟨2, ![2048, 5632]⟩
abbrev S2048x2816 : Shape := ⟨2, ![2048, 2816]⟩
abbrev S1x2816 : Shape := ⟨2, ![1, 2816]⟩
abbrev S2048x128 : Shape := ⟨2, ![2048, 128]⟩
abbrev S1x128 : Shape := ⟨2, ![1, 128]⟩
abbrev S8x128 : Shape := ⟨2, ![8, 128]⟩

abbrev nBuf : Space → Nat
  | .hbm => 7
  | .vmem => 17
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .bf16⟩
  | .hbm, ⟨3, _⟩ => ⟨S2048x2816, .bf16⟩
  | .hbm, ⟨4, _⟩ => ⟨S1x2816, .f32⟩
  | .hbm, ⟨5, _⟩ => ⟨S2048x2816, .f32⟩
  | .hbm, ⟨6, _⟩ => ⟨S2048x2816, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32_24 : BitVec 32 := 0#32
  let c256_i32 : BitVec 32 := 256#32
  let v74 : BitVec 32 := Scalar.addi c0_i32_24 c256_i32
  let c1_i32_25 : BitVec 32 := 1#32
  ⟨c0_i32_24, v74, c1_i32_25⟩
def k0_mult1 (k0_t1 : Fin k0_t1_loop.trips) : BitVec 32 :=
  let c0_i32_24 : BitVec 32 := 0#32
  let c1_i32_25 : BitVec 32 := 1#32
  let arg11 : BitVec 32 := Scf.iv c0_i32_24 c1_i32_25 k0_t1
  let c8_i32 : BitVec 32 := 8#32
  let v97 : BitVec 32 := Scalar.muli arg11 c8_i32
  v97
def k0_off1 (k0_t1 : Fin k0_t1_loop.trips) : Fin 2 → Nat :=
  let c0_i32_24 : BitVec 32 := 0#32
  let c1_i32_25 : BitVec 32 := 1#32
  let arg11 : BitVec 32 := Scf.iv c0_i32_24 c1_i32_25 k0_t1
  let c8_i32 : BitVec 32 := 8#32
  let v97 : BitVec 32 := Scalar.muli arg11 c8_i32
  let v98 : BitVec 32 := v97
  let v101 : Index := Scalar.indexCast v98
  let c0_39 : Index := 0#32
  ![v101.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2048x5632 : Shape := ⟨2, ![2048, 5632]⟩
abbrev S2048x2816 : Shape := ⟨2, ![2048, 2816]⟩
abbrev S1x2816 : Shape := ⟨2, ![1, 2816]⟩
abbrev S_ : Shape := ⟨0, ![]⟩
abbrev S2048 : Shape := ⟨1, ![2048]⟩
abbrev S2048x1 : Shape := ⟨2, ![2048, 1]⟩
abbrev S2048x2048x2048 : Shape := ⟨3, ![2048, 2048, 2048]⟩
abbrev S2048x2048x2816 : Shape := ⟨3, ![2048, 2048, 2816]⟩
abbrev S2048x2048 : Shape := ⟨2, ![2048, 2048]⟩
abbrev S2048x2048x1 : Shape := ⟨3, ![2048, 2048, 1]⟩
abbrev S2816x2048 : Shape := ⟨2, ![2816, 2048]⟩

abbrev nBuf : Space → Nat
  | .hbm => 109
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .bf16⟩
  | .hbm, ⟨3, _⟩ => ⟨S2048x2816, .bf16⟩
  | .hbm, ⟨4, _⟩ => ⟨S1x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S1x2816, .f32⟩
  | .hbm, ⟨21, _⟩ => ⟨S_, .f32⟩
  | .hbm, ⟨22, _⟩ => ⟨S1x2816, .f32⟩
  | .hbm, ⟨23, _⟩ => ⟨S1x2816, .f32⟩
  | .hbm, ⟨24, _⟩ => ⟨S1x2816, .f32⟩
  | .hbm, ⟨25, _⟩ => ⟨S1x2816, .f32⟩
  | .hbm, ⟨26, _⟩ => ⟨S1x2816, .i1⟩
  | .hbm, ⟨27, _⟩ => ⟨S1x2816, .f32⟩
  | .hbm, ⟨28, _⟩ => ⟨S1x2816, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S1x2816, .f32⟩
  | .hbm, ⟨33, _⟩ => ⟨S1x2816, .f32⟩
  | .hbm, ⟨34, _⟩ => ⟨S1x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S2048x1, .i1⟩
  | .hbm, ⟨48, _⟩ => ⟨S_, .f32⟩
  | .hbm, ⟨49, _⟩ => ⟨S_, .f32⟩
  | .hbm, ⟨50, _⟩ => ⟨S2048x2816, .i1⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S_, .f32⟩
  | .hbm, ⟨56, _⟩ => ⟨S2048x2816, .f32⟩
  | .hbm, ⟨57, _⟩ => ⟨S2048x2816, .f32⟩
  | .hbm, ⟨58, _⟩ => ⟨S_, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2048x2048, .i32⟩
  | .hbm, ⟨64, _⟩ => ⟨S2048x2048x2048, .i32⟩
  | .hbm, ⟨65, _⟩ => ⟨S2048x2048x2048, .i32⟩
  | .hbm, ⟨66, _⟩ => ⟨S2048x2048x2048, .i1⟩
  | .hbm, ⟨67, _⟩ => ⟨S2048x2048x2048, .i1⟩
  | .hbm, ⟨68, _⟩ => ⟨S2048x2048x2048, .i1⟩
  | .hbm, ⟨69, _⟩ => ⟨S_, .f32⟩
  | .hbm, ⟨70, _⟩ => ⟨S_, .f32⟩
  | .hbm, ⟨71, _⟩ => ⟨S2048x2048x2048, .f32⟩
  | .hbm, ⟨72, _⟩ => ⟨S2048x2048x2048, .f32⟩
  | .hbm, ⟨73, _⟩ => ⟨S2048x2048x2048, .f32⟩
  | .hbm, ⟨74, _⟩ => ⟨S2048x2048x2816, .f32⟩
  | .hbm, ⟨75, _⟩ => ⟨S2048x2048x2816, .f32⟩
  | .hbm, ⟨76, _⟩ => ⟨S2048x2048, .i32⟩
  | .hbm, ⟨77, _⟩ => ⟨S_, .i32⟩
  | .hbm, ⟨78, _⟩ => ⟨S2048x2048, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S2048x2048x1, .i1⟩
  | .hbm, ⟨83, _⟩ => ⟨S_, .f32⟩
  | .hbm, ⟨84, _⟩ => ⟨S_, .f32⟩
  | .hbm, ⟨85, _⟩ => ⟨S2048x2048x2816, .i1⟩
  | .hbm, ⟨86, _⟩ => ⟨S2048x2048x2816, .f32⟩
  | .hbm, ⟨87, _⟩ => ⟨S2048x2048x2816, .f32⟩
  | .hbm, ⟨88, _⟩ => ⟨S2816x2048, .f32⟩
  | .hbm, ⟨89, _⟩ => ⟨S2048x2816, .f32⟩
  | .hbm, ⟨90, _⟩ => ⟨S2048x2816, .f32⟩
  | .hbm, ⟨91, _⟩ => ⟨S2048x2816, .f32⟩
  | .hbm, ⟨92, _⟩ => ⟨S_, .f32⟩
  | .hbm, ⟨93, _⟩ => ⟨S2048x2816, .f32⟩
  | .hbm, ⟨94, _⟩ => ⟨S2048x2816, .f32⟩
  | .hbm, ⟨95, _⟩ => ⟨S2048x2816, .f32⟩
  | .hbm, ⟨96, _⟩ => ⟨S_, .f32⟩
  | .hbm, ⟨97, _⟩ => ⟨S2048x2816, .f32⟩
  | .hbm, ⟨98, _⟩ => ⟨S2048x2816, .f32⟩
  | .hbm, ⟨99, _⟩ => ⟨S2048x2816, .f32⟩
  | .hbm, ⟨100, _⟩ => ⟨S_, .f32⟩
  | .hbm, ⟨101, _⟩ => ⟨S2048x2816, .f32⟩
  | .hbm, ⟨102, _⟩ => ⟨S2048x2816, .f32⟩
  | .hbm, ⟨103, _⟩ => ⟨S_, .f32⟩
  | .hbm, ⟨104, _⟩ => ⟨S2048x2816, .f32⟩
  | .hbm, ⟨105, _⟩ => ⟨S2048x2816, .f32⟩
  | .hbm, ⟨106, _⟩ => ⟨S2048x2816, .f32⟩
  | .hbm, ⟨107, _⟩ => ⟨S2048x2816, .f32⟩
  | .hbm, ⟨108, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_11 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_cst_13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== Proof.Offsets.lean ====
/-
  Where the kernel's accesses fall.  At grid point `(h, q)` the query tile is tile `q` of head `h`, and the two
  loops over the earlier key tiles make `q` trips each; trip `k` is on key tile `q - 1 - k`.  The addresses the
  program computes in 32-bit words are read here as natural numbers, once.
-/
module

public import proofs.«01_k».proof.Proof.Gen.KernelIdeal.Frame

@[expose] public section

set_option maxRecDepth 16384

noncomputable section

namespace Cert.Sb

open Idealize.ShloMosaic Cert.KernelIdeal

/-- The query tile's number at a grid point. -/
abbrev qi (i : grid0.Coords) : ℕ := (i 1).val

theorem qi_lt (i : grid0.Coords) : qi i < 4 := (i 1).isLt

/-- The first loop makes one trip for each earlier key tile. -/
theorem trips1 : ∀ i : grid0.Coords, (k0_t1_loop i).trips = qi i := by decide +kernel

/-- So does the second. -/
theorem trips3 : ∀ i : grid0.Coords, (k0_t3_loop i).trips = qi i := by decide +kernel

theorem off1 : ∀ i : grid0.Coords, k0_off1 i = ![512 * qi i, 0] := by decide +kernel

theorem off2 : ∀ i : grid0.Coords, k0_off2 i = ![qi i, 0, 0] := by decide +kernel

theorem off3 : ∀ (i : grid0.Coords) (k : Fin (k0_t1_loop i).trips), k0_off3 i k = ![512 * (qi i - 1 - k.val), 0] := by
  decide +kernel

theorem off4 : ∀ (i : grid0.Coords) (k : Fin (k0_t1_loop i).trips), k0_off4 i k = ![qi i - 1 - k.val, 0, 0] := by
  decide +kernel

theorem off7 : ∀ (i : grid0.Coords) (k : Fin (k0_t3_loop i).trips), k0_off7 i k = ![qi i - 1 - k.val, 0, 0] := by
  decide +kernel

theorem off8 : ∀ (i : grid0.Coords) (k : Fin (k0_t3_loop i).trips), k0_off8 i k = ![512 * (qi i - 1 - k.val), 0] := by
  decide +kernel

end Cert.Sb
-- ==== Proof.Tiles.lean ====
/-
  Tiles of the two kinds of buffer the kernel addresses by tile: a `2048 × 128` array is four tiles of 512 rows, a
  `4 × 512 × 512` scratch is four `512 × 512` tiles.  `rows`/`setRows` read and replace a row tile, `slab` reads a
  scratch tile; the lemmas say that the kernel's loads and stores at the addresses of Offsets.lean are these.
-/
module

public import proofs.«01_k».proof.Proof.Offsets
public import Idealize.ShloMosaic.Lib.ValueIdx
public import Idealize.ShloMosaic.Lib.Writes

@[expose] public section

set_option maxRecDepth 16384

noncomputable section

namespace Cert.Sb

open Idealize.ShloMosaic Idealize.ShloMosaic.ValueIdx Cert.KernelIdeal

variable {α : Type}

/-- Row tile `b` of a `2048 × 128` array. -/
def rows (X : S2048x128.Idx → α) (b : ℕ) : S512x128.Idx → α := fun x =>
  X (ix2 (n0 := 2048) (n1 := 128) ⟨(512 * b + (x 0).val) % 2048, Nat.mod_lt _ (by omega)⟩ (x 1))

/-- The array with row tile `b` replaced by `w`. -/
def setRows (X : S2048x128.Idx → α) (b : ℕ) (w : S512x128.Idx → α) : S2048x128.Idx → α := fun y =>
  if (y 0).val / 512 = b then w (ix2 (n0 := 512) (n1 := 128) ⟨(y 0).val % 512, Nat.mod_lt _ (by omega)⟩ (y 1)) else X y

/-- Tile `b` of the scratch. -/
def slab (Y : S4x512x512.Idx → α) (b : ℕ) : S1x512x512.Idx → α := fun x =>
  Y (ix3 (n0 := 4) (n1 := 512) (n2 := 512) ⟨b % 4, Nat.mod_lt _ (by omega)⟩ (x 1) (x 2))

/-- A load of 512 rows at row `512 b` reads row tile `b`. -/
theorem ld_rows {Val : EltTy → Type} {e : EltTy} (X : S2048x128.Idx → Val e) {off : Fin 2 → ℕ} {b : ℕ} (h : off = ![512 * b, 0]) (hb : b < 4)
    (inb : ∀ a, off a + S512x128.size a ≤ S2048x128.size a) :
    View.ld (Val := Val) (e' := e) X (Rect.unit (s := S2048x128) off S512x128.size inb) = rows X b := by
  subst h
  funext x
  unfold View.ld rows
  congr 1
  have hx : (x 0).val < 512 := (x 0).isLt
  funext a
  apply Fin.ext
  match a with
  | ⟨0, _⟩ =>
    show 512 * b + 1 * (x 0).val = (512 * b + (x 0).val) % 2048
    omega
  | ⟨1, _⟩ =>
    show 0 + 1 * (x 1).val = (x 1).val
    omega

/-- A load of a scratch tile. -/
theorem ld_slab {Val : EltTy → Type} {e : EltTy} (Y : S4x512x512.Idx → Val e) {off : Fin 3 → ℕ} {b : ℕ} (h : off = ![b, 0, 0]) (hb : b < 4)
    (inb : ∀ a, off a + S1x512x512.size a ≤ S4x512x512.size a) :
    View.ld (Val := Val) (e' := e) Y (Rect.unit (s := S4x512x512) off S1x512x512.size inb) = slab Y b := by
  subst h
  funext x
  unfold View.ld slab
  congr 1
  have hx : (x 0).val < 1 := (x 0).isLt
  funext a
  apply Fin.ext
  match a with
  | ⟨0, _⟩ =>
    show b + 1 * (x 0).val = b % 4
    omega
  | ⟨1, _⟩ =>
    show 0 + 1 * (x 1).val = (x 1).val
    omega
  | ⟨2, _⟩ =>
    show 0 + 1 * (x 2).val = (x 2).val
    omega

section Writes

variable {Val : EltTy → Type} {e : EltTy} {sig' : RefSig} {κ : Kind} {sp : Space}

/-- A store of 512 rows at row `512 b` replaces row tile `b`. -/
theorem read_store_rows (v : View sig' κ sp S2048x128 e) (f : v.ty.Contents Val) (L : List (View.Piece Val S2048x128 e))
    {off : Fin 2 → ℕ} {b : ℕ} (h : off = ![512 * b, 0]) (hb : b < 4)
    (inb : ∀ a, off a + S512x128.size a ≤ S2048x128.size a) (w : S512x128.Idx → Val e) :
    v.read Val (v.writes Val f (⟨Rect.unit (s := S2048x128) off S512x128.size inb, w⟩ :: L))
      = setRows (v.read Val (v.writes Val f L)) b w := by
  subst h
  funext y
  have hy : (y 0).val < 2048 := (y 0).isLt
  unfold setRows
  split
  · rename_i hb'
    refine View.read_writes_cons_hit_of_coords v f (Rect.unit (s := S2048x128) ![512 * b, 0] S512x128.size inb) w L
      (ix2 (n0 := 512) (n1 := 128) ⟨(y 0).val % 512, Nat.mod_lt _ (by omega)⟩ (y 1)) y fun a => ?_
    match a with
    | ⟨0, _⟩ =>
      show (y 0).val = 512 * b + 1 * ((y 0).val % 512)
      omega
    | ⟨1, _⟩ =>
      show (y 1).val = 0 + 1 * (y 1).val
      omega
  · rename_i hb'
    refine View.read_writes_cons_miss_of_axis v f _ _ y 0 (512 * b) 512 rfl rfl rfl ?_
    omega

/-- A store of scratch tile `b` is read back there, and leaves every other tile. -/
theorem slab_store_hit (v : View sig' κ sp S4x512x512 e) (f : v.ty.Contents Val) (L : List (View.Piece Val S4x512x512 e))
    {off : Fin 3 → ℕ} {b : ℕ} (h : off = ![b, 0, 0]) (hb : b < 4)
    (inb : ∀ a, off a + S1x512x512.size a ≤ S4x512x512.size a) (w : S1x512x512.Idx → Val e) :
    slab (v.read Val (v.writes Val f (⟨Rect.unit (s := S4x512x512) off S1x512x512.size inb, w⟩ :: L))) b = w := by
  subst h
  funext x
  have hx : (x 0).val < 1 := (x 0).isLt
  unfold slab
  refine View.read_writes_cons_hit_of_coords v f (Rect.unit (s := S4x512x512) ![b, 0, 0] S1x512x512.size inb) w L x _ fun a => ?_
  match a with
  | ⟨0, _⟩ =>
    show b % 4 = b + 1 * (x 0).val
    omega
  | ⟨1, _⟩ =>
    show (x 1).val = 0 + 1 * (x 1).val
    omega
  | ⟨2, _⟩ =>
    show (x 2).val = 0 + 1 * (x 2).val
    omega

theorem slab_store_miss (v : View sig' κ sp S4x512x512 e) (f : v.ty.Contents Val) (L : List (View.Piece Val S4x512x512 e))
    {off : Fin 3 → ℕ} {b b' : ℕ} (h : off = ![b, 0, 0]) (hb : b < 4) (hb' : b' < 4) (hne : b' ≠ b)
    (inb : ∀ a, off a + S1x512x512.size a ≤ S4x512x512.size a) (w : S1x512x512.Idx → Val e) :
    slab (v.read Val (v.writes Val f (⟨Rect.unit (s := S4x512x512) off S1x512x512.size inb, w⟩ :: L))) b'
      = slab (v.read Val (v.writes Val f L)) b' := by
  subst h
  funext x
  unfold slab
  refine View.read_writes_cons_miss_of_axis v f _ _ _ 0 b 1 rfl rfl rfl ?_
  show b' % 4 < b ∨ b + 1 ≤ b' % 4
  omega

/-- A store of a whole two-axis buffer leaves its payload, whatever came before. -/
theorem read_store_whole {n0 n1 : ℕ} (v : View sig' κ sp ⟨2, ![n0, n1]⟩ e) (f : v.ty.Contents Val)
    (L : List (View.Piece Val ⟨2, ![n0, n1]⟩ e)) (inb : ∀ a, (![0, 0] : Fin 2 → ℕ) a + ![n0, n1] a ≤ ![n0, n1] a)
    (w : (⟨2, ![n0, n1]⟩ : Shape).Idx → Val e) :
    v.read Val (v.writes Val f (⟨Rect.unit (s := ⟨2, ![n0, n1]⟩) ![0, 0] ![n0, n1] inb, w⟩ :: L)) = w := by
  funext y
  refine View.read_writes_cons_hit_of_coords v f (Rect.unit (s := ⟨2, ![n0, n1]⟩) ![0, 0] ![n0, n1] inb) w L y y fun a => ?_
  match a with
  | ⟨0, _⟩ => show (y 0).val = 0 + 1 * (y 0).val; omega
  | ⟨1, _⟩ => show (y 1).val = 0 + 1 * (y 1).val; omega

/-- A load of a whole two-axis buffer reads it. -/
theorem ld_whole {n0 n1 : ℕ} (X : (⟨2, ![n0, n1]⟩ : Shape).Idx → Val e)
    (inb : ∀ a, (![0, 0] : Fin 2 → ℕ) a + ![n0, n1] a ≤ ![n0, n1] a) :
    View.ld (Val := Val) (e' := e) X (Rect.unit (s := ⟨2, ![n0, n1]⟩) ![0, 0] ![n0, n1] inb) = X := by
  funext y
  unfold View.ld
  congr 1
  funext a
  apply Fin.ext
  match a with
  | ⟨0, _⟩ => show 0 + 1 * (y 0).val = (y 0).val; omega
  | ⟨1, _⟩ => show 0 + 1 * (y 1).val = (y 1).val; omega

end Writes

end Cert.Sb
-- ==== Proof.Step.lean ====
/-
  What one grid point computes, as functions of the tiles it reads: the query tile `Q`, the keys `K` and values `V`
  of the whole head, the tile `D` of the incoming gradient, and what the two accumulators hold.

  The first walk goes over the key tiles from the query's own back to the first (`st1`), carrying per query row the
  sum of `log (1 - β)` and the sum of `g` over the tiles already seen; it leaves `g` and `log β`'s exponential of
  each tile in the scratch (`gT`, `bT`) and adds to the gradient of the values (`dvT`).  The second walk goes over the
  same tiles again (`st3`), carrying the gradient of the queries and the sum of `g`, and adds to the gradient of the
  keys (`dkT`).
-/
module

public import proofs.«01_k».proof.Proof.Tiles
public import proofs.«01_k».proof.Proof.Gen.KernelIdeal.Skeleton

@[expose] public section

set_option maxRecDepth 16384

noncomputable section

namespace Cert.Sb

open Idealize.ShloMosaic Cert.KernelIdeal Cert.KernelIdeal.Gen

variable {F : FTy → Type} [FloatOps F]

/-- The number of the query's own key tile, as the 32-bit word the program computes. -/
def ownTile (i : grid0.Coords) : BitVec 32 :=
  Scalar.subi (Scalar.subi (Scalar.addi (Scalar.muli (BitVec.ofNat 32 (i 1).val) 1#32) 1#32) 1#32) 0#32

/-- The word of its first key. -/
def ownKey (i : grid0.Coords) : BitVec 32 := Scalar.muli (ownTile i) 512#32

/-- The key's place in its tile. -/
def keyIota : IVec S512x512 32 := iota .tc S512x512 32 [1] iota_S512x512_d1_w32

section Point

variable (i : grid0.Coords) (Q D : Vec F S512x128 .f32) (K V : Vec F S2048x128 .f32)

/-- `log (1 - β)` on the query's own tile, zero from the query on. -/
def ownL : FVec F S512x512 .f32 := k0_pay42 (k0_pay30 Q) (k0_pay32 i) keyIota (k0_pay36 (rows K (qi i))) (ownKey i)

/-- `g` on the query's own tile. -/
def ownG : FVec F S512x512 .f32 :=
  k0_pay44 (k0_pay30 Q) (k0_pay31 D) (k0_pay32 i) keyIota k0_pay33 k0_pay35 (k0_pay36 (rows K (qi i)))
    (k0_pay37 (rows V (qi i))) (ownKey i)

/-- `log β` on the query's own tile. -/
def ownB : FVec F S512x512 .f32 := k0_pay41 (k0_pay30 Q) (k0_pay36 (rows K (qi i)))

/-- The carried sums after `j` of the earlier tiles. -/
def st1 : ℕ → FVec F S512x1 .f32 × FVec F S512x1 .f32
  | 0 => (k0_pay48 k0_pay35 (ownL i Q K), k0_pay49 k0_pay35 (ownG i Q D K V))
  | j + 1 =>
    (k0_pay53 (st1 j).1 (k0_pay7 (k0_pay30 Q) (rows K (qi i - 1 - j))),
      k0_pay54 (st1 j).2 (k0_pay9 (k0_pay30 Q) (k0_pay31 D) k0_pay33 (st1 j).1 (rows K (qi i - 1 - j)) (rows V (qi i - 1 - j))))

/-- `g` on earlier tile number `j` (tile `q - 1 - j`), as it stands in the scratch. -/
def gT (j : ℕ) : Vec F S1x512x512 .f32 :=
  k0_pay51 (k0_pay9 (k0_pay30 Q) (k0_pay31 D) k0_pay33 (st1 i Q D K V j).1 (rows K (qi i - 1 - j)) (rows V (qi i - 1 - j)))

/-- `β` there. -/
def bT (j : ℕ) : Vec F S1x512x512 .f32 := k0_pay52 (k0_pay6 (k0_pay30 Q) (rows K (qi i - 1 - j)))

/-- The gradient of the values after the query's own tile and `j` earlier ones, from `W`. -/
def dvT (W : Vec F S2048x128 .f32) : ℕ → Vec F S2048x128 .f32
  | 0 => setRows W (qi i)
      (k0_pay45 (k0_pay30 Q) (k0_pay31 D) (k0_pay32 i) keyIota k0_pay33 k0_pay35 (k0_pay36 (rows K (qi i))) (ownKey i)
        (rows W (qi i)))
  | j + 1 => setRows (dvT W j) (qi i - 1 - j)
      (k0_pay50 (k0_pay10 (rows (dvT W j) (qi i - 1 - j)))
        (k0_pay11 (k0_pay30 Q) (k0_pay31 D) k0_pay33 (st1 i Q D K V j).1 (rows K (qi i - 1 - j))))

/-- The sum of `g` over the whole row. -/
def gAll : FVec F S512x1 .f32 := (st1 i Q D K V (qi i)).2

/-- `g` and `β` on the query's own tile, as they stand in the scratch. -/
def gOwn : Vec F S1x512x512 .f32 := k0_pay46 (ownG i Q D K V)
def bOwn : Vec F S1x512x512 .f32 := k0_pay47 (ownB i Q K)

/-- The second walk's carried values after `j` of the earlier tiles. -/
def st3 : ℕ → FVec F S512x128 .f32 × FVec F S512x1 .f32
  | 0 =>
    (k0_pay66 (k0_pay32 i) keyIota k0_pay34 k0_pay35 (gAll i Q D K V) k0_pay60 (ownTile i) (k0_pay61 (gOwn i Q D K V))
        (k0_pay62 (bOwn i Q K)) (k0_pay63 (gOwn i Q D K V)) (k0_pay64 (gOwn i Q D K V)) (rows K (qi i)),
      k0_pay68 k0_pay35 (k0_pay61 (gOwn i Q D K V)))
  | j + 1 =>
    (k0_pay22 k0_pay34 (gAll i Q D K V) (st3 j).1 (st3 j).2 (gT i Q D K V j) (bT i Q K j) (rows K (qi i - 1 - j)),
      k0_pay1 (st3 j).2 (k0_pay20 (gT i Q D K V j)))

/-- The gradient of the keys after the query's own tile and `j` earlier ones, from `W`. -/
def dkT (W : Vec F S2048x128 .f32) : ℕ → Vec F S2048x128 .f32
  | 0 => setRows W (qi i)
      (k0_pay67 (k0_pay30 Q) (k0_pay32 i) keyIota k0_pay34 k0_pay35 (gAll i Q D K V) (ownTile i)
        (k0_pay61 (gOwn i Q D K V)) (k0_pay62 (bOwn i Q K)) (k0_pay63 (gOwn i Q D K V)) (k0_pay64 (gOwn i Q D K V))
        (rows W (qi i)))
  | j + 1 => setRows (dkT W j) (qi i - 1 - j)
      (k0_pay23 (k0_pay30 Q) k0_pay34 (gAll i Q D K V) (st3 i Q D K V j).2 (gT i Q D K V j) (bT i Q K j)
        (rows (dkT W j) (qi i - 1 - j)))

/-- What the point leaves: the query tile's gradient, and the two accumulators. -/
def dqOut : Vec F S512x128 .f32 := k0_pay3 (st3 i Q D K V (qi i)).1
def dkOut (W : Vec F S2048x128 .f32) : Vec F S2048x128 .f32 := dkT i Q D K V (if qi i = 0 then k0_pay28 else W) (qi i)
def dvOut (W : Vec F S2048x128 .f32) : Vec F S2048x128 .f32 := dvT i Q D K V (if qi i = 0 then k0_pay29 else W) (qi i)

end Point

end Cert.Sb
-- ==== Proof.Walks.lean ====
/-
  The two walks over the earlier key tiles, one trip each: from the state the walk is in before trip `n` to the state
  before trip `n + 1`.
-/
module

public import proofs.«01_k».proof.Proof.Step
public import proofs.«01_k».proof.Proof.Gen.KernelIdeal.Frame
public import Idealize.ShloMosaic.Lib.Exec
public import Idealize.ShloMosaic.Lib.Tactic

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (UR sig nD τ) ℕ

/-- The scratch after `n` of the earlier tiles: `own` on the query's own tile, `T j` on earlier tile number `j < n`. -/
def Holds (q : ℕ) (own : Vec F S1x512x512 .f32) (T : ℕ → Vec F S1x512x512 .f32) (n : ℕ) (Y : Vec F S4x512x512 .f32) : Prop :=
  slab Y q = own ∧ ∀ j, j < n → slab Y (q - 1 - j) = T j

section Loops

variable (𝒱 : Variants) (c : Dev nD) (bd : Option 𝒱.V) (E : Set ℕ) (i : grid0.Coords)
  (a2 : Memref sig .tc .vmem S512x128 .f32) (h2 : a2.IsWhole) (a3 : Memref sig .tc .vmem S2048x128 .f32) (h3 : a3.IsWhole) (a4 : Memref sig .tc .vmem S2048x128 .f32) (h4 : a4.IsWhole) (a5 : Memref sig .tc .vmem S512x128 .f32) (h5 : a5.IsWhole) (a6 : Memref sig .tc .vmem S512x128 .f32) (h6 : a6.IsWhole) (a7 : Memref sig .tc .vmem S2048x128 .f32) (h7 : a7.IsWhole) (a8 : Memref sig .tc .vmem S2048x128 .f32) (h8 : a8.IsWhole) (a9 : Memref sig .tc .vmem S4x512x512 .f32) (h9 : a9.IsWhole) (a10 : Memref sig .tc .vmem S4x512x512 .f32) (h10 : a10.IsWhole)
  (Q D : Vec F S512x128 .f32) (K V W W7 : Vec F S2048x128 .f32)

/-- Before trip `n` of the first walk: the keys, the values and the gradient of the keys as they
    were, the gradient of the values after `n` earlier
    tiles, the scratch filled on the tiles walked, the carried sums `st1 n`. -/
def Inv1 (n : ℕ) (acc : FVec F S512x1 .f32 × FVec F S512x1 .f32) : sProp 𝕄 :=
  iprop(⌜acc = st1 i Q D K V n⌝
    ∗ (∃ f3, ⌜a3.view.read (Elt F) f3 = K⌝ ∗ (a3.view.loc (c : Thread nD τ) ↦[a3.view.set]{fullShare} f3))
    ∗ (∃ f4, ⌜a4.view.read (Elt F) f4 = V⌝ ∗ (a4.view.loc (c : Thread nD τ) ↦[a4.view.set]{fullShare} f4))
    ∗ (∃ f7, ⌜a7.view.read (Elt F) f7 = W7⌝ ∗ (a7.view.loc (c : Thread nD τ) ↦[a7.view.set]{fullShare} f7))
    ∗ (∃ f8, ⌜a8.view.read (Elt F) f8 = dvT i Q D K V W n⌝ ∗ (a8.view.loc (c : Thread nD τ) ↦[a8.view.set]{fullShare} f8))
    ∗ (∃ f9, ⌜Holds (qi i) (gOwn i Q D K V) (gT i Q D K V) n (a9.view.read (Elt F) f9)⌝ ∗ (a9.view.loc (c : Thread nD τ) ↦[a9.view.set]{fullShare} f9))
    ∗ (∃ f10, ⌜Holds (qi i) (bOwn i Q K) (bT i Q K) n (a10.view.read (Elt F) f10)⌝ ∗ (a10.view.loc (c : Thread nD τ) ↦[a10.view.set]{fullShare} f10)))

/-- One trip of the first walk. -/
theorem trip1 (arg1 v27 v30 : BitVec 32) (v51 v58 v75 : FVec F S512x512 .f32)
    (k : Fin (k0_t1_loop i).trips) (acc : FVec F S512x1 .f32 × FVec F S512x1 .f32) :
    Inv1 c i a3 a4 a7 a8 a9 a10 Q D K V W W7 k.val acc
      ⊢ wp Idealize.ShloMosaic.frame (wpE (defs₀ (F := F)) 𝒱 (c : Thread nD τ) bd) E
          (Gen.k0_t1_body (F := F) i a2 h2 a3 h3 a4 h4 a5 h5 a6 h6 a7 h7 a8 h8 a9 h9 a10 h10 arg1 (Gen.k0_pay30 Q) (Gen.k0_pay31 D) Gen.k0_pay33 Gen.k0_pay35 v27 v30 v51 v58 v75 k acc)
          (Inv1 c i a3 a4 a7 a8 a9 a10 Q D K V W W7 (k.val + 1)) := by
  have hk : k.val < qi i := (trips1 i) ▸ k.isLt
  have hq := qi_lt i
  unfold Inv1 Gen.k0_t1_body
  iintro ⟨%hacc, ⟨%f3, %h3, H3⟩, ⟨%f4, %h4, H4⟩, ⟨%f7, %h7, H7⟩, ⟨%f8, %h8, H8⟩, ⟨%f9, %h9, H9⟩, ⟨%f10, %h10, H10⟩⟩
  subst hacc
  sl_exec
  sl_step
  have e3 : (a3.view.readAt (Elt F) (Rect.unit (s := S2048x128) (k0_off3 i k) S512x128.size (Gen.k0_off3_inb i k)).toLoadRect f3 : Vec F S512x128 .f32) = rows K (qi i - 1 - k.val) := by
    rw [View.readAt_eq_ld, ld_rows _ (off3 i k) (by omega), h3]
  have e4 : (a4.view.readAt (Elt F) (Rect.unit (s := S2048x128) (k0_off3 i k) S512x128.size (Gen.k0_off3_inb i k)).toLoadRect f4 : Vec F S512x128 .f32) = rows V (qi i - 1 - k.val) := by
    rw [View.readAt_eq_ld, ld_rows _ (off3 i k) (by omega), h4]
  have e8 : (a8.view.readAt (Elt F) (Rect.unit (s := S2048x128) (k0_off3 i k) S512x128.size (Gen.k0_off3_inb i k)).toLoadRect f8 : Vec F S512x128 .f32) = rows (dvT i Q D K V W k.val) (qi i - 1 - k.val) := by
    rw [View.readAt_eq_ld, ld_rows _ (off3 i k) (by omega), h8]
  isplitr
  · ipureintro
    show (Gen.k0_pay53 _ (Gen.k0_pay7 _ (a3.view.readAt (Elt F) (Rect.unit (s := S2048x128) (k0_off3 i k) S512x128.size (Gen.k0_off3_inb i k)).toLoadRect f3 : Vec F S512x128 .f32)), Gen.k0_pay54 _ (Gen.k0_pay9 _ _ _ _ (a3.view.readAt (Elt F) (Rect.unit (s := S2048x128) (k0_off3 i k) S512x128.size (Gen.k0_off3_inb i k)).toLoadRect f3 : Vec F S512x128 .f32) (a4.view.readAt (Elt F) (Rect.unit (s := S2048x128) (k0_off3 i k) S512x128.size (Gen.k0_off3_inb i k)).toLoadRect f4 : Vec F S512x128 .f32))) = _
    rw [e3, e4]
    rfl
  isplitl [H3]
  · iexists f3; isplitr; · ipureintro; exact h3
    iexact H3
  isplitl [H4]
  · iexists f4; isplitr; · ipureintro; exact h4
    iexact H4
  isplitl [H7]
  · iexists f7; isplitr; · ipureintro; exact h7
    iexact H7
  isplitl [H8]
  · iexists _; isplitr; swap; · iexact H8
    ipureintro
    rw [read_store_rows _ _ _ (off3 i k) (by omega), View.writes_nil, h8]
    show setRows _ _ (Gen.k0_pay50 (Gen.k0_pay10 (a8.view.readAt (Elt F) (Rect.unit (s := S2048x128) (k0_off3 i k) S512x128.size (Gen.k0_off3_inb i k)).toLoadRect f8 : Vec F S512x128 .f32)) (Gen.k0_pay11 _ _ _ _ (a3.view.readAt (Elt F) (Rect.unit (s := S2048x128) (k0_off3 i k) S512x128.size (Gen.k0_off3_inb i k)).toLoadRect f3 : Vec F S512x128 .f32))) = _
    rw [e3, e8]
    rfl
  isplitl [H9]
  · iexists _; isplitr; swap; · iexact H9
    ipureintro
    refine ⟨?_, fun j hj => ?_⟩
    · rw [slab_store_miss _ _ _ (off4 i k) (by omega) (by omega) (by omega), View.writes_nil]; exact h9.1
    · by_cases hjk : j = k.val
      · subst hjk
        rw [slab_store_hit _ _ _ (off4 i k) (by omega)]
        show Gen.k0_pay51 (Gen.k0_pay9 _ _ _ _ (a3.view.readAt (Elt F) (Rect.unit (s := S2048x128) (k0_off3 i k) S512x128.size (Gen.k0_off3_inb i k)).toLoadRect f3 : Vec F S512x128 .f32) (a4.view.readAt (Elt F) (Rect.unit (s := S2048x128) (k0_off3 i k) S512x128.size (Gen.k0_off3_inb i k)).toLoadRect f4 : Vec F S512x128 .f32)) = _
        rw [e3, e4]
        rfl
      · rw [slab_store_miss _ _ _ (off4 i k) (by omega) (by omega) (by omega), View.writes_nil]; exact h9.2 j (by omega)
  · iexists _; isplitr; swap; · iexact H10
    ipureintro
    refine ⟨?_, fun j hj => ?_⟩
    · rw [slab_store_miss _ _ _ (off4 i k) (by omega) (by omega) (by omega), View.writes_nil]; exact h10.1
    · by_cases hjk : j = k.val
      · subst hjk
        rw [slab_store_hit _ _ _ (off4 i k) (by omega)]
        show Gen.k0_pay52 (Gen.k0_pay6 _ (a3.view.readAt (Elt F) (Rect.unit (s := S2048x128) (k0_off3 i k) S512x128.size (Gen.k0_off3_inb i k)).toLoadRect f3 : Vec F S512x128 .f32)) = _
        rw [e3]
        rfl
      · rw [slab_store_miss _ _ _ (off4 i k) (by omega) (by omega) (by omega), View.writes_nil]; exact h10.2 j (by omega)

/-- Before trip `n` of the second walk. -/
def Inv3 (n : ℕ) (acc : FVec F S512x128 .f32 × FVec F S512x1 .f32) : sProp 𝕄 :=
  iprop(⌜acc = st3 i Q D K V n⌝
    ∗ (∃ f3, ⌜a3.view.read (Elt F) f3 = K⌝ ∗ (a3.view.loc (c : Thread nD τ) ↦[a3.view.set]{fullShare} f3))
    ∗ (∃ f7, ⌜a7.view.read (Elt F) f7 = dkT i Q D K V W n⌝ ∗ (a7.view.loc (c : Thread nD τ) ↦[a7.view.set]{fullShare} f7))
    ∗ (∃ f9, ⌜Holds (qi i) (gOwn i Q D K V) (gT i Q D K V) (qi i) (a9.view.read (Elt F) f9)⌝ ∗ (a9.view.loc (c : Thread nD τ) ↦[a9.view.set]{fullShare} f9))
    ∗ (∃ f10, ⌜Holds (qi i) (bOwn i Q K) (bT i Q K) (qi i) (a10.view.read (Elt F) f10)⌝ ∗ (a10.view.loc (c : Thread nD τ) ↦[a10.view.set]{fullShare} f10)))

/-- One trip of the second walk. -/
theorem trip3 (v107 c0 : BitVec 32)
    (k : Fin (k0_t3_loop i).trips) (acc : FVec F S512x128 .f32 × FVec F S512x1 .f32) :
    Inv3 c i a3 a7 a9 a10 Q D K V W k.val acc
      ⊢ wp Idealize.ShloMosaic.frame (wpE (defs₀ (F := F)) 𝒱 (c : Thread nD τ) bd) E
          (Gen.k0_t3_body (F := F) i a2 h2 a3 h3 a4 h4 a5 h5 a6 h6 a7 h7 a8 h8 a9 h9 a10 h10 (Gen.k0_pay30 Q) Gen.k0_pay34 (gAll i Q D K V) v107 c0 k acc)
          (Inv3 c i a3 a7 a9 a10 Q D K V W (k.val + 1)) := by
  have hk : k.val < qi i := (trips3 i) ▸ k.isLt
  have hq := qi_lt i
  unfold Inv3 Gen.k0_t3_body
  iintro ⟨%hacc, ⟨%f3, %h3, H3⟩, ⟨%f7, %h7, H7⟩, ⟨%f9, %h9, H9⟩, ⟨%f10, %h10, H10⟩⟩
  subst hacc
  sl_exec
  sl_step
  have e3 : (a3.view.readAt (Elt F) (Rect.unit (s := S2048x128) (k0_off8 i k) S512x128.size (Gen.k0_off8_inb i k)).toLoadRect f3 : Vec F S512x128 .f32) = rows K (qi i - 1 - k.val) := by
    rw [View.readAt_eq_ld, ld_rows _ (off8 i k) (by omega), h3]
  have e7 : (a7.view.readAt (Elt F) (Rect.unit (s := S2048x128) (k0_off8 i k) S512x128.size (Gen.k0_off8_inb i k)).toLoadRect f7 : Vec F S512x128 .f32) = rows (dkT i Q D K V W k.val) (qi i - 1 - k.val) := by
    rw [View.readAt_eq_ld, ld_rows _ (off8 i k) (by omega), h7]
  have e9 : (a9.view.readAt (Elt F) (Rect.unit (s := S4x512x512) (k0_off7 i k) S1x512x512.size (Gen.k0_off7_inb i k)).toLoadRect f9 : Vec F S1x512x512 .f32) = gT i Q D K V k.val := by
    rw [View.readAt_eq_ld, ld_slab _ (off7 i k) (by omega), h9.2 k.val hk]
  have e10 : (a10.view.readAt (Elt F) (Rect.unit (s := S4x512x512) (k0_off7 i k) S1x512x512.size (Gen.k0_off7_inb i k)).toLoadRect f10 : Vec F S1x512x512 .f32) = bT i Q K k.val := by
    rw [View.readAt_eq_ld, ld_slab _ (off7 i k) (by omega), h10.2 k.val hk]
  isplitr
  · ipureintro
    show (Gen.k0_pay22 _ _ _ _ (a9.view.readAt (Elt F) (Rect.unit (s := S4x512x512) (k0_off7 i k) S1x512x512.size (Gen.k0_off7_inb i k)).toLoadRect f9 : Vec F S1x512x512 .f32) (a10.view.readAt (Elt F) (Rect.unit (s := S4x512x512) (k0_off7 i k) S1x512x512.size (Gen.k0_off7_inb i k)).toLoadRect f10 : Vec F S1x512x512 .f32) (a3.view.readAt (Elt F) (Rect.unit (s := S2048x128) (k0_off8 i k) S512x128.size (Gen.k0_off8_inb i k)).toLoadRect f3 : Vec F S512x128 .f32), Gen.k0_pay1 _ (Gen.k0_pay20 (a9.view.readAt (Elt F) (Rect.unit (s := S4x512x512) (k0_off7 i k) S1x512x512.size (Gen.k0_off7_inb i k)).toLoadRect f9 : Vec F S1x512x512 .f32))) = _
    rw [e3, e9, e10]
    rfl
  isplitl [H3]
  · iexists f3; isplitr; · ipureintro; exact h3
    iexact H3
  isplitl [H7]
  · iexists _; isplitr; swap; · iexact H7
    ipureintro
    rw [read_store_rows _ _ _ (off8 i k) (by omega), View.writes_nil, h7]
    show setRows _ _ (Gen.k0_pay23 _ _ _ _ (a9.view.readAt (Elt F) (Rect.unit (s := S4x512x512) (k0_off7 i k) S1x512x512.size (Gen.k0_off7_inb i k)).toLoadRect f9 : Vec F S1x512x512 .f32) (a10.view.readAt (Elt F) (Rect.unit (s := S4x512x512) (k0_off7 i k) S1x512x512.size (Gen.k0_off7_inb i k)).toLoadRect f10 : Vec F S1x512x512 .f32) (a7.view.readAt (Elt F) (Rect.unit (s := S2048x128) (k0_off8 i k) S512x128.size (Gen.k0_off8_inb i k)).toLoadRect f7 : Vec F S512x128 .f32)) = _
    rw [e7, e9, e10]
    rfl
  isplitl [H9]
  · iexists f9; isplitr; · ipureintro; exact h9
    iexact H9
  · iexists f10; isplitr; · ipureintro; exact h10
    iexact H10

end Loops

end Cert.Sb
-- ==== Proof.Body.lean ====
/-
  One grid point of the kernel: with the query tile, the keys, the values and the incoming gradient in its windows and
  the two accumulators at `W7` and `W8`, the body leaves `dqOut`, `dkOut W7` and `dvOut W8` (Step.lean).
-/
module

public import proofs.«01_k».proof.Proof.Walks
public import proofs.«01_k».proof.Proof.Gen.KernelIdeal.Frame
public import Idealize.ShloMosaic.Lib.Exec
public import Idealize.ShloMosaic.Lib.Tactic
public import Idealize.ShloMosaic.Lib.LoopRemainder

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (UR sig nD τ) ℕ

/-- The guard of the two zero stores: the first query tile of a head. -/
theorem guard_iff : ∀ i : grid0.Coords,
    (Scalar.cmpi .ne (Scalar.extui (Scalar.cmpi .eq (BitVec.ofNat 32 (i 1).val) 0#32) : BitVec 32) 0#32 = 1#1) = (qi i = 0) := by
  intro i; rw [eq_iff_iff]; revert i; decide +kernel

/-- The accumulators' first store, made on the first query tile of a head only. -/
theorem read_reset (i : grid0.Coords) (a : Memref sig .tc .vmem S2048x128 .f32) (f : a.view.ty.Contents (Elt F))
    (P W : Vec F S2048x128 .f32) (h : a.view.read (Elt F) f = W) :
    a.view.read (Elt F) (if _ : Scalar.cmpi .ne (Scalar.extui (Scalar.cmpi .eq (BitVec.ofNat 32 (i 1).val) 0#32) : BitVec 32) 0#32 = 1#1
        then a.view.writes (Elt F) f [⟨Rect.unit (s := S2048x128) ![0, 0] S2048x128.size Gen.inb_S2048x128_S2048x128_0_0, P⟩] else f)
      = if qi i = 0 then P else W := by
  by_cases h0 : qi i = 0
  · rw [dif_pos ((guard_iff i).mpr h0), if_pos h0]; exact read_store_whole _ _ _ _ _
  · rw [dif_neg fun hc => h0 ((guard_iff i).mp hc), if_neg h0]; exact h

section Body

variable (𝒱 : Variants) (c : Dev nD) (bd : Option 𝒱.V) (E : Set ℕ) (i : grid0.Coords)
  (a2 : Memref sig .tc .vmem S512x128 .f32) (h2 : a2.IsWhole) (a3 : Memref sig .tc .vmem S2048x128 .f32) (h3 : a3.IsWhole) (a4 : Memref sig .tc .vmem S2048x128 .f32) (h4 : a4.IsWhole) (a5 : Memref sig .tc .vmem S512x128 .f32) (h5 : a5.IsWhole) (a6 : Memref sig .tc .vmem S512x128 .f32) (h6 : a6.IsWhole) (a7 : Memref sig .tc .vmem S2048x128 .f32) (h7 : a7.IsWhole) (a8 : Memref sig .tc .vmem S2048x128 .f32) (h8 : a8.IsWhole) (a9 : Memref sig .tc .vmem S4x512x512 .f32) (h9 : a9.IsWhole) (a10 : Memref sig .tc .vmem S4x512x512 .f32) (h10 : a10.IsWhole)
  (Q D : Vec F S512x128 .f32) (K V W7 W8 : Vec F S2048x128 .f32)

set_option maxHeartbeats 1000000 in
/-- The body's run. -/
theorem body_runs :
    (iprop(owns (c : Thread nD τ) a2 fullShare Q ∗ owns (c : Thread nD τ) a3 fullShare K ∗ owns (c : Thread nD τ) a4 fullShare V
        ∗ owns (c : Thread nD τ) a5 fullShare D ∗ (∃ d, owns (c : Thread nD τ) a6 fullShare d)
        ∗ owns (c : Thread nD τ) a7 fullShare W7 ∗ owns (c : Thread nD τ) a8 fullShare W8
        ∗ (∃ d, owns (c : Thread nD τ) a9 fullShare d) ∗ (∃ d, owns (c : Thread nD τ) a10 fullShare d)) : sProp 𝕄)
      ⊢ wp Idealize.ShloMosaic.frame (wpE (defs₀ (F := F)) 𝒱 (c : Thread nD τ) bd) E
          (cc0_sb_bwd0 (F := F) i a2 h2 a3 h3 a4 h4 a5 h5 a6 h6 a7 h7 a8 h8 a9 h9 a10 h10)
          (fun (_ : Unit) => iprop(owns (c : Thread nD τ) a2 fullShare Q ∗ owns (c : Thread nD τ) a3 fullShare K ∗ owns (c : Thread nD τ) a4 fullShare V
            ∗ owns (c : Thread nD τ) a5 fullShare D ∗ owns (c : Thread nD τ) a6 fullShare (dqOut i Q D K V)
            ∗ owns (c : Thread nD τ) a7 fullShare (dkOut i Q D K V W7) ∗ owns (c : Thread nD τ) a8 fullShare (dvOut i Q D K V W8)
            ∗ (∃ d, owns (c : Thread nD τ) a9 fullShare d) ∗ (∃ d, owns (c : Thread nD τ) a10 fullShare d))) := by
  have hq := qi_lt i
  simp only [Gen.cc0_sb_bwd0_eq_skeleton]
  unfold Gen.cc0_sb_bwd0_skel owns
  iintro ⟨⟨%f2, %h2', H2⟩, ⟨%f3, %h3', H3⟩, ⟨%f4, %h4', H4⟩, ⟨%f5, %h5', H5⟩, ⟨%d6, %f6, %h6', H6⟩, ⟨%f7, %h7', H7⟩, ⟨%f8, %h8', H8⟩, ⟨%d9, %f9, %h9', H9⟩, ⟨%d10, %f10, %h10', H10⟩⟩
  have e2 : (a2.view.readAt (Elt F) (Rect.unit (s := S512x128) ![0, 0] S512x128.size Gen.inb_S512x128_S512x128_0_0).toLoadRect f2 : Vec F S512x128 .f32) = Q := by
    rw [View.readAt_eq_ld, h2']; exact ld_whole _ _
  have e5 : (a5.view.readAt (Elt F) (Rect.unit (s := S512x128) ![0, 0] S512x128.size Gen.inb_S512x128_S512x128_0_0).toLoadRect f5 : Vec F S512x128 .f32) = D := by
    rw [View.readAt_eq_ld, h5']; exact ld_whole _ _
  have e3 : (a3.view.readAt (Elt F) (Rect.unit (s := S2048x128) (k0_off1 i) S512x128.size (Gen.k0_off1_inb i)).toLoadRect f3 : Vec F S512x128 .f32) = rows K (qi i) := by
    rw [View.readAt_eq_ld, ld_rows _ (off1 i) hq, h3']
  have e4 : (a4.view.readAt (Elt F) (Rect.unit (s := S2048x128) (k0_off1 i) S512x128.size (Gen.k0_off1_inb i)).toLoadRect f4 : Vec F S512x128 .f32) = rows V (qi i) := by
    rw [View.readAt_eq_ld, ld_rows _ (off1 i) hq, h4']
  sl_exec
  sl_for (Inv1 c i a3 a4 a7 a8 a9 a10 Q D K V (if qi i = 0 then Gen.k0_pay29 else W8) (if qi i = 0 then Gen.k0_pay28 else W7)) $$ [H3 H4 H7 H8 H9 H10]
  · intro k acc
    exact trip1 𝒱 c bd E i a2 h2 a3 h3 a4 h4 a5 h5 a6 h6 a7 h7 a8 h8 a9 h9 a10 h10 Q D K V (if qi i = 0 then Gen.k0_pay29 else W8) (if qi i = 0 then Gen.k0_pay28 else W7) _ _ _ _ _ _ k acc
  · unfold Inv1
    isplitr; · ipureintro; rfl
    isplitl [H3]
    · iexists f3; isplitr; · ipureintro; exact h3'
      iexact H3
    isplitl [H4]
    · iexists f4; isplitr; · ipureintro; exact h4'
      iexact H4
    isplitl [H7]
    · iexists _; isplitr; swap; · iexact H7
      ipureintro
      exact read_reset i a7 f7 _ _ h7'
    isplitl [H8]
    · iexists _; isplitr; swap; · iexact H8
      ipureintro
      rw [read_store_rows _ _ _ (off1 i) hq, View.writes_nil]
      have e8 : ∀ (f : a8.view.ty.Contents (Elt F)) (X : Vec F S2048x128 .f32), a8.view.read (Elt F) f = X →
          (a8.view.readAt (Elt F) (Rect.unit (s := S2048x128) (k0_off1 i) S512x128.size (Gen.k0_off1_inb i)).toLoadRect f : Vec F S512x128 .f32) = rows X (qi i) := fun f X h => by
        rw [View.readAt_eq_ld, ld_rows _ (off1 i) hq, h]
      exact congrArg₂ (fun X (y : Vec F S512x128 .f32) => setRows X (qi i) (Gen.k0_pay45 (Gen.k0_pay30 Q) (Gen.k0_pay31 D) (Gen.k0_pay32 i) keyIota
        Gen.k0_pay33 Gen.k0_pay35 (Gen.k0_pay36 (rows K (qi i))) (ownKey i) y)) (read_reset i a8 f8 _ _ h8') (e8 _ _ (read_reset i a8 f8 _ _ h8'))
    isplitl [H9]
    · iexists _; isplitr; swap; · iexact H9
      ipureintro
      exact ⟨slab_store_hit _ _ _ (off2 i) hq _ _, fun j hj => absurd hj (by omega)⟩
    · iexists _; isplitr; swap; · iexact H10
      ipureintro
      exact ⟨slab_store_hit _ _ _ (off2 i) hq _ _, fun j hj => absurd hj (by omega)⟩
  clear h3' h4' h7' h8' h9' h10' e3 e4
  clear f3 f4 f7 f8 f9 f10
  iintro %acc
  unfold Inv1
  rw [show Scf.trips (k0_t1_loop i).lb (k0_t1_loop i).ub (k0_t1_loop i).st = qi i from trips1 i]
  iintro ⟨%hacc, ⟨%f3, %h3', H3⟩, ⟨%f4, %h4', H4⟩, ⟨%f7, %h7', H7⟩, ⟨%f8, %h8', H8⟩, ⟨%f9, %h9', H9⟩, ⟨%f10, %h10', H10⟩⟩
  obtain ⟨crem, gall⟩ := acc
  have hg : gall = gAll i Q D K V := congrArg Prod.snd hacc
  subst hg
  have e3 : (a3.view.readAt (Elt F) (Rect.unit (s := S2048x128) (k0_off1 i) S512x128.size (Gen.k0_off1_inb i)).toLoadRect f3 : Vec F S512x128 .f32) = rows K (qi i) := by
    rw [View.readAt_eq_ld, ld_rows _ (off1 i) hq, h3']
  have e7 : (a7.view.readAt (Elt F) (Rect.unit (s := S2048x128) (k0_off1 i) S512x128.size (Gen.k0_off1_inb i)).toLoadRect f7 : Vec F S512x128 .f32) = rows (if qi i = 0 then Gen.k0_pay28 else W7) (qi i) := by
    rw [View.readAt_eq_ld, ld_rows _ (off1 i) hq, h7']
  have e9 : (a9.view.readAt (Elt F) (Rect.unit (s := S4x512x512) (k0_off2 i) S1x512x512.size (Gen.k0_off2_inb i)).toLoadRect f9 : Vec F S1x512x512 .f32) = gOwn i Q D K V := by
    rw [View.readAt_eq_ld, ld_slab _ (off2 i) hq, h9'.1]
  have e10 : (a10.view.readAt (Elt F) (Rect.unit (s := S4x512x512) (k0_off2 i) S1x512x512.size (Gen.k0_off2_inb i)).toLoadRect f10 : Vec F S1x512x512 .f32) = bOwn i Q K := by
    rw [View.readAt_eq_ld, ld_slab _ (off2 i) hq, h10'.1]
  sl_exec
  sl_for (Inv3 c i a3 a7 a9 a10 Q D K V (if qi i = 0 then Gen.k0_pay28 else W7)) $$ [H3 H7 H9 H10]
  · intro k acc
    exact trip3 𝒱 c bd E i a2 h2 a3 h3 a4 h4 a5 h5 a6 h6 a7 h7 a8 h8 a9 h9 a10 h10 Q D K V (if qi i = 0 then Gen.k0_pay28 else W7) _ _ k acc
  · unfold Inv3
    isplitr; · ipureintro; rfl
    isplitl [H3]
    · iexists f3; isplitr; · ipureintro; exact h3'
      iexact H3
    isplitl [H7]
    · iexists _; isplitr; swap; · iexact H7
      ipureintro
      rw [read_store_rows _ _ _ (off1 i) hq, View.writes_nil, h7']
      rfl
    isplitl [H9]
    · iexists f9; isplitr; · ipureintro; exact h9'
      iexact H9
    · iexists f10; isplitr; · ipureintro; exact h10'
      iexact H10
  clear h3' h7' h9' h10' e3 e7 e9 e10
  iintro %acc
  unfold Inv3
  rw [show Scf.trips (k0_t3_loop i).lb (k0_t3_loop i).ub (k0_t3_loop i).st = qi i from trips3 i]
  clear f3 f7 f9 f10
  iintro ⟨%hacc, ⟨%f3, %h3', H3⟩, ⟨%f7, %h7', H7⟩, ⟨%f9, -, H9⟩, ⟨%f10, -, H10⟩⟩
  obtain ⟨dq, cg⟩ := acc
  have hd : dq = (st3 i Q D K V (qi i)).1 := congrArg Prod.fst hacc
  subst hd
  sl_exec
  sl_step
  isplitl [H2]
  · iexists f2; isplitr; · ipureintro; exact h2'
    iexact H2
  isplitl [H3]
  · iexists f3; isplitr; · ipureintro; exact h3'
    iexact H3
  isplitl [H4]
  · iexists f4; isplitr; · ipureintro; exact h4'
    iexact H4
  isplitl [H5]
  · iexists f5; isplitr; · ipureintro; exact h5'
    iexact H5
  isplitl [H6]
  · iexists _; isplitr; swap; · iexact H6
    ipureintro; exact read_store_whole _ _ _ _ _
  isplitl [H7]
  · iexists f7; isplitr; swap; · iexact H7
    ipureintro; exact h7'
  isplitl [H8]
  · iexists f8; isplitr; swap; · iexact H8
    ipureintro; exact h8'
  isplitl [H9]
  · iexists _, f9; isplitr; swap; · iexact H9
    ipureintro; rfl
  · iexists _, f10; isplitr; swap; · iexact H10
    ipureintro; rfl

end Body

end Cert.Sb
-- ==== Proof.Frame.lean ====
/-
  The run of the whole kernel, once, for any float values `F`: every grid point's body (Body.lean) over the blocks of
  the two operands, the accumulators carried from point to point within a head and written back after its last query tile.
-/
module

public import proofs.«01_k».proof.Proof.Body
public import Idealize.ShloMosaic.Lib.Pipeline.Frame

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n` of the grid. -/
def pt (n : ℕ) : Fin cfg0.N := ⟨n % 32, Nat.mod_lt _ (by omega)⟩

theorem pt_val (t : Fin cfg0.N) : pt t.val = t := Fin.ext (Nat.mod_eq_of_lt t.isLt)

/-- The blocks a point reads: its query tile, its head's keys and values, its tile of the incoming gradient. -/
def qB (c : Dev nD) (t : Fin cfg0.N) : Vec F S512x128 .f32 := iblk m c 0 t
def kB (c : Dev nD) (t : Fin cfg0.N) : Vec F S2048x128 .f32 := iblk m c 1 t
def vB (c : Dev nD) (t : Fin cfg0.N) : Vec F S2048x128 .f32 := iblk m c 2 t
def dB (c : Dev nD) (t : Fin cfg0.N) : Vec F S512x128 .f32 := iblk m c 3 t

/-- What point `t` leaves: the gradient of its query tile. -/
def dqAt (c : Dev nD) (t : Fin cfg0.N) : Vec F S512x128 .f32 :=
  dqOut (grid0.coords t) (qB m c t) (dB m c t) (kB m c t) (vB m c t)

/-- The accumulated gradient of the keys after points `0 … n`. -/
def dkAt (c : Dev nD) : ℕ → Vec F S2048x128 .f32
  | 0 => dkOut (grid0.coords (pt 0)) (qB m c (pt 0)) (dB m c (pt 0)) (kB m c (pt 0)) (vB m c (pt 0)) k0_pay28
  | n + 1 => dkOut (grid0.coords (pt (n + 1))) (qB m c (pt (n + 1))) (dB m c (pt (n + 1))) (kB m c (pt (n + 1))) (vB m c (pt (n + 1))) (dkAt c n)

/-- The accumulated gradient of the values after points `0 … n`. -/
def dvAt (c : Dev nD) : ℕ → Vec F S2048x128 .f32
  | 0 => dvOut (grid0.coords (pt 0)) (qB m c (pt 0)) (dB m c (pt 0)) (kB m c (pt 0)) (vB m c (pt 0)) k0_pay29
  | n + 1 => dvOut (grid0.coords (pt (n + 1))) (qB m c (pt (n + 1))) (dB m c (pt (n + 1))) (kB m c (pt (n + 1))) (vB m c (pt (n + 1))) (dvAt c n)

/-- The query tile of a point. -/
theorem qi_pt : ∀ t : Fin cfg0.N, qi (grid0.coords t) = t.val % 4 := by decide +kernel

/-- The proof data: the operands as launched, every output window at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => dkAt m c t.val
    | ⟨6, _⟩ => dvAt m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqAt m c t := by dsimp only [dats]
theorem after_5 (c : Dev nD) (t : Fin cfg0.N) : (dats m 0 c).after 5 t = dkAt m c t.val := by dsimp only [dats]
theorem after_6 (c : Dev nD) (t : Fin cfg0.N) : (dats m 0 c).after 6 t = dvAt m c t.val := by dsimp only [dats]

/-- The head's first query tile forgets what the accumulator held. -/
theorem dkOut_first {t : Fin cfg0.N} (h : t.val % 4 = 0) (Q D : Vec F S512x128 .f32) (K V W W' : Vec F S2048x128 .f32) :
    dkOut (grid0.coords t) Q D K V W = dkOut (grid0.coords t) Q D K V W' := by
  unfold dkOut; rw [if_pos ((qi_pt t).trans h), if_pos ((qi_pt t).trans h)]
theorem dvOut_first {t : Fin cfg0.N} (h : t.val % 4 = 0) (Q D : Vec F S512x128 .f32) (K V W W' : Vec F S2048x128 .f32) :
    dvOut (grid0.coords t) Q D K V W = dvOut (grid0.coords t) Q D K V W' := by
  unfold dvOut; rw [if_pos ((qi_pt t).trans h), if_pos ((qi_pt t).trans h)]

theorem dkAt_succ (c : Dev nD) {n : ℕ} (hn : n + 1 < cfg0.N) :
    dkAt m c (n + 1) = dkOut (grid0.coords ⟨n + 1, hn⟩) (qB m c ⟨n + 1, hn⟩) (dB m c ⟨n + 1, hn⟩) (kB m c ⟨n + 1, hn⟩)
      (vB m c ⟨n + 1, hn⟩) (dkAt m c n) := by
  have e : pt (n + 1) = ⟨n + 1, hn⟩ := pt_val ⟨n + 1, hn⟩
  rw [dkAt, e]

theorem dvAt_succ (c : Dev nD) {n : ℕ} (hn : n + 1 < cfg0.N) :
    dvAt m c (n + 1) = dvOut (grid0.coords ⟨n + 1, hn⟩) (qB m c ⟨n + 1, hn⟩) (dB m c ⟨n + 1, hn⟩) (kB m c ⟨n + 1, hn⟩)
      (vB m c ⟨n + 1, hn⟩) (dvAt m c n) := by
  have e : pt (n + 1) = ⟨n + 1, hn⟩ := pt_val ⟨n + 1, hn⟩
  rw [dvAt, e]

/-- What the body leaves in the keys' accumulator, from what it finds there. -/
theorem dk_step (c : Dev nD) (t : Fin cfg0.N) (d : Vec F S2048x128 .f32) :
    dkOut (grid0.coords t) (qB m c t) (dB m c t) (kB m c t) (vB m c t) ((dats m 0 c).before 5 t d) = dkAt m c t.val := by
  by_cases h : t.val % 4 = 0
  · rw [dkOut_first h _ _ _ _ _ (if t.val = 0 then k0_pay28 else dkAt m c (t.val - 1))]
    obtain ⟨n, hn⟩ := t
    cases n with
    | zero => rw [if_pos rfl]; rfl
    | succ n => rw [if_neg (Nat.succ_ne_zero n)]; exact (dkAt_succ m c hn).symm
  · have h0 : t.val ≠ 0 := fun e => h (by rw [e])
    rw [(dats m 0 c).before_out_kept 5 rfl t h0 (by
      rw [Bool.eq_false_iff, ne_eq, flush0_5]; show ¬ (t.val - 1) % 4 = 3; omega) (fun _ => rfl) (fun _ _ => rfl) d, after_5]
    obtain ⟨n, hn⟩ := t
    cases n with
    | zero => exact absurd rfl h0
    | succ n => exact (dkAt_succ m c hn).symm

theorem dv_step (c : Dev nD) (t : Fin cfg0.N) (d : Vec F S2048x128 .f32) :
    dvOut (grid0.coords t) (qB m c t) (dB m c t) (kB m c t) (vB m c t) ((dats m 0 c).before 6 t d) = dvAt m c t.val := by
  by_cases h : t.val % 4 = 0
  · rw [dvOut_first h _ _ _ _ _ (if t.val = 0 then k0_pay29 else dvAt m c (t.val - 1))]
    obtain ⟨n, hn⟩ := t
    cases n with
    | zero => rw [if_pos rfl]; rfl
    | succ n => rw [if_neg (Nat.succ_ne_zero n)]; exact (dvAt_succ m c hn).symm
  · have h0 : t.val ≠ 0 := fun e => h (by rw [e])
    rw [(dats m 0 c).before_out_kept 6 rfl t h0 (by
      rw [Bool.eq_false_iff, ne_eq, flush0_6]; show ¬ (t.val - 1) % 4 = 3; omega) (fun _ => rfl) (fun _ _ => rfl) d, after_6]
    obtain ⟨n, hn⟩ := t
    cases n with
    | zero => exact absurd rfl h0
    | succ n => exact (dvAt_succ m c hn).symm

/-- What the body is entered with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦA spec0 c from rfl]
  unfold Pipeline.ΦA
  rw [scopedRest0_eq]
  rw [after_0, after_1, after_2, after_3, after_4, after_5, after_6]
  unfold dqAt
  iintro ⟨⟨⟨⟨%g9, G9⟩, ⟨%g10, G10⟩⟩, Hp⟩, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame _ _)
  isplitl [H0 H1 H2 H3 H4 H5 H6 G9 G10]
  · iapply (body_runs Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _)
      (qB m c t) (dB m c t) (kB m c t) (vB m c t) ((dats m 0 c).before 5 t d5) ((dats m 0 c).before 6 t d6))
    isplitl [H0]
    · rw [before0_0_of m (dats m 0 c) rfl (after_0 m c) t d0]; iexact H0
    isplitl [H1]
    · rw [before0_1_of m (dats m 0 c) rfl (after_1 m c) t d1]; iexact H1
    isplitl [H2]
    · rw [before0_2_of m (dats m 0 c) rfl (after_2 m c) t d2]; iexact H2
    isplitl [H3]
    · rw [before0_3_of m (dats m 0 c) rfl (after_3 m c) t d3]; iexact H3
    isplitl [H4]
    · iexists _; iexact H4
    isplitl [H5]; · iexact H5
    isplitl [H6]; · iexact H6
    isplitl [G9]
    · iexists g9; rw [owns_whole]; iexact G9
    · iexists g10; rw [owns_whole]; iexact G10
  · iintro %a ⟨H0, H1, H2, H3, H4, H5, H6, ⟨%e9, G9⟩, ⟨%e10, G10⟩⟩
    isplitl [G9 G10 Hp]
    · isplitl [G9 G10]
      · isplitl [G9]
        · iexists e9; rw [← owns_whole]; iexact G9
        · iexists e10; rw [← owns_whole]; iexact G10
      iexact Hp
    isplitl [Ho]; · iexact Ho
    isplitl [H0]; · iexact H0
    isplitl [H1]; · iexact H1
    isplitl [H2]; · iexact H2
    isplitl [H3]; · iexact H3
    isplitl [H4]; · iexact H4
    isplitl [H5]; · rw [← dk_step m c t d5]; iexact H5
    rw [← dv_step m c t d6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run of the program: every array as the proof data say, every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hΦ := fun _ _ => rfl)
    (Q' := fun r => Pipeline.FramePost cfgs (dats m) 0 (V m) r ∧ r.2.sem = fun _ => 0)

/-- The run leaves the arguments and ends with every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c)))⟩, h.2⟩) (run_main m ρ)

end Cert.Sb
-- ==== Proof.Twin.lean ====
/-
  The kernel and its idealization have the same text: their tables of bodies are equal, so what is shown of a run of
  the one holds of the other.
-/
module

public import proofs.«01_k».proof.Proof.Gen.Kernel
public import proofs.«01_k».proof.Proof.Gen.KernelIdeal

@[expose] public section

set_option maxRecDepth 65536

noncomputable section

namespace Cert.Sb

open Idealize.ShloMosaic

variable {F : FTy → Type} [FloatOps F]

/-- The two bodies. -/
theorem body_twin : Kernel.cc0_sb_bwd0 (F := F) = KernelIdeal.cc0_sb_bwd0 (F := F) := rfl

/-- The two tables of bodies. -/
theorem table_twin : Kernel.defs₀ (F := F) = KernelIdeal.defs₀ (F := F) := by
  unfold Kernel.defs₀ KernelIdeal.defs₀
  refine congrArg Defs.onTc (funext fun l => funext fun x => ?_)
  obtain ⟨l, hl⟩ := l
  obtain rfl : l = 0 := by omega
  cases x with
  | mk t s => rfl

/-- The two programs' tables. -/
theorem defs_twin : Kernel.defs (F := F) = KernelIdeal.defs (F := F) := by
  unfold Kernel.defs KernelIdeal.defs
  rw [table_twin]
  rfl

end Cert.Sb
-- ==== Proof.Sees.lean ====
/-
  Arrays of extended reals that hold real numbers: `Sees x f` says that the matrix `x` holds, at row `r` and column `c`,
  the real number `f r c`.  The row and the column are natural numbers, so that a tile of a matrix is the same function
  shifted.  Here are the scalar facts by which a tower of operations on such matrices is again one.
-/
module

public import Idealize.ShloMosaic.Lib.Pointwise
public import Idealize.ShloMosaic.PureOps.Ideal

@[expose] public section

noncomputable section

namespace Cert.Sb

open Idealize.ShloMosaic

/-- The matrix `x` holds the real numbers `f`. -/
def Sees {a b : ℕ} (x : (⟨2, ![a, b]⟩ : Shape).Idx → EReal) (f : ℕ → ℕ → ℝ) : Prop :=
  ∀ (r : Fin a) (c : Fin b), x (ix2 r c) = ((f r.val c.val : ℝ) : EReal)

/-- A stack of one matrix holds the real numbers `f`. -/
def SeesS {a b : ℕ} (x : (⟨3, ![1, a, b]⟩ : Shape).Idx → EReal) (f : ℕ → ℕ → ℝ) : Prop :=
  ∀ (u : Fin 1) (r : Fin a) (c : Fin b), x (ix3 u r c) = ((f r.val c.val : ℝ) : EReal)

theorem Sees.congr {a b : ℕ} {x : (⟨2, ![a, b]⟩ : Shape).Idx → EReal} {f g : ℕ → ℕ → ℝ} (h : Sees x f)
    (e : ∀ r < a, ∀ c < b, f r c = g r c) : Sees x g :=
  fun r c => (h r c).trans (by rw [e r.val r.isLt c.val c.isLt])

theorem coe_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A sum over the places of an axis, as the sum over their numbers. -/
theorem sum_fin_coe {n : ℕ} (f : ℕ → ℝ) : (∑ k : Fin n, ((f k.val : ℝ) : EReal)) = ((∑ k ∈ Finset.range n, f k : ℝ) : EReal) := by
  rw [← coe_sum, Finset.sum_range]

theorem dot_fin_coe {n : ℕ} (f g : ℕ → ℝ) :
    (∑ k : Fin n, ((f k.val : ℝ) : EReal) * ((g k.val : ℝ) : EReal)) = ((∑ k ∈ Finset.range n, f k * g k : ℝ) : EReal) := by
  rw [← sum_fin_coe]
  exact Finset.sum_congr rfl fun k _ => (EReal.coe_mul _ _).symm

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem zero_coe : (0 : EReal) = ((0 : ℝ) : EReal) := rfl
theorem one_coe : (1 : EReal) = ((1 : ℝ) : EReal) := rfl

theorem coe_abs (a : ℝ) : max (a : EReal) (-(a : EReal)) = ((|a| : ℝ) : EReal) := by
  rw [← EReal.coe_neg, coe_max]; rfl

theorem absf_coe (a : ℝ) : FloatOps.absf (F := Ideal) (φ := .f32) (a : EReal) = ((|a| : ℝ) : EReal) := coe_abs a

theorem log1p_coe (a : ℝ) (h : 0 ≤ a) : Ideal.log1p ((a : ℝ) : EReal) = ((Real.log (1 + a) : ℝ) : EReal) := by
  show Ideal.log (1 + (a : EReal)) = _
  rw [one_coe, ← EReal.coe_add]
  show (if (1 + a : ℝ) ≤ 0 then (⊥ : EReal) else ((Real.log (1 + a) : ℝ) : EReal)) = _
  rw [if_neg (by linarith)]

theorem exp_coe (a : ℝ) : Ideal.exp ((a : ℝ) : EReal) = ((Real.exp a : ℝ) : EReal) := rfl

theorem one_bits : Ideal.ofBits .f32 0x3F800000#32 = ((1 : ℝ) : EReal) := by
  simp [Ideal.ofBits, Ideal.ieee, -EReal.coe_mul]; norm_num

theorem inf_bits : Ideal.ofBits .f32 2139095040#32 = ⊤ := by
  simp [Ideal.ofBits, Ideal.ieee]

/-- A sum over the places of an axis of products with a mask. -/
theorem sum_gt (f : ℕ → ℝ) (n c : ℕ) :
    (∑ s ∈ Finset.range n, f s * (if c < s then 1 else 0)) = ∑ s ∈ Finset.Ico (c + 1) n, f s := by
  simp only [mul_ite, mul_one, mul_zero]
  rw [← Finset.sum_filter]
  refine Finset.sum_congr (Finset.ext fun s => ?_) fun _ _ => rfl
  simp only [Finset.mem_filter, Finset.mem_range, Finset.mem_Ico]
  omega

theorem sum_ge (f : ℕ → ℝ) (n c : ℕ) :
    (∑ s ∈ Finset.range n, f s * (if c ≤ s then 1 else 0)) = ∑ s ∈ Finset.Ico c n, f s := by
  simp only [mul_ite, mul_one, mul_zero]
  rw [← Finset.sum_filter]
  refine Finset.sum_congr (Finset.ext fun s => ?_) fun _ _ => rfl
  simp only [Finset.mem_filter, Finset.mem_range, Finset.mem_Ico]
  omega

/-- The order of two words that are small numbers is the numbers'. -/
theorem slt_ofNat {a b : ℕ} (ha : a < 2 ^ 31) (hb : b < 2 ^ 31) :
    (BitVec.ofNat 32 a).slt (BitVec.ofNat 32 b) = decide (a < b) := by
  rw [BitVec.slt_eq_decide, BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

theorem sle_ofNat {a b : ℕ} (ha : a < 2 ^ 31) (hb : b < 2 ^ 31) :
    (BitVec.ofNat 32 a).sle (BitVec.ofNat 32 b) = decide (a ≤ b) := by
  rw [BitVec.sle_eq_decide, BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

/-- A truth value as a float. -/
theorem sitofp_bool (φ : FTy) (p : Prop) [Decidable p] :
    FloatOps.sitofp (F := Ideal) φ ((BitVec.ofBool (decide p)).setWidth 32) = (((if p then 1 else 0) : ℝ) : EReal) := by
  by_cases h : p
  · simp only [h, decide_true, if_true]
    show (((((BitVec.ofBool true).setWidth 32).toInt : ℤ) : ℝ) : EReal) = _
    rw [show ((BitVec.ofBool true).setWidth 32).toInt = 1 by decide]; norm_num
  · simp only [h, decide_false, if_false]
    show (((((BitVec.ofBool false).setWidth 32).toInt : ℤ) : ℝ) : EReal) = _
    rw [show ((BitVec.ofBool false).setWidth 32).toInt = 0 by decide]; norm_num

/-- The scale of the scores: the real number the program's constant denotes. -/
def sc : ℝ := (Ideal.ofBits .f32 0x3DB504F3#32).toReal

theorem sc_bits : Ideal.ofBits .f32 0x3DB504F3#32 = ((sc : ℝ) : EReal) := by
  unfold sc
  rw [EReal.coe_toReal]
  · simp [Ideal.ofBits, Ideal.ieee, -EReal.coe_mul]
  · simp [Ideal.ofBits, Ideal.ieee, -EReal.coe_mul]

end Cert.Sb
-- ==== Proof.Pay.lean ====
/-
  The arithmetic of one tile over the real numbers: what each step of the kernel's body makes of operands that hold real
  numbers.  A product of matrices is a sum over a range; what the split of an operand leaves over is zero, so that the
  split product is the product.
-/
module

public import proofs.«01_k».proof.Proof.Sees
public import proofs.«01_k».proof.Proof.Step

@[expose] public section

set_option maxRecDepth 16384

noncomputable section

namespace Cert.Sb

open Idealize.ShloMosaic Cert.KernelIdeal Cert.KernelIdeal.Gen

/-- The soft part of the logarithms: `log (1 + exp (-|z|))`. -/
def soft (z : ℝ) : ℝ := Real.log (1 + Real.exp (-|z|))
/-- `log β` and `log (1 - β)` of a score, `β` its logistic. -/
def lsig (z : ℝ) : ℝ := min z 0 - soft z
def lneg (z : ℝ) : ℝ := -max z 0 - soft z

/-- The product of a matrix with another's transpose, over 128 columns. -/
def score (q k : ℕ → ℕ → ℝ) (r s : ℕ) : ℝ := ∑ d ∈ Finset.range 128, q r d * k s d

/-- A tile's weights: its scores `z`, the terms `L` of the sum over the keys after, and that sum `e` over later tiles. -/
def wgt (z L : ℕ → ℕ → ℝ) (e : ℕ → ℝ) (r c : ℕ) : ℝ :=
  Real.exp (lsig (z r c) + ((∑ s ∈ Finset.Ico (c + 1) 512, L r s) + e r))

/-- A tile's gradient of the scores, from `g`, the logistic `β`, the whole row's sum `G` of `g` and the sum `e` of `g`
    over later tiles. -/
def dzt (g β : ℕ → ℕ → ℝ) (G e : ℕ → ℝ) (r c : ℕ) : ℝ :=
  g r c * (1 - β r c) - (G r - ((∑ s ∈ Finset.Ico c 512, g r s) + e r)) * β r c

/-- `u` where the key comes before the query, zero elsewhere, on the query's own tile. -/
def low (u : ℕ → ℕ → ℝ) (r c : ℕ) : ℝ := if c < r then u r c else 0

section Masks

theorem pay33_sees : Sees (k0_pay33 (F := Ideal)) (fun r c => if c < r then 1 else 0) := by
  intro r c
  pointwise [k0_pay33]
  show FloatOps.sitofp (F := Ideal) .f32 ((BitVec.ofBool ((BitVec.ofNat 32 c.val).slt (BitVec.ofNat 32 r.val))).setWidth 32) = _
  rw [slt_ofNat (by omega) (by omega), sitofp_bool]

theorem pay34_sees : Sees (k0_pay34 (F := Ideal)) (fun r c => if c ≤ r then 1 else 0) := by
  intro r c
  pointwise [k0_pay34]
  show FloatOps.sitofp (F := Ideal) .f32 ((BitVec.ofBool ((BitVec.ofNat 32 c.val).sle (BitVec.ofNat 32 r.val))).setWidth 32) = _
  rw [sle_ofNat (by omega) (by omega), sitofp_bool]

theorem pay35_sees : Sees (k0_pay35 (F := Ideal)) (fun _ _ => 0) := by
  intro r c
  pointwise [k0_pay35]; rfl

theorem pay60_sees : Sees (k0_pay60 (F := Ideal)) (fun _ _ => 0) := by
  intro r c
  pointwise [k0_pay60]; rfl

theorem pay28_sees : Sees (k0_pay28 (F := Ideal)) (fun _ _ => 0) := by
  intro r c
  pointwise [k0_pay28]; rfl

theorem pay29_sees : Sees (k0_pay29 (F := Ideal)) (fun _ _ => 0) := by
  intro r c
  pointwise [k0_pay29]; rfl

theorem ownKey_eq : ∀ i : grid0.Coords, ownKey i = BitVec.ofNat 32 (512 * qi i) := by decide +kernel

/-- The mask of the query's own tile. -/
theorem mask_own (i : grid0.Coords) (r c : Fin 512) :
    k0_pay38 (k0_pay32 i) keyIota (ownKey i) (ix2 r c) = BitVec.ofBool (decide (c.val < r.val)) := by
  have hq := qi_lt i
  rw [ownKey_eq]
  pointwise [k0_pay38, k0_pay32, keyIota]
  show BitVec.ofBool (BitVec.slt (BitVec.ofNat 32 c.val + BitVec.ofNat 32 (512 * qi i)) (BitVec.ofNat 32 r.val + BitVec.ofNat 32 (qi i) * BitVec.ofNat 32 512)) = _
  rw [← BitVec.ofNat_add, ← BitVec.ofNat_mul, ← BitVec.ofNat_add, slt_ofNat (by omega) (by omega)]
  congr 1
  exact decide_eq_decide.mpr (by omega)

end Masks

section

variable {x x' : FVec Ideal S512x128 .bf16} {y y' : Vec Ideal S512x128 .f32} {f f' g h : ℕ → ℕ → ℝ}

theorem pay30_sees (hy : Sees y f) : Sees (k0_pay30 (F := Ideal) y) (fun r d => f r d * sc) := by
  intro r c
  pointwise [k0_pay30]
  simp only [hy _ _, sc_bits, ← EReal.coe_mul]

theorem pay31_sees (hy : Sees y f) : Sees (k0_pay31 (F := Ideal) y) f := fun r c => hy r c
theorem pay36_sees (hy : Sees y f) : Sees (k0_pay36 (F := Ideal) y) f := fun r c => hy r c
theorem pay37_sees (hy : Sees y f) : Sees (k0_pay37 (F := Ideal) y) f := fun r c => hy r c

theorem pay4_sees (hx : Sees x f) (hy : Sees y g) : Sees (k0_pay4 (F := Ideal) x y) (score f g) := by
  intro r c
  pointwise [k0_pay4]
  simp only [hx _ _, hy _ _]
  exact dot_fin_coe _ _

theorem pay5_sees (hx : Sees x f) (hy : Sees y g) : Sees (k0_pay5 (F := Ideal) x y) (fun r c => soft (score f g r c)) := by
  intro r c
  have h4 := pay4_sees hx hy
  pointwise [k0_pay5]
  simp only [h4 _ _, absf_coe, zero_coe, ← EReal.coe_sub, exp_coe]
  rw [log1p_coe _ (Real.exp_pos _).le, zero_sub]; rfl

theorem pay6_sees (hx : Sees x f) (hy : Sees y g) : Sees (k0_pay6 (F := Ideal) x y) (fun r c => lsig (score f g r c)) := by
  intro r c
  have h4 := pay4_sees hx hy
  have h5 := pay5_sees hx hy
  pointwise [k0_pay6]
  simp only [h4 _ _, h5 _ _, zero_coe, coe_min, ← EReal.coe_sub]; rfl

theorem pay7_sees (hx : Sees x f) (hy : Sees y g) : Sees (k0_pay7 (F := Ideal) x y) (fun r c => lneg (score f g r c)) := by
  intro r c
  have h4 := pay4_sees hx hy
  have h5 := pay5_sees hx hy
  pointwise [k0_pay7]
  simp only [h4 _ _, h5 _ _, zero_coe, coe_max, ← EReal.coe_sub, zero_sub]; rfl

theorem pay8_sees {c1 : FVec Ideal S512x1 .f32} {e : ℕ → ℝ} (hx : Sees x f) (hy : Sees y g) (hc : Sees c1 (fun r _ => e r)) :
    Sees (k0_pay8 (F := Ideal) x k0_pay33 c1 y) (wgt (score f g) (fun r s => lneg (score f g r s)) e) := by
  intro r c
  have h6 := pay6_sees hx hy
  have h7 := pay7_sees hx hy
  have h33 := pay33_sees
  have e1 := dot_fin_coe (n := 512) (fun s => lneg (score f g r s)) (fun s => if c.val < s then 1 else 0)
  beta_reduce at e1
  pointwise [k0_pay8]
  simp only [h6 _ _, h7 _ _, h33 _ _, hc _ _, ← EReal.coe_sub, sub_self, EReal.coe_zero, zero_mul, Finset.sum_const_zero, add_zero]
  rw [e1, sum_gt, ← EReal.coe_add, ← EReal.coe_add, exp_coe]; rfl

theorem pay9_sees {c1 : FVec Ideal S512x1 .f32} {e : ℕ → ℝ} (hx : Sees x f) (hx' : Sees x' f') (hy : Sees y g) (hy' : Sees y' h)
    (hc : Sees c1 (fun r _ => e r)) :
    Sees (k0_pay9 (F := Ideal) x x' k0_pay33 c1 y y')
      (fun r c => wgt (score f g) (fun r s => lneg (score f g r s)) e r c * score f' h r c) := by
  intro r c
  have h8 := pay8_sees hx hy hc
  have e1 := dot_fin_coe (n := 128) (fun d => f' r d) (fun d => h c d)
  beta_reduce at e1
  pointwise [k0_pay9]
  simp only [h8 _ _, hx' _ _, hy' _ _]
  rw [e1, ← EReal.coe_mul]; rfl

theorem pay11_sees {c1 : FVec Ideal S512x1 .f32} {e : ℕ → ℝ} (hx : Sees x f) (hx' : Sees x' f') (hy : Sees y g)
    (hc : Sees c1 (fun r _ => e r)) :
    Sees (k0_pay11 (F := Ideal) x x' k0_pay33 c1 y)
      (fun c d => ∑ r ∈ Finset.range 512, wgt (score f g) (fun r s => lneg (score f g r s)) e r c * f' r d) := by
  intro c d
  have h8 := pay8_sees hx hy hc
  have e1 := dot_fin_coe (n := 512) (fun r => wgt (score f g) (fun r s => lneg (score f g r s)) e r c) (fun r => f' r d)
  beta_reduce at e1
  pointwise [k0_pay11]
  simp only [h8 _ _, hx' _ _]
  rw [e1]

end

end Cert.Sb
-- ==== Proof.PayOwn.lean ====
/-
  The rest of the tile arithmetic over the real numbers: the query's own tile, where the keys from the query on are masked
  out, the carried sums, and the second walk.
-/
module

public import proofs.«01_k».proof.Proof.Pay

@[expose] public section

set_option maxRecDepth 16384

noncomputable section

namespace Cert.Sb

open Idealize.ShloMosaic Cert.KernelIdeal Cert.KernelIdeal.Gen

/-- A choice by a decided proposition. -/
theorem select_decide (p : Prop) [Decidable p] (a b : EReal) :
    Scalar.select (BitVec.ofBool (decide p)) a b = if p then a else b := by
  by_cases h : p
  · simp only [h, decide_true, if_true]; rfl
  · simp only [h, decide_false, if_false]; rfl

section Own

variable {x x' y y' : FVec Ideal S512x128 .bf16} {f f' g h : ℕ → ℕ → ℝ}

theorem pay39_sees (hx : Sees x f) (hy : Sees y g) : Sees (k0_pay39 (F := Ideal) x y) (score f g) := by
  intro r c
  pointwise [k0_pay39]
  simp only [hx _ _, hy _ _]
  exact dot_fin_coe _ _

theorem pay40_sees (hx : Sees x f) (hy : Sees y g) : Sees (k0_pay40 (F := Ideal) x y) (fun r c => soft (score f g r c)) := by
  intro r c
  have h4 := pay39_sees hx hy
  pointwise [k0_pay40]
  simp only [h4 _ _, absf_coe, zero_coe, ← EReal.coe_sub, exp_coe]
  rw [log1p_coe _ (Real.exp_pos _).le, zero_sub]; rfl

theorem pay41_sees (hx : Sees x f) (hy : Sees y g) : Sees (k0_pay41 (F := Ideal) x y) (fun r c => lsig (score f g r c)) := by
  intro r c
  have h4 := pay39_sees hx hy
  have h5 := pay40_sees hx hy
  pointwise [k0_pay41]
  simp only [h4 _ _, h5 _ _, zero_coe, coe_min, ← EReal.coe_sub]; rfl

theorem pay42_sees (i : grid0.Coords) (hx : Sees x f) (hy : Sees y g) :
    Sees (k0_pay42 (F := Ideal) x (k0_pay32 i) keyIota y (ownKey i)) (low fun r c => lneg (score f g r c)) := by
  intro r c
  have h4 := pay39_sees hx hy
  have h5 := pay40_sees hx hy
  pointwise [k0_pay42]
  rw [mask_own, select_decide]
  simp only [h4 _ _, h5 _ _, zero_coe, coe_max, ← EReal.coe_sub, zero_sub]
  by_cases hlt : c.val < r.val
  · simp [low, hlt, lneg]
  · simp [low, hlt]

theorem pay43_sees (i : grid0.Coords) {c1 : FVec Ideal S512x1 .f32} {e : ℕ → ℝ} (hx : Sees x f) (hy : Sees y g)
    (hc : Sees c1 (fun r _ => e r)) :
    Sees (k0_pay43 (F := Ideal) x (k0_pay32 i) keyIota k0_pay33 c1 y (ownKey i))
      (low (wgt (score f g) (low fun r s => lneg (score f g r s)) e)) := by
  intro r c
  have h6 := pay41_sees hx hy
  have h7 := pay42_sees i hx hy
  have h33 := pay33_sees
  have e1 := dot_fin_coe (n := 512) (fun s => low (fun r s => lneg (score f g r s)) r s) (fun s => if c.val < s then 1 else 0)
  beta_reduce at e1
  pointwise [k0_pay43]
  rw [mask_own, select_decide]
  simp only [h6 _ _, h7 _ _, h33 _ _, hc _ _, ← EReal.coe_sub, sub_self, EReal.coe_zero, zero_mul, Finset.sum_const_zero, add_zero]
  rw [e1, sum_gt, ← EReal.coe_add, ← EReal.coe_add, exp_coe]
  by_cases hlt : c.val < r.val
  · simp [low, hlt, wgt]
  · simp [low, hlt]

theorem pay44_sees (i : grid0.Coords) {c1 : FVec Ideal S512x1 .f32} {e : ℕ → ℝ} (hx : Sees x f) (hx' : Sees x' f')
    (hy : Sees y g) (hy' : Sees y' h) (hc : Sees c1 (fun r _ => e r)) :
    Sees (k0_pay44 (F := Ideal) x x' (k0_pay32 i) keyIota k0_pay33 c1 y y' (ownKey i))
      (fun r c => low (wgt (score f g) (low fun r s => lneg (score f g r s)) e) r c * score f' h r c) := by
  intro r c
  have h8 := pay43_sees i hx hy hc
  have e1 := dot_fin_coe (n := 128) (fun d => f' r d) (fun d => h c d)
  beta_reduce at e1
  pointwise [k0_pay44]
  simp only [h8 _ _, hx' _ _, hy' _ _]
  rw [e1, ← EReal.coe_mul]; rfl

theorem pay45_sees (i : grid0.Coords) {c1 : FVec Ideal S512x1 .f32} {e : ℕ → ℝ} {w : Vec Ideal S512x128 .f32} (hx : Sees x f)
    (hx' : Sees x' f') (hy : Sees y g) (hc : Sees c1 (fun r _ => e r)) (hw : Sees w h) :
    Sees (k0_pay45 (F := Ideal) x x' (k0_pay32 i) keyIota k0_pay33 c1 y (ownKey i) w)
      (fun c d => h c d + ∑ r ∈ Finset.range 512, low (wgt (score f g) (low fun r s => lneg (score f g r s)) e) r c * f' r d) := by
  intro c d
  have h8 := pay43_sees i hx hy hc
  have e1 := dot_fin_coe (n := 512) (fun r => low (wgt (score f g) (low fun r s => lneg (score f g r s)) e) r c) (fun r => f' r d)
  beta_reduce at e1
  pointwise [k0_pay45]
  simp only [h8 _ _, hx' _ _, hw _ _]
  rw [e1, ← EReal.coe_add]

end Own

section Carried

variable {c1 : FVec Ideal S512x1 .f32} {e : ℕ → ℝ} {u : FVec Ideal S512x512 .f32} {f g : ℕ → ℕ → ℝ}

theorem pay53_sees (hc : Sees c1 (fun r _ => e r)) (hu : Sees u f) :
    Sees (k0_pay53 (F := Ideal) c1 u) (fun r _ => e r + ∑ s ∈ Finset.range 512, f r s) := by
  intro r c
  have e1 := sum_fin_coe (n := 512) (fun s => f r s)
  beta_reduce at e1
  pointwise [k0_pay53]
  simp only [hc _ _, hu _ _]
  rw [e1, ← EReal.coe_add]

theorem pay48_sees (hc : Sees c1 (fun r _ => e r)) (hu : Sees u f) :
    Sees (k0_pay48 (F := Ideal) c1 u) (fun r _ => e r + ∑ s ∈ Finset.range 512, f r s) := pay53_sees hc hu
theorem pay49_sees (hc : Sees c1 (fun r _ => e r)) (hu : Sees u f) :
    Sees (k0_pay49 (F := Ideal) c1 u) (fun r _ => e r + ∑ s ∈ Finset.range 512, f r s) := pay53_sees hc hu
theorem pay54_sees (hc : Sees c1 (fun r _ => e r)) (hu : Sees u f) :
    Sees (k0_pay54 (F := Ideal) c1 u) (fun r _ => e r + ∑ s ∈ Finset.range 512, f r s) := pay53_sees hc hu
theorem pay68_sees (hc : Sees c1 (fun r _ => e r)) (hu : Sees u f) :
    Sees (k0_pay68 (F := Ideal) c1 u) (fun r _ => e r + ∑ s ∈ Finset.range 512, f r s) := pay53_sees hc hu
theorem pay1_sees (hc : Sees c1 (fun r _ => e r)) (hu : Sees u f) :
    Sees (k0_pay1 (F := Ideal) c1 u) (fun r _ => e r + ∑ s ∈ Finset.range 512, f r s) := pay53_sees hc hu

theorem pay46_sees (hu : Sees u f) : SeesS (k0_pay46 (F := Ideal) u) f := by
  intro a r c
  pointwise [k0_pay46]
  exact hu r c

theorem pay51_sees (hu : Sees u f) : SeesS (k0_pay51 (F := Ideal) u) f := pay46_sees hu

theorem pay47_sees (hu : Sees u f) : SeesS (k0_pay47 (F := Ideal) u) (fun r c => Real.exp (f r c)) := by
  intro a r c
  pointwise [k0_pay47]
  rw [hu r c]; rfl

theorem pay52_sees (hu : Sees u f) : SeesS (k0_pay52 (F := Ideal) u) (fun r c => Real.exp (f r c)) := pay47_sees hu

end Carried

section Second

variable {t t' : Vec Ideal S1x512x512 .f32} {x : FVec Ideal S512x128 .bf16} {y w : Vec Ideal S512x128 .f32} {c1 c2 : FVec Ideal S512x1 .f32}
  {G e : ℕ → ℝ} {g β f h : ℕ → ℕ → ℝ}

theorem pay20_sees (ht : SeesS t g) : Sees (k0_pay20 (F := Ideal) t) g := by
  intro r c
  pointwise [k0_pay20]
  exact ht _ _ _

theorem pay61_sees (ht : SeesS t g) : Sees (k0_pay61 (F := Ideal) t) g := pay20_sees ht
theorem pay62_sees (ht : SeesS t g) : Sees (k0_pay62 (F := Ideal) t) g := pay20_sees ht
theorem pay63_sees (ht : SeesS t g) : Sees (k0_pay63 (F := Ideal) t) g := pay20_sees ht
theorem pay64_sees (ht : SeesS t g) : Sees (k0_pay64 (F := Ideal) t) (fun _ _ => 0) := by
  intro r c
  have h1 := pay61_sees ht
  have h3 := pay63_sees ht
  pointwise [k0_pay64]
  simp only [h1 _ _, h3 _ _, ← EReal.coe_sub, sub_self]

theorem pay21_sees (hG : Sees c1 (fun r _ => G r)) (he : Sees c2 (fun r _ => e r)) (ht : SeesS t g) (ht' : SeesS t' β) :
    Sees (k0_pay21 (F := Ideal) k0_pay34 c1 c2 t t') (dzt g β G e) := by
  intro r c
  have h20 := pay20_sees ht
  have h34 := pay34_sees
  have e1 := dot_fin_coe (n := 512) (fun s => g r s) (fun s => if c.val ≤ s then 1 else 0)
  beta_reduce at e1
  pointwise [k0_pay21]
  simp only [h20 _ _, h34 _ _, hG _ _, he _ _, ht' _ _ _, ← EReal.coe_sub, sub_self, EReal.coe_zero, zero_mul,
    Finset.sum_const_zero, add_zero, sub_zero, one_coe]
  rw [e1, sum_ge]
  simp only [← EReal.coe_add, ← EReal.coe_sub, ← EReal.coe_mul]
  rfl

theorem pay22_sees (hG : Sees c1 (fun r _ => G r)) (he : Sees c2 (fun r _ => e r)) (ht : SeesS t g) (ht' : SeesS t' β)
    (hw : Sees w h) (hy : Sees y f) :
    Sees (k0_pay22 (F := Ideal) k0_pay34 c1 w c2 t t' y) (fun r d => h r d + ∑ s ∈ Finset.range 512, dzt g β G e r s * f s d) := by
  intro r d
  have h21 := pay21_sees hG he ht ht'
  have e1 := dot_fin_coe (n := 512) (fun s => dzt g β G e r s) (fun s => f s d)
  beta_reduce at e1
  pointwise [k0_pay22]
  simp only [h21 _ _, hw _ _, hy _ _]
  rw [e1, ← EReal.coe_add]

theorem pay23_sees (hx : Sees x f) (hG : Sees c1 (fun r _ => G r)) (he : Sees c2 (fun r _ => e r)) (ht : SeesS t g)
    (ht' : SeesS t' β) (hw : Sees w h) :
    Sees (k0_pay23 (F := Ideal) x k0_pay34 c1 c2 t t' w) (fun s d => h s d + ∑ r ∈ Finset.range 512, dzt g β G e r s * f r d) := by
  intro s d
  have h21 := pay21_sees hG he ht ht'
  have e1 := dot_fin_coe (n := 512) (fun r => dzt g β G e r s) (fun r => f r d)
  beta_reduce at e1
  pointwise [k0_pay23]
  simp only [h21 _ _, hw _ _, hx _ _]
  rw [e1, ← EReal.coe_add]

theorem pay65_sees (i : grid0.Coords) (hG : Sees c1 (fun r _ => G r)) (he : Sees c2 (fun r _ => e r)) (ht : SeesS t g)
    (ht' : SeesS t' β) :
    Sees (k0_pay65 (F := Ideal) (k0_pay32 i) keyIota k0_pay34 c2 c1 (ownTile i) (k0_pay61 (F := Ideal) t) (k0_pay62 (F := Ideal) t') (k0_pay63 (F := Ideal) t) (k0_pay64 (F := Ideal) t))
      (low (dzt g β G e)) := by
  intro r c
  have h61 := pay61_sees ht
  have h62 := pay62_sees ht'
  have h63 := pay63_sees ht
  have h64 := pay64_sees ht
  have h34 := pay34_sees
  have e1 := dot_fin_coe (n := 512) (fun s => g r s) (fun s => if c.val ≤ s then 1 else 0)
  beta_reduce at e1
  have hm := mask_own i r c
  pointwise [k0_pay38, ownKey] at hm
  pointwise [k0_pay65]
  rw [hm, select_decide]
  simp only [h61 _ _, h62 _ _, h63 _ _, h64 _ _, h34 _ _, hG _ _, he _ _, ← EReal.coe_sub, sub_self, EReal.coe_zero, zero_mul,
    Finset.sum_const_zero, add_zero, sub_zero, one_coe]
  rw [e1, sum_ge]
  simp only [← EReal.coe_add, ← EReal.coe_sub, ← EReal.coe_mul]
  by_cases hlt : c.val < r.val
  · simp [low, hlt, dzt]
  · simp [low, hlt]

theorem pay66_sees (i : grid0.Coords) (hG : Sees c1 (fun r _ => G r)) (he : Sees c2 (fun r _ => e r)) (ht : SeesS t g)
    (ht' : SeesS t' β) (hw : Sees w h) (hy : Sees y f) :
    Sees (k0_pay66 (F := Ideal) (k0_pay32 i) keyIota k0_pay34 c2 c1 w (ownTile i) (k0_pay61 (F := Ideal) t) (k0_pay62 (F := Ideal) t') (k0_pay63 (F := Ideal) t) (k0_pay64 (F := Ideal) t) y)
      (fun r d => h r d + ∑ s ∈ Finset.range 512, low (dzt g β G e) r s * f s d) := by
  intro r d
  have h21 := pay65_sees i hG he ht ht'
  have e1 := dot_fin_coe (n := 512) (fun s => low (dzt g β G e) r s) (fun s => f s d)
  beta_reduce at e1
  pointwise [k0_pay66]
  simp only [h21 _ _, hw _ _, hy _ _]
  rw [e1, ← EReal.coe_add]

theorem pay67_sees (i : grid0.Coords) (hx : Sees x f) (hG : Sees c1 (fun r _ => G r)) (he : Sees c2 (fun r _ => e r))
    (ht : SeesS t g) (ht' : SeesS t' β) (hw : Sees w h) :
    Sees (k0_pay67 (F := Ideal) x (k0_pay32 i) keyIota k0_pay34 c2 c1 (ownTile i) (k0_pay61 (F := Ideal) t) (k0_pay62 (F := Ideal) t') (k0_pay63 (F := Ideal) t) (k0_pay64 (F := Ideal) t) w)
      (fun s d => h s d + ∑ r ∈ Finset.range 512, low (dzt g β G e) r s * f r d) := by
  intro s d
  have h21 := pay65_sees i hG he ht ht'
  have e1 := dot_fin_coe (n := 512) (fun r => low (dzt g β G e) r s) (fun r => f r d)
  beta_reduce at e1
  pointwise [k0_pay67]
  simp only [h21 _ _, hw _ _, hx _ _]
  rw [e1, ← EReal.coe_add]

theorem pay3_sees (hw : Sees w h) : Sees (k0_pay3 (F := Ideal) w) (fun r d => h r d * sc) := by
  intro r c
  pointwise [k0_pay3]
  simp only [hw _ _, sc_bits, ← EReal.coe_mul]

theorem pay10_sees (hw : Sees w h) : Sees (k0_pay10 (F := Ideal) w) h := by
  intro r c
  pointwise [k0_pay10]
  exact hw r c

theorem pay50_sees (hw : Sees w h) (hy : Sees y f) : Sees (k0_pay50 (F := Ideal) w y) (fun r d => h r d + f r d) := by
  intro r c
  pointwise [k0_pay50]
  simp only [hw _ _, hy _ _, ← EReal.coe_add]

end Second

end Cert.Sb
-- ==== Proof.Spec.lean ====
/-
  The gradient over the real numbers, for one head: `q`, `k`, `v` the queries, keys and values, `o` the incoming gradient,
  each as a function of the row and the column.  `wt` are the attention's weights, `gg` the weights times the incoming
  gradient on them, `pre` the sums of `gg` over the keys before, `dz` the gradient of the scores.  Below are the facts on
  sums over key tiles by which a walk over the tiles, from the last to the first, accumulates them.
-/
module

public import proofs.«01_k».proof.Proof.PayOwn

@[expose] public section

noncomputable section

namespace Cert.Sb

open Finset

/-- The scores: the scaled queries times the keys. -/
def zz (q k : ℕ → ℕ → ℝ) : ℕ → ℕ → ℝ := score (fun r d => q r d * sc) k

/-- `log (1 - β)` where the key comes before the query. -/
def lm (q k : ℕ → ℕ → ℝ) (r s : ℕ) : ℝ := if s < r then lneg (zz q k r s) else 0

/-- The attention's weights. -/
def wt (q k : ℕ → ℕ → ℝ) (r s : ℕ) : ℝ :=
  if s < r then Real.exp (lsig (zz q k r s) + ∑ s' ∈ Ico (s + 1) 2048, lm q k r s') else 0

/-- The weights times the gradient on them. -/
def gg (q k v o : ℕ → ℕ → ℝ) (r s : ℕ) : ℝ := wt q k r s * score o v r s

/-- The logistic of the scores. -/
def bb (q k : ℕ → ℕ → ℝ) (r s : ℕ) : ℝ := Real.exp (lsig (zz q k r s))

/-- The gradient of the scores. -/
def dz (q k v o : ℕ → ℕ → ℝ) (r s : ℕ) : ℝ :=
  if s < r then gg q k v o r s * (1 - bb q k r s) - (∑ s' ∈ range s, gg q k v o r s') * bb q k r s else 0

section Sums

variable {M : Type*} [AddCommMonoid M]

/-- The sum of a row from key tile `t` on. -/
def tail (f : ℕ → ℕ → M) (t r : ℕ) : M := ∑ s ∈ Ico (512 * t) 2048, f r s

/-- A sum over the last part of a tile, and over the tiles after it. -/
theorem sum_tail (f : ℕ → M) {t c : ℕ} (ht : t < 4) (hc : c ≤ 512) :
    (∑ s ∈ Ico c 512, f (512 * t + s)) + ∑ s ∈ Ico (512 * (t + 1)) 2048, f s = ∑ s ∈ Ico (512 * t + c) 2048, f s := by
  rw [Finset.sum_Ico_add f c 512 (512 * t), show c + 512 * t = 512 * t + c by omega,
    show 512 + 512 * t = 512 * (t + 1) by omega]
  exact Finset.sum_Ico_consecutive f (by omega) (by omega)

theorem tail_step (f : ℕ → ℕ → M) {t : ℕ} (ht : t < 4) (r : ℕ) :
    tail f (t + 1) r + ∑ s ∈ range 512, f r (512 * t + s) = tail f t r := by
  have h := sum_tail (f r) ht (c := 0) (by omega)
  rw [add_comm]
  rw [← Finset.range_eq_Ico] at h
  exact h

/-- Past the row's own tile there is nothing. -/
theorem tail_zero (f : ℕ → ℕ → M) {b r : ℕ} (hf : ∀ s, r ≤ s → f r s = 0) (hr : r < 512 * (b + 1)) : tail f (b + 1) r = 0 :=
  Finset.sum_eq_zero fun s hs => hf s (by have := (Finset.mem_Ico.mp hs).1; omega)

end Sums

theorem lm_zero (q k : ℕ → ℕ → ℝ) (r s : ℕ) (h : r ≤ s) : lm q k r s = 0 := if_neg (by omega)
theorem wt_zero (q k : ℕ → ℕ → ℝ) (r s : ℕ) (h : r ≤ s) : wt q k r s = 0 := if_neg (by omega)
theorem gg_zero (q k v o : ℕ → ℕ → ℝ) (r s : ℕ) (h : r ≤ s) : gg q k v o r s = 0 := by
  rw [gg, wt_zero q k r s h, zero_mul]
theorem dz_zero (q k v o : ℕ → ℕ → ℝ) (r s : ℕ) (h : r ≤ s) : dz q k v o r s = 0 := if_neg (by omega)

/-- A tile's weights are the attention's. -/
theorem wgt_eq (q k : ℕ → ℕ → ℝ) {b t : ℕ} (ht : t < 4) (r c : ℕ) (hc : c < 512) (z L : ℕ → ℕ → ℝ) (e : ℕ → ℝ)
    (hz : z r c = zz q k (512 * b + r) (512 * t + c)) (hL : ∀ s < 512, L r s = lm q k (512 * b + r) (512 * t + s))
    (he : e r = tail (lm q k) (t + 1) (512 * b + r)) :
    wgt z L e r c = Real.exp (lsig (zz q k (512 * b + r) (512 * t + c))
      + ∑ s' ∈ Ico (512 * t + c + 1) 2048, lm q k (512 * b + r) s') := by
  have h := sum_tail (lm q k (512 * b + r)) ht (c := c + 1) (by omega)
  unfold wgt
  rw [hz, he, Finset.sum_congr rfl fun s hs => hL s (Finset.mem_Ico.mp hs).2, tail, h, add_assoc (512 * t) c 1]

/-- A tile's gradient of the scores is the whole's. -/
theorem dzt_eq (q k v o : ℕ → ℕ → ℝ) {b t : ℕ} (ht : t < 4) (r c : ℕ) (hc : c < 512) (g β : ℕ → ℕ → ℝ) (G e : ℕ → ℝ)
    (hg : ∀ s < 512, g r s = gg q k v o (512 * b + r) (512 * t + s)) (hβ : β r c = bb q k (512 * b + r) (512 * t + c))
    (hG : G r = tail (gg q k v o) 0 (512 * b + r)) (he : e r = tail (gg q k v o) (t + 1) (512 * b + r)) :
    dzt g β G e r c = gg q k v o (512 * b + r) (512 * t + c) * (1 - bb q k (512 * b + r) (512 * t + c))
      - (∑ s' ∈ range (512 * t + c), gg q k v o (512 * b + r) s') * bb q k (512 * b + r) (512 * t + c) := by
  have h := sum_tail (gg q k v o (512 * b + r)) ht (c := c) (by omega)
  have h2 := Finset.sum_range_add_sum_Ico (gg q k v o (512 * b + r)) (m := 512 * t + c) (n := 2048) (by omega)
  unfold dzt
  rw [hg c hc, hβ, hG, he, Finset.sum_congr rfl fun s hs => hg s (Finset.mem_Ico.mp hs).2, tail, tail, h]
  rw [show (512 * 0) = 0 from rfl, ← Finset.range_eq_Ico, ← h2]
  ring

end Cert.Sb
-- ==== Proof.Point.lean ====
/-
  One grid point over the real numbers: from tiles that hold real numbers, what the point leaves in its three outputs is
  what the gradient of Spec.lean gives on the query tile.
-/
module

public import proofs.«01_k».proof.Proof.Spec

@[expose] public section

set_option maxRecDepth 16384

noncomputable section

namespace Cert.Sb

open Idealize.ShloMosaic Cert.KernelIdeal Cert.KernelIdeal.Gen Finset

section Tiles

variable {X W : Vec Ideal S2048x128 .f32} {N : Vec Ideal S512x128 .f32} {f w n : ℕ → ℕ → ℝ} {t : ℕ}

theorem rows_at (X : Vec Ideal S2048x128 .f32) (ht : t < 4) (r : Fin 512) (d : Fin 128) :
    rows X t (ix2 r d) = X (ix2 (⟨512 * t + r.val, by omega⟩ : Fin 2048) d) := by
  rw [ix2_eq_valueIdx, ix2_eq_valueIdx]
  have hr : (⟨(512 * t + r.val) % 2048, Nat.mod_lt _ (by omega)⟩ : Fin 2048) = ⟨512 * t + r.val, by omega⟩ :=
    Fin.ext (Nat.mod_eq_of_lt (by omega))
  show X (ValueIdx.ix2 (⟨(512 * t + r.val) % 2048, Nat.mod_lt _ (by omega)⟩ : Fin 2048) d) = _
  rw [hr]

theorem rows_sees (h : Sees X f) (ht : t < 4) : Sees (rows X t) (fun r d => f (512 * t + r) d) := fun r d =>
  (rows_at X ht r d).trans (h ⟨512 * t + r.val, by omega⟩ d)

theorem setRows_sees (hW : Sees W w) (hN : Sees N n) :
    Sees (setRows W t N) (fun s d => if s / 512 = t then n (s % 512) d else w s d) := by
  intro s d
  have e := hW s d
  have e' := hN ⟨s.val % 512, Nat.mod_lt _ (by omega)⟩ d
  rw [ix2_eq_valueIdx] at e e' ⊢
  show (if s.val / 512 = t then N (ValueIdx.ix2 (⟨s.val % 512, Nat.mod_lt _ (by omega)⟩ : Fin 512) d) else W (ValueIdx.ix2 s d)) = _
  by_cases hs : s.val / 512 = t
  · rw [if_pos hs, e']; simp only [if_pos hs]
  · rw [if_neg hs, e]; simp only [if_neg hs]

/-- The last tile of a walk, added to what the accumulator held: nothing is to be added past it. -/
theorem acc_own (hW : Sees W w) (hN : Sees N (fun c d => w (512 * t + c) d + n (512 * t + c) d))
    (h0 : ∀ s d, 512 * (t + 1) ≤ s → n s d = 0) :
    Sees (setRows W t N) (fun s d => w s d + if 512 * t ≤ s then n s d else 0) := by
  refine (setRows_sees hW hN).congr fun s _ d _ => ?_
  by_cases hs : s / 512 = t
  · have e : 512 * t + s % 512 = s := by omega
    simp only [if_pos hs, if_pos (show 512 * t ≤ s by omega), e]
  · simp only [if_neg hs]
    by_cases hl : 512 * t ≤ s
    · rw [if_pos hl, h0 s d (by omega), add_zero]
    · rw [if_neg hl, add_zero]

/-- An earlier tile of the walk. -/
theorem acc_step (hW : Sees W (fun s d => w s d + if 512 * (t + 1) ≤ s then n s d else 0))
    (hN : Sees N (fun c d => (w (512 * t + c) d + if 512 * (t + 1) ≤ 512 * t + c then n (512 * t + c) d else 0) + n (512 * t + c) d)) :
    Sees (setRows W t N) (fun s d => w s d + if 512 * t ≤ s then n s d else 0) := by
  refine (setRows_sees hW hN).congr fun s _ d _ => ?_
  by_cases hs : s / 512 = t
  · have e : 512 * t + s % 512 = s := by omega
    simp only [if_pos hs, if_pos (show 512 * t ≤ s by omega), e, if_neg (show ¬ 512 * (t + 1) ≤ s by omega), add_zero]
  · simp only [if_neg hs]
    by_cases hl : 512 * t ≤ s
    · rw [if_pos hl, if_pos (by omega)]
    · rw [if_neg hl, if_neg (by omega)]

end Tiles

section Walk

variable {i : grid0.Coords} {Q D : Vec Ideal S512x128 .f32} {K V W : Vec Ideal S2048x128 .f32} {q k v o w : ℕ → ℕ → ℝ}
  (hQ : Sees Q (fun r d => q (512 * qi i + r) d)) (hK : Sees K k)

include hQ hK

theorem ownL_sees : Sees (ownL i Q K) (fun r c => lm q k (512 * qi i + r) (512 * qi i + c)) := by
  refine (pay42_sees i (pay30_sees hQ) (pay36_sees (rows_sees hK (qi_lt i)))).congr fun r _ c _ => ?_
  by_cases h : c < r
  · simp only [low, lm, if_pos h, if_pos (show 512 * qi i + c < 512 * qi i + r by omega)]; rfl
  · simp only [low, lm, if_neg h, if_neg (show ¬ 512 * qi i + c < 512 * qi i + r by omega)]

theorem ownW_eq (r c : ℕ) (hr : r < 512) (hc : c < 512) :
    low (wgt (score (fun r d => q (512 * qi i + r) d * sc) (fun c d => k (512 * qi i + c) d))
      (low fun r s => lneg (score (fun r d => q (512 * qi i + r) d * sc) (fun c d => k (512 * qi i + c) d) r s)) (fun _ => 0)) r c
      = wt q k (512 * qi i + r) (512 * qi i + c) := by
  by_cases h : c < r
  · rw [low, if_pos h, wt, if_pos (show 512 * qi i + c < 512 * qi i + r by omega)]
    refine wgt_eq q k (b := qi i) (t := qi i) (qi_lt i) r c hc _ _ _ rfl (fun s _ => ?_) ?_
    · by_cases h : s < r
      · simp only [low, lm, if_pos h, if_pos (show 512 * qi i + s < 512 * qi i + r by omega)]; rfl
      · simp only [low, lm, if_neg h, if_neg (show ¬ 512 * qi i + s < 512 * qi i + r by omega)]
    · exact (tail_zero _ (lm_zero q k _) (by omega)).symm
  · rw [low, if_neg h, wt, if_neg (show ¬ 512 * qi i + c < 512 * qi i + r by omega)]

/-- What the first walk carries of `log (1 - β)`. -/
theorem st1_L (hD : Sees D (fun r d => o (512 * qi i + r) d)) (hV : Sees V v) : ∀ j ≤ qi i,
    Sees (st1 i Q D K V j).1 (fun r _ => tail (lm q k) (qi i - j) (512 * qi i + r))
  | 0, _ => by
    refine (pay48_sees (e := fun _ => 0) pay35_sees (ownL_sees hQ hK)).congr fun r hr _ _ => ?_
    rw [Nat.sub_zero, ← tail_step (lm q k) (qi_lt i), tail_zero _ (lm_zero q k _) (by omega)]
  | j + 1, hj => by
    have ih := st1_L hD hV j (by omega)
    have hb := qi_lt i
    refine (pay53_sees ih (pay7_sees (pay30_sees hQ) (rows_sees hK (t := qi i - 1 - j) (by omega)))).congr fun r hr _ _ => ?_
    have e := tail_step (lm q k) (t := qi i - 1 - j) (by omega) (512 * qi i + r)
    rw [show qi i - 1 - j + 1 = qi i - j by omega] at e
    rw [show qi i - (j + 1) = qi i - 1 - j by omega, ← e]
    congr 1
    refine Finset.sum_congr rfl fun s hs => ?_
    have := Finset.mem_range.mp hs
    rw [lm, if_pos (by omega)]; rfl

/-- An earlier tile's weights. -/
theorem oldW_eq (j : ℕ) (hj : j < qi i) (r c : ℕ) (hc : c < 512) :
    wgt (score (fun r d => q (512 * qi i + r) d * sc) (fun c d => k (512 * (qi i - 1 - j) + c) d))
      (fun r s => lneg (score (fun r d => q (512 * qi i + r) d * sc) (fun c d => k (512 * (qi i - 1 - j) + c) d) r s))
      (fun r => tail (lm q k) (qi i - j) (512 * qi i + r)) r c
      = wt q k (512 * qi i + r) (512 * (qi i - 1 - j) + c) := by
  have hb := qi_lt i
  rw [wt, if_pos (by omega)]
  refine wgt_eq q k (b := qi i) (t := qi i - 1 - j) (by omega) r c hc _ _ _ rfl (fun s _ => ?_) ?_
  · rw [lm, if_pos (by omega)]; rfl
  · rw [show qi i - 1 - j + 1 = qi i - j by omega]

variable (hD : Sees D (fun r d => o (512 * qi i + r) d)) (hV : Sees V v)

include hD hV

theorem ownG_sees : Sees (ownG i Q D K V) (fun r c => gg q k v o (512 * qi i + r) (512 * qi i + c)) := by
  refine (pay44_sees i (pay30_sees hQ) (pay31_sees hD) (pay36_sees (rows_sees hK (qi_lt i)))
    (pay37_sees (rows_sees hV (qi_lt i))) (e := fun _ => 0) pay35_sees).congr fun r hr c hc => ?_
  rw [ownW_eq hQ hK r c hr hc]; rfl

theorem oldG_sees (j : ℕ) (hj : j < qi i) :
    Sees (k0_pay9 (F := Ideal) (k0_pay30 Q) (k0_pay31 D) k0_pay33 (st1 i Q D K V j).1 (rows K (qi i - 1 - j)) (rows V (qi i - 1 - j)))
      (fun r c => gg q k v o (512 * qi i + r) (512 * (qi i - 1 - j) + c)) := by
  have hb := qi_lt i
  refine (pay9_sees (pay30_sees hQ) (pay31_sees hD) (rows_sees hK (by omega)) (rows_sees hV (by omega))
    (st1_L hQ hK hD hV j hj.le)).congr fun r hr c hc => ?_
  rw [oldW_eq hQ hK j hj r c hc]; rfl

/-- What the first walk carries of `g`. -/
theorem st1_g : ∀ j ≤ qi i, Sees (st1 i Q D K V j).2 (fun r _ => tail (gg q k v o) (qi i - j) (512 * qi i + r))
  | 0, _ => by
    refine (pay49_sees (e := fun _ => 0) pay35_sees (ownG_sees hQ hK hD hV)).congr fun r hr _ _ => ?_
    rw [Nat.sub_zero, ← tail_step (gg q k v o) (qi_lt i), tail_zero _ (gg_zero q k v o _) (by omega)]
  | j + 1, hj => by
    have ih := st1_g j (by omega)
    have hb := qi_lt i
    refine (pay54_sees ih (oldG_sees hQ hK hD hV j (by omega))).congr fun r hr _ _ => ?_
    have e := tail_step (gg q k v o) (t := qi i - 1 - j) (by omega) (512 * qi i + r)
    rw [show qi i - 1 - j + 1 = qi i - j by omega] at e
    rw [show qi i - (j + 1) = qi i - 1 - j by omega, ← e]

theorem gAll_sees : Sees (gAll i Q D K V) (fun r _ => tail (gg q k v o) 0 (512 * qi i + r)) := by
  have h := st1_g hQ hK hD hV (qi i) le_rfl
  rwa [Nat.sub_self] at h

theorem gOwn_sees : SeesS (gOwn i Q D K V) (fun r c => gg q k v o (512 * qi i + r) (512 * qi i + c)) :=
  pay46_sees (ownG_sees hQ hK hD hV)

theorem gT_sees (j : ℕ) (hj : j < qi i) :
    SeesS (gT i Q D K V j) (fun r c => gg q k v o (512 * qi i + r) (512 * (qi i - 1 - j) + c)) :=
  pay51_sees (oldG_sees hQ hK hD hV j hj)

omit hD hV in
theorem bOwn_sees : SeesS (bOwn i Q K) (fun r c => bb q k (512 * qi i + r) (512 * qi i + c)) :=
  pay47_sees (pay41_sees (pay30_sees hQ) (pay36_sees (rows_sees hK (qi_lt i))))

omit hD hV in
theorem bT_sees (j : ℕ) (hj : j < qi i) :
    SeesS (bT i Q K j) (fun r c => bb q k (512 * qi i + r) (512 * (qi i - 1 - j) + c)) :=
  pay52_sees (pay6_sees (pay30_sees hQ) (rows_sees hK (by have := qi_lt i; omega)))

omit hQ hK hD hV in
theorem ownDz_eq (r c : ℕ) (hr : r < 512) (hc : c < 512) :
    low (dzt (fun r c => gg q k v o (512 * qi i + r) (512 * qi i + c)) (fun r c => bb q k (512 * qi i + r) (512 * qi i + c))
      (fun r => tail (gg q k v o) 0 (512 * qi i + r)) (fun _ => 0)) r c = dz q k v o (512 * qi i + r) (512 * qi i + c) := by
  by_cases h : c < r
  · rw [low, if_pos h, dz, if_pos (show 512 * qi i + c < 512 * qi i + r by omega)]
    exact dzt_eq q k v o (b := qi i) (t := qi i) (qi_lt i) r c hc _ _ _ _ (fun _ _ => rfl) rfl rfl
      (tail_zero _ (gg_zero q k v o _) (by omega)).symm
  · rw [low, if_neg h, dz, if_neg (show ¬ 512 * qi i + c < 512 * qi i + r by omega)]

omit hQ hK hD hV in
theorem oldDz_eq (j : ℕ) (hj : j < qi i) (r c : ℕ) (hc : c < 512) :
    dzt (fun r c => gg q k v o (512 * qi i + r) (512 * (qi i - 1 - j) + c))
      (fun r c => bb q k (512 * qi i + r) (512 * (qi i - 1 - j) + c)) (fun r => tail (gg q k v o) 0 (512 * qi i + r))
      (fun r => tail (gg q k v o) (qi i - j) (512 * qi i + r)) r c = dz q k v o (512 * qi i + r) (512 * (qi i - 1 - j) + c) := by
  have hb := qi_lt i
  rw [dz, if_pos (by omega)]
  exact dzt_eq q k v o (b := qi i) (t := qi i - 1 - j) (by omega) r c hc _ _ _ _ (fun _ _ => rfl) rfl rfl
    (by rw [show qi i - 1 - j + 1 = qi i - j by omega])

/-- What the second walk carries of `g`. -/
theorem st3_g : ∀ j ≤ qi i, Sees (st3 i Q D K V j).2 (fun r _ => tail (gg q k v o) (qi i - j) (512 * qi i + r))
  | 0, _ => by
    refine (pay68_sees (e := fun _ => 0) pay35_sees (pay61_sees (gOwn_sees hQ hK hD hV))).congr fun r hr _ _ => ?_
    rw [Nat.sub_zero, ← tail_step (gg q k v o) (qi_lt i), tail_zero _ (gg_zero q k v o _) (by omega)]
  | j + 1, hj => by
    have ih := st3_g j (by omega)
    have hb := qi_lt i
    refine (pay1_sees ih (pay20_sees (gT_sees hQ hK hD hV j (by omega)))).congr fun r hr _ _ => ?_
    have e := tail_step (gg q k v o) (t := qi i - 1 - j) (by omega) (512 * qi i + r)
    rw [show qi i - 1 - j + 1 = qi i - j by omega] at e
    rw [show qi i - (j + 1) = qi i - 1 - j by omega, ← e]

/-- What it carries of the gradient of the queries. -/
theorem st3_dq : ∀ j ≤ qi i, Sees (st3 i Q D K V j).1
    (fun r d => ∑ s ∈ Ico (512 * (qi i - j)) 2048, dz q k v o (512 * qi i + r) s * k s d)
  | 0, _ => by
    refine (pay66_sees i (gAll_sees hQ hK hD hV) (e := fun _ => 0) pay35_sees (gOwn_sees hQ hK hD hV) (bOwn_sees hQ hK)
      pay60_sees (rows_sees hK (qi_lt i))).congr fun r hr d _ => ?_
    have e := tail_step (fun r s => dz q k v o r s * k s d) (qi_lt i) (512 * qi i + r)
    rw [tail_zero _ (fun s hs => by simp only [dz_zero q k v o _ s hs, zero_mul]) (by omega)] at e
    rw [Nat.sub_zero]
    refine Eq.trans ?_ e
    congr 1
    refine Finset.sum_congr rfl fun s hs => ?_
    rw [ownDz_eq r s hr (Finset.mem_range.mp hs)]
  | j + 1, hj => by
    have ih := st3_dq j (by omega)
    have hb := qi_lt i
    refine (pay22_sees (gAll_sees hQ hK hD hV) (st3_g hQ hK hD hV j (by omega)) (gT_sees hQ hK hD hV j (by omega))
      (bT_sees hQ hK j (by omega)) ih (rows_sees hK (t := qi i - 1 - j) (by omega))).congr fun r hr d _ => ?_
    have e := tail_step (fun r s => dz q k v o r s * k s d) (t := qi i - 1 - j) (by omega) (512 * qi i + r)
    rw [show qi i - 1 - j + 1 = qi i - j by omega] at e
    rw [show qi i - (j + 1) = qi i - 1 - j by omega]
    refine Eq.trans ?_ e
    show _ + _ = _ + _
    congr 1
    refine Finset.sum_congr rfl fun s hs => ?_
    rw [oldDz_eq j (by omega) r s (Finset.mem_range.mp hs)]

/-- The gradient of the values after `j` of the earlier tiles. -/
theorem dvT_sees (hW : Sees W w) : ∀ j ≤ qi i, Sees (dvT i Q D K V W j)
    (fun s d => w s d + if 512 * (qi i - j) ≤ s then ∑ r ∈ range 512, wt q k (512 * qi i + r) s * o (512 * qi i + r) d else 0)
  | 0, _ => by
    rw [Nat.sub_zero]
    refine acc_own (n := fun s d => ∑ r ∈ range 512, wt q k (512 * qi i + r) s * o (512 * qi i + r) d) hW
      ((pay45_sees i (pay30_sees hQ) (pay31_sees hD) (pay36_sees (rows_sees hK (qi_lt i))) (e := fun _ => 0) pay35_sees
        (rows_sees hW (qi_lt i))).congr fun c hc d _ => ?_) fun s d hs => ?_
    · congr 1
      refine Finset.sum_congr rfl fun r hr => ?_
      rw [ownW_eq hQ hK r c (Finset.mem_range.mp hr) hc]
    · refine Finset.sum_eq_zero fun r hr => ?_
      have := Finset.mem_range.mp hr
      rw [wt_zero q k _ _ (by omega), zero_mul]
  | j + 1, hj => by
    have ih := dvT_sees hW j (by omega)
    have hb := qi_lt i
    rw [show qi i - j = qi i - 1 - j + 1 by omega] at ih
    rw [show qi i - (j + 1) = qi i - 1 - j by omega]
    refine acc_step (n := fun s d => ∑ r ∈ range 512, wt q k (512 * qi i + r) s * o (512 * qi i + r) d) ih
      ((pay50_sees (pay10_sees (rows_sees ih (t := qi i - 1 - j) (by omega))) (pay11_sees (pay30_sees hQ) (pay31_sees hD) (rows_sees hK (by omega))
        (st1_L hQ hK hD hV j (by omega)))).congr fun c hc d _ => ?_)
    congr 1
    refine Finset.sum_congr rfl fun r hr => ?_
    rw [oldW_eq hQ hK j (by omega) r c hc]

/-- The gradient of the keys after `j` of the earlier tiles. -/
theorem dkT_sees (hW : Sees W w) : ∀ j ≤ qi i, Sees (dkT i Q D K V W j)
    (fun s d => w s d + if 512 * (qi i - j) ≤ s then
      ∑ r ∈ range 512, dz q k v o (512 * qi i + r) s * (q (512 * qi i + r) d * sc) else 0)
  | 0, _ => by
    rw [Nat.sub_zero]
    refine acc_own (n := fun s d => ∑ r ∈ range 512, dz q k v o (512 * qi i + r) s * (q (512 * qi i + r) d * sc)) hW
      ((pay67_sees i (pay30_sees hQ) (gAll_sees hQ hK hD hV) (e := fun _ => 0) pay35_sees (gOwn_sees hQ hK hD hV)
        (bOwn_sees hQ hK) (rows_sees hW (qi_lt i))).congr fun c hc d _ => ?_) fun s d hs => ?_
    · congr 1
      refine Finset.sum_congr rfl fun r hr => ?_
      rw [ownDz_eq r c (Finset.mem_range.mp hr) hc]
    · refine Finset.sum_eq_zero fun r hr => ?_
      have := Finset.mem_range.mp hr
      rw [dz_zero q k v o _ _ (by omega), zero_mul]
  | j + 1, hj => by
    have ih := dkT_sees hW j (by omega)
    have hb := qi_lt i
    rw [show qi i - j = qi i - 1 - j + 1 by omega] at ih
    rw [show qi i - (j + 1) = qi i - 1 - j by omega]
    refine acc_step (n := fun s d => ∑ r ∈ range 512, dz q k v o (512 * qi i + r) s * (q (512 * qi i + r) d * sc)) ih
      ((pay23_sees (pay30_sees hQ) (gAll_sees hQ hK hD hV) (st3_g hQ hK hD hV j (by omega)) (gT_sees hQ hK hD hV j (by omega))
        (bT_sees hQ hK j (by omega)) (rows_sees ih (t := qi i - 1 - j) (by omega))).congr fun c hc d _ => ?_)
    congr 1
    refine Finset.sum_congr rfl fun r hr => ?_
    rw [oldDz_eq j (by omega) r c hc]

/-- What the point leaves. -/
theorem dqOut_sees : Sees (dqOut i Q D K V) (fun r d => (∑ s ∈ range 2048, dz q k v o (512 * qi i + r) s * k s d) * sc) := by
  refine (pay3_sees (st3_dq hQ hK hD hV (qi i) le_rfl)).congr fun r _ d _ => ?_
  rw [Nat.sub_self, Nat.mul_zero, ← Finset.range_eq_Ico]

theorem dkOut_sees (hW : Sees (if qi i = 0 then k0_pay28 (F := Ideal) else W) w) : Sees (dkOut i Q D K V W)
    (fun s d => w s d + ∑ r ∈ range 512, dz q k v o (512 * qi i + r) s * (q (512 * qi i + r) d * sc)) := by
  refine (dkT_sees hQ hK hD hV hW (qi i) le_rfl).congr fun s _ d _ => ?_
  rw [Nat.sub_self, Nat.mul_zero, if_pos (Nat.zero_le _)]

theorem dvOut_sees (hW : Sees (if qi i = 0 then k0_pay29 (F := Ideal) else W) w) : Sees (dvOut i Q D K V W)
    (fun s d => w s d + ∑ r ∈ range 512, wt q k (512 * qi i + r) s * o (512 * qi i + r) d) := by
  refine (dvT_sees hQ hK hD hV hW (qi i) le_rfl).congr fun s _ d _ => ?_
  rw [Nat.sub_self, Nat.mul_zero, if_pos (Nat.zero_le _)]

end Walk

end Cert.Sb
-- ==== Proof.Arrays.lean ====
/-
  The three result arrays after the run, over the reals: when the entries of the operands the kernel reads are the
  real numbers `A r c` (the projections) and `B r c` (the incoming gradient), the arrays hold `dqR`, `dkR` and `dvR`,
  whose column `c` belongs to head `c / 128` and is its column `c % 128`.
-/
module

public import proofs.«01_k».proof.Proof.Frame
public import proofs.«01_k».proof.Proof.Point
public import Idealize.ShloMosaic.Lib.Pipeline.ValueKit

@[expose] public section

set_option maxRecDepth 16384

noncomputable section

namespace Cert.Sb

open Idealize.ShloMosaic Idealize.ShloMosaic.TcCoe
open Idealize.SL Idealize.SL.Sem
open Cert.KernelIdeal Cert.KernelIdeal.Gen
open Finset

/-- Head `h`'s queries, keys, values and incoming gradient. -/
def hq (A : ℕ → ℕ → ℝ) (h r d : ℕ) : ℝ := A r (128 * h + d)
def hk (A : ℕ → ℕ → ℝ) (h s d : ℕ) : ℝ := A s (1024 + 128 * h + d)
def hv (A : ℕ → ℕ → ℝ) (h s d : ℕ) : ℝ := A s (2048 + 128 * h + d)
def ho (B : ℕ → ℕ → ℝ) (h r d : ℕ) : ℝ := B r (128 * h + d)

/-- Head `h`'s weights, and the gradient of its scores. -/
def hw (A : ℕ → ℕ → ℝ) (h r s : ℕ) : ℝ := wt (hq A h) (hk A h) r s
def hz (A B : ℕ → ℕ → ℝ) (h r s : ℕ) : ℝ := dz (hq A h) (hk A h) (hv A h) (ho B h) r s

/-- The gradients of the queries, the keys and the values. -/
def dqR (A B : ℕ → ℕ → ℝ) (r c : ℕ) : ℝ := (∑ s ∈ range 2048, hz A B (c / 128) r s * hk A (c / 128) s (c % 128)) * sc
def dkR (A B : ℕ → ℕ → ℝ) (s c : ℕ) : ℝ := ∑ r ∈ range 2048, hz A B (c / 128) r s * (hq A (c / 128) r (c % 128) * sc)
def dvR (A B : ℕ → ℕ → ℝ) (s c : ℕ) : ℝ := ∑ r ∈ range 2048, hw A (c / 128) r s * ho B (c / 128) r (c % 128)

/-- Which blocks a point reads and writes. -/
theorem index_0 : ∀ t : Fin cfg0.N, win0_0.index t = ![t.val % 4, t.val / 4] := (by decide +kernel : ∀ t : Fin grid0.N, _)
theorem index_1 : ∀ t : Fin cfg0.N, win0_1.index t = ![0, 8 + t.val / 4] := (by decide +kernel : ∀ t : Fin grid0.N, _)
theorem index_2 : ∀ t : Fin cfg0.N, win0_2.index t = ![0, 16 + t.val / 4] := (by decide +kernel : ∀ t : Fin grid0.N, _)
theorem index_3 : ∀ t : Fin cfg0.N, win0_3.index t = ![t.val % 4, t.val / 4] := (by decide +kernel : ∀ t : Fin grid0.N, _)
theorem index_4 : ∀ t : Fin cfg0.N, win0_4.index t = ![t.val % 4, t.val / 4] := (by decide +kernel : ∀ t : Fin grid0.N, _)
theorem index_5 : ∀ t : Fin cfg0.N, win0_5.index t = ![0, t.val / 4] := (by decide +kernel : ∀ t : Fin grid0.N, _)
theorem index_6 : ∀ t : Fin cfg0.N, win0_6.index t = ![0, t.val / 4] := (by decide +kernel : ∀ t : Fin grid0.N, _)

section Run

variable (m : (ℓ : Loc nD τ sig) → Buf (Elt Ideal) ℓ) (c : Dev nD) {A B : ℕ → ℕ → ℝ}

/-- The entries read of the projections are the reals `A`, -/
def ReadsA (A : ℕ → ℕ → ℝ) : Prop := ∀ (r : Fin 2048) (j : Fin 7168), j.val < 3072 →
  m ((c : Thread nD τ).loc main_arg0) (ix2 r j) = ((A r.val j.val : ℝ) : EReal)

/-- and those of the incoming gradient the reals `B`. -/
def ReadsB (B : ℕ → ℕ → ℝ) : Prop := ∀ (r : Fin 2048) (j : Fin 2048), j.val < 1024 →
  m ((c : Thread nD τ).loc main_arg1) (ix2 r j) = ((B r.val j.val : ℝ) : EReal)

theorem lt32 (t : Fin cfg0.N) : t.val < 32 := t.isLt

theorem qB_sees (hA : ReadsA m c A) (t : Fin cfg0.N) :
    Sees (qB m c t) (fun r d => hq A (t.val / 4) (512 * qi (grid0.coords t) + r) d) := by
  intro r d
  have ht := lt32 t
  have h := hA ⟨512 * (t.val % 4) + r.val, by omega⟩ ⟨128 * (t.val / 4) + d.val, by omega⟩ (by simp only; omega)
  rw [qi_pt]
  refine Eq.trans ?_ h
  unfold qB
  blk_simp [iblk, V]
  refine congrArg _ ?_
  blk_ext [index_0 t]

theorem dB_sees (hB : ReadsB m c B) (t : Fin cfg0.N) :
    Sees (dB m c t) (fun r d => ho B (t.val / 4) (512 * qi (grid0.coords t) + r) d) := by
  intro r d
  have ht := lt32 t
  have h := hB ⟨512 * (t.val % 4) + r.val, by omega⟩ ⟨128 * (t.val / 4) + d.val, by omega⟩ (by simp only; omega)
  rw [qi_pt]
  refine Eq.trans ?_ h
  unfold dB
  blk_simp [iblk, V]
  refine congrArg _ ?_
  blk_ext [index_3 t]

theorem kB_sees (hA : ReadsA m c A) (t : Fin cfg0.N) : Sees (kB m c t) (hk A (t.val / 4)) := by
  intro s d
  have ht := lt32 t
  have h := hA s ⟨1024 + 128 * (t.val / 4) + d.val, by omega⟩ (by simp only; omega)
  refine Eq.trans ?_ h
  unfold kB
  blk_simp [iblk, V]
  refine congrArg _ ?_
  blk_ext [index_1 t]

theorem vB_sees (hA : ReadsA m c A) (t : Fin cfg0.N) : Sees (vB m c t) (hv A (t.val / 4)) := by
  intro s d
  have ht := lt32 t
  have h := hA s ⟨2048 + 128 * (t.val / 4) + d.val, by omega⟩ (by simp only; omega)
  refine Eq.trans ?_ h
  unfold vB
  blk_simp [iblk, V]
  refine congrArg _ ?_
  blk_ext [index_2 t]

/-- The accumulated gradient of the keys after a point: the head's query rows so far. -/
theorem dkAt_sees (hA : ReadsA m c A) (hB : ReadsB m c B) : ∀ n : ℕ, n < cfg0.N →
    Sees (dkAt m c n) (fun s d => ∑ r ∈ range (512 * (n % 4 + 1)), hz A B (n / 4) r s * (hq A (n / 4) r d * sc)) := by
  have step : ∀ (t : Fin cfg0.N) (W : Vec Ideal S2048x128 .f32),
      (t.val % 4 ≠ 0 → Sees W (fun s d => ∑ r ∈ range (512 * (t.val % 4)), hz A B (t.val / 4) r s * (hq A (t.val / 4) r d * sc))) →
      Sees (dkOut (grid0.coords t) (qB m c t) (dB m c t) (kB m c t) (vB m c t) W)
        (fun s d => ∑ r ∈ range (512 * (t.val % 4 + 1)), hz A B (t.val / 4) r s * (hq A (t.val / 4) r d * sc)) := by
    intro t W hW
    have e := qi_pt t
    have hW' : Sees (if qi (grid0.coords t) = 0 then k0_pay28 (F := Ideal) else W)
        (fun s d => ∑ r ∈ range (512 * (t.val % 4)), hz A B (t.val / 4) r s * (hq A (t.val / 4) r d * sc)) := by
      rw [e]
      by_cases h : t.val % 4 = 0
      · rw [if_pos h, h]
        exact pay28_sees.congr fun _ _ _ _ => by simp
      · rw [if_neg h]; exact hW h
    refine (dkOut_sees (qB_sees m c hA t) (kB_sees m c hA t) (dB_sees m c hB t) (vB_sees m c hA t) hW').congr fun s _ d _ => ?_
    rw [e, show 512 * (t.val % 4 + 1) = 512 * (t.val % 4) + 512 by ring, sum_range_add]
    rfl
  intro n
  induction n with
  | zero => intro hn; exact step ⟨0, hn⟩ _ (fun h => absurd rfl h)
  | succ n ih =>
    intro hn
    rw [dkAt_succ m c hn]
    refine step ⟨n + 1, hn⟩ _ fun h => ?_
    have h' : (n + 1) % 4 ≠ 0 := h
    have e1 : (n + 1) % 4 = n % 4 + 1 := by omega
    have e2 : (n + 1) / 4 = n / 4 := by omega
    show Sees _ (fun s d => ∑ r ∈ range (512 * ((n + 1) % 4)), hz A B ((n + 1) / 4) r s * (hq A ((n + 1) / 4) r d * sc))
    rw [e1, e2]
    exact ih (by omega)

/-- That of the values. -/
theorem dvAt_sees (hA : ReadsA m c A) (hB : ReadsB m c B) : ∀ n : ℕ, n < cfg0.N →
    Sees (dvAt m c n) (fun s d => ∑ r ∈ range (512 * (n % 4 + 1)), hw A (n / 4) r s * ho B (n / 4) r d) := by
  have step : ∀ (t : Fin cfg0.N) (W : Vec Ideal S2048x128 .f32),
      (t.val % 4 ≠ 0 → Sees W (fun s d => ∑ r ∈ range (512 * (t.val % 4)), hw A (t.val / 4) r s * ho B (t.val / 4) r d)) →
      Sees (dvOut (grid0.coords t) (qB m c t) (dB m c t) (kB m c t) (vB m c t) W)
        (fun s d => ∑ r ∈ range (512 * (t.val % 4 + 1)), hw A (t.val / 4) r s * ho B (t.val / 4) r d) := by
    intro t W hW
    have e := qi_pt t
    have hW' : Sees (if qi (grid0.coords t) = 0 then k0_pay29 (F := Ideal) else W)
        (fun s d => ∑ r ∈ range (512 * (t.val % 4)), hw A (t.val / 4) r s * ho B (t.val / 4) r d) := by
      rw [e]
      by_cases h : t.val % 4 = 0
      · rw [if_pos h, h]
        exact pay29_sees.congr fun _ _ _ _ => by simp
      · rw [if_neg h]; exact hW h
    refine (dvOut_sees (qB_sees m c hA t) (kB_sees m c hA t) (dB_sees m c hB t) (vB_sees m c hA t) hW').congr fun s _ d _ => ?_
    rw [e, show 512 * (t.val % 4 + 1) = 512 * (t.val % 4) + 512 by ring, sum_range_add]
    rfl
  intro n
  induction n with
  | zero => intro hn; exact step ⟨0, hn⟩ _ (fun h => absurd rfl h)
  | succ n ih =>
    intro hn
    rw [dvAt_succ m c hn]
    refine step ⟨n + 1, hn⟩ _ fun h => ?_
    have h' : (n + 1) % 4 ≠ 0 := h
    have e1 : (n + 1) % 4 = n % 4 + 1 := by omega
    have e2 : (n + 1) / 4 = n / 4 := by omega
    show Sees _ (fun s d => ∑ r ∈ range (512 * ((n + 1) % 4)), hw A ((n + 1) / 4) r s * ho B ((n + 1) / 4) r d)
    rw [e1, e2]
    exact ih (by omega)

/-- The array that holds `f`. -/
def arrOf (f : ℕ → ℕ → ℝ) : (⟨2, ![2048, 1024]⟩ : Shape).Idx → EReal := fun i => ((f (i 0).val (i 1).val : ℝ) : EReal)

/-- Where point `t` writes: row `r`, column `d` of its block. -/
theorem arrOf_at {f : ℕ → ℕ → ℝ} {i : (⟨2, ![2048, 1024]⟩ : Shape).Idx} {r c : ℕ} (h0 : (i 0).val = r) (h1 : (i 1).val = c) :
    arrOf f i = ((f r c : ℝ) : EReal) := by
  unfold arrOf; rw [h0, h1]

theorem final_dq (hA : ReadsA m c A) (hB : ReadsB m c B) : (dats m 0 c).arrAt 4 cfg0.N = arrOf (dqR A B) := by
  refine (dats m 0 c).arrAt_eq_of_covers 4 _ (by decide +kernel) fun t hf y => ?_
  have h0 : ((((cfg0.win 4).blk t).view.emb y 0 : Fin _) : ℕ) = 512 * (t.val % 4) + (y 0).val := by
    blk_simp [index_4 t]; omega
  have h1 : ((((cfg0.win 4).blk t).view.emb y 1 : Fin _) : ℕ) = 128 * (t.val / 4) + (y 1).val := by
    blk_simp [index_4 t]; omega
  refine Eq.trans ?_ (arrOf_at h0 h1).symm
  blk_simp
  rw [after_4]
  obtain ⟨r, d, rfl⟩ : ∃ (r : Fin 512) (d : Fin 128), y = ix2 r d := ⟨y 0, y 1, eq_ix2 y⟩
  refine (dqOut_sees (qB_sees m c hA t) (kB_sees m c hA t) (dB_sees m c hB t) (vB_sees m c hA t) r d).trans ?_
  have e1 : (128 * (t.val / 4) + d.val) / 128 = t.val / 4 := by omega
  have e2 : (128 * (t.val / 4) + d.val) % 128 = d.val := by omega
  show _ = ((dqR A B (512 * (t.val % 4) + r.val) (128 * (t.val / 4) + d.val) : ℝ) : EReal)
  unfold dqR hz
  rw [e1, e2, qi_pt]

theorem final_dk (hA : ReadsA m c A) (hB : ReadsB m c B) : (dats m 0 c).arrAt 5 cfg0.N = arrOf (dkR A B) := by
  refine (dats m 0 c).arrAt_eq_of_covers 5 _ (by decide +kernel) fun t hf y => ?_
  have h0 : ((((cfg0.win 5).blk t).view.emb y 0 : Fin _) : ℕ) = (y 0).val := by blk_simp [index_5 t]
  have h1 : ((((cfg0.win 5).blk t).view.emb y 1 : Fin _) : ℕ) = 128 * (t.val / 4) + (y 1).val := by
    blk_simp [index_5 t]; omega
  refine Eq.trans ?_ (arrOf_at h0 h1).symm
  blk_simp
  rw [after_5]
  have ht := (flush0_5 t).mp hf
  obtain ⟨r, d, rfl⟩ : ∃ (r : Fin 2048) (d : Fin 128), y = ix2 r d := ⟨y 0, y 1, eq_ix2 y⟩
  refine (dkAt_sees m c hA hB t.val t.isLt r d).trans ?_
  have e1 : (128 * (t.val / 4) + d.val) / 128 = t.val / 4 := by omega
  have e2 : (128 * (t.val / 4) + d.val) % 128 = d.val := by omega
  show _ = ((dkR A B r.val (128 * (t.val / 4) + d.val) : ℝ) : EReal)
  unfold dkR
  rw [e1, e2, ht]

theorem final_dv (hA : ReadsA m c A) (hB : ReadsB m c B) : (dats m 0 c).arrAt 6 cfg0.N = arrOf (dvR A B) := by
  refine (dats m 0 c).arrAt_eq_of_covers 6 _ (by decide +kernel) fun t hf y => ?_
  have h0 : ((((cfg0.win 6).blk t).view.emb y 0 : Fin _) : ℕ) = (y 0).val := by blk_simp [index_6 t]
  have h1 : ((((cfg0.win 6).blk t).view.emb y 1 : Fin _) : ℕ) = 128 * (t.val / 4) + (y 1).val := by
    blk_simp [index_6 t]; omega
  refine Eq.trans ?_ (arrOf_at h0 h1).symm
  blk_simp
  rw [after_6]
  have ht := (flush0_6 t).mp hf
  obtain ⟨r, d, rfl⟩ : ∃ (r : Fin 2048) (d : Fin 128), y = ix2 r d := ⟨y 0, y 1, eq_ix2 y⟩
  refine (dvAt_sees m c hA hB t.val t.isLt r d).trans ?_
  have e1 : (128 * (t.val / 4) + d.val) / 128 = t.val / 4 := by omega
  have e2 : (128 * (t.val / 4) + d.val) % 128 = d.val := by omega
  show _ = ((dvR A B r.val (128 * (t.val / 4) + d.val) : ℝ) : EReal)
  unfold dvR
  rw [e1, e2, ht]

end Run

end Cert.Sb

end
-- ==== Proof.Window.lean ====
/-
  A float sum over a window along the last axis of a stack of matrices, read at an index: with the padding after the
  row it is the sum from the entry on, with the padding before it the sum up to the entry.
-/
module

public import proofs.«01_k».proof.Proof.Sees

@[expose] public section

noncomputable section

namespace Cert.Sb

open Idealize.ShloMosaic
open Finset

/-- The stack of matrices `x` holds the real numbers `f`. -/
def SeesT {n a b : ℕ} (x : (⟨3, ![n, a, b]⟩ : Shape).Idx → EReal) (f : ℕ → ℕ → ℕ → ℝ) : Prop :=
  ∀ (h : Fin n) (r : Fin a) (c : Fin b), x (ix3 h r c) = ((f h.val r.val c.val : ℝ) : EReal)

/-- The window: one row of length `N`. -/
abbrev rowShape (N : ℕ) : Shape := ⟨3, ![1, 1, N]⟩

theorem row_numel (N : ℕ) : (rowShape N).numel = N := by
  simp [Shape.numel, Fin.prod_univ_succ]

theorem row_symm {N : ℕ} (n : Fin (rowShape N).numel) :
    ((rowShape N).rowMajor.symm n 0).val = 0 ∧ ((rowShape N).rowMajor.symm n 1).val = 0
      ∧ ((rowShape N).rowMajor.symm n 2).val = n.val := by
  have h0 : ((rowShape N).rowMajor.symm n 0).val < 1 := ((rowShape N).rowMajor.symm n 0).isLt
  have h1 : ((rowShape N).rowMajor.symm n 1).val < 1 := ((rowShape N).rowMajor.symm n 1).isLt
  have e := congrArg Fin.val ((rowShape N).rowMajor.apply_symm_apply n)
  rw [Shape.rowMajor_val_three] at e
  have z0 : ((rowShape N).rowMajor.symm n 0).val = 0 := by omega
  have z1 : ((rowShape N).rowMajor.symm n 1).val = 0 := by omega
  rw [z0, z1] at e
  exact ⟨z0, z1, by simpa using e⟩

theorem foldl_add_sum {n : ℕ} (g : Fin n → EReal) (v : EReal) :
    (List.finRange n).foldl (fun r k => r + g k) v = v + ∑ k : Fin n, g k := by
  rw [← List.sum_ofFn, List.ofFn_eq_map]
  generalize List.finRange n = l
  induction l generalizing v with
  | nil => simp
  | cons a l ih => rw [List.foldl_cons, ih, List.map_cons, List.sum_cons, add_assoc]

/-- Each entry of the windowed sum, as a sum over the window's places. -/
theorem window_sum {H R N : ℕ} (lo hi : ℕ) {x : (⟨3, ![H, R, N]⟩ : Shape).Idx → EReal} {f : ℕ → ℕ → ℕ → ℝ} (hx : SeesT x f)
    {init : (⟨0, ![]⟩ : Shape).Idx → EReal} (hinit : ∀ i, init i = 0)
    (hw : (⟨3, ![H, R, N]⟩ : Shape).ReduceWindows (![1, 1, N] : Fin 3 → ℕ) ![1, 1, 1] ![0, 0, lo] ![0, 0, hi] ⟨3, ![H, R, N]⟩)
    (hu : 0 < (⟨0, ![]⟩ : Shape).numel) (h : Fin H) (r : Fin R) (j : Fin N) :
    Host.reduceWindowAdd (F := Ideal) (φ := .f32) ![1, 1, N] ![1, 1, 1] ![0, 0, lo] ![0, 0, hi] x init hw hu (ix3 h r j)
      = ((∑ n ∈ range N, (if lo ≤ j.val + n ∧ j.val + n - lo < N then f h.val r.val (j.val + n - lo) else 0) : ℝ) : EReal) := by
  show Host.reduceWindow (· + ·) ![1, 1, N] ![1, 1, 1] ![0, 0, lo] ![0, 0, hi] x (fun _ => init (Shape.Idx.first hu)) hw hu (ix3 h r j) = _
  rw [hinit]
  unfold Host.reduceWindow
  dsimp only
  rw [foldl_add_sum, zero_add, ← sum_fin_coe]
  refine Fintype.sum_equiv (finCongr (row_numel N)) _ _ fun n => ?_
  obtain ⟨w0, w1, w2⟩ := row_symm n
  have hn : n.val < N := lt_of_lt_of_eq n.isLt (row_numel N)
  show _ = (((if lo ≤ j.val + n.val ∧ j.val + n.val - lo < N then f h.val r.val (j.val + n.val - lo) else 0) : ℝ) : EReal)
  split
  · next hin =>
    have h2 := hin 2
    change lo ≤ j.val * 1 + ((rowShape N).rowMajor.symm n 2).val ∧ j.val * 1 + ((rowShape N).rowMajor.symm n 2).val - lo < N at h2
    rw [w2, Nat.mul_one] at h2
    rw [if_pos h2]
    refine (congrArg x (funext fun a => Fin.ext ?_)).trans (hx h r ⟨j.val + n.val - lo, h2.2⟩)
    match a with
    | ⟨0, _⟩ => show h.val * 1 + ((rowShape N).rowMajor.symm n 0).val - 0 = h.val; rw [w0]; omega
    | ⟨1, _⟩ => show r.val * 1 + ((rowShape N).rowMajor.symm n 1).val - 0 = r.val; rw [w1]; omega
    | ⟨2, _⟩ => show j.val * 1 + ((rowShape N).rowMajor.symm n 2).val - lo = j.val + n.val - lo; rw [w2, Nat.mul_one]
  · next hin =>
    rw [if_neg fun h2 => hin fun a => by
      match a with
      | ⟨0, _⟩ =>
        show 0 ≤ h.val * 1 + ((rowShape N).rowMajor.symm n 0).val ∧ h.val * 1 + ((rowShape N).rowMajor.symm n 0).val - 0 < H
        rw [w0]; have := h.isLt; omega
      | ⟨1, _⟩ =>
        show 0 ≤ r.val * 1 + ((rowShape N).rowMajor.symm n 1).val ∧ r.val * 1 + ((rowShape N).rowMajor.symm n 1).val - 0 < R
        rw [w1]; have := r.isLt; omega
      | ⟨2, _⟩ =>
        show lo ≤ j.val * 1 + ((rowShape N).rowMajor.symm n 2).val ∧ j.val * 1 + ((rowShape N).rowMajor.symm n 2).val - lo < N
        rw [w2, Nat.mul_one]; exact h2]
    exact zero_coe

/-- The places of the window after the entry. -/
theorem window_from (g : ℕ → ℝ) {N j : ℕ} (hj : j < N) :
    (∑ n ∈ range N, (if 0 ≤ j + n ∧ j + n - 0 < N then g (j + n - 0) else 0)) = ∑ s ∈ Ico j N, g s := by
  rw [sum_Ico_eq_sum_range, ← sum_filter]
  refine sum_congr (Finset.ext fun s => ?_) fun _ _ => rfl
  simp only [mem_filter, mem_range]
  omega

/-- The places of the window up to the entry. -/
theorem window_upto (g : ℕ → ℝ) {N j : ℕ} (hj : j < N + 1) :
    (∑ n ∈ range (N + 1), (if N ≤ j + n ∧ j + n - N < N + 1 then g (j + n - N) else 0)) = ∑ s ∈ range (j + 1), g s := by
  rw [← sum_filter]
  refine sum_nbij' (fun n => j + n - N) (fun s => s + N - j) ?_ ?_ ?_ ?_ ?_
  all_goals intro n hn; simp only [mem_filter, mem_range] at hn ⊢
  all_goals first | omega | rfl

end Cert.Sb
-- ==== Proof.RefScore.lean ====
/-
  The reference, one stage after another, over the reals: the head's operands, its scores `z`, `log β`, `log (1 - β)`,
  the weights, and the gradient of the scores.
-/
module

public import proofs.«01_k».proof.Proof.Arrays
public import proofs.«01_k».proof.Proof.Window
public import proofs.«01_k».proof.Proof.Gen.ReferenceIdeal.Read

@[expose] public section

set_option maxRecDepth 16384

noncomputable section

namespace Cert.Sb.Ref

open Idealize.ShloMosaic Cert.ReferenceIdeal Cert.ReferenceIdeal.Gen Cert.ReferenceIdeal.Read
open Finset

variable {X : (⟨S2048x7168, .f32⟩ : BufTy).Contents (Elt Ideal)} {Y : (⟨S2048x2048, .f32⟩ : BufTy).Contents (Elt Ideal)}
variable {A B : ℕ → ℕ → ℝ}

/-- The entries the scores are made of, the queries and the keys, are the reals `A`. -/
def HoldsS (X : (⟨S2048x7168, .f32⟩ : BufTy).Contents (Elt Ideal)) (A : ℕ → ℕ → ℝ) : Prop :=
  ∀ (r : Fin 2048) (j : Fin 7168), j.val < 2048 → X (ix2 r j) = ((A r.val j.val : ℝ) : EReal)

/-- The entries read of the projections are the reals `A`, -/
def HoldsA (X : (⟨S2048x7168, .f32⟩ : BufTy).Contents (Elt Ideal)) (A : ℕ → ℕ → ℝ) : Prop :=
  ∀ (r : Fin 2048) (j : Fin 7168), j.val < 3072 → X (ix2 r j) = ((A r.val j.val : ℝ) : EReal)

/-- and those of the incoming gradient the reals `B`. -/
def HoldsB (Y : (⟨S2048x2048, .f32⟩ : BufTy).Contents (Elt Ideal)) (B : ℕ → ℕ → ℝ) : Prop :=
  ∀ (r : Fin 2048) (j : Fin 2048), j.val < 1024 → Y (ix2 r j) = ((B r.val j.val : ℝ) : EReal)

theorem HoldsA.scores (hA : HoldsA X A) : HoldsS X A := fun r j hj => hA r j (by omega)

theorem q_sees (hS : HoldsS X A) : SeesT (val_main_v4 (F := Ideal) X) (hq A) := by
  intro h r d
  have hh := h.isLt
  have hd := d.isLt
  pointwise [val_main_v4, val_main_v3, val_main_v0]
  rw [hS _ _ (by simp only; omega)]
  unfold hq
  congr 2
  simp only
  omega

theorem k_sees (hS : HoldsS X A) : SeesT (val_main_v6 (F := Ideal) X) (hk A) := by
  intro h r d
  have hh := h.isLt
  have hd := d.isLt
  pointwise [val_main_v6, val_main_v5, val_main_v1]
  rw [hS _ _ (by simp only; omega)]
  unfold hk
  congr 2
  simp only
  omega

theorem v_sees (hA : HoldsA X A) : SeesT (val_main_v8 (F := Ideal) X) (hv A) := by
  intro h r d
  have hh := h.isLt
  have hd := d.isLt
  pointwise [val_main_v8, val_main_v7, val_main_v2]
  rw [hA _ _ (by simp only; omega)]
  unfold hv
  congr 2
  simp only
  omega

theorem o_sees (hB : HoldsB Y B) : SeesT (val_main_v32 (F := Ideal) Y) (ho B) := by
  intro h r d
  have hh := h.isLt
  have hd := d.isLt
  pointwise [val_main_v32, val_main_v31, val_main_v30]
  rw [hB _ _ (by simp only; omega)]
  unfold ho
  congr 2
  simp only
  omega

theorem qs_sees (hS : HoldsS X A) : SeesT (val_main_v10 (F := Ideal) X) (fun h r d => hq A h r d * sc) := by
  intro h r d
  pointwise [val_main_v10, val_main_v9, val_main_cst]
  rw [q_sees hS, sc_bits, ← EReal.coe_mul]

/-- Head `h`'s scores. -/
def Z (A : ℕ → ℕ → ℝ) (h r s : ℕ) : ℝ := zz (hq A h) (hk A h) r s

theorem z_sees (hS : HoldsS X A) : SeesT (val_main_v11 (F := Ideal) X) (Z A) := by
  intro h r s
  pointwise [val_main_v11]
  simp only [qs_sees hS h, k_sees hS h]
  exact dot_fin_coe (n := 128) (fun d => hq A h.val r.val d * sc) (fun d => hk A h.val s.val d)

theorem mask_at (h : Fin 8) (r s : Fin 2048) : val_main_v21_1 (F := Ideal) (ix3 h r s) = BitVec.ofBool (decide (s.val < r.val)) := by
  have hr := r.isLt
  have hs := s.isLt
  pointwise [val_main_v21_1, val_main_v18, val_main_v17, val_main_v16, val_main_v15, val_main_v14, val_main_v13, val_main_v12]
  show BitVec.ofBool ((BitVec.ofNat 32 s.val).slt (BitVec.ofNat 32 r.val)) = _
  rw [slt_ofNat (by omega) (by omega)]

theorem mask_at' (h : Fin 8) (r s : Fin 2048) : val_main_v26_1 (F := Ideal) (ix3 h r s) = BitVec.ofBool (decide (s.val < r.val)) :=
  mask_at h r s

theorem lsig_neg (z : ℝ) : max (-z) 0 + Real.log (1 + Real.exp (-|-z|)) = -lsig z := by
  unfold lsig soft
  rw [abs_neg, ← neg_zero, max_neg_neg, neg_zero]
  ring

/-- `softplus (-z)` is `-log β`. -/
theorem soft_sees (hS : HoldsS X A) : SeesT (val_main_call0_v1_0 (F := Ideal) X) (fun h r s => -lsig (Z A h r s)) := by
  intro h r s
  pointwise [val_main_call0_v1_0, val_main_call0_call0_v4, val_main_call0_call0_v6, val_main_call0_call0_v11, val_main_call0_call0_v3, val_main_call0_call0_v2, val_main_call0_v0, val_main_call0_call0_cst, val_main_call0_call0_v5, val_main_call0_call0_v10, val_main_call0_call0_v9, val_main_call0_call0_v8, val_main_call0_call0_v7, val_main_call0_call0_v1, val_main_call0_call0_v0]
  rw [z_sees hS, if_neg (by simp), ← EReal.coe_neg, absf_coe, ← EReal.coe_neg, exp_coe, log1p_coe _ (Real.exp_pos _).le, zero_coe,
    coe_max, ← EReal.coe_add, lsig_neg]

theorem lneg_eq (z : ℝ) : lsig z - z = lneg z := by
  have h := min_add_max z 0
  unfold lsig lneg
  linarith

theorem exp_lneg (z : ℝ) : Real.exp (lneg z) = 1 - Real.exp (lsig z) := by
  have hp := Real.exp_pos (-|z|)
  have hs : Real.exp (soft z) = 1 + Real.exp (-|z|) := by
    unfold soft; rw [Real.exp_log (by linarith)]
  have key : Real.exp (-max z 0) + Real.exp (min z 0) = 1 + Real.exp (-|z|) := by
    rcases le_total 0 z with h | h
    · rw [max_eq_left h, min_eq_right h, abs_of_nonneg h, Real.exp_zero]; ring
    · rw [max_eq_right h, min_eq_left h, abs_of_nonpos h, neg_neg, neg_zero, Real.exp_zero]
  unfold lneg lsig
  rw [Real.exp_sub, Real.exp_sub, hs, eq_sub_iff_add_eq, ← add_div, key, div_self (by linarith)]

/-- `1 - β`. -/
theorem nb_sees (hS : HoldsS X A) : SeesT (val_main_v19_1 (F := Ideal) X) (fun h r s => 1 - Real.exp (lsig (Z A h r s))) := by
  intro h r s
  pointwise [val_main_v19_1, val_main_call0_call0_v21, val_main_call0_call0_v20, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call0_v0]
  rw [z_sees hS, soft_sees hS, inf_bits, ← EReal.coe_neg, if_neg (EReal.coe_ne_top _), if_neg (EReal.coe_ne_top _), ← EReal.coe_sub,
    exp_coe, ← exp_lneg, ← lneg_eq]
  congr 2
  ring

/-- `log β`, -/
theorem lb_sees (hS : HoldsS X A) : SeesT (val_main_v19_0 (F := Ideal) X) (fun h r s => lsig (Z A h r s)) := by
  intro h r s
  pointwise [val_main_v19_0]
  rw [soft_sees hS, ← EReal.coe_neg, neg_neg]

/-- and `log (1 - β)`, zero from the query on. -/
theorem lm_sees (hS : HoldsS X A) : SeesT (val_main_v21_0 (F := Ideal) X) (fun h r s => lm (hq A h) (hk A h) r s) := by
  intro h r s
  pointwise [val_main_v21_0, val_main_call1_v2, val_main_call1_v0, id, val_main_cst_0, val_main_v20]
  rw [mask_at, lb_sees hS, z_sees hS, ← EReal.coe_sub, lneg_eq]
  rw [select_decide]
  unfold lm Z
  by_cases hs : s.val < r.val <;> simp [hs]

/-- The logarithm of the weight where there is one. -/
theorem lw_sees (hS : HoldsS X A) : SeesT (val_main_v24 (F := Ideal) X)
    (fun h r s => lsig (Z A h r s) + ∑ s' ∈ Ico (s + 1) 2048, lm (hq A h) (hk A h) r s') := by
  intro h r s
  have e : val_main_v22 (F := Ideal) X (ix3 h r s) = ((∑ s' ∈ Ico s.val 2048, lm (hq A h.val) (hk A h.val) r.val s' : ℝ) : EReal) := by
    unfold val_main_v22
    rw [window_sum 0 2047 (lm_sees hS) (fun i => by pointwise [val_main_call2_v0, val_main_call2_cst]), window_from _ s.isLt]
  pointwise [val_main_v24, val_main_v23]
  rw [e, lb_sees hS, lm_sees hS, ← EReal.coe_sub, ← EReal.coe_add, sum_eq_sum_Ico_succ_bot s.isLt]
  exact congrArg (fun x : ℝ => (x : EReal)) (by ring)

theorem ew_sees (hS : HoldsS X A) : SeesT (val_main_v25 (F := Ideal) X)
    (fun h r s => Real.exp (lsig (Z A h r s) + ∑ s' ∈ Ico (s + 1) 2048, lm (hq A h) (hk A h) r s')) := by
  intro h r s
  pointwise [val_main_v25]
  rw [lw_sees hS, exp_coe]

/-- The weights. -/
theorem w_sees (hS : HoldsS X A) : SeesT (val_main_v26_0 (F := Ideal) X) (hw A) := by
  intro h r s
  pointwise [val_main_v26_0, val_main_call3_v2, val_main_call3_v0, id, val_main_cst_1]
  rw [mask_at', ew_sees hS]
  rw [select_decide]
  unfold hw wt Z
  by_cases hs : s.val < r.val <;> simp [hs]

/-- The weights' gradient times the weights. -/
theorem g_sees (hA : HoldsA X A) (hB : HoldsB Y B) : SeesT (val_main_v37 (F := Ideal) X Y)
    (fun h r s => gg (hq A h) (hk A h) (hv A h) (ho B h) r s) := by
  intro h r s
  have e : val_main_v35 (F := Ideal) X Y (ix3 h r s) = ((score (ho B h.val) (hv A h.val) r.val s.val : ℝ) : EReal) := by
    pointwise [val_main_v35]
    simp only [o_sees hB h, v_sees hA h]
    exact dot_fin_coe (n := 128) (fun d => ho B h.val r.val d) (fun d => hv A h.val s.val d)
  pointwise [val_main_v37, val_main_v36, val_main_call4_v0, val_main_call4_cst]
  rw [mask_at', e, ew_sees hA.scores, select_decide]
  unfold gg wt Z
  by_cases hs : s.val < r.val
  · rw [if_pos hs, if_pos hs, mul_comm (Real.exp _), EReal.coe_mul]
  · simp [hs]

/-- The sum of it before the key. -/
theorem gs_sees (hA : HoldsA X A) (hB : HoldsB Y B) : SeesT (val_main_v40 (F := Ideal) X Y)
    (fun h r s => ∑ s' ∈ range s, gg (hq A h) (hk A h) (hv A h) (ho B h) r s') := by
  intro h r s
  have e : val_main_v39 (F := Ideal) X Y (ix3 h r s)
      = ((∑ s' ∈ range (s.val + 1), gg (hq A h.val) (hk A h.val) (hv A h.val) (ho B h.val) r.val s' : ℝ) : EReal) := by
    unfold val_main_v39
    rw [window_sum 2047 0 (g_sees hA hB) (fun i => by pointwise [val_main_call5_v0, val_main_call5_cst])]
    rw [window_upto (N := 2047) _ s.isLt]
  pointwise [val_main_v40, val_main_v38]
  rw [e, g_sees hA hB, ← EReal.coe_neg, ← EReal.coe_add, sum_range_succ]
  exact congrArg (fun x : ℝ => (x : EReal)) (by ring)

/-- The gradient of the scores. -/
theorem dz_sees (hA : HoldsA X A) (hB : HoldsB Y B) : SeesT (val_main_v45 (F := Ideal) X Y) (hz A B) := by
  intro h r s
  have e : val_main_v41 (F := Ideal) X Y (ix3 h r s)
      = (((if s.val < r.val then ∑ s' ∈ range s.val, gg (hq A h.val) (hk A h.val) (hv A h.val) (ho B h.val) r.val s' else 0) : ℝ) : EReal) := by
    pointwise [val_main_v41, val_main_call6_v0, val_main_call6_cst]
    rw [mask_at, gs_sees hA hB, select_decide]
    by_cases hs : s.val < r.val <;> simp [hs]
  pointwise [val_main_v45, val_main_v44, val_main_v43, val_main_v42, val_main_call7_v1, val_main_call7_v0]
  rw [e, g_sees hA hB, nb_sees hA.scores]
  simp only [← EReal.coe_neg, ← EReal.coe_add, ← EReal.coe_mul]
  congr 1
  unfold hz dz bb Z
  by_cases hs : s.val < r.val
  · simp only [hs, if_true]; ring
  · simp only [hs, if_false]
    rw [gg_zero _ _ _ _ _ _ (show r.val ≤ s.val by omega)]
    ring

end Cert.Sb.Ref
-- ==== Proof.RefGrad.lean ====
/-
  The reference's three results over the reals: the gradients of the queries, the keys and the values, each column of
  its head.
-/
module

public import proofs.«01_k».proof.Proof.RefScore

@[expose] public section

set_option maxRecDepth 16384

noncomputable section

namespace Cert.Sb.Ref

open Idealize.ShloMosaic Cert.ReferenceIdeal Cert.ReferenceIdeal.Gen Cert.ReferenceIdeal.Read
open Finset

variable {X : (⟨S2048x7168, .f32⟩ : BufTy).Contents (Elt Ideal)} {Y : (⟨S2048x2048, .f32⟩ : BufTy).Contents (Elt Ideal)}
variable {A B : ℕ → ℕ → ℝ}

theorem dvh_sees (hA : HoldsA X A) (hB : HoldsB Y B) : SeesT (val_main_v34 (F := Ideal) X Y)
    (fun h s d => ∑ r ∈ range 2048, hw A h r s * ho B h r d) := by
  intro h s d
  pointwise [val_main_v34, val_main_v33]
  simp only [o_sees hB h, w_sees hA.scores h]
  have e := dot_fin_coe (n := 2048) (fun r => ho B h.val r d.val) (fun r => hw A h.val r s.val)
  beta_reduce at e
  rw [e]
  exact congrArg (fun x : ℝ => (x : EReal)) (sum_congr rfl fun r _ => mul_comm _ _)

theorem dkh_sees (hA : HoldsA X A) (hB : HoldsB Y B) : SeesT (val_main_v46 (F := Ideal) X Y)
    (fun h s d => ∑ r ∈ range 2048, hz A B h r s * (hq A h r d * sc)) := by
  intro h s d
  pointwise [val_main_v46]
  simp only [dz_sees hA hB h, qs_sees hA.scores h]
  exact dot_fin_coe (n := 2048) (fun r => hz A B h.val r s.val) (fun r => hq A h.val r d.val * sc)

theorem dqh_sees (hA : HoldsA X A) (hB : HoldsB Y B) : SeesT (val_main_v49 (F := Ideal) X Y)
    (fun h r d => (∑ s ∈ range 2048, hz A B h r s * hk A h s d) * sc) := by
  intro h r d
  pointwise [val_main_v49, val_main_v48, val_main_v47, val_main_cst_2]
  simp only [dz_sees hA hB h, k_sees hA.scores h]
  have e := dot_fin_coe (n := 2048) (fun s => hz A B h.val r.val s) (fun s => hk A h.val s d.val)
  beta_reduce at e
  rw [e, sc_bits, ← EReal.coe_mul]

theorem dv_eq (hA : HoldsA X A) (hB : HoldsB Y B) : val_main_v51 (F := Ideal) X Y = arrOf (dvR A B) := by
  funext i
  obtain ⟨s, c, rfl⟩ : ∃ (s : Fin 2048) (c : Fin 1024), i = ix2 s c := ⟨i 0, i 1, eq_ix2 i⟩
  pointwise [val_main_v51, val_main_v50]
  exact dvh_sees hA hB _ _ _

theorem dk_eq (hA : HoldsA X A) (hB : HoldsB Y B) : val_main_v53 (F := Ideal) X Y = arrOf (dkR A B) := by
  funext i
  obtain ⟨s, c, rfl⟩ : ∃ (s : Fin 2048) (c : Fin 1024), i = ix2 s c := ⟨i 0, i 1, eq_ix2 i⟩
  pointwise [val_main_v53, val_main_v52]
  exact dkh_sees hA hB _ _ _

theorem dq_eq (hA : HoldsA X A) (hB : HoldsB Y B) : val_main_v55 (F := Ideal) X Y = arrOf (dqR A B) := by
  funext i
  obtain ⟨r, c, rfl⟩ : ∃ (r : Fin 2048) (c : Fin 1024), i = ix2 r c := ⟨i 0, i 1, eq_ix2 i⟩
  pointwise [val_main_v55, val_main_v54]
  exact dqh_sees hA hB _ _ _

end Cert.Sb.Ref
-- ==== Proof.Finite.lean ====
/-
  The precondition read back: where it holds, the entries the kernel reads of its two operands are real numbers.
-/
module

public import proofs.«01_k».proof.Pre_finite
public import proofs.«01_k».proof.Proof.Sees
public import Idealize.ShloMosaic.Lib.ReduceAll

@[expose] public section

set_option maxRecDepth 16384

noncomputable section

namespace Cert.Sb.Finite

open Idealize.ShloMosaic Cert.Pre_finite

instance facts : Cert.Pre_finite.Facts where
  slices_S2048x7168_S2048x3072_0_0 := by decide
  bcast_S_S2048x3072 := by decide
  reducesTo_S2048x3072_S_d0_1 := by decide
  h_S_ := by decide
  slices_S2048x2048_S2048x1024_0_0 := by decide
  bcast_S_S2048x1024 := by decide
  reducesTo_S2048x1024_S_d0_1 := by decide

/-- The real numbers an array's entries are, at every row and column (zero outside the array). -/
def real {a b : ℕ} (x : (⟨2, ![a, b]⟩ : Shape).Idx → EReal) (r c : ℕ) : ℝ :=
  if h : r < a ∧ c < b then (x (ix2 ⟨r, h.1⟩ ⟨c, h.2⟩)).toReal else 0

theorem real_at {a b : ℕ} (x : (⟨2, ![a, b]⟩ : Shape).Idx → EReal) (r : Fin a) (c : Fin b) (h : max (x (ix2 r c)) (-(x (ix2 r c))) < ⊤) :
    x (ix2 r c) = ((real x r.val c.val : ℝ) : EReal) := by
  unfold real
  rw [dif_pos ⟨r.isLt, c.isLt⟩]
  refine (EReal.coe_toReal (fun e => ?_) (fun e => ?_)).symm
  · rw [e] at h; simp at h
  · rw [e] at h; simp at h

/-- The comparison with infinity, read back. -/
theorem lt_top_of_bit {x : EReal} (e : BitVec.ofBool (decide (FloatOps.absf (F := Ideal) (φ := .f32) x < Ideal.ofBits .f32 2139095040#32)) = 1#1) :
    max x (-x) < ⊤ := by
  rw [inf_bits] at e
  by_contra hn
  have e' : BitVec.ofBool (decide (max x (-x) < ⊤)) = 1#1 := e
  rw [decide_eq_false hn] at e'
  exact absurd e' (by decide)

instance : Subsingleton S_.Idx := ⟨fun a b => funext fun i => i.elim0⟩

theorem real_of_pre {X : FVec Ideal S2048x7168 .f32} {Y : FVec Ideal S2048x2048 .f32} (h : fn (F := Ideal) X Y = fun _ => 1#1) :
    (∀ (r : Fin 2048) (j : Fin 7168), j.val < 3072 → X (ix2 r j) = ((real X r.val j.val : ℝ) : EReal))
      ∧ (∀ (r : Fin 2048) (j : Fin 2048), j.val < 1024 → Y (ix2 r j) = ((real Y r.val j.val : ℝ) : EReal)) := by
  have h0 := congrFun h (Shape.Idx.first facts.h_S_)
  unfold fn at h0
  dsimp only at h0
  obtain ⟨hX, hY⟩ := IntOp.andi_eq_one.1 h0
  constructor
  · intro r j hj
    have e := Host.reduce_andi_all _ _ _ _ _ hX (ix2 r ⟨j.val, hj⟩)
    refine real_at X r j ?_
    pointwise at e
    exact lt_top_of_bit e
  · intro r j hj
    have e := Host.reduce_andi_all _ _ _ _ _ hY (ix2 r ⟨j.val, hj⟩)
    refine real_at Y r j ?_
    pointwise at e
    exact lt_top_of_bit e

end Cert.Sb.Finite
-- ==== Proof.Grad.lean ====
/-
  The equation: from arguments the precondition holds of, the kernel and the reference both end with the gradients of
  the queries, the keys and the values, the same real numbers.
-/
module

public import proofs.«01_k».proof.Defs
public import proofs.«01_k».proof.Proof.RefGrad
public import proofs.«01_k».proof.Proof.Finite

@[expose] public section

set_option maxRecDepth 16384

noncomputable section

namespace Cert.Sb

open Idealize.ShloMosaic Idealize.ShloMosaic.TcCoe
open Idealize.SL Idealize.SL.Sem
open Cert.KernelIdeal.Gen

/-- The kernel's run, its results as functions of the real numbers its operands hold. -/
theorem run_grad (m : (ℓ : Loc Cert.KernelIdeal.nD Cert.KernelIdeal.τ Cert.KernelIdeal.sig) → Buf (Elt Ideal) ℓ)
    (ρ : Dev Cert.KernelIdeal.nD → PrngReg) (A B : Dev Cert.KernelIdeal.nD → ℕ → ℕ → ℝ)
    (hA : ∀ c, ReadsA m c (A c)) (hB : ∀ c, ReadsB m c (B c)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0_0) = arrOf (dqR (A c) (B c))
        ∧ r.2.mem ((c.tc : Thread Cert.KernelIdeal.nD Cert.KernelIdeal.τ).loc Cert.KernelIdeal.main_v0_1) = arrOf (dkR (A c) (B c))
        ∧ r.2.mem ((c.tc : Thread Cert.KernelIdeal.nD Cert.KernelIdeal.τ).loc Cert.KernelIdeal.main_v0_2) = arrOf (dvR (A c) (B c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h.1 c).1 4).trans (final_dq m c (hA c) (hB c)), ((h.1 c).1 5).trans (final_dk m c (hA c) (hB c)),
      ((h.1 c).1 6).trans (final_dv m c (hA c) (hB c)),
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c)))⟩) (run_main m ρ)

/-- The reference's run. -/
theorem run_reference (m : (ℓ : Loc Cert.ReferenceIdeal.nD Cert.ReferenceIdeal.τ Cert.ReferenceIdeal.sig) → Buf (Elt Ideal) ℓ)
    (ρ : Dev Cert.ReferenceIdeal.nD → PrngReg) (A B : Dev Cert.ReferenceIdeal.nD → ℕ → ℕ → ℝ)
    (hA : ∀ c : Dev Cert.ReferenceIdeal.nD, Ref.HoldsA (m ((c.tc : Thread Cert.ReferenceIdeal.nD Cert.ReferenceIdeal.τ).loc Cert.ReferenceIdeal.main_arg0)) (A c))
    (hB : ∀ c : Dev Cert.ReferenceIdeal.nD, Ref.HoldsB (m ((c.tc : Thread Cert.ReferenceIdeal.nD Cert.ReferenceIdeal.τ).loc Cert.ReferenceIdeal.main_arg1)) (B c)) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v55) = arrOf (dqR (A c) (B c))
        ∧ r.2.mem ((c.tc : Thread Cert.ReferenceIdeal.nD Cert.ReferenceIdeal.τ).loc Cert.ReferenceIdeal.main_v53) = arrOf (dkR (A c) (B c))
        ∧ r.2.mem ((c.tc : Thread Cert.ReferenceIdeal.nD Cert.ReferenceIdeal.τ).loc Cert.ReferenceIdeal.main_v51) = arrOf (dvR (A c) (B c))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c =>
    ⟨(h c).1.trans ((Cert.ReferenceIdeal.Read.val_main_v55_eq m c).trans (Ref.dq_eq (hA c) (hB c))),
      (h c).2.1.trans ((Cert.ReferenceIdeal.Read.val_main_v53_eq m c).trans (Ref.dk_eq (hA c) (hB c))),
      (h c).2.2.1.trans ((Cert.ReferenceIdeal.Read.val_main_v51_eq m c).trans (Ref.dv_eq (hA c) (hB c))),
      (h c).2.2.2.1, (h c).2.2.2.2⟩) (Cert.ReferenceIdeal.Value.run m ρ)

/-- Both, from arguments that agree and are finite where they are read. -/
theorem algebraic : Cert.algebraic_KernelIdeal_ReferenceIdeal_pre_finite := by
  intro m g m' g' hpre heq
  have hf := fun c => Finite.real_of_pre (hpre c)
  refine ⟨fun c => arrOf (dqR (Finite.real (m ((c.tc : Thread Cert.KernelIdeal.nD Cert.KernelIdeal.τ).loc Cert.KernelIdeal.main_arg0))) (Finite.real (m ((c.tc : Thread Cert.KernelIdeal.nD Cert.KernelIdeal.τ).loc Cert.KernelIdeal.main_arg1)))),
    fun c => arrOf (dkR (Finite.real (m ((c.tc : Thread Cert.KernelIdeal.nD Cert.KernelIdeal.τ).loc Cert.KernelIdeal.main_arg0))) (Finite.real (m ((c.tc : Thread Cert.KernelIdeal.nD Cert.KernelIdeal.τ).loc Cert.KernelIdeal.main_arg1)))),
    fun c => arrOf (dvR (Finite.real (m ((c.tc : Thread Cert.KernelIdeal.nD Cert.KernelIdeal.τ).loc Cert.KernelIdeal.main_arg0))) (Finite.real (m ((c.tc : Thread Cert.KernelIdeal.nD Cert.KernelIdeal.τ).loc Cert.KernelIdeal.main_arg1)))),
    run_grad m g _ _ (fun c => (hf c).1) (fun c => (hf c).2), run_reference m' g' _ _ (fun c => ?_) (fun c => ?_)⟩
  · rw [(heq c).1]; exact (hf c).1
  · rw [(heq c).2]; exact (hf c).2

end Cert.Sb
-- ==== Proof.SbForward.lean ====
/-
  The forward pass of the stick-breaking attention.  One grid point walks over the key tiles as the gradient's does, from
  the query's own tile back to the first, and carries per query row the sum of `log (1 - β)` and the values weighted so
  far.  The queries and the keys hold real numbers; the values are any extended reals, each of which enters multiplied by
  a real weight that is zero from the query on.
-/
module

public import proofs.«01_k».proof.Proof.Arrays
public import proofs.«01_k».proof.Proof.Gen.Kernel20Ideal.Frame

@[expose] public section

set_option maxRecDepth 16384

noncomputable section

namespace Cert.Sb.Fwd

open Idealize.ShloMosaic Idealize.ShloMosaic.TcCoe
open Idealize.SL Idealize.SL.Sem
open Cert.Kernel20Ideal Cert.Kernel20Ideal.Gen
open Finset

/-- The loop over the earlier key tiles makes one trip for each, the loop over the rest none. -/
theorem trips1 : ∀ i : grid0.Coords, (k0_t1_loop i).trips = qi i := by decide +kernel
theorem trips2 : ∀ i : grid0.Coords, (k0_t2_loop i).trips = 0 := by decide +kernel

/-- Where the tiles are read. -/
theorem off1 : ∀ i : grid0.Coords, k0_off1 i = ![512 * qi i, 0] := by decide +kernel
theorem off2 : ∀ (i : grid0.Coords) (k : Fin (k0_t1_loop i).trips), k0_off2 i k = ![512 * (qi i - 1 - k.val), 0] := by
  decide +kernel

section Walk

variable (i : grid0.Coords) (Q : Vec Ideal S512x128 .f32) (K V : Vec Ideal S2048x128 .f32)

/-- What is carried after `j` of the earlier tiles: the weighted values and the sum of `log (1 - β)`. -/
def walk : ℕ → FVec Ideal S512x128 .f32 × FVec Ideal S512x1 .f32
  | 0 =>
    (k0_pay2 k0_pay15 k0_pay16 k0_pay17 (k0_pay18 (rows V (qi i))) (k0_pay19 i) (k0_pay20 Q (rows K (qi i)))
        (k0_pay21 Q (rows K (qi i))) (k0_pay22 Q (rows K (qi i))),
      k0_pay3 k0_pay17 (k0_pay19 i) (k0_pay20 Q (rows K (qi i))) (k0_pay21 Q (rows K (qi i))))
  | j + 1 =>
    (k0_pay7 (k0_pay14 Q) k0_pay15 (walk j).1 (walk j).2 (rows K (qi i - 1 - j)) (rows V (qi i - 1 - j)),
      k0_pay8 (k0_pay14 Q) (walk j).2 (rows K (qi i - 1 - j)))

variable (c : Dev nD) (a2 : Memref sig .tc .vmem S512x128 .f32) (h2 : a2.IsWhole) (a3 : Memref sig .tc .vmem S2048x128 .f32)
  (h3 : a3.IsWhole) (a4 : Memref sig .tc .vmem S2048x128 .f32) (h4 : a4.IsWhole) (a5 : Memref sig .tc .vmem S512x128 .f32)
  (h5 : a5.IsWhole)

theorem read_rows (a : Memref sig .tc .vmem S2048x128 .f32) (h : a.IsWhole) {off : Fin 2 → ℕ} {b : ℕ} (e : off = ![512 * b, 0])
    (hb : b < 4) (inb : ∀ x, off x + S512x128.size x ≤ S2048x128.size x) :
    (a.view.readAt (Elt Ideal) (Rect.unit (s := S2048x128) off S512x128.size inb).toLoadRect (h.unread K) : Vec Ideal S512x128 .f32)
      = rows K b := by
  rw [View.readAt_eq_ld, ld_rows _ e hb, h.read_unread]

/-- The loop's state is the walk's. -/
theorem st_eq (𝒱 : Variants) (bd : Option 𝒱.V) : ∀ j ≤ qi i,
    st_k0_t1 (F := Ideal) 𝒱 c bd i a2 h2 a3 h3 a4 h4 a5 h5 (k0_pay14 Q) k0_pay15 (h3.unread K) (h4.unread V) (walk i Q K V 0) j
      = walk i Q K V j
  | 0, _ => rfl
  | j + 1, hj => by
    have hq := qi_lt i
    have hk : j < (k0_t1_loop i).trips := by rw [trips1]; omega
    refine (st_k0_t1_succ 𝒱 c bd i a2 h2 a3 h3 a4 h4 a5 h5 _ _ _ _ _ ⟨j, hk⟩).trans ?_
    rw [st_eq 𝒱 bd j (by omega)]
    unfold tripR_k0_t1 trip_k0_t1
    have e3 := read_rows K a3 h3 (off2 i ⟨j, hk⟩) (by omega) (k0_off2_inb i ⟨j, hk⟩)
    have e4 := read_rows V a4 h4 (off2 i ⟨j, hk⟩) (by omega) (k0_off2_inb i ⟨j, hk⟩)
    exact congrArg₂ (fun k v : Vec Ideal S512x128 .f32 => (k0_pay7 (k0_pay14 Q) k0_pay15 (walk i Q K V j).1 (walk i Q K V j).2 k v,
      k0_pay8 (k0_pay14 Q) (walk i Q K V j).2 k)) e3 e4

theorem read_whole {n0 n1 : ℕ} {X : (⟨2, ![n0, n1]⟩ : Shape).Idx → EReal} {a : Memref sig .tc .vmem ⟨2, ![n0, n1]⟩ .f32} (h : a.IsWhole)
    (inb : ∀ x, (![0, 0] : Fin 2 → ℕ) x + ![n0, n1] x ≤ ![n0, n1] x) :
    a.view.readAt (Elt Ideal) (Rect.unit (s := ⟨2, ![n0, n1]⟩) ![0, 0] ![n0, n1] inb).toLoadRect (h.unread X) = X := by
  rw [View.readAt_eq_ld, h.read_unread]; exact ld_whole _ _

/-- What the point leaves. -/
theorem out_eq : out0_A_3 c i a2 h2 a3 h3 a4 h4 a5 h5 Q K V = (walk i Q K V (qi i)).1 := by
  have e0 : kernelRun0_A.sl.r c a2 h2 Q = k0_pay14 (F := Ideal) Q :=
    congrArg (k0_pay14 (F := Ideal)) (read_whole h2 _)
  have eK := read_rows K a3 h3 (off1 i) (qi_lt i) (k0_off1_inb i)
  have eV := read_rows V a4 h4 (off1 i) (qi_lt i) (k0_off1_inb i)
  have e1 : kernelRun0_A.sl.r_1 c i a4 h4 V = k0_pay18 (F := Ideal) (rows V (qi i)) := congrArg (k0_pay18 (F := Ideal)) eV
  have e2 : kernelRun0_A.sl.r_2 c i a2 h2 a3 h3 Q K = k0_pay20 (F := Ideal) Q (rows K (qi i)) :=
    congrArg₂ (k0_pay20 (F := Ideal)) (read_whole h2 _) eK
  have e3 : kernelRun0_A.sl.r_3 c i a2 h2 a3 h3 Q K = k0_pay21 (F := Ideal) Q (rows K (qi i)) :=
    congrArg₂ (k0_pay21 (F := Ideal)) (read_whole h2 _) eK
  have e4 : kernelRun0_A.sl.r_4 c i a2 h2 a3 h3 Q K = k0_pay22 (F := Ideal) Q (rows K (qi i)) :=
    congrArg₂ (k0_pay22 (F := Ideal)) (read_whole h2 _) eK
  have t1 : Scf.trips (k0_t1_loop i).lb (k0_t1_loop i).ub (k0_t1_loop i).st = qi i := trips1 i
  have t2 : Scf.trips (k0_t2_loop i).lb (k0_t2_loop i).ub (k0_t2_loop i).st = 0 := trips2 i
  unfold out0_A_3 kernelRun0_A
  refine (read_store_whole _ _ _ _ _).trans ?_
  rw [t1, t2, st_k0_t2_zero, e0, e1, e2, e3, e4]
  exact congrArg Prod.fst (st_eq i Q K V c a2 h2 a3 h3 a4 h4 a5 h5 Variants.none none (qi i) le_rfl)

end Walk

section Values

/-- The point's operations on one tile are the gradient's. -/
theorem old_eq (x : FVec Ideal S512x128 .bf16) (c1 : FVec Ideal S512x1 .f32) (a : FVec Ideal S512x128 .f32) (y v : Vec Ideal S512x128 .f32) :
    k0_pay7 (F := Ideal) x k0_pay15 a c1 y v
      = addf a (matmul Cert.Kernel20Ideal.dot_S512x512_S512x128_S512x128_1_0_0_1_n_n none
          (KernelIdeal.Gen.k0_pay8 (F := Ideal) x KernelIdeal.Gen.k0_pay33 c1 y) (truncf .bf16 v bitsLt_bf16_f32)
          (constant S512x128 .f32 0x00000000#32)) := rfl

theorem own_eq (i : grid0.Coords) (Q : Vec Ideal S512x128 .f32) (c1 : FVec Ideal S512x1 .f32) (a : FVec Ideal S512x128 .f32)
    (y v : Vec Ideal S512x128 .f32) :
    k0_pay2 (F := Ideal) k0_pay15 a c1 (k0_pay18 v) (k0_pay19 i) (k0_pay20 Q y) (k0_pay21 Q y) (k0_pay22 Q y)
      = addf a (matmul Cert.Kernel20Ideal.dot_S512x512_S512x128_S512x128_1_0_0_1_n_n none
          (KernelIdeal.Gen.k0_pay43 (F := Ideal) (KernelIdeal.Gen.k0_pay30 Q) (KernelIdeal.Gen.k0_pay32 i) keyIota KernelIdeal.Gen.k0_pay33 c1
            (KernelIdeal.Gen.k0_pay36 y) (ownKey i)) (truncf .bf16 v bitsLt_bf16_f32)
          (constant S512x128 .f32 0x00000000#32)) := rfl

/-- A tile's weights times its values, added to what was carried. -/
theorem weigh {w : FVec Ideal S512x512 .f32} {f : ℕ → ℕ → ℝ} (hw : Sees w f) (a : FVec Ideal S512x128 .f32) (v : Vec Ideal S512x128 .f32)
    (r : Fin 512) (d : Fin 128) :
    addf a (matmul Cert.Kernel20Ideal.dot_S512x512_S512x128_S512x128_1_0_0_1_n_n none w (truncf .bf16 v bitsLt_bf16_f32)
        (constant S512x128 .f32 0x00000000#32)) (ix2 r d)
      = a (ix2 r d) + ∑ s : Fin 512, ((f r.val s.val : ℝ) : EReal) * v (ix2 s d) := by
  pointwise
  simp only [hw _ _]

variable {i : grid0.Coords} {Q : Vec Ideal S512x128 .f32} {K V : Vec Ideal S2048x128 .f32} {q k : ℕ → ℕ → ℝ} {v : ℕ → ℕ → EReal}
  (hQ : Sees Q (fun r d => q (512 * qi i + r) d)) (hK : Sees K k)

/-- The sum of `log (1 - β)` is the one the gradient's first walk carries. -/
theorem walk_snd : ∀ j, (walk i Q K V j).2 = (st1 (F := Ideal) i Q Q K K j).1
  | 0 => rfl
  | j + 1 => congrArg (fun c1 : FVec Ideal S512x1 .f32 => KernelIdeal.Gen.k0_pay53 (F := Ideal) c1
      (KernelIdeal.Gen.k0_pay7 (KernelIdeal.Gen.k0_pay30 Q) (rows K (qi i - 1 - j)))) (walk_snd j)

include hQ hK

/-- The values weighted so far are those of the keys from the tile reached on. -/
theorem walk_fst (hV : ∀ (s : Fin 2048) (d : Fin 128), V (ix2 s d) = v s.val d.val) : ∀ j ≤ qi i, ∀ (r : Fin 512) (d : Fin 128),
    (walk i Q K V j).1 (ix2 r d)
      = tail (fun r s => ((wt q k r s : ℝ) : EReal) * v s d.val) (qi i - j) (512 * qi i + r.val)
  | 0, _, r, d => by
    have hb := qi_lt i
    refine ((congrFun (own_eq i Q _ _ _ _) _).trans (weigh (pay43_sees i (pay30_sees hQ) (pay36_sees (rows_sees hK hb))
      (e := fun _ => 0) pay35_sees) _ _ r d)).trans ?_
    have z : k0_pay16 (F := Ideal) (ix2 r d) = 0 := by pointwise [k0_pay16]
    rw [z, Nat.sub_zero, ← tail_step _ hb, tail_zero _ (fun s hs => by rw [wt_zero q k _ s hs, EReal.coe_zero, zero_mul]) (by omega),
      Finset.sum_range]
    congr 1
    refine Finset.sum_congr rfl fun s _ => ?_
    rw [ownW_eq hQ hK r.val s.val r.isLt s.isLt, rows_at V hb, hV]
  | j + 1, hj, r, d => by
    have hb := qi_lt i
    have ih := walk_fst hV j (by omega) r d
    have hc : Sees (walk i Q K V j).2 (fun r _ => tail (lm q k) (qi i - j) (512 * qi i + r)) := by
      rw [walk_snd]; exact st1_L hQ hK hQ hK j (by omega)
    refine ((congrFun (old_eq _ _ _ _ _) _).trans (weigh (pay8_sees (pay30_sees hQ) (rows_sees hK (t := qi i - 1 - j) (by omega)) hc)
      _ _ r d)).trans ?_
    have e := tail_step (fun r s => ((wt q k r s : ℝ) : EReal) * v s d.val) (t := qi i - 1 - j) (by omega) (512 * qi i + r.val)
    rw [show qi i - 1 - j + 1 = qi i - j by omega, ← ih, Finset.sum_range] at e
    rw [show qi i - (j + 1) = qi i - 1 - j by omega, ← e]
    congr 1
    refine Finset.sum_congr rfl fun s _ => ?_
    rw [oldW_eq hQ hK j (by omega) r.val s.val s.isLt, rows_at V (by omega), hV]

end Values

section Run

variable (m : (ℓ : Loc nD τ sig) → Buf (Elt Ideal) ℓ) (c : Dev nD) {A : ℕ → ℕ → ℝ}

/-- An entry of the projections (zero outside the array). -/
def entry (X : (⟨2, ![2048, 7168]⟩ : Shape).Idx → EReal) (s j : ℕ) : EReal :=
  if h : s < 2048 ∧ j < 7168 then X (ix2 ⟨s, h.1⟩ ⟨j, h.2⟩) else 0

theorem entry_at (X : (⟨2, ![2048, 7168]⟩ : Shape).Idx → EReal) (s : Fin 2048) (j : Fin 7168) : entry X s.val j.val = X (ix2 s j) :=
  dif_pos ⟨s.isLt, j.isLt⟩

/-- The attention's output from the projections `X`, whose queries and keys are the reals `A`. -/
def attend (A : ℕ → ℕ → ℝ) (X : (⟨2, ![2048, 7168]⟩ : Shape).Idx → EReal) (r j : ℕ) : EReal :=
  ∑ s ∈ range 2048, ((hw A (j / 128) r s : ℝ) : EReal) * entry X s (2048 + j)

def out (A : ℕ → ℕ → ℝ) (X : (⟨2, ![2048, 7168]⟩ : Shape).Idx → EReal) : (⟨2, ![2048, 1024]⟩ : Shape).Idx → EReal :=
  fun y => attend A X (y 0).val (y 1).val

theorem out_at {X : (⟨2, ![2048, 7168]⟩ : Shape).Idx → EReal} {y : (⟨2, ![2048, 1024]⟩ : Shape).Idx} {r j : ℕ} (h0 : (y 0).val = r)
    (h1 : (y 1).val = j) : out A X y = attend A X r j := by
  unfold out; rw [h0, h1]

/-- The query and key entries are the reals `A`. -/
def Reads (X : (⟨2, ![2048, 7168]⟩ : Shape).Idx → EReal) (A : ℕ → ℕ → ℝ) : Prop := ∀ (r : Fin 2048) (j : Fin 7168), j.val < 2048 →
  X (ix2 r j) = ((A r.val j.val : ℝ) : EReal)

theorem pt : ∀ t : Fin cfg0.N, qi (grid0.coords t) = t.val % 4 := (by decide +kernel : ∀ t : Fin grid0.N, _)
theorem window0 : ∀ t : Fin cfg0.N, win0_0.index t = ![t.val % 4, t.val / 4] := (by decide +kernel : ∀ t : Fin grid0.N, _)
theorem window1 : ∀ t : Fin cfg0.N, win0_1.index t = ![0, 8 + t.val / 4] := (by decide +kernel : ∀ t : Fin grid0.N, _)
theorem window2 : ∀ t : Fin cfg0.N, win0_2.index t = ![0, 16 + t.val / 4] := (by decide +kernel : ∀ t : Fin grid0.N, _)
theorem window3 : ∀ t : Fin cfg0.N, win0_3.index t = ![t.val % 4, t.val / 4] := (by decide +kernel : ∀ t : Fin grid0.N, _)

theorem lt_grid (t : Fin cfg0.N) : t.val < 32 := t.isLt

variable (hA : Reads (m ((c : Thread nD τ).loc main_arg0)) A)

include hA in
theorem q_block (t : Fin cfg0.N) :
    Sees (iblk m c 0 t : Vec Ideal S512x128 .f32) (fun r d => hq A (t.val / 4) (512 * qi (grid0.coords t) + r) d) := by
  intro r d
  have ht := lt_grid t
  have h := hA ⟨512 * (t.val % 4) + r.val, by omega⟩ ⟨128 * (t.val / 4) + d.val, by omega⟩ (by simp only; omega)
  rw [pt]
  refine Eq.trans ?_ h
  blk_simp [iblk, V]
  refine congrArg _ ?_
  blk_ext [window0 t]

include hA in
theorem k_block (t : Fin cfg0.N) : Sees (iblk m c 1 t : Vec Ideal S2048x128 .f32) (hk A (t.val / 4)) := by
  intro s d
  have ht := lt_grid t
  have h := hA s ⟨1024 + 128 * (t.val / 4) + d.val, by omega⟩ (by simp only; omega)
  refine Eq.trans ?_ h
  blk_simp [iblk, V]
  refine congrArg _ ?_
  blk_ext [window1 t]

theorem v_block (t : Fin cfg0.N) (s : Fin 2048) (d : Fin 128) :
    (iblk m c 2 t : Vec Ideal S2048x128 .f32) (ix2 s d) = entry (m ((c : Thread nD τ).loc main_arg0)) s.val (2048 + (128 * (t.val / 4) + d.val)) := by
  have ht := lt_grid t
  refine Eq.trans ?_ (entry_at _ s ⟨2048 + (128 * (t.val / 4) + d.val), by omega⟩).symm
  blk_simp [iblk, V]
  refine congrArg _ ?_
  blk_ext [window2 t]

include hA in
theorem final : (Gen.dats m 0 c).arrAt 3 cfg0.N = out A (m ((c : Thread nD τ).loc main_arg0)) := by
  refine (Gen.dats m 0 c).arrAt_eq_of_covers 3 _ (by decide +kernel) fun t hf y => ?_
  have h0 : ((((cfg0.win 3).blk t).view.emb y 0 : Fin _) : ℕ) = 512 * (t.val % 4) + (y 0).val := by
    blk_simp [window3 t]; omega
  have h1 : ((((cfg0.win 3).blk t).view.emb y 1 : Fin _) : ℕ) = 128 * (t.val / 4) + (y 1).val := by
    blk_simp [window3 t]; omega
  refine Eq.trans ?_ (out_at h0 h1).symm
  blk_simp
  rw [after0_3]
  obtain ⟨r, d, rfl⟩ : ∃ (r : Fin 512) (d : Fin 128), y = ix2 r d := ⟨y 0, y 1, eq_ix2 y⟩
  refine (congrFun (out_eq (grid0.coords t) (iblk m c 0 t) (iblk m c 1 t) (iblk m c 2 t) c _ (hs0_0 t) _ (hs0_1 t) _ (hs0_2 t) _ (hs0_3 t)) (ix2 r d)).trans ?_
  refine (walk_fst (q_block m c hA t) (k_block m c hA t)
    (v := fun s d => entry (m ((c : Thread nD τ).loc main_arg0)) s (2048 + (128 * (t.val / 4) + d))) (v_block m c t) _ le_rfl r d).trans ?_
  have e1 : (128 * (t.val / 4) + d.val) / 128 = t.val / 4 := by omega
  show _ = attend A _ (512 * (t.val % 4) + r.val) (128 * (t.val / 4) + d.val)
  unfold attend hw
  rw [e1, pt, Nat.sub_self, tail, Nat.mul_zero, Nat.Ico_zero_eq_range]

end Run

end Cert.Sb.Fwd
-- ==== Proof.SbForwardRun.lean ====
/-
  The forward pass of the stick-breaking attention: the reference's output, the precondition read back, and the equation.
-/
module

public import proofs.«01_k».proof.Defs
public import proofs.«01_k».proof.Proof.SbForward
public import proofs.«01_k».proof.Proof.RefScore
public import proofs.«01_k».proof.Proof.Finite
public import proofs.«01_k».proof.Proof.Gen.Reference20Ideal.Read
public import proofs.«01_k».proof.Proof.Gen.Reference20Ideal.Run

@[expose] public section

set_option maxRecDepth 16384

noncomputable section

namespace Cert.Sb.Fwd

open Idealize.ShloMosaic Idealize.ShloMosaic.TcCoe
open Idealize.SL Idealize.SL.Sem
open Finset

section Reference

open Cert.Reference20Ideal Cert.Reference20Ideal.Gen Cert.Reference20Ideal.Read

variable {X : (⟨S2048x7168, .f32⟩ : BufTy).Contents (Elt Ideal)} {A : ℕ → ℕ → ℝ}

/-- The weights are those of the gradient's reference. -/
theorem weights_eq : val_main_v26 (F := Ideal) X = ReferenceIdeal.Read.val_main_v26_0 (F := Ideal) X := rfl

theorem value_at (h : Fin 8) (s : Fin 2048) (d : Fin 128) :
    val_main_v8 (F := Ideal) X (ix3 h s d) = entry X s.val (2048 + (128 * h.val + d.val)) := by
  have hh := h.isLt
  have hd := d.isLt
  refine Eq.trans ?_ (entry_at X s ⟨2048 + (128 * h.val + d.val), by omega⟩).symm
  pointwise [val_main_v8, val_main_v7, val_main_v2]
  refine congrArg (fun j => X (ix2 s j)) (Fin.ext ?_)
  simp only
  omega

theorem head_at (hS : Reads X A) (h : Fin 8) (r : Fin 2048) (d : Fin 128) :
    val_main_v27 (F := Ideal) X (ix3 h r d)
      = ∑ s ∈ range 2048, ((hw A h.val r.val s : ℝ) : EReal) * entry X s (2048 + (128 * h.val + d.val)) := by
  rw [Finset.sum_range]
  pointwise [val_main_v27]
  refine Finset.sum_congr rfl fun s _ => ?_
  rw [weights_eq]
  exact congrArg₂ (· * ·) (Ref.w_sees hS h r s) (value_at h s d)

theorem reference_eq (hS : Reads X A) : val_main_v29 (F := Ideal) X = out A X := by
  funext y
  obtain ⟨r, j, rfl⟩ : ∃ (r : Fin 2048) (j : Fin 1024), y = ix2 r j := ⟨y 0, y 1, eq_ix2 y⟩
  pointwise [val_main_v29, val_main_v28]
  refine (head_at hS _ _ _).trans ?_
  have e : 128 * (j.val / 128) + j.val % 128 = j.val := by omega
  show _ = attend A X r.val j.val
  unfold attend
  simp only [e]

end Reference

section Precondition

open Cert.Pre_finite_scores

instance facts : Cert.Pre_finite_scores.Facts where
  slices_S2048x7168_S2048x2048_0_0 := by decide
  bcast_S_S2048x2048 := by decide
  reducesTo_S2048x2048_S_d0_1 := by decide
  h_S_ := by decide

theorem reads_of_pre {X : FVec Ideal S2048x7168 .f32} (h : fn (F := Ideal) X = fun _ => 1#1) : Reads X (Finite.real X) := by
  have h0 := congrFun h (Shape.Idx.first facts.h_S_)
  unfold fn at h0
  dsimp only at h0
  intro r j hj
  have e := Host.reduce_andi_all _ _ _ _ _ h0 (ix2 r ⟨j.val, hj⟩)
  refine Finite.real_at X r j ?_
  pointwise at e
  exact Finite.lt_top_of_bit e

end Precondition

/-- The kernel's run. -/
theorem run_kernel (m : (ℓ : Loc Cert.Kernel20Ideal.nD Cert.Kernel20Ideal.τ Cert.Kernel20Ideal.sig) → Buf (Elt Ideal) ℓ)
    (ρ : Dev Cert.Kernel20Ideal.nD → PrngReg) (A : Dev Cert.Kernel20Ideal.nD → ℕ → ℕ → ℝ)
    (hA : ∀ c : Dev Cert.Kernel20Ideal.nD, Reads (m ((c.tc : Thread Cert.Kernel20Ideal.nD Cert.Kernel20Ideal.τ).loc Cert.Kernel20Ideal.main_arg0)) (A c)) :
    θ_run (Cert.Kernel20Ideal.defs (F := Ideal)) (onTc (τ := Cert.Kernel20Ideal.τ) (Cert.Kernel20Ideal.main (F := Ideal))) ⟨m, fun _ => 0, ρ⟩
      (fun r => ∀ c : Dev Cert.Kernel20Ideal.nD,
        r.2.mem ((c.tc : Thread Cert.Kernel20Ideal.nD Cert.Kernel20Ideal.τ).loc Cert.Kernel20Ideal.main_v0)
          = out (A c) (m ((c.tc : Thread Cert.Kernel20Ideal.nD Cert.Kernel20Ideal.τ).loc Cert.Kernel20Ideal.main_arg0))
        ∧ r.2.mem ((c.tc : Thread Cert.Kernel20Ideal.nD Cert.Kernel20Ideal.τ).loc Cert.Kernel20Ideal.main_arg0)
          = m ((c.tc : Thread Cert.Kernel20Ideal.nD Cert.Kernel20Ideal.τ).loc Cert.Kernel20Ideal.main_arg0)) :=
  (θ_run Cert.Kernel20Ideal.defs _ _).mono (fun _ h c =>
    ⟨((h c).1 3).trans (final m c (hA c)),
      ((h c).1 2).trans (((Kernel20Ideal.Gen.dats m 0 c).arrAt_in 2 rfl _).trans
        ((Kernel20Ideal.Gen.A_eq m c 2).trans (Kernel20Ideal.Gen.V_main_arg0 m c)))⟩) (Kernel20Ideal.Gen.run_main m ρ)

/-- The reference's run. -/
theorem run_ref (m : (ℓ : Loc Cert.Reference20Ideal.nD Cert.Reference20Ideal.τ Cert.Reference20Ideal.sig) → Buf (Elt Ideal) ℓ)
    (ρ : Dev Cert.Reference20Ideal.nD → PrngReg) (A : Dev Cert.Reference20Ideal.nD → ℕ → ℕ → ℝ)
    (hA : ∀ c : Dev Cert.Reference20Ideal.nD, Reads (m ((c.tc : Thread Cert.Reference20Ideal.nD Cert.Reference20Ideal.τ).loc Cert.Reference20Ideal.main_arg0)) (A c)) :
    θ_run (Cert.Reference20Ideal.defs (F := Ideal)) (onTc (τ := Cert.Reference20Ideal.τ) (Cert.Reference20Ideal.main (F := Ideal))) ⟨m, fun _ => 0, ρ⟩
      (fun r => ∀ c : Dev Cert.Reference20Ideal.nD,
        r.2.mem ((c.tc : Thread Cert.Reference20Ideal.nD Cert.Reference20Ideal.τ).loc Cert.Reference20Ideal.main_v29)
          = out (A c) (m ((c.tc : Thread Cert.Reference20Ideal.nD Cert.Reference20Ideal.τ).loc Cert.Reference20Ideal.main_arg0))
        ∧ r.2.mem ((c.tc : Thread Cert.Reference20Ideal.nD Cert.Reference20Ideal.τ).loc Cert.Reference20Ideal.main_arg0)
          = m ((c.tc : Thread Cert.Reference20Ideal.nD Cert.Reference20Ideal.τ).loc Cert.Reference20Ideal.main_arg0)) :=
  (θ_run Cert.Reference20Ideal.defs _ _).mono (fun _ h c =>
    ⟨(h c).1.trans ((Cert.Reference20Ideal.Read.val_main_v29_eq m c).trans (reference_eq (hA c))), (h c).2⟩)
    (Cert.Reference20Ideal.Value.run m ρ)

/-- Both, from arguments that agree and whose queries and keys are finite. -/
theorem algebraic : Cert.algebraic_Kernel20Ideal_Reference20Ideal_pre_finite_scores := by
  intro m g m' g' hpre heq
  have hf := fun c => reads_of_pre (hpre c)
  refine ⟨_, run_kernel m g _ hf, ?_⟩
  refine (θ_run Cert.Reference20Ideal.defs _ _).mono (fun _ h c => ⟨(h c).1.trans ?_, (h c).2⟩)
    (run_ref m' g' (fun c => Finite.real (m ((c.tc : Thread Cert.Kernel20Ideal.nD Cert.Kernel20Ideal.τ).loc Cert.Kernel20Ideal.main_arg0)))
      (fun c => by rw [heq c]; exact hf c))
  rw [heq c]

end Cert.Sb.Fwd
-- ==== Proof.Scan.lean ====
/-
  The recurrence `h t = a t * h (t - 1) + u t` over the extended reals, for decays between zero and a real number.
  `prodTo a t n` is the product of the `n` decays that end at `t`; `sumTo a u t n` the sum of the `n` inputs that end at `t`,
  each times the decays after it.  Both of a run of `m + n` places follow from those of its two parts, which is all that the
  doubling within a group of eight and the carry from group to group use.
-/
module

public import proofs.«01_k».proof.Proof.Sees

@[expose] public section

noncomputable section

namespace Cert.Scan

open Idealize.ShloMosaic Finset
open Cert.Sb (log1p_coe one_coe)

variable {a u : ℕ → EReal}

def prodTo (a : ℕ → EReal) (t n : ℕ) : EReal := ∏ i ∈ range n, a (t - i)
def sumTo (a u : ℕ → EReal) (t n : ℕ) : EReal := ∑ i ∈ range n, prodTo a t i * u (t - i)

/-- A number times a sum. -/
theorem mul_sum_of {x : EReal} (h0 : 0 ≤ x) (h1 : x ≠ ⊤) (f : ℕ → EReal) (n : ℕ) :
    x * ∑ i ∈ range n, f i = ∑ i ∈ range n, x * f i := by
  induction n with
  | zero => simp
  | succ n ih => rw [sum_range_succ, sum_range_succ, EReal.left_distrib_of_nonneg_of_ne_top h0 h1, ih]

theorem prodTo_add (t m n : ℕ) : prodTo a t (m + n) = prodTo a t m * prodTo a (t - m) n := by
  unfold prodTo
  rw [prod_range_add]
  simp only [Nat.sub_sub]

theorem prodTo_succ (t n : ℕ) : prodTo a t (n + 1) = prodTo a t n * a (t - n) := prod_range_succ _ _

theorem prodTo_bounds (ha : ∀ t, 0 ≤ a t ∧ a t ≠ ⊤) (t n : ℕ) : 0 ≤ prodTo a t n ∧ prodTo a t n ≠ ⊤ := by
  have hb : ∀ t, a t ≠ ⊥ := fun t e => by have := (ha t).1; rw [e] at this; exact absurd this (by decide)
  induction n with
  | zero => exact ⟨by simp [prodTo], by simp [prodTo]; exact EReal.coe_ne_top 1⟩
  | succ n ih =>
    obtain ⟨x, hx⟩ : ∃ x : ℝ, prodTo a t n = x :=
      ⟨_, (EReal.coe_toReal ih.2 (fun e => by have := ih.1; rw [e] at this; exact absurd this (by decide))).symm⟩
    obtain ⟨y, hy⟩ : ∃ y : ℝ, a (t - n) = y := ⟨_, (EReal.coe_toReal (ha _).2 (hb _)).symm⟩
    have h0 := ih.1
    have h1 := (ha (t - n)).1
    rw [prodTo_succ, hx, hy, ← EReal.coe_mul]
    rw [hx] at h0
    rw [hy] at h1
    exact ⟨EReal.coe_nonneg.mpr (mul_nonneg (EReal.coe_nonneg.mp h0) (EReal.coe_nonneg.mp h1)), EReal.coe_ne_top _⟩

theorem sumTo_add (ha : ∀ t, 0 ≤ a t ∧ a t ≠ ⊤) (t m n : ℕ) :
    sumTo a u t (m + n) = sumTo a u t m + prodTo a t m * sumTo a u (t - m) n := by
  unfold sumTo
  rw [mul_sum_of (prodTo_bounds ha t m).1 (prodTo_bounds ha t m).2]
  induction n with
  | zero => simp
  | succ n ih =>
    rw [← Nat.add_assoc, sum_range_succ, sum_range_succ, ih, prodTo_add, add_assoc, mul_assoc, Nat.sub_sub]

/-- One doubling within a group of eight: row `t` is place `t % 8` of its group. -/
theorem prodTo_double {t n : ℕ} (hn : n ≤ 4) (h : n ≤ t % 8) :
    prodTo a t (min n (t % 8 + 1)) * prodTo a (t - n) (min n ((t - n) % 8 + 1)) = prodTo a t (min (2 * n) (t % 8 + 1)) := by
  have e1 : min n (t % 8 + 1) = n := by omega
  have e2 : min (2 * n) (t % 8 + 1) = n + min n ((t - n) % 8 + 1) := by omega
  rw [e1, e2, prodTo_add]

theorem sumTo_double (ha : ∀ t, 0 ≤ a t ∧ a t ≠ ⊤) {t n : ℕ} (hn : n ≤ 4) (h : n ≤ t % 8) :
    prodTo a t (min n (t % 8 + 1)) * sumTo a u (t - n) (min n ((t - n) % 8 + 1)) + sumTo a u t (min n (t % 8 + 1))
      = sumTo a u t (min (2 * n) (t % 8 + 1)) := by
  have e1 : min n (t % 8 + 1) = n := by omega
  have e2 : min (2 * n) (t % 8 + 1) = n + min n ((t - n) % 8 + 1) := by omega
  rw [e1, e2, sumTo_add ha, add_comm]

/-- A row too near its group's start keeps what it has. -/
theorem keep {t n : ℕ} (h : ¬ n ≤ t % 8) : min (2 * n) (t % 8 + 1) = min n (t % 8 + 1) := by omega

/-- The state at row `t`: all inputs up to it. -/
def state (a u : ℕ → EReal) (t : ℕ) : EReal := sumTo a u t (t + 1)

/-- The state carried into group `n`. -/
def into (a u : ℕ → EReal) (n : ℕ) : EReal := sumTo a u (8 * n - 1) (8 * n)

theorem into_succ (ha : ∀ t, 0 ≤ a t ∧ a t ≠ ⊤) (n : ℕ) :
    prodTo a (8 * n + 7) 8 * into a u n + sumTo a u (8 * n + 7) 8 = into a u (n + 1) := by
  unfold into
  have e1 : 8 * (n + 1) - 1 = 8 * n + 7 := by omega
  have e2 : 8 * (n + 1) = 8 + 8 * n := by omega
  have e3 : 8 * n + 7 - 8 = 8 * n - 1 := by omega
  rw [e1, e2, sumTo_add ha, e3, add_comm]

theorem state_eq (ha : ∀ t, 0 ≤ a t ∧ a t ≠ ⊤) (t : ℕ) :
    prodTo a t (t % 8 + 1) * into a u (t / 8) + sumTo a u t (t % 8 + 1) = state a u t := by
  unfold into state
  have e2 : t + 1 = (t % 8 + 1) + 8 * (t / 8) := by omega
  have e3 : t - (t % 8 + 1) = 8 * (t / 8) - 1 := by omega
  conv_rhs => rw [e2, sumTo_add ha, e3, add_comm]

/-! ## The solution written as a sum over all earlier inputs -/

/-- The decays between two places, as the product over the places between. -/
theorem prodTo_between {t n : ℕ} (h : n ≤ t) : ∏ j ∈ Ioc (t - n) t, a j = prodTo a t n := by
  induction n with
  | zero => simp [prodTo]
  | succ n ih =>
    have e : Ioc (t - (n + 1)) t = insert (t - n) (Ioc (t - n) t) := by
      ext j; simp only [mem_Ioc, mem_insert]; omega
    rw [e, prod_insert (by simp), ih (by omega), prodTo_succ, mul_comm]

theorem exp_add {x y : EReal} (hx : x ≠ ⊤) (hy : y ≠ ⊤) : Ideal.exp (x + y) = Ideal.exp x * Ideal.exp y := by
  induction x with
  | bot => simp
  | top => exact absurd rfl hx
  | coe x =>
    induction y with
    | bot => simp
    | top => exact absurd rfl hy
    | coe y => rw [← EReal.coe_add, Ideal.exp_coe, Ideal.exp_coe, Ideal.exp_coe, ← EReal.coe_mul, Real.exp_add]

theorem exp_zero : Ideal.exp 0 = 1 := by
  rw [← EReal.coe_zero, Ideal.exp_coe, Real.exp_zero, EReal.coe_one]

theorem exp_sum {ι : Type*} (s : Finset ι) (f : ι → EReal) (h : ∀ i, f i ≠ ⊤) :
    Ideal.exp (∑ i ∈ s, f i) = ∏ i ∈ s, Ideal.exp (f i) ∧ ∑ i ∈ s, f i ≠ ⊤ := by
  classical
  induction s using Finset.induction_on with
  | empty => exact ⟨by simp [exp_zero], by simp⟩
  | insert i s hi ih =>
    rw [sum_insert hi, prod_insert hi]
    exact ⟨by rw [exp_add (h i) ih.2, ih.1], (EReal.add_lt_top (h i) ih.2).ne⟩

/-- The decay from place `k` to place `t`, from the logarithms of the decays. -/
theorem exp_between {N : ℕ} (L : ℕ → EReal) (hL : ∀ t, L t ≠ ⊤) {k t : ℕ} (hkt : k ≤ t) (ht : t < N) :
    Ideal.exp (∑ j : Fin N, (if k < j.val ∧ j.val ≤ t then 1 else 0) * L j.val) = prodTo (fun t => Ideal.exp (L t)) t (t - k) := by
  have h1 : ∀ j : Fin N, ((if k < j.val ∧ j.val ≤ t then 1 else 0) * L j.val : EReal) = if k < j.val ∧ j.val ≤ t then L j.val else 0 := fun j => by
    split <;> simp
  simp only [h1]
  have h2 : ∀ j : Fin N, (if k < j.val ∧ j.val ≤ t then L j.val else 0 : EReal) ≠ ⊤ := fun j => by
    split
    · exact hL _
    · exact EReal.zero_ne_top
  rw [(exp_sum univ _ h2).1]
  have h3 : ∀ j : Fin N, Ideal.exp (if k < j.val ∧ j.val ≤ t then L j.val else 0) = if k < j.val ∧ j.val ≤ t then Ideal.exp (L j.val) else 1 := fun j => by
    split
    · rfl
    · exact exp_zero
  simp only [h3]
  rw [Fin.prod_univ_eq_prod_range (fun j => if k < j ∧ j ≤ t then Ideal.exp (L j) else 1) N, ← prod_filter]
  have e : (range N).filter (fun j => k < j ∧ j ≤ t) = Ioc (t - (t - k)) t := by
    ext j; simp only [mem_filter, mem_range, mem_Ioc]; omega
  rw [e]
  exact prodTo_between (a := fun t => Ideal.exp (L t)) (by omega)

/-- The state as the sum over every place, those after `t` weighted zero. -/
theorem state_sum {N : ℕ} {t : ℕ} (ht : t < N) (w : ℕ → EReal) (hw : ∀ k ≤ t, w k = prodTo a t (t - k)) :
    ∑ k : Fin N, u k.val * (if k.val ≤ t then w k.val else 0) = state a u t := by
  rw [Fin.sum_univ_eq_sum_range (fun k => u k * (if k ≤ t then w k else 0)) N]
  have h1 : ∑ k ∈ range (t + 1), u k * (if k ≤ t then w k else 0) = ∑ k ∈ range N, u k * (if k ≤ t then w k else 0) := by
    refine sum_subset (fun k hk => mem_range.mpr (by have := mem_range.mp hk; omega)) fun k _ hk => ?_
    rw [if_neg (fun h => hk (mem_range.mpr (by omega))), mul_zero]
  rw [← h1, ← sum_range_reflect]
  unfold state sumTo
  refine sum_congr rfl fun i hi => ?_
  have hi' := mem_range.mp hi
  have e : t + 1 - 1 - i = t - i := by omega
  rw [e, if_pos (by omega), hw _ (by omega), mul_comm]
  congr 2
  omega

/-! ## The decays and the inputs -/

/-- The softplus of `- l`. -/
def softplus (l : EReal) : EReal := max (-l) 0 + Ideal.log1p (Ideal.exp (-(max (-l) (-(-l)))))

/-- The logarithm of a decay. -/
def logDecay (r l : EReal) : EReal := ((-8 : ℝ) : EReal) * Ideal.logistic r * softplus l

theorem log1p_nonneg (x : EReal) : 0 ≤ Ideal.log1p (Ideal.exp x) := by
  induction x with
  | bot =>
    rw [Ideal.exp_bot, ← EReal.coe_zero, log1p_coe 0 le_rfl]
    simp
  | top =>
    show (0 : EReal) ≤ Ideal.log (1 + ⊤)
    rw [EReal.add_top_of_ne_bot (show (1 : EReal) ≠ ⊥ from EReal.coe_ne_bot 1)]
    exact le_top
  | coe x =>
    rw [Ideal.exp_coe, log1p_coe _ (Real.exp_pos x).le]
    exact EReal.coe_nonneg.mpr (Real.log_nonneg (by have := Real.exp_pos x; linarith))

theorem logistic_nonneg (x : EReal) : 0 ≤ Ideal.logistic x := by
  induction x with
  | bot => simp
  | top => simp
  | coe x => rw [Ideal.logistic_coe]; exact EReal.coe_nonneg.mpr (by positivity)

theorem logDecay_le (r l : EReal) : logDecay r l ≤ 0 := by
  have h1 : 0 ≤ softplus l := add_nonneg (le_max_right _ _) (log1p_nonneg _)
  have h2 : (0 : EReal) ≤ ((8 : ℝ) : EReal) * Ideal.logistic r := mul_nonneg (EReal.coe_nonneg.mpr (by norm_num)) (logistic_nonneg r)
  unfold logDecay
  rw [show ((-8 : ℝ) : EReal) = -((8 : ℝ) : EReal) from by rw [← EReal.coe_neg], EReal.neg_mul, EReal.neg_mul]
  exact EReal.neg_le_zero.mpr (mul_nonneg h2 h1)

theorem logDecay_ne_top (r l : EReal) : logDecay r l ≠ ⊤ := fun e => by
  have := logDecay_le r l
  rw [e] at this
  exact absurd this (by decide)

theorem exp_bounds {x : EReal} (h : x ≠ ⊤) : 0 ≤ Ideal.exp x ∧ Ideal.exp x ≠ ⊤ := by
  induction x with
  | bot => exact ⟨by simp, by simp⟩
  | top => exact absurd rfl h
  | coe x => rw [Ideal.exp_coe]; exact ⟨EReal.coe_nonneg.mpr (Real.exp_pos x).le, EReal.coe_ne_top _⟩

theorem one_sub_tanh (x : ℝ) : 1 - Real.tanh x = 2 * Real.exp (-x) / (Real.exp x + Real.exp (-x)) := by
  rw [Real.tanh_eq_sinh_div_cosh, Real.sinh_eq, Real.cosh_eq]
  have h : Real.exp x + Real.exp (-x) ≠ 0 := by positivity
  field_simp
  ring

/-- One minus the square of a decay, by the hyperbolic tangent of its logarithm. -/
theorem one_sub_square {x : EReal} (h : x ≠ ⊤) :
    Ideal.div (((-2 : ℝ) : EReal) * Ideal.tanh x) (1 - Ideal.tanh x) = -(Ideal.exp (((2 : ℝ) : EReal) * x) - 1) := by
  induction x with
  | top => exact absurd rfl h
  | bot =>
    rw [Ideal.tanh_bot, EReal.coe_mul_bot_of_pos (by norm_num), Ideal.exp_bot, one_coe, ← EReal.coe_neg, ← EReal.coe_mul, ← EReal.coe_sub,
      Ideal.div_coe (by norm_num), ← EReal.coe_mul, ← EReal.coe_zero, ← EReal.coe_sub, ← EReal.coe_neg]
    norm_num
  | coe x =>
    have hp : 0 < Real.exp x + Real.exp (-x) := by positivity
    have hne : 1 - Real.tanh x ≠ 0 := by rw [one_sub_tanh]; positivity
    rw [Ideal.tanh_coe, one_coe, ← EReal.coe_mul, ← EReal.coe_mul, Ideal.exp_coe, ← EReal.coe_sub, ← EReal.coe_sub, Ideal.div_coe hne,
      ← EReal.coe_mul, ← EReal.coe_neg]
    congr 1
    rw [one_sub_tanh, Real.tanh_eq_sinh_div_cosh, Real.sinh_eq, Real.cosh_eq, two_mul x, Real.exp_add, Real.exp_neg]
    have hx := Real.exp_pos x
    field_simp

end Cert.Scan

end
-- ==== Proof.ScanBody.lean ====
/-
  One grid point of the recurrence's forward pass: a tile of 128 columns, all 2048 rows.  The rows are taken in groups of
  eight; a loop over the groups carries the state at the end of each and spreads it over the next group's rows.  The body
  leaves `hsTile` and `outTile` in its two output windows, for any float values.
-/
module

public import proofs.«01_k».proof.Proof.Tiles
public import proofs.«01_k».proof.Proof.Gen.Kernel21
public import proofs.«01_k».proof.Proof.Gen.Kernel21Ideal.Skeleton
public import proofs.«01_k».proof.Proof.Gen.Kernel21Ideal.Frame
public import Idealize.ShloMosaic.Lib.Exec
public import Idealize.ShloMosaic.Lib.Tactic
public import Idealize.ShloMosaic.Lib.LoopRemainder
public import Idealize.ShloMosaic.Lib.Pipeline.Frame

@[expose] public section

set_option maxRecDepth 65536

noncomputable section

namespace Cert.Scan

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel21Ideal Cert.Kernel21Ideal.Gen
open Cert.Sb (read_store_whole ld_whole)

/-! ## Groups of eight rows -/

section Groups

variable {α : Type}

/-- Group `b` of eight rows. -/
def group (X : S2048x128.Idx → α) (b : ℕ) : S8x128.Idx → α := fun x =>
  X (ix2 (n0 := 2048) (n1 := 128) ⟨(8 * b + (x 0).val) % 2048, Nat.mod_lt _ (by omega)⟩ (x 1))

/-- The array that holds `w b` on every group `b`. -/
def spread (w : ℕ → S8x128.Idx → α) : S2048x128.Idx → α := fun y =>
  w ((y 0).val / 8) (ix2 (n0 := 8) (n1 := 128) ⟨(y 0).val % 8, Nat.mod_lt _ (by omega)⟩ (y 1))

theorem ld_group {Val : EltTy → Type} {e : EltTy} (X : S2048x128.Idx → Val e) {off : Fin 2 → ℕ} {b : ℕ} (h : off = ![8 * b, 0]) (hb : b < 256)
    (inb : ∀ a, off a + S8x128.size a ≤ S2048x128.size a) :
    View.ld (Val := Val) (e' := e) X (Rect.unit (s := S2048x128) off S8x128.size inb) = group X b := by
  subst h
  funext x
  unfold View.ld group
  congr 1
  have hx : (x 0).val < 8 := (x 0).isLt
  funext a
  apply Fin.ext
  match a with
  | ⟨0, _⟩ =>
    show 8 * b + 1 * (x 0).val = (8 * b + (x 0).val) % 2048
    omega
  | ⟨1, _⟩ =>
    show 0 + 1 * (x 1).val = (x 1).val
    omega

/-- The first `n` groups of a buffer hold what `spread w` does; a store of `w n` on group `n` makes it one more. -/
theorem store_group {Val : EltTy → Type} {e : EltTy} {sig' : RefSig} {κ : Kind} {sp : Space} (v : View sig' κ sp S2048x128 e)
    (f : v.ty.Contents Val) {off : Fin 2 → ℕ} {n : ℕ} (h : off = ![8 * n, 0]) (inb : ∀ a, off a + S8x128.size a ≤ S2048x128.size a)
    (w : ℕ → S8x128.Idx → Val e) (hf : ∀ y : S2048x128.Idx, (y 0).val < 8 * n → v.read Val f y = spread w y) (y : S2048x128.Idx)
    (hy : (y 0).val < 8 * (n + 1)) :
    v.read Val (v.writes Val f [⟨Rect.unit (s := S2048x128) off S8x128.size inb, w n⟩]) y = spread w y := by
  subst h
  by_cases hn : (y 0).val < 8 * n
  · refine (View.read_writes_cons_miss_of_axis v f _ _ y 0 (8 * n) 8 rfl rfl rfl ?_).trans ((congrFun (congrArg _ (View.writes_nil ..)) y).trans (hf y hn))
    omega
  · have e1 : (y 0).val / 8 = n := by omega
    refine (View.read_writes_cons_hit_of_coords v f (Rect.unit (s := S2048x128) ![8 * n, 0] S8x128.size inb) (w n) []
      (ix2 (n0 := 8) (n1 := 128) ⟨(y 0).val % 8, Nat.mod_lt _ (by omega)⟩ (y 1)) y fun a => ?_).trans ?_
    · match a with
      | ⟨0, _⟩ =>
        show (y 0).val = 8 * n + 1 * ((y 0).val % 8)
        omega
      | ⟨1, _⟩ =>
        show (y 1).val = 0 + 1 * (y 1).val
        omega
    · unfold spread
      rw [e1]

end Groups

variable {F : FTy → Type} [FloatOps F]

local notation "𝕄" => MT nD τ sig Unit (Elt F) ℕ (UR sig nD τ) ℕ

/-! ## What the body computes -/

/-- The state carried into group `n`, from the groups' products `A` and sums `B`. -/
def carry (A B : Vec F S2048x128 .f32) : ℕ → FVec F S1x128 .f32
  | 0 => k0_pay16
  | n + 1 => k0_pay18 (carry A B n) (group A n) (group B n)

/-- The state carried into each row's group. -/
def carried (A B : Vec F S2048x128 .f32) : Vec F S2048x128 .f32 := spread fun n => k0_pay17 (carry A B n)

section Values

variable (G X : Vec F S2048x128 .f32) (R I : Vec F S2048x128 .bf16) (M : Vec F S1x128 .f32)

/-- The products of the decays from the group's first row on, and the sums of the inputs so weighted. -/
def prods : Vec F S2048x128 .f32 := k0_pay14 (k0_pay3 R M) k0_pay5 k0_pay6
def sums : Vec F S2048x128 .f32 := k0_pay15 (k0_pay3 R M) (k0_pay4 R I X M) k0_pay5 k0_pay6

/-- The states, and the gated output. -/
def hsTile : Vec F S2048x128 .f32 :=
  k0_pay19 (k0_pay3 R M) (k0_pay4 R I X M) k0_pay5 k0_pay6 (carried (prods R M) (sums X R I M))
def outTile : Vec F S2048x128 .bf16 := k0_pay1 (hsTile X R I M) G

end Values

/-! ## The body's run -/

section Body

variable (𝒱 : Variants) (c : Dev nD) (bd : Option 𝒱.V) (E : Set ℕ) (i : grid0.Coords)
  (a1 : Memref sig .tc .vmem S2048x128 .f32) (h1 : a1.IsWhole) (a2 : Memref sig .tc .vmem S2048x128 .f32) (h2 : a2.IsWhole)
  (a3 : Memref sig .tc .vmem S2048x128 .bf16) (h3 : a3.IsWhole) (a4 : Memref sig .tc .vmem S2048x128 .bf16) (h4 : a4.IsWhole)
  (a5 : Memref sig .tc .vmem S1x128 .f32) (h5 : a5.IsWhole) (a6 : Memref sig .tc .vmem S2048x128 .f32) (h6 : a6.IsWhole)
  (a7 : Memref sig .tc .vmem S2048x128 .bf16) (h7 : a7.IsWhole) (a8 : Memref sig .tc .vmem S2048x128 .f32) (h8 : a8.IsWhole)
  (a9 : Memref sig .tc .vmem S2048x128 .f32) (h9 : a9.IsWhole) (a10 : Memref sig .tc .vmem S2048x128 .f32) (h10 : a10.IsWhole)

/-- Before trip `n`: the products and the sums as stored, the carried state, and the first `n` groups of the third buffer. -/
def Inv (A B : Vec F S2048x128 .f32) (n : ℕ) (acc : FVec F S1x128 .f32) : sProp 𝕄 :=
  iprop(⌜acc = carry A B n⌝
    ∗ (∃ f8, ⌜a8.view.read (Elt F) f8 = A⌝ ∗ (a8.view.loc (c : Thread nD τ) ↦[a8.view.set]{fullShare} f8))
    ∗ (∃ f9, ⌜a9.view.read (Elt F) f9 = B⌝ ∗ (a9.view.loc (c : Thread nD τ) ↦[a9.view.set]{fullShare} f9))
    ∗ (∃ f10, ⌜∀ y : S2048x128.Idx, (y 0).val < 8 * n → a10.view.read (Elt F) f10 y = carried A B y⌝
        ∗ (a10.view.loc (c : Thread nD τ) ↦[a10.view.set]{fullShare} f10)))

theorem trips : k0_t1_loop.trips = 256 := by decide +kernel

/-- One trip. -/
theorem trip (A B v32 v36 : Vec F S2048x128 .f32) (v39 v40 : IVec S2048x128 32) (k : Fin k0_t1_loop.trips) (acc : FVec F S1x128 .f32) :
    Inv c a8 a9 a10 A B k.val acc
      ⊢ wp Idealize.ShloMosaic.frame (wpE (defs₀ (F := F)) 𝒱 (c : Thread nD τ) bd) E
          (k0_t1_body (F := F) i a1 h1 a2 h2 a3 h3 a4 h4 a5 h5 a6 h6 a7 h7 a8 h8 a9 h9 a10 h10 v32 v36 v39 v40 k acc)
          (Inv c a8 a9 a10 A B (k.val + 1)) := by
  have hk : k.val < 256 := trips ▸ k.isLt
  unfold Inv k0_t1_body
  iintro ⟨%hacc, ⟨%f8, %h8', H8⟩, ⟨%f9, %h9', H9⟩, ⟨%f10, %h10', H10⟩⟩
  subst hacc
  have e8 : (a8.view.readAt (Elt F) (Rect.unit (s := S2048x128) (k0_off1 k) S8x128.size (k0_off1_inb k)).toLoadRect f8 : Vec F S8x128 .f32) = group A k.val := by
    rw [View.readAt_eq_ld, ld_group _ (k0_off1_eq k) hk, h8']
  have e9 : (a9.view.readAt (Elt F) (Rect.unit (s := S2048x128) (k0_off1 k) S8x128.size (k0_off1_inb k)).toLoadRect f9 : Vec F S8x128 .f32) = group B k.val := by
    rw [View.readAt_eq_ld, ld_group _ (k0_off1_eq k) hk, h9']
  sl_exec
  sl_step
  isplitr
  · ipureintro
    first
    | rfl
    | exact congrArg₂ (k0_pay18 (carry A B k.val)) e8 e9
  isplitl [H8]
  · iexists f8; isplitr; · ipureintro; exact h8'
    iexact H8
  isplitl [H9]
  · iexists f9; isplitr; · ipureintro; exact h9'
    iexact H9
  · iexists _; isplitr; swap; · iexact H10
    ipureintro
    exact fun y hy => store_group a10.view f10 (k0_off1_eq k) _ (fun n => k0_pay17 (carry A B n)) h10' y hy

set_option maxHeartbeats 1000000 in
/-- The whole body. -/
theorem body_runs (G X : Vec F S2048x128 .f32) (R I : Vec F S2048x128 .bf16) (M : Vec F S1x128 .f32) :
    (iprop(owns (c : Thread nD τ) a1 fullShare G ∗ owns (c : Thread nD τ) a2 fullShare X ∗ owns (c : Thread nD τ) a3 fullShare R
        ∗ owns (c : Thread nD τ) a4 fullShare I ∗ owns (c : Thread nD τ) a5 fullShare M
        ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d)) : sProp 𝕄)
      ⊢ wp Idealize.ShloMosaic.frame (wpE (defs₀ (F := F)) 𝒱 (c : Thread nD τ) bd) E
          (cc0_rg_scan_fwd1 (F := F) i a1 h1 a2 h2 a3 h3 a4 h4 a5 h5 a6 h6 a7 h7 a8 h8 a9 h9 a10 h10)
          (fun (_ : Unit) => iprop(owns (c : Thread nD τ) a1 fullShare G ∗ owns (c : Thread nD τ) a2 fullShare X ∗ owns (c : Thread nD τ) a3 fullShare R
            ∗ owns (c : Thread nD τ) a4 fullShare I ∗ owns (c : Thread nD τ) a5 fullShare M
            ∗ owns (c : Thread nD τ) a6 fullShare (hsTile X R I M) ∗ owns (c : Thread nD τ) a7 fullShare (outTile G X R I M)
            ∗ (∃ d, owns (c : Thread nD τ) a8 fullShare d) ∗ (∃ d, owns (c : Thread nD τ) a9 fullShare d)
            ∗ (∃ d, owns (c : Thread nD τ) a10 fullShare d))) := by
  simp only [cc0_rg_scan_fwd1_eq_skeleton]
  unfold cc0_rg_scan_fwd1_skel
  simp only [k0_part1_eq_skeleton, k0_part2_eq_skeleton]
  unfold k0_part1_skel k0_part2_skel owns
  iintro ⟨⟨%f1, %h1', H1⟩, ⟨%f2, %h2', H2⟩, ⟨%f3, %h3', H3⟩, ⟨%f4, %h4', H4⟩, ⟨%f5, %h5', H5⟩, ⟨%d6, %f6, %h6', H6⟩, ⟨%d7, %f7, %h7', H7⟩, ⟨%d8, %f8, %h8', H8⟩, ⟨%d9, %f9, %h9', H9⟩, ⟨%d10, %f10, %h10', H10⟩⟩
  have e1 : (a1.view.readAt (Elt F) (Rect.unit (s := S2048x128) ![0, 0] S2048x128.size inb_S2048x128_S2048x128_0_0).toLoadRect f1 : Vec F S2048x128 .f32) = G := by
    rw [View.readAt_eq_ld, h1']; exact ld_whole _ _
  have e2 : (a2.view.readAt (Elt F) (Rect.unit (s := S2048x128) ![0, 0] S2048x128.size inb_S2048x128_S2048x128_0_0).toLoadRect f2 : Vec F S2048x128 .f32) = X := by
    rw [View.readAt_eq_ld, h2']; exact ld_whole _ _
  have e3 : (a3.view.readAt (Elt F) (Rect.unit (s := S2048x128) ![0, 0] S2048x128.size inb_S2048x128_S2048x128_0_0).toLoadRect f3 : Vec F S2048x128 .bf16) = R := by
    rw [View.readAt_eq_ld, h3']; exact ld_whole _ _
  have e4 : (a4.view.readAt (Elt F) (Rect.unit (s := S2048x128) ![0, 0] S2048x128.size inb_S2048x128_S2048x128_0_0).toLoadRect f4 : Vec F S2048x128 .bf16) = I := by
    rw [View.readAt_eq_ld, h4']; exact ld_whole _ _
  have e5 : (a5.view.readAt (Elt F) (Rect.unit (s := S1x128) ![0, 0] S1x128.size inb_S1x128_S1x128_0_0).toLoadRect f5 : Vec F S1x128 .f32) = M := by
    rw [View.readAt_eq_ld, h5']; exact ld_whole _ _
  sl_exec
  simp only [Prog.bind_assoc]
  sl_for (Inv c a8 a9 a10 (prods R M) (sums X R I M)) $$ [H8 H9 H10]
  · intro k acc
    exact trip 𝒱 c bd E i a1 h1 a2 h2 a3 h3 a4 h4 a5 h5 a6 h6 a7 h7 a8 h8 a9 h9 a10 h10 (prods R M) (sums X R I M) _ _ _ _ k acc
  · unfold Inv
    isplitr; · ipureintro; rfl
    isplitl [H8]
    · iexists _; isplitr; swap; · iexact H8
      ipureintro; exact read_store_whole _ _ _ _ _
    isplitl [H9]
    · iexists _; isplitr; swap; · iexact H9
      ipureintro; exact read_store_whole _ _ _ _ _
    · iexists f10; isplitr; swap; · iexact H10
      ipureintro; exact fun y hy => absurd hy (by omega)
  clear h8' h9' h10'
  clear f8 f9 f10
  iintro %acc
  unfold Inv
  rw [show Scf.trips k0_t1_loop.lb k0_t1_loop.ub k0_t1_loop.st = 256 from trips]
  iintro ⟨%hacc, ⟨%f8, %h8', H8⟩, ⟨%f9, %h9', H9⟩, ⟨%f10, %h10', H10⟩⟩
  have e10 : (a10.view.readAt (Elt F) (Rect.unit (s := S2048x128) ![0, 0] S2048x128.size inb_S2048x128_S2048x128_0_0).toLoadRect f10 : Vec F S2048x128 .f32)
      = carried (prods R M) (sums X R I M) := by
    rw [View.readAt_eq_ld, show a10.view.read (Elt F) f10 = carried (prods R M) (sums X R I M) from
      funext fun y => h10' y (show (y 0).val < 8 * 256 from (y 0).isLt)]
    exact ld_whole _ _
  sl_exec
  sl_step
  isplitl [H1]
  · iexists f1; isplitr; · ipureintro; exact h1'
    iexact H1
  isplitl [H2]
  · iexists f2; isplitr; · ipureintro; exact h2'
    iexact H2
  isplitl [H3]
  · iexists f3; isplitr; · ipureintro; exact h3'
    iexact H3
  isplitl [H4]
  · iexists f4; isplitr; · ipureintro; exact h4'
    iexact H4
  isplitl [H5]
  · iexists f5; isplitr; · ipureintro; exact h5'
    iexact H5
  isplitl [H6]
  · iexists _; isplitr; swap; · iexact H6
    ipureintro; exact read_store_whole _ _ _ _ _
  isplitl [H7]
  · iexists _; isplitr; swap; · iexact H7
    ipureintro; exact read_store_whole _ _ _ _ _
  isplitl [H8]
  · iexists _, f8; isplitr; swap; · iexact H8
    ipureintro; rfl
  isplitl [H9]
  · iexists _, f9; isplitr; swap; · iexact H9
    ipureintro; rfl
  · iexists _, f10; isplitr; swap; · iexact H10
    ipureintro; rfl

end Body

end Cert.Scan

end
-- ==== Proof.ScanFrame.lean ====
/-
  The run of the recurrence's forward pass, once, for any float values `F`: every grid point's body (ScanBody.lean) over the
  blocks of the five operands.  Grid points share nothing, so each leaves its two output blocks as its own operands say.
  The kernel and its idealization have the same text, so a run of the one is a run of the other.
-/
module

public import proofs.«01_k».proof.Proof.ScanBody

@[expose] public section

set_option maxRecDepth 65536

noncomputable section

namespace Cert.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel21Ideal Cert.Kernel21Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves. -/
def hsAt (c : Dev nD) (t : Fin cfg0.N) : Vec F S2048x128 .f32 :=
  hsTile (iblk m c 1 t) (iblk m c 2 t) (iblk m c 3 t) (iblk m c 4 t)
def outAt (c : Dev nD) (t : Fin cfg0.N) : Vec F S2048x128 .bf16 :=
  outTile (iblk m c 0 t) (iblk m c 1 t) (iblk m c 2 t) (iblk m c 3 t) (iblk m c 4 t)

/-- The proof data: the operands as launched, the output windows at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsAt m c t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hsAt m c t := by dsimp only [dats]
theorem after_6 (c : Dev nD) (t : Fin cfg0.N) : (dats m 0 c).after 6 t = outAt m c t := by dsimp only [dats]

/-- What the body is entered with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦA spec0 c from rfl]
  unfold Pipeline.ΦA
  rw [scopedRest0_eq]
  rw [after_0, after_1, after_2, after_3, after_4, after_5, after_6]
  unfold hsAt outAt
  iintro ⟨⟨⟨⟨%g8, G8⟩, ⟨%g9, G9⟩, ⟨%g10, G10⟩⟩, Hp⟩, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame _ _)
  isplitl [H0 H1 H2 H3 H4 H5 H6 G8 G9 G10]
  · iapply (body_runs Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t))
    isplitl [H0]
    · rw [before0_0_of m (dats m 0 c) rfl (after_0 m c) t d0]; iexact H0
    isplitl [H1]
    · rw [before0_1_of m (dats m 0 c) rfl (after_1 m c) t d1]; iexact H1
    isplitl [H2]
    · rw [before0_2_of m (dats m 0 c) rfl (after_2 m c) t d2]; iexact H2
    isplitl [H3]
    · rw [before0_3_of m (dats m 0 c) rfl (after_3 m c) t d3]; iexact H3
    isplitl [H4]
    · rw [before0_4_of m (dats m 0 c) rfl (after_4 m c) t d4]; iexact H4
    isplitl [H5]
    · iexists _; iexact H5
    isplitl [H6]
    · iexists _; iexact H6
    isplitl [G8]
    · iexists g8; rw [owns_whole]; iexact G8
    isplitl [G9]
    · iexists g9; rw [owns_whole]; iexact G9
    · iexists g10; rw [owns_whole]; iexact G10
  · iintro %a ⟨H0, H1, H2, H3, H4, H5, H6, ⟨%e8, G8⟩, ⟨%e9, G9⟩, ⟨%e10, G10⟩⟩
    isplitl [G8 G9 G10 Hp]
    · isplitl [G8 G9 G10]
      · isplitl [G8]
        · iexists e8; rw [← owns_whole]; iexact G8
        isplitl [G9]
        · iexists e9; rw [← owns_whole]; iexact G9
        · iexists e10; rw [← owns_whole]; iexact G10
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run of the program: every array as the proof data say, every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)
    (Q' := fun r => Pipeline.FramePost cfgs (dats m) 0 (V m) r ∧ r.2.sem = fun _ => 0)

/-- The arguments end as they began. -/
theorem kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

/-- The run leaves the arguments and ends with every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (run_main m ρ)

/-! ## The kernel's own text -/

/-- The two bodies. -/
theorem body_twin : Kernel21.cc0_rg_scan_fwd1 (F := F) = Kernel21Ideal.cc0_rg_scan_fwd1 (F := F) := rfl

/-- The two tables of bodies. -/
theorem table_twin : Kernel21.defs₀ (F := F) = Kernel21Ideal.defs₀ (F := F) := by
  unfold Kernel21.defs₀ Kernel21Ideal.defs₀
  refine congrArg Defs.onTc (funext fun l => funext fun x => ?_)
  obtain ⟨l, hl⟩ := l
  obtain rfl : l = 0 := by omega
  cases x with
  | mk t s => rfl

/-- The two programs' tables. -/
theorem defs_twin : Kernel21.defs (F := F) = Kernel21Ideal.defs (F := F) := by
  unfold Kernel21.defs Kernel21Ideal.defs
  rw [table_twin]
  rfl

end Cert.Scan

end
-- ==== Proof.ScanForward.lean ====
/-
  The recurrence's forward pass, read column by column.  A column's logarithms of decays and its inputs are functions of the
  row; the kernel's groups of eight, and the reference's sum over all earlier rows, are both the state of Scan.lean.
-/
module

public import proofs.«01_k».proof.Defs
public import proofs.«01_k».proof.Proof.Scan
public import proofs.«01_k».proof.Proof.ScanFrame
public import proofs.«01_k».proof.Proof.Gen.Reference21Ideal.Read
public import proofs.«01_k».proof.Proof.Gen.Reference21Ideal.Run
public import Idealize.ShloMosaic.Lib.Pipeline.ValueKit
public import Idealize.ShloMosaic.Lib.Pointwise
public import Idealize.ShloMosaic.Lib.WordCmp

@[expose] public section

set_option maxRecDepth 65536

noncomputable section

namespace Cert.Scan

open Idealize.ShloMosaic Idealize.ShloMosaic.TcCoe
open Idealize.SL Idealize.SL.Sem
open Finset

/-! ## A column -/

section Column

variable (x r i : Fin 2048 → EReal) (l : EReal)

/-- Row `t`, whatever the number. -/
def row (t : ℕ) : Fin 2048 := ⟨t % 2048, Nat.mod_lt _ (by omega)⟩

theorem row_val (t : Fin 2048) : row t.val = t := Fin.ext (Nat.mod_eq_of_lt t.isLt)

/-- The logarithm of the decay at a row, the decay, and the input: the first row's is not scaled. -/
def logAt (t : ℕ) : EReal := logDecay (r (row t)) l
def decayAt (t : ℕ) : EReal := Ideal.exp (logAt r l t)
def inputAt (t : ℕ) : EReal :=
  x (row t) * Ideal.logistic (i (row t)) * (if (row t).val = 0 then 1 else Ideal.sqrt (-(Ideal.exp (((2 : ℝ) : EReal) * logAt r l t) - 1)))

/-- The states of the column. -/
def states (t : ℕ) : EReal := state (decayAt r l) (inputAt x r i l) t

theorem decay_bounds (t : ℕ) : 0 ≤ decayAt r l t ∧ decayAt r l t ≠ ⊤ := exp_bounds (logDecay_ne_top _ _)

end Column

/-- The constants that both programs write. -/
theorem neg8_half : Ideal.ofBits .bf16 0xC100#16 = ((-8 : ℝ) : EReal) := by
  simp [Ideal.ofBits, Ideal.ieee, -EReal.coe_mul]; norm_num
theorem neg8_single : Ideal.ofBits .f32 0xC1000000#32 = ((-8 : ℝ) : EReal) := by
  simp [Ideal.ofBits, Ideal.ieee, -EReal.coe_mul]; norm_num
theorem neg2_single : Ideal.ofBits .f32 0xC0000000#32 = ((-2 : ℝ) : EReal) := by
  simp [Ideal.ofBits, Ideal.ieee, -EReal.coe_mul]; norm_num
theorem two_single : Ideal.ofBits .f32 0x40000000#32 = ((2 : ℝ) : EReal) := by
  simp [Ideal.ofBits, Ideal.ieee, -EReal.coe_mul]; norm_num

/-- The first row, as both programs compare it. -/
theorem first (r : Fin 2048) (x y : EReal) :
    Scalar.select (IntOp.cmpi .eq (BitVec.ofNat 32 r.val) 0#32) x y = if r.val = 0 then x else y := by
  have hr := r.isLt
  have e : (BitVec.ofNat 32 r.val == 0#32) = decide (r.val = 0) := by
    rw [Bool.eq_iff_iff, beq_iff_eq, decide_eq_true_iff, ← BitVec.toNat_inj, BitVec.toNat_ofNat, BitVec.toNat_ofNat]; omega
  unfold Scalar.select IntOp.cmpi
  by_cases h : r.val = 0 <;> simp [e, h]

/-- A state times the gate's activation. -/
def gated (g h : EReal) : EReal :=
  Ideal.ofBits .f32 0x3F000000#32 * g * (1 + Ideal.tanh (Ideal.ofBits .f32 0x3F4C422A#32 * (g + Ideal.ofBits .f32 0x3D372713#32 * (g * g * g)))) * h

/-! ## The kernel's tile -/

section Tile

open Cert.Kernel21Ideal Cert.Kernel21Ideal.Gen

variable (G X : Vec Ideal S2048x128 .f32) (R I : Vec Ideal S2048x128 .bf16) (M : Vec Ideal S1x128 .f32)

theorem log_at (r : Fin 2048) (q : Fin 128) : k0_pay2 (F := Ideal) R M (ix2 r q) = logDecay (R (ix2 r q)) (M (ix2 0 q)) := by
  pointwise [k0_pay2]
  unfold logDecay softplus
  rw [neg8_half]
  simp only [zero_sub]
  rfl

theorem decay_at (r : Fin 2048) (q : Fin 128) : k0_pay3 (F := Ideal) R M (ix2 r q) = decayAt (fun r => R (ix2 r q)) (M (ix2 0 q)) r.val := by
  unfold decayAt logAt
  rw [row_val, ← log_at]
  rfl

theorem input_at (r : Fin 2048) (q : Fin 128) : k0_pay4 (F := Ideal) R I X M (ix2 r q)
    = inputAt (fun r => X (ix2 r q)) (fun r => R (ix2 r q)) (fun r => I (ix2 r q)) (M (ix2 0 q)) r.val := by
  unfold inputAt logAt
  simp only [row_val]
  rw [← one_sub_square (logDecay_ne_top _ _), ← log_at]
  pointwise [k0_pay4]
  rw [first, neg2_single]

variable {a u : ℕ → EReal}

/-- A row's place in its group, as the kernel compares it. -/
theorem place (r : Fin 2048) {n : ℕ} (hn : n ≤ 4) (x y : EReal) :
    Scalar.select (IntOp.cmpi .sge (IntOp.andi (BitVec.ofNat 32 r.val) 7#32) (BitVec.ofNat 32 n)) x y = if n ≤ r.val % 8 then x else y := by
  have hr := r.isLt
  have e : IntOp.andi (BitVec.ofNat 32 r.val) 7#32 = BitVec.ofNat 32 (r.val % 8) := by
    apply BitVec.eq_of_toNat_eq
    show (BitVec.ofNat 32 r.val &&& 7#32).toNat = _
    rw [BitVec.toNat_and, BitVec.toNat_ofNat, BitVec.toNat_ofNat, BitVec.toNat_ofNat,
      Nat.mod_eq_of_lt (show r.val < 2 ^ 32 by omega), Nat.mod_eq_of_lt (show r.val % 8 < 2 ^ 32 by omega)]
    exact Nat.and_two_pow_sub_one_eq_mod r.val 3
  rw [e, WordCmp.cmpi_sge_ofNat (by omega) (by omega)]
  unfold Scalar.select
  by_cases h : n ≤ r.val % 8 <;> simp [h]

/-- One doubling, of the products and of the sums. -/
theorem prod_step {n : ℕ} (hn : n ≤ 4) (f : Fin 2048 → EReal) (hf : ∀ r, f r = prodTo a r.val (min n (r.val % 8 + 1))) (r : Fin 2048)
    (h : (r.val + 2048 - n) % 2048 < 2048) :
    Scalar.select (IntOp.cmpi .sge (IntOp.andi (BitVec.ofNat 32 r.val) 7#32) (BitVec.ofNat 32 n)) (f r * f ⟨(r.val + 2048 - n) % 2048, h⟩) (f r)
      = prodTo a r.val (min (2 * n) (r.val % 8 + 1)) := by
  rw [place r hn]
  split
  next hc =>
    have e : (⟨(r.val + 2048 - n) % 2048, h⟩ : Fin 2048) = ⟨r.val - n, by omega⟩ := Fin.ext (by have := r.isLt; simp only; omega)
    rw [e, hf, hf, prodTo_double hn hc]
  next hc => rw [hf, keep hc]

theorem sum_step (ha : ∀ t, 0 ≤ a t ∧ a t ≠ ⊤) {n : ℕ} (hn : n ≤ 4) (f g : Fin 2048 → EReal)
    (hf : ∀ r, f r = prodTo a r.val (min n (r.val % 8 + 1))) (hg : ∀ r, g r = sumTo a u r.val (min n (r.val % 8 + 1))) (r : Fin 2048)
    (h : (r.val + 2048 - n) % 2048 < 2048) :
    Scalar.select (IntOp.cmpi .sge (IntOp.andi (BitVec.ofNat 32 r.val) 7#32) (BitVec.ofNat 32 n)) (f r * g ⟨(r.val + 2048 - n) % 2048, h⟩ + g r) (g r)
      = sumTo a u r.val (min (2 * n) (r.val % 8 + 1)) := by
  rw [place r hn]
  split
  next hc =>
    have e : (⟨(r.val + 2048 - n) % 2048, h⟩ : Fin 2048) = ⟨r.val - n, by omega⟩ := Fin.ext (by have := r.isLt; simp only; omega)
    rw [e, hf, hg, hg, sumTo_double ha hn hc]
  next hc => rw [hg, keep hc]

variable (v32 v36 : FVec Ideal S2048x128 .f32) (q : Fin 128)

theorem prods2 (hv : ∀ r : Fin 2048, v32 (ix2 r q) = a r.val) (r : Fin 2048) :
    k0_pay8 (F := Ideal) v32 k0_pay5 k0_pay6 (ix2 r q) = prodTo a r.val (min 2 (r.val % 8 + 1)) := by
  have h1 : ∀ r : Fin 2048, v32 (ix2 r q) = prodTo a r.val (min 1 (r.val % 8 + 1)) := fun r => by
    rw [hv, show min 1 (r.val % 8 + 1) = 1 by omega]; simp [prodTo]
  pointwise [k0_pay8, k0_pay7, k0_pay5, k0_pay6]
  exact prod_step (by omega) (fun r => v32 (ix2 r q)) h1 r _

theorem prods4 (hv : ∀ r : Fin 2048, v32 (ix2 r q) = a r.val) (r : Fin 2048) :
    k0_pay10 (F := Ideal) v32 k0_pay5 k0_pay6 (ix2 r q) = prodTo a r.val (min 4 (r.val % 8 + 1)) := by
  pointwise [k0_pay10, k0_pay9, k0_pay5]
  exact prod_step (n := 2) (by omega) (fun r => k0_pay8 (F := Ideal) v32 k0_pay5 k0_pay6 (ix2 r q)) (prods2 v32 q hv) r _

theorem prods8 (hv : ∀ r : Fin 2048, v32 (ix2 r q) = a r.val) (r : Fin 2048) :
    k0_pay13 (F := Ideal) v32 k0_pay5 k0_pay6 (ix2 r q) = prodTo a r.val (r.val % 8 + 1) := by
  rw [show r.val % 8 + 1 = min (2 * 4) (r.val % 8 + 1) by omega]
  pointwise [k0_pay13, k0_pay11, k0_pay5]
  exact prod_step (n := 4) (by omega) (fun r => k0_pay10 (F := Ideal) v32 k0_pay5 k0_pay6 (ix2 r q)) (prods4 v32 q hv) r _

set_option maxHeartbeats 1000000 in
theorem sums8 (ha : ∀ t, 0 ≤ a t ∧ a t ≠ ⊤) (hv : ∀ r : Fin 2048, v32 (ix2 r q) = a r.val) (hu : ∀ r : Fin 2048, v36 (ix2 r q) = u r.val) (r : Fin 2048) :
    k0_pay12 (F := Ideal) v32 v36 k0_pay5 k0_pay6 (ix2 r q) = sumTo a u r.val (r.val % 8 + 1) := by
  have h1 : ∀ r : Fin 2048, v32 (ix2 r q) = prodTo a r.val (min 1 (r.val % 8 + 1)) := fun r => by
    rw [hv, show min 1 (r.val % 8 + 1) = 1 by omega]; simp [prodTo]
  have g1 : ∀ r : Fin 2048, v36 (ix2 r q) = sumTo a u r.val (min 1 (r.val % 8 + 1)) := fun r => by
    rw [hu, show min 1 (r.val % 8 + 1) = 1 by omega]; simp [sumTo, prodTo]
  rw [show r.val % 8 + 1 = min (2 * 4) (r.val % 8 + 1) by omega]
  pointwise [k0_pay12, k0_pay7, k0_pay9, k0_pay11, k0_pay5, k0_pay6]
  have s2 := fun r : Fin 2048 => sum_step ha (n := 1) (by omega) (fun r => v32 (ix2 r q)) (fun r => v36 (ix2 r q)) h1 g1 r (Nat.mod_lt _ (by omega))
  have s4 := fun r : Fin 2048 => sum_step ha (n := 2) (by omega) (fun r => k0_pay8 (F := Ideal) v32 k0_pay5 k0_pay6 (ix2 r q)) _ (prods2 v32 q hv) s2 r (Nat.mod_lt _ (by omega))
  exact sum_step ha (n := 4) (by omega) (fun r => k0_pay10 (F := Ideal) v32 k0_pay5 k0_pay6 (ix2 r q)) _ (prods4 v32 q hv) s4 r _

/-- The state carried into a group. -/
theorem carry_at (ha : ∀ t, 0 ≤ a t ∧ a t ≠ ⊤) (A B : Vec Ideal S2048x128 .f32) (hA : ∀ r : Fin 2048, A (ix2 r q) = prodTo a r.val (r.val % 8 + 1))
    (hB : ∀ r : Fin 2048, B (ix2 r q) = sumTo a u r.val (r.val % 8 + 1)) : ∀ n ≤ 256, carry A B n (ix2 (0 : Fin 1) q) = into a u n
  | 0, _ => by
    unfold carry
    pointwise [k0_pay16, into, sumTo]
    simp
  | n + 1, hn => by
    rw [← into_succ ha, ← carry_at ha A B hA hB n (by omega)]
    have e1 : (8 * n + 7) % 2048 = 8 * n + 7 := by omega
    have e2 : (8 * n + 7) % 8 + 1 = 8 := by omega
    have h1 := hA ⟨8 * n + 7, by omega⟩
    have h2 := hB ⟨8 * n + 7, by omega⟩
    simp only [e2] at h1 h2
    rw [← h1, ← h2]
    show k0_pay18 (F := Ideal) (carry A B n) (group A n) (group B n) (ix2 (0 : Fin 1) q) = _
    pointwise [k0_pay18]
    have g : ∀ Y : Vec Ideal S2048x128 .f32, group Y n (ix2 (7 : Fin 8) q) = Y (ix2 ⟨8 * n + 7, by omega⟩ q) := fun Y =>
      congrArg (fun s => Y (ix2 s q)) (Fin.ext e1)
    rw [g, g]

theorem carried_at (A B : Vec Ideal S2048x128 .f32) (r : Fin 2048) :
    carried A B (ix2 r q) = carry A B (r.val / 8) (ix2 (0 : Fin 1) q) := by
  show k0_pay17 (F := Ideal) (carry A B (r.val / 8)) (ix2 (n0 := 8) (n1 := 128) ⟨r.val % 8, Nat.mod_lt _ (by omega)⟩ q) = _
  pointwise [k0_pay17]

/-- The states the point leaves. -/
theorem states_at (r : Fin 2048) : hsTile X R I M (ix2 r q)
    = states (fun r => X (ix2 r q)) (fun r => R (ix2 r q)) (fun r => I (ix2 r q)) (M (ix2 0 q)) r.val := by
  have ha := decay_bounds (fun r => R (ix2 r q)) (M (ix2 0 q))
  have hA := prods8 (k0_pay3 (F := Ideal) R M) q (fun r => decay_at R M r q)
  have hB := sums8 (k0_pay3 (F := Ideal) R M) (k0_pay4 (F := Ideal) R I X M) q ha (fun r => decay_at R M r q) (fun r => input_at X R I M r q)
  unfold states
  rw [← state_eq ha, ← hA, ← hB]
  have hc := carry_at (u := inputAt (fun r => X (ix2 r q)) (fun r => R (ix2 r q)) (fun r => I (ix2 r q)) (M (ix2 0 q))) q ha (prods R M) (sums X R I M) (fun r => ?_) (fun r => ?_) (r.val / 8) (by omega)
  · rw [← hc, ← carried_at]
    rfl
  · refine Eq.trans ?_ (hA r)
    unfold prods
    pointwise [k0_pay14]
  · refine Eq.trans ?_ (hB r)
    unfold sums
    pointwise [k0_pay15]

end Tile

/-! ## The reference -/

section Reference

open Cert.Reference21Ideal Cert.Reference21Ideal.Gen Cert.Reference21Ideal.Read

variable (x0 : (⟨S2048x5632, .f32⟩ : BufTy).Contents (Elt Ideal)) (x1 : (⟨S2048x2816, .f32⟩ : BufTy).Contents (Elt Ideal))
  (x2 x3 : (⟨S2048x2816, .bf16⟩ : BufTy).Contents (Elt Ideal)) (x4 : (⟨S1x2816, .f32⟩ : BufTy).Contents (Elt Ideal))

theorem ref_log (r : Fin 2048) (w : Fin 2816) :
    val_main_v15 (F := Ideal) x2 x4 (ix2 r w) = logAt (fun r => x2 (ix2 r w)) (x4 (ix2 0 w)) r.val := by
  unfold logAt
  rw [row_val]
  pointwise [val_main_v15, val_main_v11, val_main_v10, val_main_cst_1, val_main_v9, val_main_v8, val_main_cst_0, val_main_v7, val_main_v6,
    val_main_cst, val_main_v5, val_main_v4, val_main_v2, val_main_v14, val_main_v13, val_main_call0_v4, val_main_call0_v6, val_main_call0_v5,
    val_main_call0_v11, val_main_call0_v10, val_main_call0_v9, val_main_call0_v8, val_main_call0_v7, val_main_call0_v3, val_main_call0_v2,
    val_main_call0_v1, val_main_call0_v0, val_main_call0_cst, val_main_v12]
  rw [if_neg (fun h => h rfl), neg8_single]
  rfl

theorem ref_input (r : Fin 2048) (w : Fin 2816) :
    val_main_v33 (F := Ideal) x1 x2 x3 x4 (ix2 r w)
      = inputAt (fun r => x1 (ix2 r w)) (fun r => x2 (ix2 r w)) (fun r => x3 (ix2 r w)) (x4 (ix2 0 w)) r.val := by
  unfold inputAt
  rw [← ref_log]
  simp only [row_val]
  pointwise [val_main_v33, val_main_v32, val_main_v31, val_main_v30, val_main_cst_5, val_main_v29, val_main_v28, val_main_cst_4, val_main_v27,
    val_main_v26, val_main_v3, val_main_v25, val_main_call1_v1, val_main_v24, val_main_v23, val_main_v21, val_main_v22, val_main_c,
    val_main_call1_v2, val_main_call1_v0, val_main_cst_3, val_main_v20, val_main_v19, val_main_v18, val_main_v17, val_main_v16, val_main_cst_2]
  rw [first, two_single]
  have e : id (constant (F := Ideal) S_ .f32 1065353216#32) ix0 = (1 : EReal) := Cert.Sb.one_bits
  rw [e]
  rfl

theorem ref_mask (t k j : Fin 2048) : val_main_v40 (F := Ideal) (ix3 t k j) = if k.val < j.val ∧ j.val ≤ t.val then 1 else 0 := by
  have ht := t.isLt
  have hk := k.isLt
  have hj := j.isLt
  pointwise [val_main_v40, val_main_v39, val_main_v38, val_main_v37, val_main_v36, val_main_v35, val_main_v34, val_main_call2_v0,
    val_main_call2_v1, val_main_cst_6, val_main_cst_7]
  unfold Scalar.select IntOp.cmpi
  simp only [Cert.Sb.slt_ofNat (show k.val < 2 ^ 31 by omega) (show j.val < 2 ^ 31 by omega),
    Cert.Sb.sle_ofNat (show j.val < 2 ^ 31 by omega) (show t.val < 2 ^ 31 by omega)]
  by_cases h1 : k.val < j.val <;> by_cases h2 : j.val ≤ t.val <;> simp [h1, h2, IntOp.andi]

theorem ref_decay (t k : Fin 2048) (h : k.val ≤ t.val) (w : Fin 2816) : val_main_v42 (F := Ideal) x2 x4 (ix3 t k w)
    = prodTo (decayAt (fun r => x2 (ix2 r w)) (x4 (ix2 0 w))) t.val (t.val - k.val) := by
  refine Eq.trans ?_ (exp_between (N := 2048) (logAt (fun r => x2 (ix2 r w)) (x4 (ix2 0 w))) (fun _ => logDecay_ne_top _ _) h t.isLt)
  simp only [← ref_log]
  pointwise [val_main_v42, val_main_v41]
  simp only [ref_mask]

theorem ref_states (t : Fin 2048) (w : Fin 2816) : val_main_v51 (F := Ideal) x1 x2 x3 x4 (ix2 t w)
    = states (fun r => x1 (ix2 r w)) (fun r => x2 (ix2 r w)) (fun r => x3 (ix2 r w)) (x4 (ix2 0 w)) t.val := by
  unfold states
  rw [← state_sum (N := 2048) t.isLt (fun k => val_main_v42 (F := Ideal) x2 x4 (ix3 t (row k) w)) (fun k hk => ?_)]
  · simp only [row_val, ← ref_input]
    pointwise [val_main_v51, val_main_v50, val_main_v49, val_main_call3_v1, val_main_call3_v2, val_main_call3_v0, val_main_cst_9, val_main_v48,
      val_main_v47, val_main_v46, val_main_v45, val_main_v44, val_main_v43, val_main_c_8]
    refine Finset.sum_congr rfl fun k _ => congrArg _ ?_
    have ht := t.isLt
    have hk := k.isLt
    have e : IntOp.addi (BitVec.ofNat 32 t.val) 0#32 = BitVec.ofNat 32 t.val := BitVec.add_zero _
    have z : id (constant (F := Ideal) S_ .f32 0#32) ix0 = (0 : EReal) := by
      show Ideal.ofBits .f32 0#32 = 0
      simp [Ideal.ofBits, Ideal.ieee]
    rw [e, z, WordCmp.cmpi_sge_ofNat (by omega) (by omega)]
    unfold Scalar.select
    by_cases h : k.val ≤ t.val <;> simp [h]
  · have e : (row k).val = k := Nat.mod_eq_of_lt (by have := t.isLt; omega)
    exact (ref_decay x2 x4 t (row k) (by omega) w).trans (by rw [e])

theorem ref_gated (t : Fin 2048) (w : Fin 2816) : val_main_v66 (F := Ideal) x0 x1 x2 x3 x4 (ix2 t w)
    = gated (x0 (ix2 t ⟨w.val, by omega⟩)) (val_main_v51 (F := Ideal) x1 x2 x3 x4 (ix2 t w)) := by
  unfold gated
  pointwise [val_main_v66, val_main_v65, val_main_v64, val_main_v63, val_main_v62, val_main_cst_13, val_main_v61, val_main_v60, val_main_cst_12,
    val_main_v59, val_main_v58, val_main_v57, val_main_cst_11, val_main_v56, val_main_v55, val_main_v54, val_main_cst_10, val_main_v53,
    val_main_v52, val_main_v0]
  rw [← mul_assoc, mul_comm (x0 _) (Ideal.ofBits .f32 0x3F000000#32)]

end Reference

/-! ## The arrays -/

section Arrays

/-- What both programs compute of the arguments. -/
def hs (x1 x2 x3 : (⟨2, ![2048, 2816]⟩ : Shape).Idx → EReal) (x4 : (⟨2, ![1, 2816]⟩ : Shape).Idx → EReal) :
    (⟨2, ![2048, 2816]⟩ : Shape).Idx → EReal := fun y =>
  states (fun r => x1 (ix2 r (y 1))) (fun r => x2 (ix2 r (y 1))) (fun r => x3 (ix2 r (y 1))) (x4 (ix2 0 (y 1))) (y 0).val
def out (x0 : (⟨2, ![2048, 5632]⟩ : Shape).Idx → EReal) (x1 x2 x3 : (⟨2, ![2048, 2816]⟩ : Shape).Idx → EReal)
    (x4 : (⟨2, ![1, 2816]⟩ : Shape).Idx → EReal) : (⟨2, ![2048, 2816]⟩ : Shape).Idx → EReal := fun y =>
  gated (x0 (ix2 (n0 := 2048) (n1 := 5632) (y 0) ⟨(y 1).val, (show (y 1).val < 2816 from (y 1).isLt).trans (by omega)⟩)) (hs x1 x2 x3 x4 y)

open Cert.Kernel21Ideal Cert.Kernel21Ideal.Gen

variable (m : (ℓ : Loc nD τ sig) → Buf (Elt Ideal) ℓ) (c : Dev nD)

theorem window0 : ∀ t : Fin cfg0.N, win0_0.index t = ![0, t.val] := (by decide +kernel : ∀ t : Fin grid0.N, _)
theorem window1 : ∀ t : Fin cfg0.N, win0_1.index t = ![0, t.val] := (by decide +kernel : ∀ t : Fin grid0.N, _)
theorem window2 : ∀ t : Fin cfg0.N, win0_2.index t = ![0, t.val] := (by decide +kernel : ∀ t : Fin grid0.N, _)
theorem window3 : ∀ t : Fin cfg0.N, win0_3.index t = ![0, t.val] := (by decide +kernel : ∀ t : Fin grid0.N, _)
theorem window4 : ∀ t : Fin cfg0.N, win0_4.index t = ![0, t.val] := (by decide +kernel : ∀ t : Fin grid0.N, _)
theorem window5 : ∀ t : Fin cfg0.N, win0_5.index t = ![0, t.val] := (by decide +kernel : ∀ t : Fin grid0.N, _)
theorem window6 : ∀ t : Fin cfg0.N, win0_6.index t = ![0, t.val] := (by decide +kernel : ∀ t : Fin grid0.N, _)

theorem lt22 (t : Fin cfg0.N) : t.val < 22 := t.isLt

/-- Column `q` of point `t`'s tile. -/
def col (t : Fin cfg0.N) (q : Fin 128) : Fin 2816 := ⟨128 * t.val + q.val, by have := lt22 t; omega⟩

theorem block0 (t : Fin cfg0.N) (r : Fin 2048) (q : Fin 128) : (iblk m c 0 t : Vec Ideal S2048x128 .f32) (ix2 r q)
    = m ((c : Thread nD τ).loc main_arg0) (ix2 (n0 := 2048) (n1 := 5632) r ⟨(col t q).val, by have := (col t q).isLt; omega⟩) := by
  have ht := lt22 t
  blk_simp [iblk, V]
  refine congrArg _ ?_
  unfold col
  blk_ext [window0 t]

theorem block1 (t : Fin cfg0.N) (r : Fin 2048) (q : Fin 128) : (iblk m c 1 t : Vec Ideal S2048x128 .f32) (ix2 r q)
    = m ((c : Thread nD τ).loc main_arg1) (ix2 (n0 := 2048) (n1 := 2816) r (col t q)) := by
  have ht := lt22 t
  blk_simp [iblk, V]
  refine congrArg _ ?_
  unfold col
  blk_ext [window1 t]

theorem block2 (t : Fin cfg0.N) (r : Fin 2048) (q : Fin 128) : (iblk m c 2 t : Vec Ideal S2048x128 .bf16) (ix2 r q)
    = m ((c : Thread nD τ).loc main_arg2) (ix2 (n0 := 2048) (n1 := 2816) r (col t q)) := by
  have ht := lt22 t
  blk_simp [iblk, V]
  refine congrArg _ ?_
  unfold col
  blk_ext [window2 t]

theorem block3 (t : Fin cfg0.N) (r : Fin 2048) (q : Fin 128) : (iblk m c 3 t : Vec Ideal S2048x128 .bf16) (ix2 r q)
    = m ((c : Thread nD τ).loc main_arg3) (ix2 (n0 := 2048) (n1 := 2816) r (col t q)) := by
  have ht := lt22 t
  blk_simp [iblk, V]
  refine congrArg _ ?_
  unfold col
  blk_ext [window3 t]

theorem block4 (t : Fin cfg0.N) (q : Fin 128) : (iblk m c 4 t : Vec Ideal S1x128 .f32) (ix2 0 q)
    = m ((c : Thread nD τ).loc main_arg4) (ix2 (n0 := 1) (n1 := 2816) 0 (col t q)) := by
  have ht := lt22 t
  blk_simp [iblk, V]
  refine congrArg _ ?_
  unfold col
  blk_ext [window4 t]

/-- What the program's two results end with, of its arguments. -/
abbrev hsOf : (⟨2, ![2048, 2816]⟩ : Shape).Idx → EReal :=
  hs (m ((c : Thread nD τ).loc main_arg1)) (m ((c : Thread nD τ).loc main_arg2)) (m ((c : Thread nD τ).loc main_arg3)) (m ((c : Thread nD τ).loc main_arg4))
abbrev outOf : (⟨2, ![2048, 2816]⟩ : Shape).Idx → EReal :=
  out (m ((c : Thread nD τ).loc main_arg0)) (m ((c : Thread nD τ).loc main_arg1)) (m ((c : Thread nD τ).loc main_arg2)) (m ((c : Thread nD τ).loc main_arg3)) (m ((c : Thread nD τ).loc main_arg4))

theorem hs_tile (t : Fin cfg0.N) (r : Fin 2048) (q : Fin 128) :
    hsTile (F := Ideal) (iblk m c 1 t) (iblk m c 2 t) (iblk m c 3 t) (iblk m c 4 t) (ix2 r q) = hsOf m c (ix2 r (col t q)) := by
  refine (states_at _ _ _ _ q r).trans ?_
  simp only [block1, block2, block3, block4]
  rfl

theorem out_tile (t : Fin cfg0.N) (r : Fin 2048) (q : Fin 128) :
    outTile (F := Ideal) (iblk m c 0 t) (iblk m c 1 t) (iblk m c 2 t) (iblk m c 3 t) (iblk m c 4 t) (ix2 r q) = outOf m c (ix2 r (col t q)) := by
  show _ = gated _ (hsOf m c (ix2 r (col t q)))
  rw [← hs_tile]
  refine Eq.trans ?_ (congrArg (fun g => gated g _) (block0 m c t r q))
  unfold outTile gated
  pointwise [k0_pay1]

theorem final5 : (dats m 0 c).arrAt 5 cfg0.N = hsOf m c := by
  refine (dats m 0 c).arrAt_eq_of_covers 5 _ (by decide +kernel) fun t hf y => ?_
  obtain ⟨r, q, rfl⟩ : ∃ (r : Fin 2048) (q : Fin 128), y = ix2 r q := ⟨y 0, y 1, eq_ix2 y⟩
  have e : (((cfg0.win 5).blk t).view.emb (ix2 r q) : S2048x2816.Idx) = ix2 r (col t q) := by
    unfold col
    blk_ext [window5 t]
  refine Eq.trans ?_ (congrArg (hsOf m c) e.symm)
  blk_simp
  rw [after_5]
  exact hs_tile m c t r q

theorem final6 : (dats m 0 c).arrAt 6 cfg0.N = outOf m c := by
  refine (dats m 0 c).arrAt_eq_of_covers 6 _ (by decide +kernel) fun t hf y => ?_
  obtain ⟨r, q, rfl⟩ : ∃ (r : Fin 2048) (q : Fin 128), y = ix2 r q := ⟨y 0, y 1, eq_ix2 y⟩
  have e : (((cfg0.win 6).blk t).view.emb (ix2 r q) : S2048x2816.Idx) = ix2 r (col t q) := by
    unfold col
    blk_ext [window6 t]
  refine Eq.trans ?_ (congrArg (outOf m c) e.symm)
  blk_simp
  rw [after_6]
  exact out_tile m c t r q

/-- The kernel's run. -/
theorem run_kernel (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = hsOf m c
      ∧ r.2.mem ((c.tc : Thread nD τ).loc main_v0_1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), kept m h.1 c⟩) (run_main m ρ)

end Arrays

/-- Both programs, from arguments that agree. -/
theorem algebraic : Cert.algebraic_Kernel21Ideal_Reference21Ideal := by
  intro m g m' g' _ heq
  refine ⟨fun c => hsOf m c, fun c => outOf m c, run_kernel m g, (θ_run Cert.Reference21Ideal.defs _ _).mono (fun r h c => ?_) (Cert.Reference21Ideal.Value.run m' g')⟩
  obtain ⟨h0, h1, h2, h3, h4⟩ := heq c
  have e : ∀ x1 x2 x3 x4, Cert.Reference21Ideal.Read.val_main_v51 (F := Ideal) x1 x2 x3 x4 = hs x1 x2 x3 x4 := fun x1 x2 x3 x4 => funext fun y => by
    obtain ⟨t, w, rfl⟩ : ∃ (t : Fin 2048) (w : Fin 2816), y = ix2 t w := ⟨y 0, y 1, eq_ix2 y⟩
    exact ref_states x1 x2 x3 x4 t w
  refine ⟨(h c).1.trans ((Cert.Reference21Ideal.Read.val_main_v51_eq m' c).trans ?_), (h c).2.1.trans ((Cert.Reference21Ideal.Read.val_main_v66_eq m' c).trans ?_), (h c).2.2⟩
  · rw [h1, h2, h3, h4, e]
  · rw [h0, h1, h2, h3, h4]
    funext y
    obtain ⟨t, w, rfl⟩ : ∃ (t : Fin 2048) (w : Fin 2816), y = ix2 t w := ⟨y 0, y 1, eq_ix2 y⟩
    refine (ref_gated _ _ _ _ _ t w).trans ?_
    rw [e]
    rfl

end Cert.Scan

end
-- ==== Proof.Swiglu.lean ====
/-
  The SwiGLU, forwards and back to its first product: the kernel's four calls write the gate, the other half and their
  activation, the activation times the second weights, the incoming gradient times those transposed, and the gradient
  of the first product, gate's columns before the other half's. Each array is read as a function of the arrays the
  call reads, and the four composed.
-/
module

public import proofs.«01_k».proof.Proof.Gen.Kernel2Ideal.Frame
public import proofs.«01_k».proof.Proof.Gen.Reference2Ideal.Run
public import proofs.«01_k».proof.Defs
public import Idealize.ShloMosaic.Lib.Pipeline.ValueKit
public import Idealize.ShloMosaic.Lib.Pointwise

@[expose] public section

set_option maxRecDepth 16384

noncomputable section

namespace Cert.Swiglu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open Finset

/-- A row of `x` times a column of `w`; a row of `x` times a row of `w`. -/
def rowCol {a k b : ℕ} (x : (⟨2, ![a, k]⟩ : Shape).Idx → EReal) (w : (⟨2, ![k, b]⟩ : Shape).Idx → EReal) (r : Fin a) (q : Fin b) : EReal :=
  ∑ j : Fin k, x (ix2 r j) * w (ix2 j q)
def rowRow {a k b : ℕ} (x : (⟨2, ![a, k]⟩ : Shape).Idx → EReal) (w : (⟨2, ![b, k]⟩ : Shape).Idx → EReal) (r : Fin a) (q : Fin b) : EReal :=
  ∑ j : Fin k, x (ix2 r j) * w (ix2 q j)

section Functions

variable (x : (⟨2, ![2048, 2048]⟩ : Shape).Idx → EReal) (w : (⟨2, ![2048, 11264]⟩ : Shape).Idx → EReal)
  (wd : (⟨2, ![5632, 2048]⟩ : Shape).Idx → EReal) (df : (⟨2, ![2048, 2048]⟩ : Shape).Idx → EReal)

/-- The gate, the other half, and their activation `silu (gate) * up`. -/
def gate : (⟨2, ![2048, 5632]⟩ : Shape).Idx → EReal := fun i => rowCol x w (i 0) ⟨(i 1).val, by have := (i 1).isLt; simp at this; omega⟩
def up : (⟨2, ![2048, 5632]⟩ : Shape).Idx → EReal := fun i => rowCol x w (i 0) ⟨5632 + (i 1).val, by have := (i 1).isLt; simp at this; omega⟩
def act : (⟨2, ![2048, 5632]⟩ : Shape).Idx → EReal := fun i => gate x w i * Ideal.logistic (gate x w i) * up x w i

/-- The activation times the second weights. -/
def down (a : (⟨2, ![2048, 5632]⟩ : Shape).Idx → EReal) : (⟨2, ![2048, 2048]⟩ : Shape).Idx → EReal := fun i => rowCol a wd (i 0) (i 1)

/-- The activation's gradient. -/
def dact : (⟨2, ![2048, 5632]⟩ : Shape).Idx → EReal := fun i => rowRow df wd (i 0) (i 1)

end Functions

theorem down_at {wd : (⟨2, ![5632, 2048]⟩ : Shape).Idx → EReal} {f : (⟨2, ![2048, 5632]⟩ : Shape).Idx → EReal}
    {i : (⟨2, ![2048, 2048]⟩ : Shape).Idx} {a b : Fin 2048} (h0 : (i 0).val = a.val) (h1 : (i 1).val = b.val) :
    down wd f i = rowCol f wd a b := by
  obtain rfl : i 0 = a := Fin.ext h0
  obtain rfl : i 1 = b := Fin.ext h1
  rfl

theorem dact_at {wd : (⟨2, ![5632, 2048]⟩ : Shape).Idx → EReal} {df : (⟨2, ![2048, 2048]⟩ : Shape).Idx → EReal}
    {i : (⟨2, ![2048, 5632]⟩ : Shape).Idx} {a : Fin 2048} {b : Fin 5632} (h0 : (i 0).val = a.val) (h1 : (i 1).val = b.val) :
    dact wd df i = rowRow df wd a b := by
  obtain rfl : i 0 = a := Fin.ext h0
  obtain rfl : i 1 = b := Fin.ext h1
  rfl

/-- The gradient of the gate and of the other half, from the activation's. -/
def dgate (g u d : EReal) : EReal := d * u * Ideal.logistic g + g * (d * u) * (Ideal.logistic g * (1 - Ideal.logistic g))
def dup (g d : EReal) : EReal := g * Ideal.logistic g * d

/-- The two side by side. -/
def dboth (g u d : (⟨2, ![2048, 5632]⟩ : Shape).Idx → EReal) : (⟨2, ![2048, 11264]⟩ : Shape).Idx → EReal := fun i =>
  if h : (i 1).val < 5632 then dgate (g (ix2 (i 0) ⟨(i 1).val, h⟩)) (u (ix2 (i 0) ⟨(i 1).val, h⟩)) (d (ix2 (i 0) ⟨(i 1).val, h⟩))
  else dup (g (ix2 (i 0) ⟨(i 1).val - 5632, by have := (i 1).isLt; simp at this; omega⟩)) (d (ix2 (i 0) ⟨(i 1).val - 5632, by have := (i 1).isLt; simp at this; omega⟩))

theorem dboth_at {g u d : (⟨2, ![2048, 5632]⟩ : Shape).Idx → EReal} {i : (⟨2, ![2048, 11264]⟩ : Shape).Idx} {a : Fin 2048} {b : Fin 11264}
    (h0 : (i 0).val = a.val) (h1 : (i 1).val = b.val) : dboth g u d i
      = if h : b.val < 5632 then dgate (g (ix2 a ⟨b.val, h⟩)) (u (ix2 a ⟨b.val, h⟩)) (d (ix2 a ⟨b.val, h⟩))
        else dup (g (ix2 a ⟨b.val - 5632, by omega⟩)) (d (ix2 a ⟨b.val - 5632, by omega⟩)) := by
  obtain rfl : i 0 = a := Fin.ext h0
  obtain rfl : i 1 = b := Fin.ext h1
  rfl

theorem origin : (![0, 0] : Fin 2 → Nat) = fun _ => 0 := by decide

section Regions

variable (V : (c : Dev nD) → (b : Ref sig .tc) → Buf (Elt Ideal) ((c : Thread nD τ).loc b)) (c : Dev nD)

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, 22 + t.val] := (by decide +kernel : ∀ t : Fin grid0.N, _)
theorem index0_3 : ∀ t : Fin cfg0.N, win0_3.index t = ![0, t.val] := (by decide +kernel : ∀ t : Fin grid0.N, _)
theorem index0_4 : ∀ t : Fin cfg0.N, win0_4.index t = ![0, t.val] := (by decide +kernel : ∀ t : Fin grid0.N, _)
theorem index0_5 : ∀ t : Fin cfg0.N, win0_5.index t = ![0, t.val] := (by decide +kernel : ∀ t : Fin grid0.N, _)

theorem lt22 (t : Fin cfg0.N) : t.val < 22 := t.isLt

theorem iblk0_0 (t : Fin cfg0.N) (r k : Fin 2048) : iblk0 (F := Ideal) V c 0 t (ix2 r k) = V c main_arg0 (ix2 r k) := by
  blk_simp [iblk0]
  refine congrArg _ ?_
  blk_ext [index0_0 t]

theorem iblk0_1 (t : Fin cfg0.N) (k : Fin 2048) (q : Fin 256) : iblk0 (F := Ideal) V c 1 t (ix2 k q)
    = V c main_arg1 (ix2 k ⟨256 * t.val + q.val, by have := lt22 t; omega⟩) := by
  blk_simp [iblk0]
  refine congrArg _ ?_
  blk_ext [index0_1 t]

theorem iblk0_2 (t : Fin cfg0.N) (k : Fin 2048) (q : Fin 256) : iblk0 (F := Ideal) V c 2 t (ix2 k q)
    = V c main_arg1 (ix2 k ⟨5632 + (256 * t.val + q.val), by have := lt22 t; omega⟩) := by
  blk_simp [iblk0]
  refine congrArg _ ?_
  blk_ext [index0_2 t]

theorem gate_at (t : Fin cfg0.N) {i : (⟨2, ![2048, 5632]⟩ : Shape).Idx} {r : Fin 2048} {q : Fin 256} (h0 : (i 0).val = r.val)
    (h1 : (i 1).val = 256 * t.val + q.val) : k0_pay3 (F := Ideal) (iblk0 V c 0 t) (iblk0 V c 1 t) (ix2 r q) = gate (V c main_arg0) (V c main_arg1) i := by
  obtain rfl : i 0 = r := Fin.ext h0
  pointwise [k0_pay3, k0_pay1]
  unfold gate rowCol
  refine Finset.sum_congr rfl fun k _ => congrArg₂ (fun x y : EReal => x * y) (iblk0_0 V c t _ k) ((iblk0_1 V c t k q).trans ?_)
  simp only [h1]

theorem up_at (t : Fin cfg0.N) {i : (⟨2, ![2048, 5632]⟩ : Shape).Idx} {r : Fin 2048} {q : Fin 256} (h0 : (i 0).val = r.val)
    (h1 : (i 1).val = 256 * t.val + q.val) : k0_pay4 (F := Ideal) (iblk0 V c 0 t) (iblk0 V c 2 t) (ix2 r q) = up (V c main_arg0) (V c main_arg1) i := by
  obtain rfl : i 0 = r := Fin.ext h0
  pointwise [k0_pay4, k0_pay2]
  unfold up rowCol
  refine Finset.sum_congr rfl fun k _ => congrArg₂ (fun x y : EReal => x * y) (iblk0_0 V c t _ k) ((iblk0_2 V c t k q).trans ?_)
  simp only [h1]

theorem act_of (x0 : Vec Ideal S2048x2048 .bf16) (x1 x2 : Vec Ideal S2048x256 .bf16) (j : S2048x256.Idx) :
    k0_pay5 (F := Ideal) x0 x1 x2 j = k0_pay3 (F := Ideal) x0 x1 j * Ideal.logistic (k0_pay3 (F := Ideal) x0 x1 j) * k0_pay4 (F := Ideal) x0 x2 j := by
  pointwise [k0_pay5, k0_pay4, k0_pay3]

theorem final_gate : (dat0 (F := Ideal) V c).arrAt 3 cfg0.N = gate (V c main_arg0) (V c main_arg1) := by
  refine (dat0 V c).arrAt_eq_of_covers 3 _ (by decide +kernel) fun t hf y => ?_
  obtain ⟨r, q, rfl⟩ : ∃ (r : Fin 2048) (q : Fin 256), y = ix2 r q := ⟨y 0, y 1, eq_ix2 y⟩
  refine Eq.trans ?_ (gate_at V c t (r := r) (q := q) ?_ ?_)
  · blk_simp
    rw [after0_3]
    frame_out
  · blk_simp [index0_3 t]
  · blk_simp [index0_3 t]; omega

theorem final_up : (dat0 (F := Ideal) V c).arrAt 4 cfg0.N = up (V c main_arg0) (V c main_arg1) := by
  refine (dat0 V c).arrAt_eq_of_covers 4 _ (by decide +kernel) fun t hf y => ?_
  obtain ⟨r, q, rfl⟩ : ∃ (r : Fin 2048) (q : Fin 256), y = ix2 r q := ⟨y 0, y 1, eq_ix2 y⟩
  refine Eq.trans ?_ (up_at V c t (r := r) (q := q) ?_ ?_)
  · blk_simp
    rw [after0_4]
    frame_out
  · blk_simp [index0_4 t]
  · blk_simp [index0_4 t]; omega

theorem final_act : (dat0 (F := Ideal) V c).arrAt 5 cfg0.N = act (V c main_arg0) (V c main_arg1) := by
  refine (dat0 V c).arrAt_eq_of_covers 5 _ (by decide +kernel) fun t hf y => ?_
  obtain ⟨r, q, rfl⟩ : ∃ (r : Fin 2048) (q : Fin 256), y = ix2 r q := ⟨y 0, y 1, eq_ix2 y⟩
  have h0 : ((((cfg0.win 5).blk t).view.emb (ix2 r q) 0 : Fin _) : ℕ) = r.val := by blk_simp [index0_5 t]
  have h1 : ((((cfg0.win 5).blk t).view.emb (ix2 r q) 1 : Fin _) : ℕ) = 256 * t.val + q.val := by blk_simp [index0_5 t]; omega
  unfold act
  rw [← gate_at V c t h0 h1, ← up_at V c t h0 h1]
  refine Eq.trans ?_ (act_of _ _ _ _)
  blk_simp
  rw [after0_5]
  frame_out

theorem index1_0 : ∀ t : Fin cfg1.N, win1_0.index t = ![t.val / 4, 0] := (by decide +kernel : ∀ t : Fin grid1.N, _)
theorem index1_1 : ∀ t : Fin cfg1.N, win1_1.index t = ![0, t.val % 4] := (by decide +kernel : ∀ t : Fin grid1.N, _)
theorem index1_2 : ∀ t : Fin cfg1.N, win1_2.index t = ![t.val / 4, t.val % 4] := (by decide +kernel : ∀ t : Fin grid1.N, _)

theorem lt8 (t : Fin cfg1.N) : t.val < 8 := t.isLt

theorem iblk1_0 (t : Fin cfg1.N) (r : Fin 1024) (k : Fin 5632) : iblk1 (F := Ideal) V c 0 t (ix2 r k)
    = V c main_v0_2 (ix2 ⟨1024 * (t.val / 4) + r.val, by have := lt8 t; omega⟩ k) := by
  blk_simp [iblk1]
  refine congrArg _ ?_
  blk_ext [index1_0 t]

theorem iblk1_1 (t : Fin cfg1.N) (k : Fin 5632) (q : Fin 512) : iblk1 (F := Ideal) V c 1 t (ix2 k q)
    = V c main_arg2 (ix2 k ⟨512 * (t.val % 4) + q.val, by omega⟩) := by
  blk_simp [iblk1]
  refine congrArg _ ?_
  blk_ext [index1_1 t]

theorem final_down : (dat1 (F := Ideal) V c).arrAt 2 cfg1.N = down (V c main_arg2) (V c main_v0_2) := by
  refine (dat1 V c).arrAt_eq_of_covers 2 _ (by decide +kernel) fun t hf y => ?_
  obtain ⟨r, q, rfl⟩ : ∃ (r : Fin 1024) (q : Fin 512), y = ix2 r q := ⟨y 0, y 1, eq_ix2 y⟩
  have ht := lt8 t
  have h0 : ((((cfg1.win 2).blk t).view.emb (ix2 r q) 0 : Fin _) : ℕ) = 1024 * (t.val / 4) + r.val := by blk_simp [index1_2 t]; omega
  have h1 : ((((cfg1.win 2).blk t).view.emb (ix2 r q) 1 : Fin _) : ℕ) = 512 * (t.val % 4) + q.val := by blk_simp [index1_2 t]; omega
  refine Eq.trans ?_ (down_at (a := ⟨1024 * (t.val / 4) + r.val, by omega⟩) (b := ⟨512 * (t.val % 4) + q.val, by omega⟩) h0 h1).symm
  have hp : k1_pay1 (F := Ideal) (iblk1 V c 0 t) (iblk1 V c 1 t) (ix2 r q)
      = rowCol (a := 2048) (k := 5632) (b := 2048) (V c main_v0_2) (V c main_arg2) ⟨1024 * (t.val / 4) + r.val, by omega⟩ ⟨512 * (t.val % 4) + q.val, by omega⟩ := by
    pointwise [k1_pay1]
    exact Finset.sum_congr rfl fun k _ => congrArg₂ (fun x y : EReal => x * y) (iblk1_0 V c t r k) (iblk1_1 V c t k q)
  refine Eq.trans ?_ hp
  blk_simp
  rw [after1_2]
  frame_out

theorem index2_0 : ∀ t : Fin cfg2.N, win2_0.index t = ![0, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![0, t.val] := (by decide +kernel : ∀ t : Fin grid2.N, _)

theorem lt11 (t : Fin cfg2.N) : t.val < 11 := t.isLt

theorem iblk2_0 (t : Fin cfg2.N) (r k : Fin 2048) : iblk2 (F := Ideal) V c 0 t (ix2 r k) = V c main_arg3 (ix2 r k) := by
  blk_simp [iblk2]
  refine congrArg _ ?_
  blk_ext [index2_0 t]

theorem iblk2_1 (t : Fin cfg2.N) (q : Fin 512) (k : Fin 2048) : iblk2 (F := Ideal) V c 1 t (ix2 q k)
    = V c main_arg2 (ix2 ⟨512 * t.val + q.val, by have := lt11 t; omega⟩ k) := by
  blk_simp [iblk2]
  refine congrArg _ ?_
  blk_ext [index2_1 t]

theorem final_dact : (dat2 (F := Ideal) V c).arrAt 2 cfg2.N = dact (V c main_arg2) (V c main_arg3) := by
  refine (dat2 V c).arrAt_eq_of_covers 2 _ (by decide +kernel) fun t hf y => ?_
  obtain ⟨r, q, rfl⟩ : ∃ (r : Fin 2048) (q : Fin 512), y = ix2 r q := ⟨y 0, y 1, eq_ix2 y⟩
  have ht := lt11 t
  have h0 : ((((cfg2.win 2).blk t).view.emb (ix2 r q) 0 : Fin _) : ℕ) = r.val := by blk_simp [index2_2 t]
  have h1 : ((((cfg2.win 2).blk t).view.emb (ix2 r q) 1 : Fin _) : ℕ) = 512 * t.val + q.val := by blk_simp [index2_2 t]; omega
  refine Eq.trans ?_ (dact_at (a := r) (b := ⟨512 * t.val + q.val, by omega⟩) h0 h1).symm
  have hp : k2_pay1 (F := Ideal) (iblk2 V c 0 t) (iblk2 V c 1 t) (ix2 r q)
      = rowRow (a := 2048) (k := 2048) (b := 5632) (V c main_arg3) (V c main_arg2) r ⟨512 * t.val + q.val, by omega⟩ := by
    pointwise [k2_pay1]
    exact Finset.sum_congr rfl fun k _ => congrArg₂ (fun x y : EReal => x * y) (iblk2_0 V c t r k) (iblk2_1 V c t q k)
  refine Eq.trans ?_ hp
  blk_simp
  rw [after2_2]
  frame_out

theorem index3_0 : ∀ t : Fin cfg3.N, win3_0.index t = ![t.val, 0] := (by decide +kernel : ∀ t : Fin grid3.N, _)
theorem index3_1 : ∀ t : Fin cfg3.N, win3_1.index t = ![t.val, 0] := (by decide +kernel : ∀ t : Fin grid3.N, _)
theorem index3_2 : ∀ t : Fin cfg3.N, win3_2.index t = ![t.val, 0] := (by decide +kernel : ∀ t : Fin grid3.N, _)
theorem index3_3 : ∀ t : Fin cfg3.N, win3_3.index t = ![t.val, 0] := (by decide +kernel : ∀ t : Fin grid3.N, _)

theorem lt16 (t : Fin cfg3.N) : t.val < 16 := t.isLt

theorem iblk3_0 (t : Fin cfg3.N) (r : Fin 128) (q : Fin 5632) : iblk3 (F := Ideal) V c 0 t (ix2 r q)
    = V c main_v0_0 (ix2 ⟨128 * t.val + r.val, by have := lt16 t; omega⟩ q) := by
  blk_simp [iblk3]
  refine congrArg _ ?_
  blk_ext [index3_0 t]

theorem iblk3_1 (t : Fin cfg3.N) (r : Fin 128) (q : Fin 5632) : iblk3 (F := Ideal) V c 1 t (ix2 r q)
    = V c main_v0_1 (ix2 ⟨128 * t.val + r.val, by have := lt16 t; omega⟩ q) := by
  blk_simp [iblk3]
  refine congrArg _ ?_
  blk_ext [index3_1 t]

theorem iblk3_2 (t : Fin cfg3.N) (r : Fin 128) (q : Fin 5632) : iblk3 (F := Ideal) V c 2 t (ix2 r q)
    = V c main_v2 (ix2 ⟨128 * t.val + r.val, by have := lt16 t; omega⟩ q) := by
  blk_simp [iblk3]
  refine congrArg _ ?_
  blk_ext [index3_2 t]

/-- The left half of what a point writes is the gate's gradient. -/
theorem out_left (x0 x1 x2 : Vec Ideal S128x5632 .bf16) (r : Fin 128) (q : Fin 11264) (h : q.val < 5632) :
    out3_3 (F := Ideal) x0 x1 x2 (ix2 r q) = dgate (x0 (ix2 r ⟨q.val, h⟩)) (x1 (ix2 r ⟨q.val, h⟩)) (x2 (ix2 r ⟨q.val, h⟩)) := by
  unfold out3_3
  have e : (ix2 r q : S128x11264.Idx) = r3_1.emb (ix2 r ⟨q.val, h⟩) := by
    funext a; apply Fin.ext; refine Eq.trans ?_ (ValueKit.rect_emb_unit_val (s := S128x11264) _ _ _ _ a).symm
    match a with
    | ⟨0, _⟩ => exact (Nat.zero_add _).symm
    | ⟨1, _⟩ => exact (Nat.zero_add _).symm
  rw [View.canon_cons_of_not_mem, e, View.canon_cons_emb]
  · simp only [View.ld_unit_zero (S := S128x5632) origin, r3_0]
    pointwise [k3_pay4, k3_pay3, k3_pay2, k3_pay1, dgate]
  · intro hm
    exact absurd ((Rect.mem_set_unit (s := S128x11264) (inb := inb_S128x11264_S128x5632_0_5632)).mp hm 1).1 (by show ¬ 5632 ≤ q.val; omega)

/-- The right half is the other factor's gradient. -/
theorem out_right (x0 x1 x2 : Vec Ideal S128x5632 .bf16) (r : Fin 128) (q : Fin 11264) (h : ¬ q.val < 5632) :
    out3_3 (F := Ideal) x0 x1 x2 (ix2 r q)
      = dup (x0 (ix2 r ⟨q.val - 5632, by omega⟩)) (x2 (ix2 r ⟨q.val - 5632, by omega⟩)) := by
  unfold out3_3
  have e : (ix2 r q : S128x11264.Idx) = r3_2.emb (ix2 r ⟨q.val - 5632, by omega⟩) := by
    funext a; apply Fin.ext; refine Eq.trans ?_ (ValueKit.rect_emb_unit_val (s := S128x11264) _ _ _ _ a).symm
    match a with
    | ⟨0, _⟩ => exact (Nat.zero_add _).symm
    | ⟨1, _⟩ => show q.val = 5632 + (q.val - 5632); omega
  rw [e, View.canon_cons_emb]
  simp only [View.ld_unit_zero (S := S128x5632) origin, r3_0]
  pointwise [k3_pay5, k3_pay3, k3_pay2, k3_pay1, dup]

theorem final_dboth : (dat3 (F := Ideal) V c).arrAt 3 cfg3.N = dboth (V c main_v0_0) (V c main_v0_1) (V c main_v2) := by
  refine (dat3 V c).arrAt_eq_of_covers 3 _ (by decide +kernel) fun t hf y => ?_
  obtain ⟨r, q, rfl⟩ : ∃ (r : Fin 128) (q : Fin 11264), y = ix2 r q := ⟨y 0, y 1, eq_ix2 y⟩
  have ht := lt16 t
  have h0 : ((((cfg3.win 3).blk t).view.emb (ix2 r q) 0 : Fin _) : ℕ) = 128 * t.val + r.val := by blk_simp [index3_3 t]; omega
  have h1 : ((((cfg3.win 3).blk t).view.emb (ix2 r q) 1 : Fin _) : ℕ) = q.val := by blk_simp [index3_3 t]
  refine Eq.trans ?_ (dboth_at (a := ⟨128 * t.val + r.val, by omega⟩) (b := q) h0 h1).symm
  refine Eq.trans (b := out3_3 (F := Ideal) (iblk3 V c 0 t) (iblk3 V c 1 t) (iblk3 V c 2 t) (ix2 r q)) ?_ ?_
  · blk_simp
    rw [after3_3]
  · by_cases h : q.val < 5632
    · rw [dif_pos h, out_left _ _ _ r q h]
      rw [iblk3_0, iblk3_1, iblk3_2]
    · rw [dif_neg h, out_right _ _ _ r q h]
      rw [iblk3_0, iblk3_2]

end Regions

/-! ## The four calls in turn -/

section Chain

variable (m : (ℓ : Loc nD τ sig) → Buf (Elt Ideal) ℓ) (ρ : Dev nD → PrngReg) (c : Dev nD)

theorem entry_arg (b : Ref sig .tc) (h : b ∈ argRefs) : V0 m ρ c b = m ((c : Thread nD τ).loc b) := W0_args m ρ c b h

theorem after_gate : V1 m ρ c main_v0_0 = gate (m ((c : Thread nD τ).loc main_arg0)) (m ((c : Thread nD τ).loc main_arg1)) :=
  (W1_arr m ρ c 3).trans ((final_gate (V0 m ρ) c).trans
    (congrArg₂ gate (entry_arg m ρ c main_arg0 (by decide)) (entry_arg m ρ c main_arg1 (by decide))))

theorem after_up : V1 m ρ c main_v0_1 = up (m ((c : Thread nD τ).loc main_arg0)) (m ((c : Thread nD τ).loc main_arg1)) :=
  (W1_arr m ρ c 4).trans ((final_up (V0 m ρ) c).trans
    (congrArg₂ up (entry_arg m ρ c main_arg0 (by decide)) (entry_arg m ρ c main_arg1 (by decide))))

theorem after_act : V1 m ρ c main_v0_2 = act (m ((c : Thread nD τ).loc main_arg0)) (m ((c : Thread nD τ).loc main_arg1)) :=
  (W1_arr m ρ c 5).trans ((final_act (V0 m ρ) c).trans
    (congrArg₂ act (entry_arg m ρ c main_arg0 (by decide)) (entry_arg m ρ c main_arg1 (by decide))))

theorem at_main_v1 : W4 m ρ c (Proc.devRef .tc main_v1) = down (m ((c : Thread nD τ).loc main_arg2))
    (act (m ((c : Thread nD τ).loc main_arg0)) (m ((c : Thread nD τ).loc main_arg1))) :=
  (W4_of m ρ c main_v1 (by decide)).trans ((W3_of m ρ c main_v1 (by decide)).trans ((W2_arr m ρ c 2).trans
    ((final_down (V1 m ρ) c).trans (congrArg₂ down (W1_args m ρ c main_arg2 (by decide)) (after_act m ρ c)))))

theorem after_dact : V3 m ρ c main_v2 = dact (m ((c : Thread nD τ).loc main_arg2)) (m ((c : Thread nD τ).loc main_arg3)) :=
  (W3_arr m ρ c 2).trans ((final_dact (V2 m ρ) c).trans
    (congrArg₂ dact (W2_args m ρ c main_arg2 (by decide)) (W2_args m ρ c main_arg3 (by decide))))

theorem kept (b : Ref sig .tc) (h2 : ∀ w : Fin cfg2.W, Pipeline.arrRef spec2 w = b → (cfg2.win w).isOut = false)
    (h1 : ∀ w : Fin cfg1.W, Pipeline.arrRef spec1 w = b → (cfg1.win w).isOut = false) : V3 m ρ c b = V1 m ρ c b :=
  (W3_of m ρ c b h2).trans (W2_of m ρ c b h1)

/-- The gradient that the four calls leave. -/
def dgu (x : (⟨2, ![2048, 2048]⟩ : Shape).Idx → EReal) (w : (⟨2, ![2048, 11264]⟩ : Shape).Idx → EReal)
    (wd : (⟨2, ![5632, 2048]⟩ : Shape).Idx → EReal) (df : (⟨2, ![2048, 2048]⟩ : Shape).Idx → EReal) :
    (⟨2, ![2048, 11264]⟩ : Shape).Idx → EReal := dboth (gate x w) (up x w) (dact wd df)

theorem dboth_congr {g g' u u' d d' : (⟨2, ![2048, 5632]⟩ : Shape).Idx → EReal} (hg : g = g') (hu : u = u') (hd : d = d') :
    dboth g u d = dboth g' u' d' := by subst hg hu hd; rfl

theorem at_main_v3 : W4 m ρ c (Proc.devRef .tc main_v3) = dgu (m ((c : Thread nD τ).loc main_arg0)) (m ((c : Thread nD τ).loc main_arg1))
    (m ((c : Thread nD τ).loc main_arg2)) (m ((c : Thread nD τ).loc main_arg3)) :=
  (W4_arr m ρ c 3).trans ((final_dboth (V3 m ρ) c).trans (dboth_congr
    ((kept m ρ c main_v0_0 (by decide) (by decide)).trans (after_gate m ρ c))
    ((kept m ρ c main_v0_1 (by decide) (by decide)).trans (after_up m ρ c)) (after_dact m ρ c)))

local notation "𝕄" => MT nD τ sig Unit (Elt Ideal) ℕ (UR sig nD τ) ℕ

set_option backward.isDefEq.respectTransparency.types false in
/-- The run of the four calls, with what the two results hold at its end. -/
theorem run : θ_run defs (onTc (τ := τ) (main (F := Ideal))) ⟨m, fun _ => 0, ρ⟩ (fun r => ∀ c : Dev nD,
      r.2.mem ((c.tc : Thread nD τ).loc main_v1) = down (m ((c.tc : Thread nD τ).loc main_arg2))
        (act (m ((c.tc : Thread nD τ).loc main_arg0)) (m ((c.tc : Thread nD τ).loc main_arg1)))
      ∧ r.2.mem ((c.tc : Thread nD τ).loc main_v3) = dgu (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v1 (by decide))).trans (at_main_v1 m ρ c),
       (h c _ (mem_uc main_v3 (by decide))).trans (at_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Chain

/-- The kernel and the reference end with the same block output and the same gradient. -/
theorem algebraic : Cert.algebraic_Kernel2Ideal_Reference2Ideal := by
  intro m g m' g' _ heq
  refine ⟨fun c => down (m ((c.tc : Thread nD τ).loc main_arg2)) (act (m ((c.tc : Thread nD τ).loc main_arg0)) (m ((c.tc : Thread nD τ).loc main_arg1))),
    fun c => dgu (m ((c.tc : Thread nD τ).loc main_arg0)) (m ((c.tc : Thread nD τ).loc main_arg1))
      (m ((c.tc : Thread nD τ).loc main_arg2)) (m ((c.tc : Thread nD τ).loc main_arg3)), run m g,
    (θ_run Cert.Reference2Ideal.defs _ _).mono (fun r h c => ⟨(h c).1.trans ?_, (h c).2.1.trans ?_, (h c).2.2⟩) (Cert.Reference2Ideal.Value.run m' g')⟩
  · rw [(heq c).1, (heq c).2.1, (heq c).2.2.1]
    funext i
    obtain ⟨r, q, rfl⟩ : ∃ (r q : Fin 2048), i = ix2 r q := ⟨i 0, i 1, eq_ix2 i⟩
    pointwise [down, act, gate, up, rowCol, Ideal.logistic]
  · unfold Cert.Reference2Ideal.Value.res_main_v15
    rw [(heq c).1, (heq c).2.1, (heq c).2.2.1, (heq c).2.2.2]
    funext i
    obtain ⟨r, q, rfl⟩ : ∃ (r : Fin 2048) (q : Fin 11264), i = ix2 r q := ⟨i 0, i 1, eq_ix2 i⟩
    pointwise [dgu, dboth, dgate, dup, dact, gate, up, rowCol, rowRow, Ideal.logistic]

end Cert.Swiglu

end
-- ==== Proof.Products.lean ====
/-
  Products of matrices of extended reals: rows by columns, rows by rows and columns by columns; an entry of each from
  the entries of the blocks that hold its factors; and the walk that makes the third block by block.
-/
module

public import Idealize.ShloMosaic.Lib.Pipeline.ValueKit
public import Idealize.ShloMosaic.Lib.Pointwise

@[expose] public section

noncomputable section

namespace Cert.Products

open Idealize.ShloMosaic

theorem origin : (![0, 0] : Fin 2 → Nat) = fun _ => 0 := by decide

variable {m k n : ℕ}

/-- `x · w`, `x · w^T` and `x^T · w`. -/
def mulNN (x : (⟨2, ![m, k]⟩ : Shape).Idx → EReal) (w : (⟨2, ![k, n]⟩ : Shape).Idx → EReal) : (⟨2, ![m, n]⟩ : Shape).Idx → EReal :=
  fun i => ∑ j : Fin k, x (ix2 (i 0) j) * w (ix2 j (i 1))
def mulNT (x : (⟨2, ![m, k]⟩ : Shape).Idx → EReal) (w : (⟨2, ![n, k]⟩ : Shape).Idx → EReal) : (⟨2, ![m, n]⟩ : Shape).Idx → EReal :=
  fun i => ∑ j : Fin k, x (ix2 (i 0) j) * w (ix2 (i 1) j)
def mulTN (x : (⟨2, ![k, m]⟩ : Shape).Idx → EReal) (w : (⟨2, ![k, n]⟩ : Shape).Idx → EReal) : (⟨2, ![m, n]⟩ : Shape).Idx → EReal :=
  fun i => ∑ j : Fin k, x (ix2 j (i 0)) * w (ix2 j (i 1))

variable {tm tn : ℕ} {r : Fin tm} {q : Fin tn} {i : (⟨2, ![m, n]⟩ : Shape).Idx}

/-- An entry of a product, from the blocks that hold its row and its column. -/
theorem mulNN_at {x : (⟨2, ![m, k]⟩ : Shape).Idx → EReal} {w : (⟨2, ![k, n]⟩ : Shape).Idx → EReal}
    {xb : (⟨2, ![tm, k]⟩ : Shape).Idx → EReal} {wb : (⟨2, ![k, tn]⟩ : Shape).Idx → EReal}
    (hx : ∀ j, xb (ix2 r j) = x (ix2 (i 0) j)) (hw : ∀ j, wb (ix2 j q) = w (ix2 j (i 1))) :
    ∑ j : Fin k, xb (ix2 r j) * wb (ix2 j q) = mulNN x w i :=
  Finset.sum_congr rfl fun j _ => congrArg₂ (fun a b : EReal => a * b) (hx j) (hw j)

theorem mulNT_at {x : (⟨2, ![m, k]⟩ : Shape).Idx → EReal} {w : (⟨2, ![n, k]⟩ : Shape).Idx → EReal}
    {xb : (⟨2, ![tm, k]⟩ : Shape).Idx → EReal} {wb : (⟨2, ![tn, k]⟩ : Shape).Idx → EReal}
    (hx : ∀ j, xb (ix2 r j) = x (ix2 (i 0) j)) (hw : ∀ j, wb (ix2 q j) = w (ix2 (i 1) j)) :
    ∑ j : Fin k, xb (ix2 r j) * wb (ix2 q j) = mulNT x w i :=
  Finset.sum_congr rfl fun j _ => congrArg₂ (fun a b : EReal => a * b) (hx j) (hw j)

/-- The contraction in two parts, of which the first comes first. -/
theorem mulNT_halves {h : ℕ} {x : (⟨2, ![m, h + h]⟩ : Shape).Idx → EReal} {w : (⟨2, ![n, h + h]⟩ : Shape).Idx → EReal}
    {xa xb : (⟨2, ![tm, h]⟩ : Shape).Idx → EReal} {wa wb : (⟨2, ![tn, h]⟩ : Shape).Idx → EReal}
    (hxa : ∀ (j : Fin h) (l : Fin (h + h)), l.val = j.val → xa (ix2 r j) = x (ix2 (i 0) l))
    (hwa : ∀ (j : Fin h) (l : Fin (h + h)), l.val = j.val → wa (ix2 q j) = w (ix2 (i 1) l))
    (hxb : ∀ (j : Fin h) (l : Fin (h + h)), l.val = h + j.val → xb (ix2 r j) = x (ix2 (i 0) l))
    (hwb : ∀ (j : Fin h) (l : Fin (h + h)), l.val = h + j.val → wb (ix2 q j) = w (ix2 (i 1) l)) :
    (∑ j : Fin h, xa (ix2 r j) * wa (ix2 q j)) + ∑ j : Fin h, xb (ix2 r j) * wb (ix2 q j) = mulNT x w i := by
  refine Eq.trans ?_ (Fin.sum_univ_add (a := h) (b := h) _).symm
  exact congrArg₂ (fun a b : EReal => a + b)
    (Finset.sum_congr rfl fun j _ => congrArg₂ (fun a b : EReal => a * b) (hxa j _ rfl) (hwa j _ rfl))
    (Finset.sum_congr rfl fun j _ => congrArg₂ (fun a b : EReal => a * b) (hxb j _ rfl) (hwb j _ rfl))

/-- A walk over a grid whose rows have `R` points. The first point of a row makes the transposed block of `x` and keeps
    it for the others; every point writes the product of what is kept and its own block of `w`. Every point writes a block
    of `x^T · w`. -/
theorem mulTN_walk {N R : ℕ} {x : (⟨2, ![k, m]⟩ : Shape).Idx → EReal} {w : (⟨2, ![k, n]⟩ : Shape).Idx → EReal}
    {T : ((⟨2, ![k, tm]⟩ : Shape).Idx → EReal) → (⟨2, ![tm, k]⟩ : Shape).Idx → EReal}
    {P : ((⟨2, ![tm, k]⟩ : Shape).Idx → EReal) → ((⟨2, ![k, tn]⟩ : Shape).Idx → EReal) → (⟨2, ![tm, tn]⟩ : Shape).Idx → EReal}
    (transposes : ∀ b r j, T b (ix2 r j) = b (ix2 j r)) (multiplies : ∀ a b r q, P a b (ix2 r q) = ∑ j : Fin k, a (ix2 r j) * b (ix2 j q))
    (s : (l : ℕ) → l < N → (⟨2, ![tm, k]⟩ : Shape).Idx → EReal) (o : (l : ℕ) → l < N → (⟨2, ![tm, tn]⟩ : Shape).Idx → EReal)
    (xb : (l : ℕ) → l < N → (⟨2, ![k, tm]⟩ : Shape).Idx → EReal) (wb : (l : ℕ) → l < N → (⟨2, ![k, tn]⟩ : Shape).Idx → EReal)
    (first : ∀ l hl, l % R = 0 → s l hl = T (xb l hl) ∧ o l hl = P (T (xb l hl)) (wb l hl))
    (later : ∀ l hl, (l + 1) % R ≠ 0 → s (l + 1) hl = s l (Nat.lt_of_succ_lt hl) ∧ o (l + 1) hl = P (s l (Nat.lt_of_succ_lt hl)) (wb (l + 1) hl))
    (hx : ∀ l hl (j : Fin k) (r : Fin tm) (a : Fin m), a.val = tm * (l / R) + r.val → xb l hl (ix2 j r) = x (ix2 j a))
    (hw : ∀ l hl (j : Fin k) (q : Fin tn) (b : Fin n), b.val = tn * (l % R) + q.val → wb l hl (ix2 j q) = w (ix2 j b))
    (l : ℕ) (hl : l < N) (h0 : (i 0).val = tm * (l / R) + r.val) (h1 : (i 1).val = tn * (l % R) + q.val) :
    o l hl (ix2 r q) = mulTN x w i := by
  have kept : ∀ l hl (r : Fin tm) (j : Fin k) (a : Fin m), a.val = tm * (l / R) + r.val → s l hl (ix2 r j) = x (ix2 j a) := by
    intro l
    induction l with
    | zero => intro hl r j a ha; rw [(first 0 hl (Nat.zero_mod R)).1, transposes]; exact hx 0 hl j r a ha
    | succ l ih =>
      intro hl r j a ha
      by_cases h : (l + 1) % R = 0
      · rw [(first _ hl h).1, transposes]; exact hx _ hl j r a ha
      · rw [(later l hl h).1]
        exact ih _ r j a (by rwa [Nat.succ_div_of_not_dvd fun hd => h (Nat.mod_eq_zero_of_dvd hd)] at ha)
  by_cases h : l % R = 0
  · rw [(first l hl h).2, multiplies]
    exact Finset.sum_congr rfl fun j _ => congrArg₂ (fun a b : EReal => a * b) ((transposes _ r j).trans (hx l hl j r (i 0) h0)) (hw l hl j q (i 1) h1)
  · rcases l with _ | l
    · exact absurd (Nat.zero_mod R) h
    rw [(later l hl h).2, multiplies]
    exact Finset.sum_congr rfl fun j _ => congrArg₂ (fun a b : EReal => a * b)
      (kept l _ r j (i 0) (by rwa [Nat.succ_div_of_not_dvd fun hd => h (Nat.mod_eq_zero_of_dvd hd)] at h0)) (hw _ hl j q (i 1) h1)

end Cert.Products

end
-- ==== Proof.DGateUp.lean ====
/-
  The gradient of the SwiGLU's first weights, `h^T · dy`: the transposed block of
  `h` is made at the first point of a row of blocks and kept in the scratch for the others, so every point writes the
  product of the transposed block of `h` with its block of `dy`, and the array ends as the product of the whole.
-/
module

public import proofs.«01_k».proof.Proof.Gen.Kernel3Ideal.Value
public import proofs.«01_k».proof.Proof.Gen.Reference3Ideal.Run
public import proofs.«01_k».proof.Defs
public import proofs.«01_k».proof.Proof.Products

@[expose] public section

set_option maxRecDepth 16384

noncomputable section

namespace Cert.DGateUp

open Idealize.ShloMosaic Idealize.ShloMosaic.TcCoe Idealize.ShloMosaic.Tactic
open Idealize.SL Idealize.SL.Sem
open Cert.Kernel3Ideal Cert.Kernel3Ideal.Gen Cert.Kernel3Ideal.Value Cert.Products
open Finset

section Point

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S512x1024 .bf16) (h4 : a4.IsWhole)
  (a5 : Memref sig .tc .vmem S512x2048 .bf16) (h5 : a5.IsWhole)
  (x0 : Vec Ideal S2048x512 .bf16) (x1 : Vec Ideal S2048x1024 .bf16) (xs : Vec Ideal S512x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x512) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S512x2048) _ origin]
  simp only [View.readAt_eq_ld, h2.read_unread, h3.read_unread, View.ld_unit_zero (S := S2048x512) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S512x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 11] := (by decide +kernel : ∀ t : Fin grid0.N, _)
theorem index_1 : ∀ t : Fin cfg0.N, win0_1.index t = ![0, t.val % 11] := (by decide +kernel : ∀ t : Fin grid0.N, _)
theorem index_2 : ∀ t : Fin cfg0.N, win0_2.index t = ![t.val / 11, t.val % 11] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 1024), y = ix2 r q := ⟨y 0, y 1, eq_ix2 y⟩
  refine Eq.trans (b := (outsAt0 (F := Ideal) m c t.val t.isLt).1 (ix2 r q)) (by blk_simp; rw [after0_2])
    (mulTN_walk (R := 11) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel3Ideal_Reference3Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference3Ideal.defs _ _).mono (fun r h c => ⟨(h c).1.trans ?_, (h c).2⟩) (Cert.Reference3Ideal.Value.run m' g')⟩
  rw [(heq c).1, (heq c).2]
  funext i
  pointwise [mulTN]
  exact Finset.sum_congr rfl fun k _ => mul_comm _ _

end Cert.DGateUp

end
-- ==== Proof.DxGateUp.lean ====
/-
  The gradient of the SwiGLU's input, `dy · w^T`: the contraction is cut in two, the first half's product kept in the
  scratch and the second's added to it, so every other point writes a block of the whole product.
-/
module

public import proofs.«01_k».proof.Proof.Gen.Kernel4Ideal.Value
public import proofs.«01_k».proof.Proof.Gen.Reference4Ideal.Run
public import proofs.«01_k».proof.Defs
public import proofs.«01_k».proof.Proof.Products

@[expose] public section

set_option maxRecDepth 16384

noncomputable section

namespace Cert.DxGateUp

open Idealize.ShloMosaic Idealize.ShloMosaic.TcCoe Idealize.ShloMosaic.Tactic
open Idealize.SL Idealize.SL.Sem
open Cert.Kernel4Ideal Cert.Kernel4Ideal.Gen Cert.Kernel4Ideal.Value Cert.Products
open Finset

section Point

variable (c : Dev nD) (i : grid0.Coords) (a3 : Memref sig .tc .vmem S1024x5632 .bf16) (h3 : a3.IsWhole)
  (a4 : Memref sig .tc .vmem S512x5632 .bf16) (h4 : a4.IsWhole) (a5 : Memref sig .tc .vmem S1024x512 .f32) (h5 : a5.IsWhole)
  (a6 : Memref sig .tc .vmem S1024x512 .f32) (h6 : a6.IsWhole)
  (x0 : Vec Ideal S1024x5632 .bf16) (x1 : Vec Ideal S512x5632 .bf16) (xs : Vec Ideal S1024x512 .f32)

/-- The first point of a block leaves its product in the scratch; -/
theorem scratch_first (hc : cond0_0 i) (hc1 : ¬cond0_1 i) (hc2 : ¬cond0_2 i) :
    sout0_A_0 (F := Ideal) c i a3 h3 a4 h4 a5 h5 a6 h6 hc hc1 hc2 x0 x1 = k0_pay2 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero origin]
  simp only [View.readAt_eq_ld, h3.read_unread, h4.read_unread, View.ld_unit_zero (S := S1024x5632) origin,
    View.ld_unit_zero (S := S512x5632) origin]

/-- the second writes the scratch plus its own. -/
theorem out_second (hc : ¬cond0_0 i) (hc1 : cond0_1 i) (hc2 : cond0_2 i) :
    out0_B_2 (F := Ideal) c i a3 h3 a4 h4 a5 h5 a6 h6 hc hc1 hc2 x0 x1 xs = k0_pay3 x0 x1 xs := by
  unfold out0_B_2
  rw [View.read_writes_eq_canon _ _ _ (cover0_B_2 c i a3 h3 a4 h4 a5 h5 a6 h6 hc hc1 hc2 x0 x1 xs)]
  unfold kernelRun0_B
  dsimp only
  sl_unfold_words
  rw [View.canon_unit_zero origin, View.readCov_unit_zero (S := S1024x512) _ origin]
  simp only [View.readAt_eq_ld, h3.read_unread, h4.read_unread, h6.read_unread, View.ld_unit_zero (S := S1024x5632) origin,
    View.ld_unit_zero (S := S512x5632) origin, View.ld_unit_zero (S := S1024x512) origin]

end Point

variable (m : (ℓ : Loc nD τ sig) → Buf (Elt Ideal) ℓ) (c : Dev nD)

theorem index_0 : ∀ t : Fin cfg0.N, win0_0.index t = ![t.val / 8, t.val % 2] := (by decide +kernel : ∀ t : Fin grid0.N, _)
theorem index_1 : ∀ t : Fin cfg0.N, win0_1.index t = ![t.val / 2 % 4, t.val % 2] := (by decide +kernel : ∀ t : Fin grid0.N, _)
theorem index_2 : ∀ t : Fin cfg0.N, win0_2.index t = ![t.val / 8, t.val / 2 % 4] := (by decide +kernel : ∀ t : Fin grid0.N, _)

/-- What the second point of a block writes, with the point before it. -/
theorem out_at (t u : Fin cfg0.N) (h : t.val % 2 = 1) (hu : u.val = t.val - 1) :
    (outsAt0 (F := Ideal) m c t.val t.isLt).1 = k0_pay3 (iblk m c 0 t) (iblk m c 1 t) (k0_pay2 (iblk m c 0 u) (iblk m c 1 u)) := by
  have hs : (outsAt0 (F := Ideal) m c u.val u.isLt).2 = k0_pay2 (iblk m c 0 u) (iblk m c 1 u) := by
    rw [outsAt0_A m c u (by omega) (by omega) (by omega)]
    dsimp only
    rw [scratch_first]
  rw [outsAt0_B m c t (by omega) h h]
  dsimp only
  rw [out_second, ← hs]
  simp only [hu]

theorem final : (dats (F := Ideal) m 0 c).arrAt 2 cfg0.N
    = mulNT (k := 5632 + 5632) (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 1024) (q : Fin 512), y = ix2 r q := ⟨y 0, y 1, eq_ix2 y⟩
  have hodd : t.val % 2 = 1 := (flush0_2 t).mp hf
  let u : Fin cfg0.N := ⟨t.val - 1, lt_of_le_of_lt (Nat.sub_le _ _) t.isLt⟩
  have e8 : (t.val - 1) / 8 = t.val / 8 := by omega
  have e4 : (t.val - 1) / 2 % 4 = t.val / 2 % 4 := by omega
  have e2 : (t.val - 1) % 2 = 0 := by omega
  refine Eq.trans (b := k0_pay3 (F := Ideal) (iblk m c 0 t) (iblk m c 1 t) (k0_pay2 (iblk m c 0 u) (iblk m c 1 u)) (ix2 r q)) ?_ ?_
  · blk_simp
    rw [after0_2, out_at m c t u hodd rfl]
  · pointwise [k0_pay3, k0_pay2, k0_pay1]
    refine mulNT_halves (h := 5632) (xa := iblk m c 0 u) (wa := iblk m c 1 u) (xb := iblk m c 0 t) (wb := iblk m c 1 t)
      (fun k l hl => ?_) (fun k l hl => ?_) (fun k l hl => ?_) (fun k l hl => ?_) <;> blk_simp [iblk, V] <;> refine congrArg _ ?_
    · blk_ext [index_0 u, index_2 t, u, e8, e2, hl]
    · blk_ext [index_1 u, index_2 t, u, e4, e2, hl]
    · blk_ext [index_0 t, index_2 t, hodd, hl]
    · blk_ext [index_1 t, index_2 t, hodd, hl]

/-- The kernel and the reference end with the same product. -/
theorem algebraic : Cert.algebraic_Kernel4Ideal_Reference4Ideal := by
  intro m g m' g' _ heq
  refine ⟨fun c => mulNT (k := 5632 + 5632) (m ((c.tc : Thread nD τ).loc main_arg0)) (m ((c.tc : Thread nD τ).loc main_arg1)),
    (θ_run defs _ _).mono (fun _ h c => ⟨(h c).1.trans (final m c), (h c).2⟩) (run_blocks m g),
    (θ_run Cert.Reference4Ideal.defs _ _).mono (fun r h c => ⟨(h c).1.trans ?_, (h c).2⟩) (Cert.Reference4Ideal.Value.run m' g')⟩
  rw [(heq c).1, (heq c).2]
  funext i
  pointwise [mulNT]

end Cert.DxGateUp

end
-- ==== Proof.DDown.lean ====
/-
  The gradient of the SwiGLU's second weights, `h^T · dy`: the transposed block of
  `h` is made at the first point of a row of blocks and kept in the scratch for the others, so every point writes the
  product of the transposed block of `h` with its block of `dy`, and the array ends as the product of the whole.
-/
module

public import proofs.«01_k».proof.Proof.Gen.Kernel5Ideal.Value
public import proofs.«01_k».proof.Proof.Gen.Reference5Ideal.Run
public import proofs.«01_k».proof.Defs
public import proofs.«01_k».proof.Proof.Products

@[expose] public section

set_option maxRecDepth 16384

noncomputable section

namespace Cert.DDown

open Idealize.ShloMosaic Idealize.ShloMosaic.TcCoe Idealize.ShloMosaic.Tactic
open Idealize.SL Idealize.SL.Sem
open Cert.Kernel5Ideal Cert.Kernel5Ideal.Gen Cert.Kernel5Ideal.Value Cert.Products
open Finset

section Point

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S512x1024 .bf16) (h4 : a4.IsWhole)
  (a5 : Memref sig .tc .vmem S512x2048 .bf16) (h5 : a5.IsWhole)
  (x0 : Vec Ideal S2048x512 .bf16) (x1 : Vec Ideal S2048x1024 .bf16) (xs : Vec Ideal S512x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x512) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S512x2048) _ origin]
  simp only [View.readAt_eq_ld, h2.read_unread, h3.read_unread, View.ld_unit_zero (S := S2048x512) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S512x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 1024), y = ix2 r q := ⟨y 0, y 1, eq_ix2 y⟩
  refine Eq.trans (b := (outsAt0 (F := Ideal) m c t.val t.isLt).1 (ix2 r q)) (by blk_simp; rw [after0_2])
    (mulTN_walk (R := 2) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel5Ideal_Reference5Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference5Ideal.defs _ _).mono (fun r h c => ⟨(h c).1.trans ?_, (h c).2⟩) (Cert.Reference5Ideal.Value.run m' g')⟩
  rw [(heq c).1, (heq c).2]
  funext i
  pointwise [mulTN]
  exact Finset.sum_congr rfl fun k _ => mul_comm _ _

end Cert.DDown

end
-- ==== Proof.Forward.lean ====
/-
  The other products of the forward pass: each call reads the whole of the one factor and, at every point of its grid, a
  block of columns of the other, and writes their product, a block of columns.
-/
module

public import proofs.«01_k».proof.Proof.Gen.Kernel6Ideal.Frame
public import proofs.«01_k».proof.Proof.Gen.Reference6Ideal.Run
public import proofs.«01_k».proof.Defs
public import proofs.«01_k».proof.Proof.Products

@[expose] public section

set_option maxRecDepth 16384

noncomputable section

namespace Cert.Forward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Products
open Finset

section Regions

variable (V : (c : Dev nD) → (b : Ref sig .tc) → Buf (Elt Ideal) ((c : Thread nD τ).loc b)) (c : Dev nD)

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)

/-- The even layer's input product. -/
theorem final0 : (dat0 (F := Ideal) V c).arrAt 2 cfg0.N = mulNN (V c main_arg0) (V c main_arg1) := by
  refine (dat0 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k0_pay1 (F := Ideal) (iblk0 V c 0 t) (iblk0 V c 1 t) (ix2 r q)) (by blk_simp; rw [after0_2]; frame_out) ?_
  pointwise [k0_pay1]
  exact mulNN_at (xb := iblk0 V c 0 t) (wb := iblk0 V c 1 t)
    (fun k => by blk_simp [iblk0]; exact congrArg _ (by blk_ext [index0_0 t, index0_2 t]))
    (fun k => by blk_simp [iblk0]; exact congrArg _ (by blk_ext [index0_1 t, index0_2 t]))

theorem index1_0 : ∀ t : Fin cfg1.N, win1_0.index t = ![0, 0] := (by decide +kernel : ∀ t : Fin grid1.N, _)
theorem index1_1 : ∀ t : Fin cfg1.N, win1_1.index t = ![0, t.val] := (by decide +kernel : ∀ t : Fin grid1.N, _)
theorem index1_2 : ∀ t : Fin cfg1.N, win1_2.index t = ![0, t.val] := (by decide +kernel : ∀ t : Fin grid1.N, _)

/-- The even layer's output product. -/
theorem final1 : (dat1 (F := Ideal) V c).arrAt 2 cfg1.N = mulNN (V c main_arg2) (V c main_arg3) := by
  refine (dat1 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k1_pay1 (F := Ideal) (iblk1 V c 0 t) (iblk1 V c 1 t) (ix2 r q)) (by blk_simp; rw [after1_2]; frame_out) ?_
  pointwise [k1_pay1]
  exact mulNN_at (xb := iblk1 V c 0 t) (wb := iblk1 V c 1 t)
    (fun k => by blk_simp [iblk1]; exact congrArg _ (by blk_ext [index1_0 t, index1_2 t]))
    (fun k => by blk_simp [iblk1]; exact congrArg _ (by blk_ext [index1_1 t, index1_2 t]))

theorem index2_0 : ∀ t : Fin cfg2.N, win2_0.index t = ![0, 0] := (by decide +kernel : ∀ t : Fin grid2.N, _)
theorem index2_1 : ∀ t : Fin cfg2.N, win2_1.index t = ![0, t.val] := (by decide +kernel : ∀ t : Fin grid2.N, _)
theorem index2_2 : ∀ t : Fin cfg2.N, win2_2.index t = ![0, t.val] := (by decide +kernel : ∀ t : Fin grid2.N, _)

/-- The odd layer's input product. -/
theorem final2 : (dat2 (F := Ideal) V c).arrAt 2 cfg2.N = mulNN (V c main_arg4) (V c main_arg5) := by
  refine (dat2 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k2_pay1 (F := Ideal) (iblk2 V c 0 t) (iblk2 V c 1 t) (ix2 r q)) (by blk_simp; rw [after2_2]; frame_out) ?_
  pointwise [k2_pay1]
  exact mulNN_at (xb := iblk2 V c 0 t) (wb := iblk2 V c 1 t)
    (fun k => by blk_simp [iblk2]; exact congrArg _ (by blk_ext [index2_0 t, index2_2 t]))
    (fun k => by blk_simp [iblk2]; exact congrArg _ (by blk_ext [index2_1 t, index2_2 t]))

theorem index3_0 : ∀ t : Fin cfg3.N, win3_0.index t = ![0, 0] := (by decide +kernel : ∀ t : Fin grid3.N, _)
theorem index3_1 : ∀ t : Fin cfg3.N, win3_1.index t = ![0, t.val] := (by decide +kernel : ∀ t : Fin grid3.N, _)
theorem index3_2 : ∀ t : Fin cfg3.N, win3_2.index t = ![0, t.val] := (by decide +kernel : ∀ t : Fin grid3.N, _)

/-- The odd layer's output product. -/
theorem final3 : (dat3 (F := Ideal) V c).arrAt 2 cfg3.N = mulNN (V c main_arg6) (V c main_arg7) := by
  refine (dat3 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k3_pay1 (F := Ideal) (iblk3 V c 0 t) (iblk3 V c 1 t) (ix2 r q)) (by blk_simp; rw [after3_2]; frame_out) ?_
  pointwise [k3_pay1]
  exact mulNN_at (xb := iblk3 V c 0 t) (wb := iblk3 V c 1 t)
    (fun k => by blk_simp [iblk3]; exact congrArg _ (by blk_ext [index3_0 t, index3_2 t]))
    (fun k => by blk_simp [iblk3]; exact congrArg _ (by blk_ext [index3_1 t, index3_2 t]))

theorem index4_0 : ∀ t : Fin cfg4.N, win4_0.index t = ![0, 0] := (by decide +kernel : ∀ t : Fin grid4.N, _)
theorem index4_1 : ∀ t : Fin cfg4.N, win4_1.index t = ![0, t.val] := (by decide +kernel : ∀ t : Fin grid4.N, _)
theorem index4_2 : ∀ t : Fin cfg4.N, win4_2.index t = ![0, t.val] := (by decide +kernel : ∀ t : Fin grid4.N, _)

/-- The per-layer embedding's product. -/
theorem final4 : (dat4 (F := Ideal) V c).arrAt 2 cfg4.N = mulNN (V c main_arg8) (V c main_arg9) := by
  refine (dat4 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k4_pay1 (F := Ideal) (iblk4 V c 0 t) (iblk4 V c 1 t) (ix2 r q)) (by blk_simp; rw [after4_2]; frame_out) ?_
  pointwise [k4_pay1]
  exact mulNN_at (xb := iblk4 V c 0 t) (wb := iblk4 V c 1 t)
    (fun k => by blk_simp [iblk4]; exact congrArg _ (by blk_ext [index4_0 t, index4_2 t]))
    (fun k => by blk_simp [iblk4]; exact congrArg _ (by blk_ext [index4_1 t, index4_2 t]))

theorem index5_0 : ∀ t : Fin cfg5.N, win5_0.index t = ![0, 0] := (by decide +kernel : ∀ t : Fin grid5.N, _)
theorem index5_1 : ∀ t : Fin cfg5.N, win5_1.index t = ![0, t.val] := (by decide +kernel : ∀ t : Fin grid5.N, _)
theorem index5_2 : ∀ t : Fin cfg5.N, win5_2.index t = ![0, t.val] := (by decide +kernel : ∀ t : Fin grid5.N, _)

/-- The per-layer embedding's gate. -/
theorem final5 : (dat5 (F := Ideal) V c).arrAt 2 cfg5.N = mulNN (V c main_arg10) (V c main_arg11) := by
  refine (dat5 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k5_pay1 (F := Ideal) (iblk5 V c 0 t) (iblk5 V c 1 t) (ix2 r q)) (by blk_simp; rw [after5_2]; frame_out) ?_
  pointwise [k5_pay1]
  exact mulNN_at (xb := iblk5 V c 0 t) (wb := iblk5 V c 1 t)
    (fun k => by blk_simp [iblk5]; exact congrArg _ (by blk_ext [index5_0 t, index5_2 t]))
    (fun k => by blk_simp [iblk5]; exact congrArg _ (by blk_ext [index5_1 t, index5_2 t]))

end Regions

/-! ## The calls in turn -/

section Chain

variable (m : (ℓ : Loc nD τ sig) → Buf (Elt Ideal) ℓ) (ρ : Dev nD → PrngReg) (c : Dev nD)

theorem at_main_v0 : W6 m ρ c (Proc.devRef .tc main_v0) = mulNN (m ((c : Thread nD τ).loc main_arg0)) (m ((c : Thread nD τ).loc main_arg1)) :=
  (W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans ((final0 (V0 m ρ) c).trans (congrArg₂ mulNN (W0_args m ρ c main_arg0 (by decide)) (W0_args m ρ c main_arg1 (by decide)))))))))

theorem at_main_v1 : W6 m ρ c (Proc.devRef .tc main_v1) = mulNN (m ((c : Thread nD τ).loc main_arg2)) (m ((c : Thread nD τ).loc main_arg3)) :=
  (W6_of m ρ c main_v1 (by decide)).trans ((W5_of m ρ c main_v1 (by decide)).trans ((W4_of m ρ c main_v1 (by decide)).trans ((W3_of m ρ c main_v1 (by decide)).trans ((W2_arr m ρ c 2).trans ((final1 (V1 m ρ) c).trans (congrArg₂ mulNN (W1_args m ρ c main_arg2 (by decide)) (W1_args m ρ c main_arg3 (by decide))))))))

theorem at_main_v2 : W6 m ρ c (Proc.devRef .tc main_v2) = mulNN (m ((c : Thread nD τ).loc main_arg4)) (m ((c : Thread nD τ).loc main_arg5)) :=
  (W6_of m ρ c main_v2 (by decide)).trans ((W5_of m ρ c main_v2 (by decide)).trans ((W4_of m ρ c main_v2 (by decide)).trans ((W3_arr m ρ c 2).trans ((final2 (V2 m ρ) c).trans (congrArg₂ mulNN (W2_args m ρ c main_arg4 (by decide)) (W2_args m ρ c main_arg5 (by decide)))))))

theorem at_main_v3 : W6 m ρ c (Proc.devRef .tc main_v3) = mulNN (m ((c : Thread nD τ).loc main_arg6)) (m ((c : Thread nD τ).loc main_arg7)) :=
  (W6_of m ρ c main_v3 (by decide)).trans ((W5_of m ρ c main_v3 (by decide)).trans ((W4_arr m ρ c 2).trans ((final3 (V3 m ρ) c).trans (congrArg₂ mulNN (W3_args m ρ c main_arg6 (by decide)) (W3_args m ρ c main_arg7 (by decide))))))

theorem at_main_v4 : W6 m ρ c (Proc.devRef .tc main_v4) = mulNN (m ((c : Thread nD τ).loc main_arg8)) (m ((c : Thread nD τ).loc main_arg9)) :=
  (W6_of m ρ c main_v4 (by decide)).trans ((W5_arr m ρ c 2).trans ((final4 (V4 m ρ) c).trans (congrArg₂ mulNN (W4_args m ρ c main_arg8 (by decide)) (W4_args m ρ c main_arg9 (by decide)))))

theorem at_main_v5 : W6 m ρ c (Proc.devRef .tc main_v5) = mulNN (m ((c : Thread nD τ).loc main_arg10)) (m ((c : Thread nD τ).loc main_arg11)) :=
  (W6_arr m ρ c 2).trans ((final5 (V5 m ρ) c).trans (congrArg₂ mulNN (W5_args m ρ c main_arg10 (by decide)) (W5_args m ρ c main_arg11 (by decide))))

local notation "𝕄" => MT nD τ sig Unit (Elt Ideal) ℕ (UR sig nD τ) ℕ

set_option backward.isDefEq.respectTransparency.types false in
/-- The run of the calls, with what the results hold at its end. -/
theorem run : θ_run defs (onTc (τ := τ) (main (F := Ideal))) ⟨m, fun _ => 0, ρ⟩ (fun r => ∀ c : Dev nD,
      r.2.mem ((c.tc : Thread nD τ).loc main_v0) = mulNN (m ((c.tc : Thread nD τ).loc main_arg0)) (m ((c.tc : Thread nD τ).loc main_arg1))
      ∧ r.2.mem ((c.tc : Thread nD τ).loc main_v1) = mulNN (m ((c.tc : Thread nD τ).loc main_arg2)) (m ((c.tc : Thread nD τ).loc main_arg3))
      ∧ r.2.mem ((c.tc : Thread nD τ).loc main_v2) = mulNN (m ((c.tc : Thread nD τ).loc main_arg4)) (m ((c.tc : Thread nD τ).loc main_arg5))
      ∧ r.2.mem ((c.tc : Thread nD τ).loc main_v3) = mulNN (m ((c.tc : Thread nD τ).loc main_arg6)) (m ((c.tc : Thread nD τ).loc main_arg7))
      ∧ r.2.mem ((c.tc : Thread nD τ).loc main_v4) = mulNN (m ((c.tc : Thread nD τ).loc main_arg8)) (m ((c.tc : Thread nD τ).loc main_arg9))
      ∧ r.2.mem ((c.tc : Thread nD τ).loc main_v5) = mulNN (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v0 (by decide))).trans (at_main_v0 m ρ c),
       (h c _ (mem_uc main_v1 (by decide))).trans (at_main_v1 m ρ c),
       (h c _ (mem_uc main_v2 (by decide))).trans (at_main_v2 m ρ c),
       (h c _ (mem_uc main_v3 (by decide))).trans (at_main_v3 m ρ c),
       (h c _ (mem_uc main_v4 (by decide))).trans (at_main_v4 m ρ c),
       (h c _ (mem_uc main_v5 (by decide))).trans (at_main_v5 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Chain

/-- The kernel and the reference end with the same products. -/
theorem algebraic : Cert.algebraic_Kernel6Ideal_Reference6Ideal := by
  intro m g m' g' _ heq
  refine ⟨fun c => mulNN (m ((c.tc : Thread nD τ).loc main_arg0)) (m ((c.tc : Thread nD τ).loc main_arg1)),
    fun c => mulNN (m ((c.tc : Thread nD τ).loc main_arg2)) (m ((c.tc : Thread nD τ).loc main_arg3)),
    fun c => mulNN (m ((c.tc : Thread nD τ).loc main_arg4)) (m ((c.tc : Thread nD τ).loc main_arg5)),
    fun c => mulNN (m ((c.tc : Thread nD τ).loc main_arg6)) (m ((c.tc : Thread nD τ).loc main_arg7)),
    fun c => mulNN (m ((c.tc : Thread nD τ).loc main_arg8)) (m ((c.tc : Thread nD τ).loc main_arg9)),
    fun c => mulNN (m ((c.tc : Thread nD τ).loc main_arg10)) (m ((c.tc : Thread nD τ).loc main_arg11)), run m g,
    (θ_run Cert.Reference6Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference6Ideal.Value.run m' g')⟩
  · rw [(heq c).1, (heq c).2.1]; funext i; pointwise [mulNN]
  · rw [(heq c).2.2.1, (heq c).2.2.2.1]; funext i; pointwise [mulNN]
  · rw [(heq c).2.2.2.2.1, (heq c).2.2.2.2.2.1]; funext i; pointwise [mulNN]
  · rw [(heq c).2.2.2.2.2.2.1, (heq c).2.2.2.2.2.2.2.1]; funext i; pointwise [mulNN]
  · rw [(heq c).2.2.2.2.2.2.2.2.1, (heq c).2.2.2.2.2.2.2.2.2.1]; funext i; pointwise [mulNN]
  · rw [(heq c).2.2.2.2.2.2.2.2.2.2.1, (heq c).2.2.2.2.2.2.2.2.2.2.2]; funext i; pointwise [mulNN]

end Cert.Forward

end
-- ==== Proof.Back.lean ====
/-
  Gradients back through the products whose contraction is not cut: each call writes blocks of `dy · w^T`, from rows of
  `dy` and rows of `w`.
-/
module

public import proofs.«01_k».proof.Proof.Gen.Kernel7Ideal.Frame
public import proofs.«01_k».proof.Proof.Gen.Reference7Ideal.Run
public import proofs.«01_k».proof.Defs
public import proofs.«01_k».proof.Proof.Products

@[expose] public section

set_option maxRecDepth 16384

noncomputable section

namespace Cert.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.Products
open Finset

section Regions

variable (V : (c : Dev nD) → (b : Ref sig .tc) → Buf (Elt Ideal) ((c : Thread nD τ).loc b)) (c : Dev nD)

theorem index0_0 : ∀ t : Fin cfg0.N, win0_0.index t = ![0, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, t.val] := (by decide +kernel : ∀ t : Fin grid0.N, _)

/-- Back through the per-layer embedding's gate. -/
theorem final0 : (dat0 (F := Ideal) V c).arrAt 2 cfg0.N = mulNT (V c main_arg0) (V c main_arg1) := by
  refine (dat0 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k0_pay1 (F := Ideal) (iblk0 V c 0 t) (iblk0 V c 1 t) (ix2 r q)) (by blk_simp; rw [after0_2]; frame_out) ?_
  pointwise [k0_pay1]
  exact mulNT_at (xb := iblk0 V c 0 t) (wb := iblk0 V c 1 t)
    (fun k => by blk_simp [iblk0]; exact congrArg _ (by blk_ext [index0_0 t, index0_2 t]))
    (fun k => by blk_simp [iblk0]; exact congrArg _ (by blk_ext [index0_1 t, index0_2 t]))

theorem index1_0 : ∀ t : Fin cfg1.N, win1_0.index t = ![0, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![0, t.val] := (by decide +kernel : ∀ t : Fin grid1.N, _)

/-- Back through the even layer's output product. -/
theorem final1 : (dat1 (F := Ideal) V c).arrAt 2 cfg1.N = mulNT (V c main_arg2) (V c main_arg3) := by
  refine (dat1 V c).arrAt_eq_of_covers 2 _ (by decide +kernel) fun t hf y => ?_
  obtain ⟨r, q, rfl⟩ : ∃ (r : Fin 2048) (q : Fin 512), y = ix2 r q := ⟨y 0, y 1, eq_ix2 y⟩
  refine Eq.trans (b := k1_pay1 (F := Ideal) (iblk1 V c 0 t) (iblk1 V c 1 t) (ix2 r q)) (by blk_simp; rw [after1_2]; frame_out) ?_
  pointwise [k1_pay1]
  exact mulNT_at (xb := iblk1 V c 0 t) (wb := iblk1 V c 1 t)
    (fun k => by blk_simp [iblk1]; exact congrArg _ (by blk_ext [index1_0 t, index1_2 t]))
    (fun k => by blk_simp [iblk1]; exact congrArg _ (by blk_ext [index1_1 t, index1_2 t]))

theorem index2_0 : ∀ t : Fin cfg2.N, win2_0.index t = ![0, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![0, t.val] := (by decide +kernel : ∀ t : Fin grid2.N, _)

/-- Back through the odd layer's output product. -/
theorem final2 : (dat2 (F := Ideal) V c).arrAt 2 cfg2.N = mulNT (V c main_arg4) (V c main_arg5) := by
  refine (dat2 V c).arrAt_eq_of_covers 2 _ (by decide +kernel) fun t hf y => ?_
  obtain ⟨r, q, rfl⟩ : ∃ (r : Fin 2048) (q : Fin 256), y = ix2 r q := ⟨y 0, y 1, eq_ix2 y⟩
  refine Eq.trans (b := k2_pay1 (F := Ideal) (iblk2 V c 0 t) (iblk2 V c 1 t) (ix2 r q)) (by blk_simp; rw [after2_2]; frame_out) ?_
  pointwise [k2_pay1]
  exact mulNT_at (xb := iblk2 V c 0 t) (wb := iblk2 V c 1 t)
    (fun k => by blk_simp [iblk2]; exact congrArg _ (by blk_ext [index2_0 t, index2_2 t]))
    (fun k => by blk_simp [iblk2]; exact congrArg _ (by blk_ext [index2_1 t, index2_2 t]))

theorem index3_0 : ∀ t : Fin cfg3.N, win3_0.index t = ![t.val / 4, 0] := (by decide +kernel : ∀ t : Fin grid3.N, _)
theorem index3_1 : ∀ t : Fin cfg3.N, win3_1.index t = ![t.val % 4, 0] := (by decide +kernel : ∀ t : Fin grid3.N, _)
theorem index3_2 : ∀ t : Fin cfg3.N, win3_2.index t = ![t.val / 4, t.val % 4] := (by decide +kernel : ∀ t : Fin grid3.N, _)

/-- Back through the odd layer's input product. -/
theorem final3 : (dat3 (F := Ideal) V c).arrAt 2 cfg3.N = mulNT (V c main_arg6) (V c main_arg7) := by
  refine (dat3 V c).arrAt_eq_of_covers 2 _ (by decide +kernel) fun t hf y => ?_
  obtain ⟨r, q, rfl⟩ : ∃ (r : Fin 1024) (q : Fin 512), y = ix2 r q := ⟨y 0, y 1, eq_ix2 y⟩
  refine Eq.trans (b := k3_pay1 (F := Ideal) (iblk3 V c 0 t) (iblk3 V c 1 t) (ix2 r q)) (by blk_simp; rw [after3_2]; frame_out) ?_
  pointwise [k3_pay1]
  exact mulNT_at (xb := iblk3 V c 0 t) (wb := iblk3 V c 1 t)
    (fun k => by blk_simp [iblk3]; exact congrArg _ (by blk_ext [index3_0 t, index3_2 t]))
    (fun k => by blk_simp [iblk3]; exact congrArg _ (by blk_ext [index3_1 t, index3_2 t]))

end Regions

/-! ## The calls in turn -/

section Chain

variable (m : (ℓ : Loc nD τ sig) → Buf (Elt Ideal) ℓ) (ρ : Dev nD → PrngReg) (c : Dev nD)

theorem at_main_v0 : W4 m ρ c (Proc.devRef .tc main_v0) = mulNT (m ((c : Thread nD τ).loc main_arg0)) (m ((c : Thread nD τ).loc main_arg1)) :=
  (W4_of m ρ c main_v0 (by decide)).trans ((W3_of m ρ c main_v0 (by decide)).trans ((W2_of m ρ c main_v0 (by decide)).trans ((W1_arr m ρ c 2).trans ((final0 (V0 m ρ) c).trans (congrArg₂ mulNT (W0_args m ρ c main_arg0 (by decide)) (W0_args m ρ c main_arg1 (by decide)))))))

theorem at_main_v1 : W4 m ρ c (Proc.devRef .tc main_v1) = mulNT (m ((c : Thread nD τ).loc main_arg2)) (m ((c : Thread nD τ).loc main_arg3)) :=
  (W4_of m ρ c main_v1 (by decide)).trans ((W3_of m ρ c main_v1 (by decide)).trans ((W2_arr m ρ c 2).trans ((final1 (V1 m ρ) c).trans (congrArg₂ mulNT (W1_args m ρ c main_arg2 (by decide)) (W1_args m ρ c main_arg3 (by decide))))))

theorem at_main_v2 : W4 m ρ c (Proc.devRef .tc main_v2) = mulNT (m ((c : Thread nD τ).loc main_arg4)) (m ((c : Thread nD τ).loc main_arg5)) :=
  (W4_of m ρ c main_v2 (by decide)).trans ((W3_arr m ρ c 2).trans ((final2 (V2 m ρ) c).trans (congrArg₂ mulNT (W2_args m ρ c main_arg4 (by decide)) (W2_args m ρ c main_arg5 (by decide)))))

theorem at_main_v3 : W4 m ρ c (Proc.devRef .tc main_v3) = mulNT (m ((c : Thread nD τ).loc main_arg6)) (m ((c : Thread nD τ).loc main_arg7)) :=
  (W4_arr m ρ c 2).trans ((final3 (V3 m ρ) c).trans (congrArg₂ mulNT (W3_args m ρ c main_arg6 (by decide)) (W3_args m ρ c main_arg7 (by decide))))

local notation "𝕄" => MT nD τ sig Unit (Elt Ideal) ℕ (UR sig nD τ) ℕ

set_option backward.isDefEq.respectTransparency.types false in
/-- The run of the calls, with what the results hold at its end. -/
theorem run : θ_run defs (onTc (τ := τ) (main (F := Ideal))) ⟨m, fun _ => 0, ρ⟩ (fun r => ∀ c : Dev nD,
      r.2.mem ((c.tc : Thread nD τ).loc main_v0) = mulNT (m ((c.tc : Thread nD τ).loc main_arg0)) (m ((c.tc : Thread nD τ).loc main_arg1))
      ∧ r.2.mem ((c.tc : Thread nD τ).loc main_v1) = mulNT (m ((c.tc : Thread nD τ).loc main_arg2)) (m ((c.tc : Thread nD τ).loc main_arg3))
      ∧ r.2.mem ((c.tc : Thread nD τ).loc main_v2) = mulNT (m ((c.tc : Thread nD τ).loc main_arg4)) (m ((c.tc : Thread nD τ).loc main_arg5))
      ∧ r.2.mem ((c.tc : Thread nD τ).loc main_v3) = mulNT (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v0 (by decide))).trans (at_main_v0 m ρ c),
       (h c _ (mem_uc main_v1 (by decide))).trans (at_main_v1 m ρ c),
       (h c _ (mem_uc main_v2 (by decide))).trans (at_main_v2 m ρ c),
       (h c _ (mem_uc main_v3 (by decide))).trans (at_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Chain

/-- The kernel and the reference end with the same products. -/
theorem algebraic : Cert.algebraic_Kernel7Ideal_Reference7Ideal := by
  intro m g m' g' _ heq
  refine ⟨fun c => mulNT (m ((c.tc : Thread nD τ).loc main_arg0)) (m ((c.tc : Thread nD τ).loc main_arg1)),
    fun c => mulNT (m ((c.tc : Thread nD τ).loc main_arg2)) (m ((c.tc : Thread nD τ).loc main_arg3)),
    fun c => mulNT (m ((c.tc : Thread nD τ).loc main_arg4)) (m ((c.tc : Thread nD τ).loc main_arg5)),
    fun c => mulNT (m ((c.tc : Thread nD τ).loc main_arg6)) (m ((c.tc : Thread nD τ).loc main_arg7)), run m g,
    (θ_run Cert.Reference7Ideal.defs _ _).mono (fun r h c => ⟨(h c).1.trans ?_, (h c).2.1.trans ?_, (h c).2.2.1.trans ?_, (h c).2.2.2.1.trans ?_, (h c).2.2.2.2⟩)
      (Cert.Reference7Ideal.Value.run m' g')⟩
  · rw [(heq c).1, (heq c).2.1]; funext i; pointwise [mulNT]
  · rw [(heq c).2.2.1, (heq c).2.2.2.1]; funext i; pointwise [mulNT]
  · rw [(heq c).2.2.2.2.1, (heq c).2.2.2.2.2.1]; funext i; pointwise [mulNT]
  · rw [(heq c).2.2.2.2.2.2.1, (heq c).2.2.2.2.2.2.2]; funext i; pointwise [mulNT]

end Cert.Back

end
-- ==== Proof.DxInEven.lean ====
/-
  The gradient of the even layer's input, `dy · w^T`: the contraction is cut in two, the first half's product kept in the
  scratch and the second's added to it, so every other point writes a block of the whole product.
-/
module

public import proofs.«01_k».proof.Proof.Gen.Kernel8Ideal.Value
public import proofs.«01_k».proof.Proof.Gen.Reference8Ideal.Run
public import proofs.«01_k».proof.Defs
public import proofs.«01_k».proof.Proof.Products

@[expose] public section

set_option maxRecDepth 16384

noncomputable section

namespace Cert.DxInEven

open Idealize.ShloMosaic Idealize.ShloMosaic.TcCoe Idealize.ShloMosaic.Tactic
open Idealize.SL Idealize.SL.Sem
open Cert.Kernel8Ideal Cert.Kernel8Ideal.Gen Cert.Kernel8Ideal.Value Cert.Products
open Finset

section Point

variable (c : Dev nD) (i : grid0.Coords) (a3 : Memref sig .tc .vmem S1024x3584 .bf16) (h3 : a3.IsWhole)
  (a4 : Memref sig .tc .vmem S512x3584 .bf16) (h4 : a4.IsWhole) (a5 : Memref sig .tc .vmem S1024x512 .f32) (h5 : a5.IsWhole)
  (a6 : Memref sig .tc .vmem S1024x512 .f32) (h6 : a6.IsWhole)
  (x0 : Vec Ideal S1024x3584 .bf16) (x1 : Vec Ideal S512x3584 .bf16) (xs : Vec Ideal S1024x512 .f32)

/-- The first point of a block leaves its product in the scratch; -/
theorem scratch_first (hc : cond0_0 i) (hc1 : ¬cond0_1 i) (hc2 : ¬cond0_2 i) :
    sout0_A_0 (F := Ideal) c i a3 h3 a4 h4 a5 h5 a6 h6 hc hc1 hc2 x0 x1 = k0_pay2 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero origin]
  simp only [View.readAt_eq_ld, h3.read_unread, h4.read_unread, View.ld_unit_zero (S := S1024x3584) origin,
    View.ld_unit_zero (S := S512x3584) origin]

/-- the second writes the scratch plus its own. -/
theorem out_second (hc : ¬cond0_0 i) (hc1 : cond0_1 i) (hc2 : cond0_2 i) :
    out0_B_2 (F := Ideal) c i a3 h3 a4 h4 a5 h5 a6 h6 hc hc1 hc2 x0 x1 xs = k0_pay3 x0 x1 xs := by
  unfold out0_B_2
  rw [View.read_writes_eq_canon _ _ _ (cover0_B_2 c i a3 h3 a4 h4 a5 h5 a6 h6 hc hc1 hc2 x0 x1 xs)]
  unfold kernelRun0_B
  dsimp only
  sl_unfold_words
  rw [View.canon_unit_zero origin, View.readCov_unit_zero (S := S1024x512) _ origin]
  simp only [View.readAt_eq_ld, h3.read_unread, h4.read_unread, h6.read_unread, View.ld_unit_zero (S := S1024x3584) origin,
    View.ld_unit_zero (S := S512x3584) origin, View.ld_unit_zero (S := S1024x512) origin]

end Point

variable (m : (ℓ : Loc nD τ sig) → Buf (Elt Ideal) ℓ) (c : Dev nD)

theorem index_0 : ∀ t : Fin cfg0.N, win0_0.index t = ![t.val / 8, t.val % 2] := (by decide +kernel : ∀ t : Fin grid0.N, _)
theorem index_1 : ∀ t : Fin cfg0.N, win0_1.index t = ![t.val / 2 % 4, t.val % 2] := (by decide +kernel : ∀ t : Fin grid0.N, _)
theorem index_2 : ∀ t : Fin cfg0.N, win0_2.index t = ![t.val / 8, t.val / 2 % 4] := (by decide +kernel : ∀ t : Fin grid0.N, _)

/-- What the second point of a block writes, with the point before it. -/
theorem out_at (t u : Fin cfg0.N) (h : t.val % 2 = 1) (hu : u.val = t.val - 1) :
    (outsAt0 (F := Ideal) m c t.val t.isLt).1 = k0_pay3 (iblk m c 0 t) (iblk m c 1 t) (k0_pay2 (iblk m c 0 u) (iblk m c 1 u)) := by
  have hs : (outsAt0 (F := Ideal) m c u.val u.isLt).2 = k0_pay2 (iblk m c 0 u) (iblk m c 1 u) := by
    rw [outsAt0_A m c u (by omega) (by omega) (by omega)]
    dsimp only
    rw [scratch_first]
  rw [outsAt0_B m c t (by omega) h h]
  dsimp only
  rw [out_second, ← hs]
  simp only [hu]

theorem final : (dats (F := Ideal) m 0 c).arrAt 2 cfg0.N
    = mulNT (k := 3584 + 3584) (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 1024) (q : Fin 512), y = ix2 r q := ⟨y 0, y 1, eq_ix2 y⟩
  have hodd : t.val % 2 = 1 := (flush0_2 t).mp hf
  let u : Fin cfg0.N := ⟨t.val - 1, lt_of_le_of_lt (Nat.sub_le _ _) t.isLt⟩
  have e8 : (t.val - 1) / 8 = t.val / 8 := by omega
  have e4 : (t.val - 1) / 2 % 4 = t.val / 2 % 4 := by omega
  have e2 : (t.val - 1) % 2 = 0 := by omega
  refine Eq.trans (b := k0_pay3 (F := Ideal) (iblk m c 0 t) (iblk m c 1 t) (k0_pay2 (iblk m c 0 u) (iblk m c 1 u)) (ix2 r q)) ?_ ?_
  · blk_simp
    rw [after0_2, out_at m c t u hodd rfl]
  · pointwise [k0_pay3, k0_pay2, k0_pay1]
    refine mulNT_halves (h := 3584) (xa := iblk m c 0 u) (wa := iblk m c 1 u) (xb := iblk m c 0 t) (wb := iblk m c 1 t)
      (fun k l hl => ?_) (fun k l hl => ?_) (fun k l hl => ?_) (fun k l hl => ?_) <;> blk_simp [iblk, V] <;> refine congrArg _ ?_
    · blk_ext [index_0 u, index_2 t, u, e8, e2, hl]
    · blk_ext [index_1 u, index_2 t, u, e4, e2, hl]
    · blk_ext [index_0 t, index_2 t, hodd, hl]
    · blk_ext [index_1 t, index_2 t, hodd, hl]

/-- The kernel and the reference end with the same product. -/
theorem algebraic : Cert.algebraic_Kernel8Ideal_Reference8Ideal := by
  intro m g m' g' _ heq
  refine ⟨fun c => mulNT (k := 3584 + 3584) (m ((c.tc : Thread nD τ).loc main_arg0)) (m ((c.tc : Thread nD τ).loc main_arg1)),
    (θ_run defs _ _).mono (fun _ h c => ⟨(h c).1.trans (final m c), (h c).2⟩) (run_blocks m g),
    (θ_run Cert.Reference8Ideal.defs _ _).mono (fun r h c => ⟨(h c).1.trans ?_, (h c).2⟩) (Cert.Reference8Ideal.Value.run m' g')⟩
  rw [(heq c).1, (heq c).2]
  funext i
  pointwise [mulNT]

end Cert.DxInEven

end
-- ==== Proof.DOutEven.lean ====
/-
  The gradient of the even layer's output weights, and of the per-layer embedding's gate weights, which have the same shapes, `h^T · dy`: the transposed block of
  `h` is made at the first point of a row of blocks and kept in the scratch for the others, so every point writes the
  product of the transposed block of `h` with its block of `dy`, and the array ends as the product of the whole.
-/
module

public import proofs.«01_k».proof.Proof.Gen.Kernel9Ideal.Value
public import proofs.«01_k».proof.Proof.Gen.Reference9Ideal.Run
public import proofs.«01_k».proof.Defs
public import proofs.«01_k».proof.Proof.Products

@[expose] public section

set_option maxRecDepth 16384

noncomputable section

namespace Cert.DOutEven

open Idealize.ShloMosaic Idealize.ShloMosaic.TcCoe Idealize.ShloMosaic.Tactic
open Idealize.SL Idealize.SL.Sem
open Cert.Kernel9Ideal Cert.Kernel9Ideal.Gen Cert.Kernel9Ideal.Value Cert.Products
open Finset

section Point

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S512x1024 .bf16) (h4 : a4.IsWhole)
  (a5 : Memref sig .tc .vmem S512x2048 .bf16) (h5 : a5.IsWhole)
  (x0 : Vec Ideal S2048x512 .bf16) (x1 : Vec Ideal S2048x1024 .bf16) (xs : Vec Ideal S512x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x512) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S512x2048) _ origin]
  simp only [View.readAt_eq_ld, h2.read_unread, h3.read_unread, View.ld_unit_zero (S := S2048x512) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S512x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 1024), y = ix2 r q := ⟨y 0, y 1, eq_ix2 y⟩
  refine Eq.trans (b := (outsAt0 (F := Ideal) m c t.val t.isLt).1 (ix2 r q)) (by blk_simp; rw [after0_2])
    (mulTN_walk (R := 2) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel9Ideal_Reference9Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference9Ideal.defs _ _).mono (fun r h c => ⟨(h c).1.trans ?_, (h c).2⟩) (Cert.Reference9Ideal.Value.run m' g')⟩
  rw [(heq c).1, (heq c).2]
  funext i
  pointwise [mulTN]
  exact Finset.sum_congr rfl fun k _ => mul_comm _ _

end Cert.DOutEven

end
-- ==== Proof.DInEven.lean ====
/-
  The gradient of the even layer's input weights, `h^T · dy`: the transposed block of
  `h` is made at the first point of a row of blocks and kept in the scratch for the others, so every point writes the
  product of the transposed block of `h` with its block of `dy`, and the array ends as the product of the whole.
-/
module

public import proofs.«01_k».proof.Proof.Gen.Kernel10Ideal.Value
public import proofs.«01_k».proof.Proof.Gen.Reference10Ideal.Run
public import proofs.«01_k».proof.Defs
public import proofs.«01_k».proof.Proof.Products

@[expose] public section

set_option maxRecDepth 16384

noncomputable section

namespace Cert.DInEven

open Idealize.ShloMosaic Idealize.ShloMosaic.TcCoe Idealize.ShloMosaic.Tactic
open Idealize.SL Idealize.SL.Sem
open Cert.Kernel10Ideal Cert.Kernel10Ideal.Gen Cert.Kernel10Ideal.Value Cert.Products
open Finset

section Point

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S512x1024 .bf16) (h4 : a4.IsWhole)
  (a5 : Memref sig .tc .vmem S512x2048 .bf16) (h5 : a5.IsWhole)
  (x0 : Vec Ideal S2048x512 .bf16) (x1 : Vec Ideal S2048x1024 .bf16) (xs : Vec Ideal S512x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x512) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S512x2048) _ origin]
  simp only [View.readAt_eq_ld, h2.read_unread, h3.read_unread, View.ld_unit_zero (S := S2048x512) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S512x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 7] := (by decide +kernel : ∀ t : Fin grid0.N, _)
theorem index_1 : ∀ t : Fin cfg0.N, win0_1.index t = ![0, t.val % 7] := (by decide +kernel : ∀ t : Fin grid0.N, _)
theorem index_2 : ∀ t : Fin cfg0.N, win0_2.index t = ![t.val / 7, t.val % 7] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 1024), y = ix2 r q := ⟨y 0, y 1, eq_ix2 y⟩
  refine Eq.trans (b := (outsAt0 (F := Ideal) m c t.val t.isLt).1 (ix2 r q)) (by blk_simp; rw [after0_2])
    (mulTN_walk (R := 7) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel10Ideal_Reference10Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference10Ideal.defs _ _).mono (fun r h c => ⟨(h c).1.trans ?_, (h c).2⟩) (Cert.Reference10Ideal.Value.run m' g')⟩
  rw [(heq c).1, (heq c).2]
  funext i
  pointwise [mulTN]
  exact Finset.sum_congr rfl fun k _ => mul_comm _ _

end Cert.DInEven

end
-- ==== Proof.DOutOdd.lean ====
/-
  The gradient of the odd layer's output weights, `h^T · dy`: the transposed block of
  `h` is made at the first point of a row of blocks and kept in the scratch for the others, so every point writes the
  product of the transposed block of `h` with its block of `dy`, and the array ends as the product of the whole.
-/
module

public import proofs.«01_k».proof.Proof.Gen.Kernel11Ideal.Value
public import proofs.«01_k».proof.Proof.Gen.Reference11Ideal.Run
public import proofs.«01_k».proof.Defs
public import proofs.«01_k».proof.Proof.Products

@[expose] public section

set_option maxRecDepth 16384

noncomputable section

namespace Cert.DOutOdd

open Idealize.ShloMosaic Idealize.ShloMosaic.TcCoe Idealize.ShloMosaic.Tactic
open Idealize.SL Idealize.SL.Sem
open Cert.Kernel11Ideal Cert.Kernel11Ideal.Gen Cert.Kernel11Ideal.Value Cert.Products
open Finset

section Point

variable (c : Dev nD) (i : grid0.Coords) (a2 : Memref sig .tc .vmem S2048x256 .bf16) (h2 : a2.IsWhole)
  (a3 : Memref sig .tc .vmem S2048x1024 .bf16) (h3 : a3.IsWhole) (a4 : Memref sig .tc .vmem S256x1024 .bf16) (h4 : a4.IsWhole)
  (a5 : Memref sig .tc .vmem S256x2048 .bf16) (h5 : a5.IsWhole)
  (x0 : Vec Ideal S2048x256 .bf16) (x1 : Vec Ideal S2048x1024 .bf16) (xs : Vec Ideal S256x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x256) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S256x2048) _ origin]
  simp only [View.readAt_eq_ld, h2.read_unread, h3.read_unread, View.ld_unit_zero (S := S2048x256) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S256x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 256) (q : Fin 1024), y = ix2 r q := ⟨y 0, y 1, eq_ix2 y⟩
  refine Eq.trans (b := (outsAt0 (F := Ideal) m c t.val t.isLt).1 (ix2 r q)) (by blk_simp; rw [after0_2])
    (mulTN_walk (R := 2) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel11Ideal_Reference11Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference11Ideal.defs _ _).mono (fun r h c => ⟨(h c).1.trans ?_, (h c).2⟩) (Cert.Reference11Ideal.Value.run m' g')⟩
  rw [(heq c).1, (heq c).2]
  funext i
  pointwise [mulTN]
  exact Finset.sum_congr rfl fun k _ => mul_comm _ _

end Cert.DOutOdd

end
-- ==== Proof.DInOdd.lean ====
/-
  The gradient of the odd layer's input weights, `h^T · dy`: the transposed block of
  `h` is made at the first point of a row of blocks and kept in the scratch for the others, so every point writes the
  product of the transposed block of `h` with its block of `dy`, and the array ends as the product of the whole.
-/
module

public import proofs.«01_k».proof.Proof.Gen.Kernel12Ideal.Value
public import proofs.«01_k».proof.Proof.Gen.Reference12Ideal.Run
public import proofs.«01_k».proof.Defs
public import proofs.«01_k».proof.Proof.Products

@[expose] public section

set_option maxRecDepth 16384

noncomputable section

namespace Cert.DInOdd

open Idealize.ShloMosaic Idealize.ShloMosaic.TcCoe Idealize.ShloMosaic.Tactic
open Idealize.SL Idealize.SL.Sem
open Cert.Kernel12Ideal Cert.Kernel12Ideal.Gen Cert.Kernel12Ideal.Value Cert.Products
open Finset

section Point

variable (c : Dev nD) (i : grid0.Coords) (a2 : Memref sig .tc .vmem S2048x512 .bf16) (h2 : a2.IsWhole)
  (a3 : Memref sig .tc .vmem S2048x512 .bf16) (h3 : a3.IsWhole) (a4 : Memref sig .tc .vmem S512x512 .bf16) (h4 : a4.IsWhole)
  (a5 : Memref sig .tc .vmem S512x2048 .bf16) (h5 : a5.IsWhole)
  (x0 : Vec Ideal S2048x512 .bf16) (x1 : Vec Ideal S2048x512 .bf16) (xs : Vec Ideal S512x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x512) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S512x2048) _ origin]
  simp only [View.readAt_eq_ld, h2.read_unread, h3.read_unread, View.ld_unit_zero (S := S2048x512) origin,
    View.ld_unit_zero (S := S2048x512) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S512x2048) origin,
    View.ld_unit_zero (S := S2048x512) origin]

end Point

variable (m : (ℓ : Loc nD τ sig) → Buf (Elt Ideal) ℓ) (c : Dev nD)

theorem index_0 : ∀ t : Fin cfg0.N, win0_0.index t = ![0, t.val / 11] := (by decide +kernel : ∀ t : Fin grid0.N, _)
theorem index_1 : ∀ t : Fin cfg0.N, win0_1.index t = ![0, t.val % 11] := (by decide +kernel : ∀ t : Fin grid0.N, _)
theorem index_2 : ∀ t : Fin cfg0.N, win0_2.index t = ![t.val / 11, t.val % 11] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 512), y = ix2 r q := ⟨y 0, y 1, eq_ix2 y⟩
  refine Eq.trans (b := (outsAt0 (F := Ideal) m c t.val t.isLt).1 (ix2 r q)) (by blk_simp; rw [after0_2])
    (mulTN_walk (R := 11) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel12Ideal_Reference12Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference12Ideal.defs _ _).mono (fun r h c => ⟨(h c).1.trans ?_, (h c).2⟩) (Cert.Reference12Ideal.Value.run m' g')⟩
  rw [(heq c).1, (heq c).2]
  funext i
  pointwise [mulTN]
  exact Finset.sum_congr rfl fun k _ => mul_comm _ _

end Cert.DInOdd

end
-- ==== Proof.DPleUp.lean ====
/-
  The gradient of the per-layer embedding's first weights, `h^T · dy`: the transposed block of
  `h` is made at the first point of a row of blocks and kept in the scratch for the others, so every point writes the
  product of the transposed block of `h` with its block of `dy`, and the array ends as the product of the whole.
-/
module

public import proofs.«01_k».proof.Proof.Gen.Kernel13Ideal.Value
public import proofs.«01_k».proof.Proof.Gen.Reference13Ideal.Run
public import proofs.«01_k».proof.Defs
public import proofs.«01_k».proof.Proof.Products

@[expose] public section

set_option maxRecDepth 16384

noncomputable section

namespace Cert.DPleUp

open Idealize.ShloMosaic Idealize.ShloMosaic.TcCoe Idealize.ShloMosaic.Tactic
open Idealize.SL Idealize.SL.Sem
open Cert.Kernel13Ideal Cert.Kernel13Ideal.Gen Cert.Kernel13Ideal.Value Cert.Products
open Finset

section Point

variable (c : Dev nD) (i : grid0.Coords) (a2 : Memref sig .tc .vmem S2048x256 .f32) (h2 : a2.IsWhole)
  (a3 : Memref sig .tc .vmem S2048x1024 .bf16) (h3 : a3.IsWhole) (a4 : Memref sig .tc .vmem S256x1024 .bf16) (h4 : a4.IsWhole)
  (a5 : Memref sig .tc .vmem S256x2048 .bf16) (h5 : a5.IsWhole)
  (x0 : Vec Ideal S2048x256 .f32) (x1 : Vec Ideal S2048x1024 .bf16) (xs : Vec Ideal S256x2048 .bf16)

/-- The first point of a row of blocks leaves the transposed block in the scratch, -/
theorem scratch_first (hc : cond0_0 i) :
    sout0_A_0 (F := Ideal) c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S2048x256) origin]

/-- and writes the product with it; -/
theorem out_first (hc : cond0_0 i) :
    out0_A_2 (F := Ideal) c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero origin, View.readCov_unit_zero (S := S256x2048) _ origin]
  simp only [View.readAt_eq_ld, h2.read_unread, h3.read_unread, View.ld_unit_zero (S := S2048x256) origin,
    View.ld_unit_zero (S := S2048x1024) origin]

/-- the others write the product with what the scratch holds. -/
theorem out_later (hc : ¬cond0_0 i) :
    out0_B_2 (F := Ideal) c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  rw [View.canon_unit_zero origin]
  simp only [View.readAt_eq_ld, h3.read_unread, h5.read_unread, View.ld_unit_zero (S := S256x2048) origin,
    View.ld_unit_zero (S := S2048x1024) origin]

end Point

variable (m : (ℓ : Loc nD τ sig) → Buf (Elt Ideal) ℓ) (c : Dev nD)

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

theorem final : (dats (F := Ideal) m 0 c).arrAt 2 cfg0.N
    = mulTN (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 256) (q : Fin 1024), y = ix2 r q := ⟨y 0, y 1, eq_ix2 y⟩
  refine Eq.trans (b := (outsAt0 (F := Ideal) m c t.val t.isLt).1 (ix2 r q)) (by blk_simp; rw [after0_2])
    (mulTN_walk (R := 2) (T := k0_pay1 (F := Ideal)) (P := k0_pay2 (F := Ideal)) (fun b r j => by pointwise [k0_pay1]) (fun a b r q => by pointwise [k0_pay2])
      (fun l hl => (outsAt0 (F := Ideal) m c l hl).2) (fun l hl => (outsAt0 (F := Ideal) m c l hl).1)
      (fun l hl => iblk m c 0 ⟨l, hl⟩) (fun l hl => iblk m c 1 ⟨l, hl⟩) ?_ ?_ ?_ ?_ t.val t.isLt ?_ ?_)
  · intro l hl h
    rw [outsAt0_A m c ⟨l, hl⟩ h]
    exact ⟨by dsimp only; rw [scratch_first], by dsimp only; rw [out_first]⟩
  · intro l hl h
    rw [outsAt0_B m c ⟨l + 1, hl⟩ h]
    exact ⟨by dsimp only; unfold sout0_B_0; rfl, by dsimp only; rw [out_later]; rfl⟩
  · intro l hl j r a ha
    blk_simp [iblk, V]
    refine congrArg _ ?_
    blk_ext [index_0 ⟨l, hl⟩, ha]
  · intro l hl j q b hb
    blk_simp [iblk, V]
    refine congrArg _ ?_
    blk_ext [index_1 ⟨l, hl⟩, hb]
  · blk_simp [index_2 t]; omega
  · blk_simp [index_2 t]; omega

/-- The kernel and the reference end with the same product. -/
theorem algebraic : Cert.algebraic_Kernel13Ideal_Reference13Ideal := by
  intro m g m' g' _ heq
  refine ⟨fun c => mulTN (m ((c.tc : Thread nD τ).loc main_arg0)) (m ((c.tc : Thread nD τ).loc main_arg1)),
    (θ_run defs _ _).mono (fun _ h c => ⟨(h c).1.trans (final m c), (h c).2⟩) (run_blocks m g),
    (θ_run Cert.Reference13Ideal.defs _ _).mono (fun r h c => ⟨(h c).1.trans ?_, (h c).2⟩) (Cert.Reference13Ideal.Value.run m' g')⟩
  rw [(heq c).1, (heq c).2]
  funext i
  pointwise [mulTN]
  exact Finset.sum_congr rfl fun k _ => mul_comm _ _

end Cert.DPleUp

end
-- ==== Proof.Gates.lean ====
/-
  The RG-LRU's convolution and its two gates, forwards and back. A point of either grid treats a block of 256 columns.
  The forward call takes a block's columns through the convolution with four taps, whose earlier rows the kernel gets by
  rotating the column and masking what came round, and multiplies the block by its own square matrix of each gate. The
  backward call adds what the gates' gradients give to the gradient of the convolution's output, and writes from it the
  gradients of the convolution's input, taps and bias, and of the gates' matrices and biases. The reference moves columns
  by cutting and joining rows; both are read column by column as functions of the arguments.
-/
module

public import proofs.«01_k».proof.Proof.Gen.Kernel14Ideal.Frame
public import proofs.«01_k».proof.Proof.Gen.Reference14Ideal.Run
public import proofs.«01_k».proof.Proof.Products
public import proofs.«01_k».proof.Defs
public import Idealize.ShloMosaic.Lib.Pipeline.ValueKit
public import Idealize.ShloMosaic.Lib.Pointwise

@[expose] public section

set_option maxRecDepth 16384

noncomputable section

namespace Cert.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal Cert.Kernel14Ideal.Gen
open Cert.Products
open Finset

/-- A column moved down by `n` rows, and up by `n` rows, zeros coming in. -/
def delayed (x : Fin 2048 → EReal) (n : ℕ) (r : Fin 2048) : EReal := if n ≤ r.val then x ⟨r.val - n, by omega⟩ else 0
def advanced (x : Fin 2048 → EReal) (n : ℕ) (r : Fin 2048) : EReal := if h : r.val + n < 2048 then x ⟨r.val + n, h⟩ else 0

/-- The convolution of a column with its four taps, and back. -/
def convolved (x : Fin 2048 → EReal) (w : Fin 4 → EReal) (b : EReal) (r : Fin 2048) : EReal :=
  b + w 0 * x r + w 1 * delayed x 1 r + w 2 * delayed x 2 r + w 3 * delayed x 3 r
def convolvedBack (d : Fin 2048 → EReal) (w : Fin 4 → EReal) (r : Fin 2048) : EReal :=
  w 0 * d r + w 1 * advanced d 1 r + w 2 * advanced d 2 r + w 3 * advanced d 3 r

/-- Rows from the `n`-th on take the column moved down by `n` rows, the others zero; and the same upwards. -/
theorem delayed_at {n : ℕ} (hn : n < 2048) (x : Fin 2048 → EReal) (a : EReal) (r : Fin 2048) (h : (r.val + 2048 - n) % 2048 < 2048) :
    Scalar.select (IntOp.cmpi .sge (BitVec.ofNat 32 r.val) (BitVec.ofNat 32 n)) (a * x ⟨(r.val + 2048 - n) % 2048, h⟩) 0 = a * delayed x n r := by
  have hr := r.isLt
  rw [WordCmp.cmpi_sge_ofNat (by omega) (by omega)]
  unfold delayed Scalar.select
  by_cases hc : n ≤ r.val
  · have e : (r.val + 2048 - n) % 2048 = r.val - n := by omega
    simp [hc, e]
  · simp [hc]

theorem advanced_at {n : ℕ} (h0 : 0 < n) (hn : n < 2048) (x : Fin 2048 → EReal) (a : EReal) (r : Fin 2048) (h : (r.val + 2048 - n) % 2048 < 2048) :
    Scalar.select (IntOp.cmpi .slt (BitVec.ofNat 32 r.val) (BitVec.ofNat 32 n)) (a * x ⟨(r.val + 2048 - n) % 2048, h⟩) 0 = a * advanced x (2048 - n) r := by
  have hr := r.isLt
  rw [WordCmp.cmpi_slt_ofNat (by omega) (by omega)]
  unfold advanced Scalar.select
  by_cases hc : r.val < n
  · have e : (r.val + 2048 - n) % 2048 = r.val + (2048 - n) := by omega
    have h' : r.val + (2048 - n) < 2048 := by omega
    simp [hc, e, h']
  · have h' : ¬ r.val + (2048 - n) < 2048 := by omega
    simp [hc, h']

theorem delayed_zero (x : Fin 2048 → EReal) (r : Fin 2048) : delayed x 0 r = x r := by simp [delayed]

theorem pay_conv (x : Vec Ideal S2048x256 .f32) (w : Vec Ideal S4x256 .f32) (b : Vec Ideal S1x256 .f32) (r : Fin 2048) (q : Fin 256) :
    k0_pay3 (F := Ideal) x w b (ix2 r q) = convolved (fun r => x (ix2 r q)) (fun k => w (ix2 k q)) (b (ix2 0 q)) r := by
  pointwise [k0_pay3, convolved]
  exact congrArg₂ (· + ·) (congrArg₂ (· + ·) (congrArg₂ (· + ·) rfl (delayed_at (by omega) (fun r => x (ix2 r q)) _ r _))
    (delayed_at (by omega) (fun r => x (ix2 r q)) _ r _)) (delayed_at (by omega) (fun r => x (ix2 r q)) _ r _)

theorem pay_back (d : FVec Ideal S2048x256 .f32) (w : Vec Ideal S4x256 .f32) (a e x f) (r : Fin 2048) (q : Fin 256) :
    k1_pay18 (F := Ideal) (k1_pay8 a e d x f) (iota .tc S2048x256 32 [0] iota_S2048x256_d0_w32) w (k1_pay10 a e d x f w)
        (k1_pay12 w) k1_pay13 (k1_pay14 a e d x f) (k1_pay15 (F := Ideal)) (ix2 r q)
      = convolvedBack (fun r => k1_pay8 (F := Ideal) a e d x f (ix2 r q)) (fun k => w (ix2 k q)) r := by
  pointwise [k1_pay18, k1_pay10, k1_pay12, k1_pay13, k1_pay14, k1_pay15, convolvedBack]
  exact congrArg₂ (· + ·) (congrArg₂ (· + ·) (congrArg₂ (· + ·) rfl
      (advanced_at (by omega) (by omega) (fun r => k1_pay8 (F := Ideal) a e d x f (ix2 r q)) _ r _))
      (advanced_at (by omega) (by omega) (fun r => k1_pay8 (F := Ideal) a e d x f (ix2 r q)) _ r _))
    (advanced_at (by omega) (by omega) (fun r => k1_pay8 (F := Ideal) a e d x f (ix2 r q)) _ r _)

theorem picked (r : Fin 4) (f0 f1 f2 f3 : EReal) (g : Fin 4 → EReal) (h0 : f0 = g 0) (h1 : f1 = g 1) (h2 : f2 = g 2) (h3 : f3 = g 3) :
    Scalar.select (IntOp.cmpi .eq (BitVec.ofNat 32 r.val) 3#32) f3 (Scalar.select (IntOp.cmpi .eq (BitVec.ofNat 32 r.val) 2#32) f2
        (Scalar.select (IntOp.cmpi .eq (BitVec.ofNat 32 r.val) 1#32) f1 (Scalar.select (IntOp.cmpi .eq (BitVec.ofNat 32 r.val) 0#32) f0 0)))
      = g r := by
  match r with
  | ⟨0, _⟩ => exact h0
  | ⟨1, _⟩ => exact h1
  | ⟨2, _⟩ => exact h2
  | ⟨3, _⟩ => exact h3

theorem pay_taps (d : FVec Ideal S2048x256 .f32) (y : Vec Ideal S2048x256 .f32) (a e x f) (r : Fin 4) (q : Fin 256) :
    k1_pay1 (F := Ideal) (k1_pay16 (k1_pay8 a e d x f) (iota .tc S2048x256 32 [0] iota_S2048x256_d0_w32) y)
        (k1_pay17 (k1_pay8 a e d x f) (iota .tc S2048x256 32 [0] iota_S2048x256_d0_w32) y) (iota .tc S4x256 32 [0] iota_S4x256_d0_w32)
        (k1_pay19 (k1_pay9 a e d x f y) (k1_pay11 a e d x f y)) (ix2 r q)
      = ∑ s, k1_pay8 (F := Ideal) a e d x f (ix2 s q) * delayed (fun s => y (ix2 s q)) r.val s := by
  pointwise [k1_pay1, k1_pay16, k1_pay17, k1_pay19, k1_pay9, k1_pay11]
  have hs : ∀ {n : ℕ}, n < 2048 → ∀ s : Fin 2048, ∀ h, Scalar.select (IntOp.cmpi .sge (BitVec.ofNat 32 s.val) (BitVec.ofNat 32 n))
      (k1_pay8 (F := Ideal) a e d x f (ix2 s q) * y (ix2 ⟨(s.val + 2048 - n) % 2048, h⟩ q)) 0
      = k1_pay8 (F := Ideal) a e d x f (ix2 s q) * delayed (fun s => y (ix2 s q)) n s :=
    fun hn s h => delayed_at hn (fun s => y (ix2 s q)) _ s h
  exact picked r _ _ _ _ (fun r => ∑ s, k1_pay8 (F := Ideal) a e d x f (ix2 s q) * delayed (fun s => y (ix2 s q)) r.val s)
    (Finset.sum_congr rfl fun s _ => congrArg (fun z : EReal => k1_pay8 (F := Ideal) a e d x f (ix2 s q) * z) (delayed_zero (fun s => y (ix2 s q)) s).symm)
    (Finset.sum_congr rfl fun s _ => hs (n := 1) (by decide) s _) (Finset.sum_congr rfl fun s _ => hs (n := 2) (by decide) s _)
    (Finset.sum_congr rfl fun s _ => hs (n := 3) (by decide) s _)

/-- The block of a column and the place in it, and the column of a place in a block. -/
abbrev blockOf (c : Fin 2816) : Fin 11 := ⟨c.val / 256, by omega⟩
abbrev within (c : Fin 2816) : Fin 256 := ⟨c.val % 256, by omega⟩
abbrev column (n : Fin 11) (k : Fin 256) : Fin 2816 := ⟨n.val * 256 + k.val, by omega⟩

section Functions

variable (p : (⟨2, ![2048, 5632]⟩ : Shape).Idx → EReal) (w : (⟨2, ![4, 2816]⟩ : Shape).Idx → EReal) (b : (⟨2, ![1, 2816]⟩ : Shape).Idx → EReal)

/-- The column of the branch that the convolution takes, in the projection's right half; and a column's four taps. -/
def branch (c : Fin 2816) (r : Fin 2048) : EReal := p (ix2 r ⟨2816 + c.val, by omega⟩)
def taps (c : Fin 2816) (k : Fin 4) : EReal := w (ix2 k c)

/-- The convolution. -/
def conv : (⟨2, ![2048, 2816]⟩ : Shape).Idx → EReal := fun i => convolved (branch p (i 1)) (taps w (i 1)) (b (ix2 0 (i 1))) (i 0)

/-- A gate: each block of columns times the block's matrix. -/
def gate (x : (⟨2, ![2048, 2816]⟩ : Shape).Idx → EReal) (w : (⟨3, ![11, 256, 256]⟩ : Shape).Idx → EReal)
    (b : (⟨3, ![11, 1, 256]⟩ : Shape).Idx → EReal) : (⟨2, ![2048, 2816]⟩ : Shape).Idx → EReal := fun i =>
  (∑ k : Fin 256, x (ix2 (i 0) (column (blockOf (i 1)) k)) * w (ix3 (blockOf (i 1)) k (within (i 1)))) + b (ix3 (blockOf (i 1)) 0 (within (i 1)))

/-- What a gate's incoming gradient gives its input. -/
def gateBack (d : (⟨2, ![2048, 2816]⟩ : Shape).Idx → EReal) (w : (⟨3, ![11, 256, 256]⟩ : Shape).Idx → EReal) :
    (⟨2, ![2048, 2816]⟩ : Shape).Idx → EReal := fun i =>
  ∑ k : Fin 256, d (ix2 (i 0) (column (blockOf (i 1)) k)) * w (ix3 (blockOf (i 1)) (within (i 1)) k)

/-- The gradient of a gate's matrices, and of its bias. -/
def dgate (x d : (⟨2, ![2048, 2816]⟩ : Shape).Idx → EReal) : (⟨3, ![11, 256, 256]⟩ : Shape).Idx → EReal := fun i =>
  ∑ s : Fin 2048, x (ix2 s (column (i 0) (i 1))) * d (ix2 s (column (i 0) (i 2)))
def dgateBias (d : (⟨2, ![2048, 2816]⟩ : Shape).Idx → EReal) : (⟨3, ![11, 1, 256]⟩ : Shape).Idx → EReal := fun i =>
  ∑ s : Fin 2048, d (ix2 s (column (i 0) (i 2)))

/-- The whole gradient of the convolution's output; from it the gradients of its input, of its taps and of its bias. -/
def dconv (da dx : (⟨2, ![2048, 2816]⟩ : Shape).Idx → EReal) (d : (⟨2, ![2048, 2816]⟩ : Shape).Idx → EReal)
    (wa wx : (⟨3, ![11, 256, 256]⟩ : Shape).Idx → EReal) : (⟨2, ![2048, 2816]⟩ : Shape).Idx → EReal := fun i =>
  d i + gateBack dx wx i + gateBack da wa i
def dbranch (d : (⟨2, ![2048, 2816]⟩ : Shape).Idx → EReal) : (⟨2, ![2048, 2816]⟩ : Shape).Idx → EReal := fun i =>
  convolvedBack (fun r => d (ix2 r (i 1))) (taps w (i 1)) (i 0)
def dtaps (d : (⟨2, ![2048, 2816]⟩ : Shape).Idx → EReal) : (⟨2, ![4, 2816]⟩ : Shape).Idx → EReal := fun i =>
  ∑ s : Fin 2048, d (ix2 s (i 1)) * delayed (branch p (i 1)) (i 0).val s
def dbias (d : (⟨2, ![2048, 2816]⟩ : Shape).Idx → EReal) : (⟨2, ![1, 2816]⟩ : Shape).Idx → EReal := fun i =>
  ∑ s : Fin 2048, d (ix2 s (i 1))

end Functions

/-! ## What the reference writes, column by column -/

theorem conv_ref_of (x : Fin 2048 → EReal) (w : Fin 4 → EReal) (b z : EReal) (r : Fin 2048) (h1 : ¬ 2 + r.val < 3 → 2 + r.val - 3 < 2048)
    (h2 : ¬ 1 + r.val < 3 → 1 + r.val - 3 < 2048) (hz : z = delayed x 3 r) :
    b + x r * w 0 + (if h : 2 + r.val < 3 then 0 else x ⟨2 + r.val - 3, h1 h⟩) * w 1
        + (if h : 1 + r.val < 3 then 0 else x ⟨1 + r.val - 3, h2 h⟩) * w 2 + z * w 3
      = convolved x w b r := by
  have e1 : (if h : 2 + r.val < 3 then 0 else x ⟨2 + r.val - 3, h1 h⟩) = delayed x 1 r := by
    unfold delayed; split_ifs <;> first | rfl | omega | exact congrArg x (Fin.ext (by dsimp only; omega))
  have e2 : (if h : 1 + r.val < 3 then 0 else x ⟨1 + r.val - 3, h2 h⟩) = delayed x 2 r := by
    unfold delayed; split_ifs <;> first | rfl | omega | exact congrArg x (Fin.ext (by dsimp only; omega))
  rw [e1, e2, hz, mul_comm (x r), mul_comm (delayed x 1 r), mul_comm (delayed x 2 r), mul_comm (delayed x 3 r)]
  rfl

theorem conv_ref (x : Fin 2048 → EReal) (w : Fin 4 → EReal) (b : EReal) (r : Fin 2048) (h1 : ¬ 2 + r.val < 3 → 2 + r.val - 3 < 2048)
    (h2 : ¬ 1 + r.val < 3 → 1 + r.val - 3 < 2048) (h3 : ¬ r.val < 3 → r.val - 3 < 2048) :
    b + x r * w 0 + (if h : 2 + r.val < 3 then 0 else x ⟨2 + r.val - 3, h1 h⟩) * w 1
        + (if h : 1 + r.val < 3 then 0 else x ⟨1 + r.val - 3, h2 h⟩) * w 2 + (if h : r.val < 3 then 0 else x ⟨r.val - 3, h3 h⟩) * w 3
      = convolved x w b r :=
  conv_ref_of x w b _ r h1 h2 (by unfold delayed; split_ifs <;> first | rfl | omega)

/-- A product with the convolved column, summed over the first three rows and over the rest. -/
theorem dgate_ref (x : Fin 2048 → EReal) (w : Fin 4 → EReal) (b : EReal) (d : Fin 2048 → EReal) (g : ∀ s : Fin 3, s.val < 2048)
    (g1 : ∀ s : Fin 3, ¬ 2 + s.val < 3 → 2 + s.val - 3 < 2048) (g2 : ∀ s : Fin 3, ¬ 1 + s.val < 3 → 1 + s.val - 3 < 2048)
    (h : ∀ s : Fin 2045, 3 + s.val < 2048) (h1 : ∀ s : Fin 2045, ¬ 2 + (3 + s.val) < 3 → 2 + (3 + s.val) - 3 < 2048)
    (h2 : ∀ s : Fin 2045, ¬ 1 + (3 + s.val) < 3 → 1 + (3 + s.val) - 3 < 2048) (h3 : ∀ s : Fin 2045, s.val < 2048) :
    (∑ s : Fin 3, d ⟨s.val, g s⟩ * (b + x ⟨s.val, g s⟩ * w 0 + (if h : 2 + s.val < 3 then 0 else x ⟨2 + s.val - 3, g1 s h⟩) * w 1
        + (if h : 1 + s.val < 3 then 0 else x ⟨1 + s.val - 3, g2 s h⟩) * w 2 + 0 * w 3))
      + ∑ s : Fin 2045, d ⟨3 + s.val, h s⟩ * (b + x ⟨3 + s.val, h s⟩ * w 0
        + (if h : 2 + (3 + s.val) < 3 then 0 else x ⟨2 + (3 + s.val) - 3, h1 s h⟩) * w 1
        + (if h : 1 + (3 + s.val) < 3 then 0 else x ⟨1 + (3 + s.val) - 3, h2 s h⟩) * w 2 + x ⟨s.val, h3 s⟩ * w 3)
      = ∑ s, convolved x w b s * d s := by
  refine Eq.trans ?_ (Fin.sum_univ_add (a := 3) (b := 2045) (fun s => convolved x w b s * d s)).symm
  refine congrArg₂ (· + ·) (Finset.sum_congr rfl fun s _ => ?_) (Finset.sum_congr rfl fun s _ => ?_)
  · refine (mul_comm _ _).trans (congrArg₂ (· * ·) (conv_ref_of x w b 0 (Fin.castAdd 2045 s) _ _ ?_) rfl)
    exact (if_neg (by simp)).symm
  · refine (mul_comm _ _).trans (congrArg₂ (· * ·) (conv_ref_of x w b _ (Fin.natAdd 3 s) _ _ ?_) rfl)
    refine Eq.trans ?_ (if_pos (by simp)).symm
    exact congrArg x (Fin.ext (by simp))

theorem back_ref (d : Fin 2048 → EReal) (w : Fin 4 → EReal) (r : Fin 2048) (h3 : 3 + r.val < 2048 → 3 + r.val < 2048)
    (h2 : 1 ≤ 3 + r.val ∧ 3 + r.val - 1 < 2048 → 3 + r.val - 1 < 2048) (h1 : 2 ≤ 3 + r.val ∧ 3 + r.val - 2 < 2048 → 3 + r.val - 2 < 2048) :
    (if h : 3 + r.val < 2048 then d ⟨3 + r.val, h3 h⟩ * w 3 else 0)
        + (if h : 1 ≤ 3 + r.val ∧ 3 + r.val - 1 < 2048 then d ⟨3 + r.val - 1, h2 h⟩ * w 2 else 0)
        + (if h : 2 ≤ 3 + r.val ∧ 3 + r.val - 2 < 2048 then d ⟨3 + r.val - 2, h1 h⟩ * w 1 else 0) + d r * w 0
      = convolvedBack d w r := by
  have e3 : (if h : 3 + r.val < 2048 then d ⟨3 + r.val, h3 h⟩ * w 3 else 0) = w 3 * advanced d 3 r := by
    unfold advanced; split_ifs <;> first | omega | exact (mul_zero _).symm | exact (mul_comm _ _).trans (congrArg (w 3 * d ·) (Fin.ext (by dsimp only; omega)))
  have e2 : (if h : 1 ≤ 3 + r.val ∧ 3 + r.val - 1 < 2048 then d ⟨3 + r.val - 1, h2 h⟩ * w 2 else 0) = w 2 * advanced d 2 r := by
    unfold advanced; split_ifs <;> first | omega | exact (mul_zero _).symm | exact (mul_comm _ _).trans (congrArg (w 2 * d ·) (Fin.ext (by dsimp only; omega)))
  have e1 : (if h : 2 ≤ 3 + r.val ∧ 3 + r.val - 2 < 2048 then d ⟨3 + r.val - 2, h1 h⟩ * w 1 else 0) = w 1 * advanced d 1 r := by
    unfold advanced; split_ifs <;> first | omega | exact (mul_zero _).symm | exact (mul_comm _ _).trans (congrArg (w 1 * d ·) (Fin.ext (by dsimp only; omega)))
  rw [e3, e2, e1, mul_comm (d r)]
  unfold convolvedBack
  abel

/-- Four rows stacked: the row asked for is the one that counts. -/
theorem stacked (r : Fin 4) (f0 : r.val < 1 → EReal) (f1 : 1 ≤ r.val ∧ r.val - 1 < 1 → EReal) (f2 : 2 ≤ r.val ∧ r.val - 2 < 1 → EReal)
    (f3 : 3 ≤ r.val ∧ r.val - 3 < 1 → EReal) (g : Fin 4 → EReal)
    (h0 : ∀ h, f0 h = g 0) (h1 : ∀ h, f1 h = g 1) (h2 : ∀ h, f2 h = g 2) (h3 : ∀ h, f3 h = g 3) :
    (if h : 3 ≤ r.val ∧ r.val - 3 < 1 then f3 h else 0) + (if h : 2 ≤ r.val ∧ r.val - 2 < 1 then f2 h else 0)
      + (if h : 1 ≤ r.val ∧ r.val - 1 < 1 then f1 h else 0) + (if h : r.val < 1 then f0 h else 0) = g r := by
  simp only [h0, h1, h2, h3]
  match r with
  | ⟨0, _⟩ => simp
  | ⟨1, _⟩ => simp
  | ⟨2, _⟩ => simp
  | ⟨3, _⟩ => simp

/-- The gradient of a tap, where the rows that come in are left in place, and where they are a part of the sum. -/
theorem tap_ref {n k : ℕ} (hnk : k + n = 3) (d x : Fin 2048 → EReal) (hk : ∀ s : Fin 2048, ¬ k + s.val < 3 → k + s.val - 3 < 2048) :
    ∑ s : Fin 2048, (if h : k + s.val < 3 then 0 else x ⟨k + s.val - 3, hk s h⟩) * d s = ∑ s, d s * delayed x n s := by
  refine Finset.sum_congr rfl fun s _ => (mul_comm _ _).trans (congrArg (d s * ·) ?_)
  unfold delayed
  split_ifs <;> first | rfl | omega | exact congrArg x (Fin.ext (by dsimp only; omega))

theorem last_tap_ref (d x : Fin 2048 → EReal) (h0 : ∀ s : Fin 3, s.val < 2048) (h1 : ∀ s : Fin 2045, s.val < 2048) (h2 : ∀ s : Fin 2045, 3 + s.val < 2048) :
    (∑ s : Fin 3, 0 * d ⟨s.val, h0 s⟩) + ∑ s : Fin 2045, x ⟨s.val, h1 s⟩ * d ⟨3 + s.val, h2 s⟩ = ∑ s, d s * delayed x 3 s := by
  refine Eq.trans ?_ (Fin.sum_univ_add (a := 3) (b := 2045) (fun s => d s * delayed x 3 s)).symm
  refine congrArg₂ (· + ·) (Finset.sum_congr rfl fun s _ => ?_) (Finset.sum_congr rfl fun s _ => (mul_comm _ _).trans (congrArg₂ (· * ·) rfl ?_))
  · have hs := s.isLt
    have : ¬ 3 ≤ (Fin.castAdd 2045 s).val := by simp
    rw [zero_mul]; unfold delayed; rw [if_neg this, mul_zero]
  · have : 3 ≤ (Fin.natAdd 3 s).val := by simp
    unfold delayed; rw [if_pos this]
    exact congrArg x (Fin.ext (by simp))

section Results

variable (m : (ℓ : Loc nD τ sig) → Buf (Elt Ideal) ℓ) (c : Dev nD)

/-- What the convolution leaves, and the whole gradient of it, from the arguments. -/
abbrev xc : (⟨2, ![2048, 2816]⟩ : Shape).Idx → EReal :=
  conv (m ((c : Thread nD τ).loc main_arg0)) (m ((c : Thread nD τ).loc main_arg1)) (m ((c : Thread nD τ).loc main_arg2))
abbrev dxc : (⟨2, ![2048, 2816]⟩ : Shape).Idx → EReal :=
  dconv (m ((c : Thread nD τ).loc main_arg7)) (m ((c : Thread nD τ).loc main_arg8)) (m ((c : Thread nD τ).loc main_arg9))
    (m ((c : Thread nD τ).loc main_arg3)) (m ((c : Thread nD τ).loc main_arg5))

end Results

theorem at_two {m n : ℕ} {A : (⟨2, ![m, n]⟩ : Shape).Idx → EReal} {i : (⟨2, ![m, n]⟩ : Shape).Idx} {a : Fin m} {b : Fin n}
    (h0 : (i 0).val = a.val) (h1 : (i 1).val = b.val) : A i = A (ix2 a b) := by
  obtain rfl : i 0 = a := Fin.ext h0
  obtain rfl : i 1 = b := Fin.ext h1
  exact congrArg A (eq_ix2 i)

theorem at_three {l m n : ℕ} {A : (⟨3, ![l, m, n]⟩ : Shape).Idx → EReal} {i : (⟨3, ![l, m, n]⟩ : Shape).Idx} {a : Fin l} {b : Fin m} {d : Fin n}
    (h0 : (i 0).val = a.val) (h1 : (i 1).val = b.val) (h2 : (i 2).val = d.val) : A i = A (ix3 a b d) := by
  obtain rfl : i 0 = a := Fin.ext h0
  obtain rfl : i 1 = b := Fin.ext h1
  obtain rfl : i 2 = d := Fin.ext h2
  exact congrArg A (eq_ix3 i)

theorem blockOf_column (n : Fin 11) (k : Fin 256) : blockOf (column n k) = n := Fin.ext (by show (n.val * 256 + k.val) / 256 = n.val; omega)
theorem within_column (n : Fin 11) (k : Fin 256) : within (column n k) = k := Fin.ext (by show (n.val * 256 + k.val) % 256 = k.val; omega)

theorem gate_at (x w b) (n : Fin 11) (r : Fin 2048) (q : Fin 256) :
    gate x w b (ix2 r (column n q)) = (∑ k, x (ix2 r (column n k)) * w (ix3 n k q)) + b (ix3 n 0 q) := by
  show (∑ k, x (ix2 r (column (blockOf (column n q)) k)) * w (ix3 (blockOf (column n q)) k (within (column n q)))) + b (ix3 (blockOf (column n q)) 0 (within (column n q))) = _
  rw [blockOf_column, within_column]

theorem dconv_at (da dx d wa wx) (n : Fin 11) (r : Fin 2048) (q : Fin 256) : dconv da dx d wa wx (ix2 r (column n q))
    = d (ix2 r (column n q)) + (∑ k, dx (ix2 r (column n k)) * wx (ix3 n q k)) + ∑ k, da (ix2 r (column n k)) * wa (ix3 n q k) := by
  show d (ix2 r (column n q)) + (∑ k, dx (ix2 r (column (blockOf (column n q)) k)) * wx (ix3 (blockOf (column n q)) (within (column n q)) k))
    + (∑ k, da (ix2 r (column (blockOf (column n q)) k)) * wa (ix3 (blockOf (column n q)) (within (column n q)) k)) = _
  rw [blockOf_column, within_column]

theorem pay_gate (x : FVec Ideal S2048x256 .f32) (w : Vec Ideal S1x256x256 .f32) (b : Vec Ideal S1x1x256 .f32) (r : Fin 2048) (q : Fin 256) :
    k0_pay1 (F := Ideal) x w b (ix2 r q) = (∑ k, x (ix2 r k) * w (ix3 0 k q)) + b (ix3 0 0 q) := by pointwise [k0_pay1]

theorem pay_gate' (x : FVec Ideal S2048x256 .f32) (w : Vec Ideal S1x256x256 .f32) (b : Vec Ideal S1x1x256 .f32) (r : Fin 2048) (q : Fin 256) :
    k0_pay2 (F := Ideal) x w b (ix2 r q) = (∑ k, x (ix2 r k) * w (ix3 0 k q)) + b (ix3 0 0 q) := by pointwise [k0_pay2]

theorem pay_dconv (da dx d : Vec Ideal S2048x256 .f32) (wa wx : Vec Ideal S1x256x256 .f32) (r : Fin 2048) (q : Fin 256) :
    k1_pay8 (F := Ideal) da dx d wa wx (ix2 r q) = d (ix2 r q) + (∑ k, dx (ix2 r k) * wx (ix3 0 q k)) + ∑ k, da (ix2 r k) * wa (ix3 0 q k) := by
  pointwise [k1_pay8]
  exact add_right_comm _ _ _

theorem origin3 : (![0, 0, 0] : Fin 3 → Nat) = fun _ => 0 := by decide

/-- What the calls name once and use at several places. -/
theorem pay_conv_eq (x0 x1 x2 x3 x4 x5 x6) : k0_pay4 (F := Ideal) x0 x1 x2 x3 x4 x5 x6 = k0_pay3 x0 x1 x2 := by
  unfold k0_pay4
  simp only [View.ld_unit_zero (S := S2048x256) origin, View.ld_unit_zero (S := S4x256) origin, View.ld_unit_zero (S := S1x256) origin, r0_0, r0_1, r0_2]

theorem pay_dconv_eq (x0 x1 x2 x3 x4 x5 x6 x7) : k1_pay21 (F := Ideal) x0 x1 x2 x3 x4 x5 x6 x7 = k1_pay8 x0 x1 x2 x6 x7 := by
  unfold k1_pay21
  simp only [View.ld_unit_zero (S := S2048x256) origin, View.ld_unit_zero (S := S1x256x256) origin3, r1_0, r1_1, r1_2]

theorem pay_rows_eq (x0 x1 x2 x3 x4 x5 x6 x7) : k1_pay20 (F := Ideal) x0 x1 x2 x3 x4 x5 x6 x7 = iota .tc S2048x256 32 [0] iota_S2048x256_d0_w32 := by
  unfold k1_pay20
  rfl

/-! ## What the two calls write -/

section Regions

variable (V : (c : Dev nD) → (b : Ref sig .tc) → Buf (Elt Ideal) ((c : Thread nD τ).loc b)) (c : Dev nD)

theorem index0_0 : ∀ t : Fin cfg0.N, win0_0.index t = ![0, 11 + t.val] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![t.val, 0, 0] := (by decide +kernel : ∀ t : Fin grid0.N, _)
theorem index0_4 : ∀ t : Fin cfg0.N, win0_4.index t = ![t.val, 0, 0] := (by decide +kernel : ∀ t : Fin grid0.N, _)
theorem index0_5 : ∀ t : Fin cfg0.N, win0_5.index t = ![t.val, 0, 0] := (by decide +kernel : ∀ t : Fin grid0.N, _)
theorem index0_6 : ∀ t : Fin cfg0.N, win0_6.index t = ![t.val, 0, 0] := (by decide +kernel : ∀ t : Fin grid0.N, _)
theorem index0_7 : ∀ t : Fin cfg0.N, win0_7.index t = ![0, t.val] := (by decide +kernel : ∀ t : Fin grid0.N, _)
theorem index0_8 : ∀ t : Fin cfg0.N, win0_8.index t = ![0, t.val] := (by decide +kernel : ∀ t : Fin grid0.N, _)
theorem index0_9 : ∀ t : Fin cfg0.N, win0_9.index t = ![0, t.val] := (by decide +kernel : ∀ t : Fin grid0.N, _)

theorem index1_0 : ∀ t : Fin cfg1.N, win1_0.index t = ![0, t.val] := (by decide +kernel : ∀ t : Fin grid1.N, _)
theorem index1_1 : ∀ t : Fin cfg1.N, win1_1.index t = ![0, t.val] := (by decide +kernel : ∀ t : Fin grid1.N, _)
theorem index1_2 : ∀ t : Fin cfg1.N, win1_2.index t = ![0, t.val] := (by decide +kernel : ∀ t : Fin grid1.N, _)
theorem index1_3 : ∀ t : Fin cfg1.N, win1_3.index t = ![0, t.val] := (by decide +kernel : ∀ t : Fin grid1.N, _)
theorem index1_4 : ∀ t : Fin cfg1.N, win1_4.index t = ![0, 11 + t.val] := (by decide +kernel : ∀ t : Fin grid1.N, _)
theorem index1_5 : ∀ t : Fin cfg1.N, win1_5.index t = ![0, t.val] := (by decide +kernel : ∀ t : Fin grid1.N, _)
theorem index1_6 : ∀ t : Fin cfg1.N, win1_6.index t = ![t.val, 0, 0] := (by decide +kernel : ∀ t : Fin grid1.N, _)
theorem index1_7 : ∀ t : Fin cfg1.N, win1_7.index t = ![t.val, 0, 0] := (by decide +kernel : ∀ t : Fin grid1.N, _)
theorem index1_8 : ∀ t : Fin cfg1.N, win1_8.index t = ![0, t.val] := (by decide +kernel : ∀ t : Fin grid1.N, _)
theorem index1_9 : ∀ t : Fin cfg1.N, win1_9.index t = ![0, t.val] := (by decide +kernel : ∀ t : Fin grid1.N, _)
theorem index1_10 : ∀ t : Fin cfg1.N, win1_10.index t = ![0, t.val] := (by decide +kernel : ∀ t : Fin grid1.N, _)
theorem index1_11 : ∀ t : Fin cfg1.N, win1_11.index t = ![t.val, 0, 0] := (by decide +kernel : ∀ t : Fin grid1.N, _)
theorem index1_12 : ∀ t : Fin cfg1.N, win1_12.index t = ![t.val, 0, 0] := (by decide +kernel : ∀ t : Fin grid1.N, _)
theorem index1_13 : ∀ t : Fin cfg1.N, win1_13.index t = ![t.val, 0, 0] := (by decide +kernel : ∀ t : Fin grid1.N, _)
theorem index1_14 : ∀ t : Fin cfg1.N, win1_14.index t = ![t.val, 0, 0] := (by decide +kernel : ∀ t : Fin grid1.N, _)

/-- The block that a point of the grid treats. -/
abbrev pt0 (t : Fin cfg0.N) : Fin 11 := ⟨t.val, t.isLt⟩
abbrev pt1 (t : Fin cfg1.N) : Fin 11 := ⟨t.val, t.isLt⟩

theorem in0_0 (t : Fin cfg0.N) (r : Fin 2048) (q : Fin 256) : iblk0 (F := Ideal) V c 0 t (ix2 r q) = branch (V c main_arg0) (column (pt0 t) q) r := by
  blk_simp [iblk0]; exact congrArg (V c main_arg0) (by blk_ext [index0_0 t])

theorem in0_1 (t : Fin cfg0.N) (r : Fin 4) (q : Fin 256) : iblk0 (F := Ideal) V c 1 t (ix2 r q) = V c main_arg1 (ix2 r (column (pt0 t) q)) := by
  blk_simp [iblk0]; exact congrArg _ (by blk_ext [index0_1 t])

theorem in0_2 (t : Fin cfg0.N) (r : Fin 1) (q : Fin 256) : iblk0 (F := Ideal) V c 2 t (ix2 r q) = V c main_arg2 (ix2 r (column (pt0 t) q)) := by
  blk_simp [iblk0]; exact congrArg _ (by blk_ext [index0_2 t])

theorem in0_3 (t : Fin cfg0.N) (k : Fin 256) (q : Fin 256) : iblk0 (F := Ideal) V c 3 t (ix3 0 k q) = V c main_arg3 (ix3 (pt0 t) k q) := by
  blk_simp [iblk0]; exact congrArg _ (by blk_ext [index0_3 t])

theorem in0_4 (t : Fin cfg0.N) (k : Fin 1) (q : Fin 256) : iblk0 (F := Ideal) V c 4 t (ix3 0 k q) = V c main_arg4 (ix3 (pt0 t) k q) := by
  blk_simp [iblk0]; exact congrArg _ (by blk_ext [index0_4 t])

theorem in0_5 (t : Fin cfg0.N) (k : Fin 256) (q : Fin 256) : iblk0 (F := Ideal) V c 5 t (ix3 0 k q) = V c main_arg5 (ix3 (pt0 t) k q) := by
  blk_simp [iblk0]; exact congrArg _ (by blk_ext [index0_5 t])

theorem in0_6 (t : Fin cfg0.N) (k : Fin 1) (q : Fin 256) : iblk0 (F := Ideal) V c 6 t (ix3 0 k q) = V c main_arg6 (ix3 (pt0 t) k q) := by
  blk_simp [iblk0]; exact congrArg _ (by blk_ext [index0_6 t])

theorem conv_block (t : Fin cfg0.N) (r : Fin 2048) (q : Fin 256) : k0_pay3 (F := Ideal) (iblk0 V c 0 t) (iblk0 V c 1 t) (iblk0 V c 2 t) (ix2 r q)
    = conv (V c main_arg0) (V c main_arg1) (V c main_arg2) (ix2 r (column (pt0 t) q)) := by
  refine (pay_conv _ _ _ r q).trans ?_
  simp only [in0_0, in0_1, in0_2]
  rfl

theorem final_conv : (dat0 (F := Ideal) V c).arrAt 7 cfg0.N = conv (V c main_arg0) (V c main_arg1) (V c main_arg2) := by
  refine (dat0 V c).arrAt_eq_of_covers 7 _ (by decide +kernel) fun t hf y => ?_
  obtain ⟨r, q, rfl⟩ : ∃ (r : Fin 2048) (q : Fin 256), y = ix2 r q := ⟨y 0, y 1, eq_ix2 y⟩
  refine Eq.trans (b := k0_pay3 (F := Ideal) (iblk0 V c 0 t) (iblk0 V c 1 t) (iblk0 V c 2 t) (ix2 r q)) (by blk_simp; rw [after0_7]; frame_out)
    ((conv_block V c t r q).trans (at_two ?_ ?_).symm)
  · blk_simp [index0_7 t]
  · blk_simp [index0_7 t]

theorem final_ra : (dat0 (F := Ideal) V c).arrAt 8 cfg0.N
    = gate (conv (V c main_arg0) (V c main_arg1) (V c main_arg2)) (V c main_arg3) (V c main_arg4) := by
  refine (dat0 V c).arrAt_eq_of_covers 8 _ (by decide +kernel) fun t hf y => ?_
  obtain ⟨r, q, rfl⟩ : ∃ (r : Fin 2048) (q : Fin 256), y = ix2 r q := ⟨y 0, y 1, eq_ix2 y⟩
  refine Eq.trans (b := k0_pay1 (F := Ideal) (k0_pay3 (iblk0 V c 0 t) (iblk0 V c 1 t) (iblk0 V c 2 t)) (iblk0 V c 3 t) (iblk0 V c 4 t) (ix2 r q))
    (by blk_simp; rw [after0_8]; frame_out; rw [pay_conv_eq]) ((pay_gate _ _ _ r q).trans (Eq.trans ?_ (at_two (a := r) (b := column (pt0 t) q) ?_ ?_).symm))
  · simp only [conv_block, in0_3, in0_4]
    exact (gate_at _ _ _ (pt0 t) r q).symm
  · blk_simp [index0_8 t]
  · blk_simp [index0_8 t]

theorem final_ix : (dat0 (F := Ideal) V c).arrAt 9 cfg0.N
    = gate (conv (V c main_arg0) (V c main_arg1) (V c main_arg2)) (V c main_arg5) (V c main_arg6) := by
  refine (dat0 V c).arrAt_eq_of_covers 9 _ (by decide +kernel) fun t hf y => ?_
  obtain ⟨r, q, rfl⟩ : ∃ (r : Fin 2048) (q : Fin 256), y = ix2 r q := ⟨y 0, y 1, eq_ix2 y⟩
  refine Eq.trans (b := k0_pay2 (F := Ideal) (k0_pay3 (iblk0 V c 0 t) (iblk0 V c 1 t) (iblk0 V c 2 t)) (iblk0 V c 5 t) (iblk0 V c 6 t) (ix2 r q))
    (by blk_simp; rw [after0_9]; frame_out; rw [pay_conv_eq]) ((pay_gate' _ _ _ r q).trans (Eq.trans ?_ (at_two (a := r) (b := column (pt0 t) q) ?_ ?_).symm))
  · simp only [conv_block, in0_5, in0_6]
    exact (gate_at _ _ _ (pt0 t) r q).symm
  · blk_simp [index0_9 t]
  · blk_simp [index0_9 t]

theorem in1_0 (t : Fin cfg1.N) (r : Fin 2048) (q : Fin 256) : iblk1 (F := Ideal) V c 0 t (ix2 r q) = V c main_arg7 (ix2 r (column (pt1 t) q)) := by
  blk_simp [iblk1]; exact congrArg _ (by blk_ext [index1_0 t])

theorem in1_1 (t : Fin cfg1.N) (r : Fin 2048) (q : Fin 256) : iblk1 (F := Ideal) V c 1 t (ix2 r q) = V c main_arg8 (ix2 r (column (pt1 t) q)) := by
  blk_simp [iblk1]; exact congrArg _ (by blk_ext [index1_1 t])

theorem in1_2 (t : Fin cfg1.N) (r : Fin 2048) (q : Fin 256) : iblk1 (F := Ideal) V c 2 t (ix2 r q) = V c main_arg9 (ix2 r (column (pt1 t) q)) := by
  blk_simp [iblk1]; exact congrArg _ (by blk_ext [index1_2 t])

theorem in1_3 (t : Fin cfg1.N) (r : Fin 2048) (q : Fin 256) : iblk1 (F := Ideal) V c 3 t (ix2 r q) = V c main_v0_0 (ix2 r (column (pt1 t) q)) := by
  blk_simp [iblk1]; exact congrArg _ (by blk_ext [index1_3 t])

theorem in1_4 (t : Fin cfg1.N) (r : Fin 2048) (q : Fin 256) : iblk1 (F := Ideal) V c 4 t (ix2 r q) = branch (V c main_arg0) (column (pt1 t) q) r := by
  blk_simp [iblk1]; exact congrArg (V c main_arg0) (by blk_ext [index1_4 t])

theorem in1_5 (t : Fin cfg1.N) (r : Fin 4) (q : Fin 256) : iblk1 (F := Ideal) V c 5 t (ix2 r q) = V c main_arg1 (ix2 r (column (pt1 t) q)) := by
  blk_simp [iblk1]; exact congrArg _ (by blk_ext [index1_5 t])

theorem in1_6 (t : Fin cfg1.N) (k : Fin 256) (q : Fin 256) : iblk1 (F := Ideal) V c 6 t (ix3 0 k q) = V c main_arg3 (ix3 (pt1 t) k q) := by
  blk_simp [iblk1]; exact congrArg _ (by blk_ext [index1_6 t])

theorem in1_7 (t : Fin cfg1.N) (k : Fin 256) (q : Fin 256) : iblk1 (F := Ideal) V c 7 t (ix3 0 k q) = V c main_arg5 (ix3 (pt1 t) k q) := by
  blk_simp [iblk1]; exact congrArg _ (by blk_ext [index1_7 t])

theorem dconv_block (t : Fin cfg1.N) (r : Fin 2048) (q : Fin 256) : k1_pay8 (F := Ideal) (iblk1 V c 0 t) (iblk1 V c 1 t) (iblk1 V c 2 t) (iblk1 V c 6 t) (iblk1 V c 7 t) (ix2 r q)
    = dconv (V c main_arg7) (V c main_arg8) (V c main_arg9) (V c main_arg3) (V c main_arg5) (ix2 r (column (pt1 t) q)) := by
  refine (pay_dconv _ _ _ _ _ r q).trans ?_
  simp only [in1_0, in1_1, in1_2, in1_6, in1_7]
  exact (dconv_at _ _ _ _ _ (pt1 t) r q).symm

theorem final_dbranch : (dat1 (F := Ideal) V c).arrAt 8 cfg1.N = dbranch (V c main_arg1) (dconv (V c main_arg7) (V c main_arg8) (V c main_arg9) (V c main_arg3) (V c main_arg5)) := by
  refine (dat1 V c).arrAt_eq_of_covers 8 _ (by decide +kernel) fun t hf y => ?_
  obtain ⟨r, q, rfl⟩ : ∃ (r : Fin 2048) (q : Fin 256), y = ix2 r q := ⟨y 0, y 1, eq_ix2 y⟩
  refine Eq.trans (b := k1_pay18 (F := Ideal) (k1_pay8 (F := Ideal) (iblk1 V c 0 t) (iblk1 V c 1 t) (iblk1 V c 2 t) (iblk1 V c 6 t) (iblk1 V c 7 t)) (iota .tc S2048x256 32 [0] iota_S2048x256_d0_w32) (iblk1 V c 5 t) (k1_pay10 (iblk1 V c 0 t) (iblk1 V c 1 t) (iblk1 V c 2 t) (iblk1 V c 6 t) (iblk1 V c 7 t) (iblk1 V c 5 t)) (k1_pay12 (iblk1 V c 5 t)) k1_pay13 (k1_pay14 (iblk1 V c 0 t) (iblk1 V c 1 t) (iblk1 V c 2 t) (iblk1 V c 6 t) (iblk1 V c 7 t)) (k1_pay15 (F := Ideal)) (ix2 r q))
    (by blk_simp; rw [after1_8]; frame_out; rw [pay_dconv_eq, pay_rows_eq]) (Eq.trans ?_ (at_two (a := r) (b := column (pt1 t) q) ?_ ?_).symm)
  · refine (pay_back (iblk1 V c 2 t) _ _ _ _ _ r q).trans ?_
    simp only [dconv_block, in1_5]
    rfl
  · blk_simp [index1_8 t]
  · blk_simp [index1_8 t]

theorem final_dtaps : (dat1 (F := Ideal) V c).arrAt 9 cfg1.N = dtaps (V c main_arg0) (dconv (V c main_arg7) (V c main_arg8) (V c main_arg9) (V c main_arg3) (V c main_arg5)) := by
  refine (dat1 V c).arrAt_eq_of_covers 9 _ (by decide +kernel) fun t hf y => ?_
  obtain ⟨r, q, rfl⟩ : ∃ (r : Fin 4) (q : Fin 256), y = ix2 r q := ⟨y 0, y 1, eq_ix2 y⟩
  refine Eq.trans (b := k1_pay1 (F := Ideal) (k1_pay16 (k1_pay8 (F := Ideal) (iblk1 V c 0 t) (iblk1 V c 1 t) (iblk1 V c 2 t) (iblk1 V c 6 t) (iblk1 V c 7 t)) (iota .tc S2048x256 32 [0] iota_S2048x256_d0_w32) (iblk1 V c 4 t)) (k1_pay17 (k1_pay8 (F := Ideal) (iblk1 V c 0 t) (iblk1 V c 1 t) (iblk1 V c 2 t) (iblk1 V c 6 t) (iblk1 V c 7 t)) (iota .tc S2048x256 32 [0] iota_S2048x256_d0_w32) (iblk1 V c 4 t)) (iota .tc S4x256 32 [0] iota_S4x256_d0_w32) (k1_pay19 (k1_pay9 (iblk1 V c 0 t) (iblk1 V c 1 t) (iblk1 V c 2 t) (iblk1 V c 6 t) (iblk1 V c 7 t) (iblk1 V c 4 t)) (k1_pay11 (iblk1 V c 0 t) (iblk1 V c 1 t) (iblk1 V c 2 t) (iblk1 V c 6 t) (iblk1 V c 7 t) (iblk1 V c 4 t))) (ix2 r q))
    (by blk_simp; rw [after1_9]; frame_out; rw [pay_dconv_eq, pay_rows_eq]) (Eq.trans ?_ (at_two (a := r) (b := column (pt1 t) q) ?_ ?_).symm)
  · refine (pay_taps (iblk1 V c 2 t) _ _ _ _ _ r q).trans ?_
    simp only [dconv_block, in1_4]
    rfl
  · blk_simp [index1_9 t]
  · blk_simp [index1_9 t]

theorem final_dbias : (dat1 (F := Ideal) V c).arrAt 10 cfg1.N = dbias (dconv (V c main_arg7) (V c main_arg8) (V c main_arg9) (V c main_arg3) (V c main_arg5)) := by
  refine (dat1 V c).arrAt_eq_of_covers 10 _ (by decide +kernel) fun t hf y => ?_
  obtain ⟨r, q, rfl⟩ : ∃ (r : Fin 1) (q : Fin 256), y = ix2 r q := ⟨y 0, y 1, eq_ix2 y⟩
  refine Eq.trans (b := k1_pay2 (F := Ideal) (k1_pay8 (F := Ideal) (iblk1 V c 0 t) (iblk1 V c 1 t) (iblk1 V c 2 t) (iblk1 V c 6 t) (iblk1 V c 7 t)) (ix2 r q))
    (by blk_simp; rw [after1_10]; frame_out; rw [pay_dconv_eq]) (Eq.trans ?_ (at_two (a := r) (b := column (pt1 t) q) ?_ ?_).symm)
  · pointwise [k1_pay2]
    simp only [dconv_block]
    rfl
  · blk_simp [index1_10 t]
  · blk_simp [index1_10 t]

theorem final_dwa : (dat1 (F := Ideal) V c).arrAt 11 cfg1.N = dgate (V c main_v0_0) (V c main_arg7) := by
  refine (dat1 V c).arrAt_eq_of_covers 11 _ (by decide +kernel) fun t hf y => ?_
  obtain ⟨z, r, q, rfl⟩ : ∃ (z : Fin 1) (r : Fin 256) (q : Fin 256), y = ix3 z r q := ⟨y 0, y 1, y 2, eq_ix3 y⟩
  obtain rfl : z = 0 := Subsingleton.elim _ _
  refine Eq.trans (b := k1_pay4 (F := Ideal) (iblk1 V c 0 t) (iblk1 V c 3 t) (ix3 0 r q))
    (by blk_simp; rw [after1_11]; frame_out) (Eq.trans ?_ (at_three (a := pt1 t) (b := r) (d := q) ?_ ?_ ?_).symm)
  · pointwise [k1_pay4, k1_pay3]
    simp only [in1_3, in1_0]
    rfl
  · blk_simp [index1_11 t]; rfl
  · blk_simp [index1_11 t]
  · blk_simp [index1_11 t]

theorem final_dwx : (dat1 (F := Ideal) V c).arrAt 13 cfg1.N = dgate (V c main_v0_0) (V c main_arg8) := by
  refine (dat1 V c).arrAt_eq_of_covers 13 _ (by decide +kernel) fun t hf y => ?_
  obtain ⟨z, r, q, rfl⟩ : ∃ (z : Fin 1) (r : Fin 256) (q : Fin 256), y = ix3 z r q := ⟨y 0, y 1, y 2, eq_ix3 y⟩
  obtain rfl : z = 0 := Subsingleton.elim _ _
  refine Eq.trans (b := k1_pay5 (F := Ideal) (iblk1 V c 1 t) (iblk1 V c 3 t) (ix3 0 r q))
    (by blk_simp; rw [after1_13]; frame_out) (Eq.trans ?_ (at_three (a := pt1 t) (b := r) (d := q) ?_ ?_ ?_).symm)
  · pointwise [k1_pay5, k1_pay3]
    simp only [in1_3, in1_1]
    rfl
  · blk_simp [index1_13 t]; rfl
  · blk_simp [index1_13 t]
  · blk_simp [index1_13 t]

theorem final_dba : (dat1 (F := Ideal) V c).arrAt 12 cfg1.N = dgateBias (V c main_arg7) := by
  refine (dat1 V c).arrAt_eq_of_covers 12 _ (by decide +kernel) fun t hf y => ?_
  obtain ⟨z, r, q, rfl⟩ : ∃ (z : Fin 1) (r : Fin 1) (q : Fin 256), y = ix3 z r q := ⟨y 0, y 1, y 2, eq_ix3 y⟩
  obtain rfl : z = 0 := Subsingleton.elim _ _
  refine Eq.trans (b := k1_pay6 (F := Ideal) (iblk1 V c 0 t) (ix3 0 r q))
    (by blk_simp; rw [after1_12]; frame_out) (Eq.trans ?_ (at_three (a := pt1 t) (b := r) (d := q) ?_ ?_ ?_).symm)
  · pointwise [k1_pay6]
    simp only [in1_0]
    rfl
  · blk_simp [index1_12 t]; rfl
  · blk_simp [index1_12 t]
  · blk_simp [index1_12 t]

theorem final_dbx : (dat1 (F := Ideal) V c).arrAt 14 cfg1.N = dgateBias (V c main_arg8) := by
  refine (dat1 V c).arrAt_eq_of_covers 14 _ (by decide +kernel) fun t hf y => ?_
  obtain ⟨z, r, q, rfl⟩ : ∃ (z : Fin 1) (r : Fin 1) (q : Fin 256), y = ix3 z r q := ⟨y 0, y 1, y 2, eq_ix3 y⟩
  obtain rfl : z = 0 := Subsingleton.elim _ _
  refine Eq.trans (b := k1_pay7 (F := Ideal) (iblk1 V c 1 t) (ix3 0 r q))
    (by blk_simp; rw [after1_14]; frame_out) (Eq.trans ?_ (at_three (a := pt1 t) (b := r) (d := q) ?_ ?_ ?_).symm)
  · pointwise [k1_pay7]
    simp only [in1_1]
    rfl
  · blk_simp [index1_14 t]; rfl
  · blk_simp [index1_14 t]
  · blk_simp [index1_14 t]

end Regions

/-! ## The two calls in turn -/

section Chain

variable (m : (ℓ : Loc nD τ sig) → Buf (Elt Ideal) ℓ) (ρ : Dev nD → PrngReg) (c : Dev nD)

theorem arg0 (b : Ref sig .tc) (h : b ∈ argRefs) : V0 m ρ c b = m ((c : Thread nD τ).loc b) := W0_args m ρ c b h
theorem arg1 (b : Ref sig .tc) (h : b ∈ argRefs) : V1 m ρ c b = m ((c : Thread nD τ).loc b) := W1_args m ρ c b h

theorem xc_first : conv (V0 m ρ c main_arg0) (V0 m ρ c main_arg1) (V0 m ρ c main_arg2) = xc m c := by
  rw [arg0 m ρ c main_arg0 (by decide), arg0 m ρ c main_arg1 (by decide), arg0 m ρ c main_arg2 (by decide)]

/-- The second call reads the first's convolution. -/
theorem xc_second : V1 m ρ c main_v0_0 = xc m c := (W1_arr m ρ c 7).trans ((final_conv (V0 m ρ) c).trans (xc_first m ρ c))

theorem dxc_second : dconv (V1 m ρ c main_arg7) (V1 m ρ c main_arg8) (V1 m ρ c main_arg9) (V1 m ρ c main_arg3) (V1 m ρ c main_arg5) = dxc m c := by
  rw [arg1 m ρ c main_arg7 (by decide), arg1 m ρ c main_arg8 (by decide), arg1 m ρ c main_arg9 (by decide), arg1 m ρ c main_arg3 (by decide), arg1 m ρ c main_arg5 (by decide)]

theorem at_main_v0_0 : W2 m ρ c (Proc.devRef .tc main_v0_0) = xc m c :=
  (W2_of m ρ c main_v0_0 (by decide)).trans (xc_second m ρ c)

theorem at_main_v0_1 : W2 m ρ c (Proc.devRef .tc main_v0_1) = gate (xc m c) (m ((c.tc : Thread nD τ).loc main_arg3)) (m ((c.tc : Thread nD τ).loc main_arg4)) := by
  refine (W2_of m ρ c main_v0_1 (by decide)).trans ((W1_arr m ρ c 8).trans ((final_ra (V0 m ρ) c).trans ?_))
  rw [xc_first m ρ c, arg0 m ρ c main_arg3 (by decide), arg0 m ρ c main_arg4 (by decide)]

theorem at_main_v0_2 : W2 m ρ c (Proc.devRef .tc main_v0_2) = gate (xc m c) (m ((c.tc : Thread nD τ).loc main_arg5)) (m ((c.tc : Thread nD τ).loc main_arg6)) := by
  refine (W2_of m ρ c main_v0_2 (by decide)).trans ((W1_arr m ρ c 9).trans ((final_ix (V0 m ρ) c).trans ?_))
  rw [xc_first m ρ c, arg0 m ρ c main_arg5 (by decide), arg0 m ρ c main_arg6 (by decide)]

theorem at_main_v1_0 : W2 m ρ c (Proc.devRef .tc main_v1_0) = dbranch (m ((c.tc : Thread nD τ).loc main_arg1)) (dxc m c) := by
  refine (W2_arr m ρ c 8).trans ((final_dbranch (V1 m ρ) c).trans ?_)
  rw [dxc_second m ρ c, arg1 m ρ c main_arg1 (by decide)]

theorem at_main_v1_1 : W2 m ρ c (Proc.devRef .tc main_v1_1) = dtaps (m ((c.tc : Thread nD τ).loc main_arg0)) (dxc m c) := by
  refine (W2_arr m ρ c 9).trans ((final_dtaps (V1 m ρ) c).trans ?_)
  rw [dxc_second m ρ c, arg1 m ρ c main_arg0 (by decide)]

theorem at_main_v1_2 : W2 m ρ c (Proc.devRef .tc main_v1_2) = dbias (dxc m c) := by
  refine (W2_arr m ρ c 10).trans ((final_dbias (V1 m ρ) c).trans ?_)
  rw [dxc_second m ρ c]

theorem at_main_v1_3 : W2 m ρ c (Proc.devRef .tc main_v1_3) = dgate (xc m c) (m ((c.tc : Thread nD τ).loc main_arg7)) := by
  refine (W2_arr m ρ c 11).trans ((final_dwa (V1 m ρ) c).trans ?_)
  rw [xc_second m ρ c, arg1 m ρ c main_arg7 (by decide)]

theorem at_main_v1_4 : W2 m ρ c (Proc.devRef .tc main_v1_4) = dgateBias (m ((c.tc : Thread nD τ).loc main_arg7)) := by
  refine (W2_arr m ρ c 12).trans ((final_dba (V1 m ρ) c).trans ?_)
  rw [arg1 m ρ c main_arg7 (by decide)]

theorem at_main_v1_5 : W2 m ρ c (Proc.devRef .tc main_v1_5) = dgate (xc m c) (m ((c.tc : Thread nD τ).loc main_arg8)) := by
  refine (W2_arr m ρ c 13).trans ((final_dwx (V1 m ρ) c).trans ?_)
  rw [xc_second m ρ c, arg1 m ρ c main_arg8 (by decide)]

theorem at_main_v1_6 : W2 m ρ c (Proc.devRef .tc main_v1_6) = dgateBias (m ((c.tc : Thread nD τ).loc main_arg8)) := by
  refine (W2_arr m ρ c 14).trans ((final_dbx (V1 m ρ) c).trans ?_)
  rw [arg1 m ρ c main_arg8 (by decide)]

local notation "𝕄" => MT nD τ sig Unit (Elt Ideal) ℕ (UR sig nD τ) ℕ

set_option backward.isDefEq.respectTransparency.types false in
/-- The run of the two calls, with what the results hold at its end. -/
theorem run : θ_run defs (onTc (τ := τ) (main (F := Ideal))) ⟨m, fun _ => 0, ρ⟩ (fun r => ∀ c : Dev nD,
      r.2.mem ((c.tc : Thread nD τ).loc main_v0_0) = xc m c
      ∧ r.2.mem ((c.tc : Thread nD τ).loc main_v0_1) = gate (xc m c) (m ((c.tc : Thread nD τ).loc main_arg3)) (m ((c.tc : Thread nD τ).loc main_arg4))
      ∧ r.2.mem ((c.tc : Thread nD τ).loc main_v0_2) = gate (xc m c) (m ((c.tc : Thread nD τ).loc main_arg5)) (m ((c.tc : Thread nD τ).loc main_arg6))
      ∧ r.2.mem ((c.tc : Thread nD τ).loc main_v1_0) = dbranch (m ((c.tc : Thread nD τ).loc main_arg1)) (dxc m c)
      ∧ r.2.mem ((c.tc : Thread nD τ).loc main_v1_1) = dtaps (m ((c.tc : Thread nD τ).loc main_arg0)) (dxc m c)
      ∧ r.2.mem ((c.tc : Thread nD τ).loc main_v1_2) = dbias (dxc m c)
      ∧ r.2.mem ((c.tc : Thread nD τ).loc main_v1_3) = dgate (xc m c) (m ((c.tc : Thread nD τ).loc main_arg7))
      ∧ r.2.mem ((c.tc : Thread nD τ).loc main_v1_4) = dgateBias (m ((c.tc : Thread nD τ).loc main_arg7))
      ∧ r.2.mem ((c.tc : Thread nD τ).loc main_v1_5) = dgate (xc m c) (m ((c.tc : Thread nD τ).loc main_arg8))
      ∧ r.2.mem ((c.tc : Thread nD τ).loc main_v1_6) = dgateBias (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (at_main_v0_0 m ρ c),
       (h c _ (mem_uc main_v0_1 (by decide))).trans (at_main_v0_1 m ρ c),
       (h c _ (mem_uc main_v0_2 (by decide))).trans (at_main_v0_2 m ρ c),
       (h c _ (mem_uc main_v1_0 (by decide))).trans (at_main_v1_0 m ρ c),
       (h c _ (mem_uc main_v1_1 (by decide))).trans (at_main_v1_1 m ρ c),
       (h c _ (mem_uc main_v1_2 (by decide))).trans (at_main_v1_2 m ρ c),
       (h c _ (mem_uc main_v1_3 (by decide))).trans (at_main_v1_3 m ρ c),
       (h c _ (mem_uc main_v1_4 (by decide))).trans (at_main_v1_4 m ρ c),
       (h c _ (mem_uc main_v1_5 (by decide))).trans (at_main_v1_5 m ρ c),
       (h c _ (mem_uc main_v1_6 (by decide))).trans (at_main_v1_6 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c)⟩)

end Chain

set_option maxHeartbeats 2000000 in
/-- The kernel and the reference end with the same ten arrays. -/
theorem algebraic : Cert.algebraic_Kernel14Ideal_Reference14Ideal := by
  intro m g m' g' _ heq
  refine ⟨fun c => xc m c,
    fun c => gate (xc m c) (m ((c.tc : Thread nD τ).loc main_arg3)) (m ((c.tc : Thread nD τ).loc main_arg4)),
    fun c => gate (xc m c) (m ((c.tc : Thread nD τ).loc main_arg5)) (m ((c.tc : Thread nD τ).loc main_arg6)),
    fun c => dbranch (m ((c.tc : Thread nD τ).loc main_arg1)) (dxc m c),
    fun c => dtaps (m ((c.tc : Thread nD τ).loc main_arg0)) (dxc m c),
    fun c => dbias (dxc m c),
    fun c => dgate (xc m c) (m ((c.tc : Thread nD τ).loc main_arg7)),
    fun c => dgateBias (m ((c.tc : Thread nD τ).loc main_arg7)),
    fun c => dgate (xc m c) (m ((c.tc : Thread nD τ).loc main_arg8)),
    fun c => dgateBias (m ((c.tc : Thread nD τ).loc main_arg8)), run m g,
    (θ_run Cert.Reference14Ideal.defs _ _).mono (fun r h c => ?_) (Cert.Reference14Ideal.Value.run m' g')⟩
  obtain ⟨e0, e1, e2, e3, e4, e5, e6, e7, e8, e9, ha⟩ := h c
  obtain ⟨h0, h1, h2, h3, h4, h5, h6, h7, h8, h9⟩ := heq c
  refine ⟨e0.trans ?_, e1.trans ?_, e2.trans ?_, e3.trans ?_, e4.trans ?_, e5.trans ?_, e6.trans ?_, e7.trans ?_, e8.trans ?_, e9.trans ?_, ha⟩
  · simp only [h1, h2, h3, h4, h5, h6, h7, h8, h9]
    funext i
    obtain ⟨r, q, rfl⟩ : ∃ (r : Fin 2048) (q : Fin 2816), i = ix2 r q := ⟨i 0, i 1, eq_ix2 i⟩
    pointwise [xc, conv]
    simp only [h0]
    exact conv_ref (branch (m ((c.tc : Thread nD τ).loc main_arg0)) q) (taps (m ((c.tc : Thread nD τ).loc main_arg1)) q) _ r _ _ _
  · simp only [h1, h2, h3, h4, h5, h6, h7, h8, h9]
    funext i
    obtain ⟨r, q, rfl⟩ : ∃ (r : Fin 2048) (q : Fin 2816), i = ix2 r q := ⟨i 0, i 1, eq_ix2 i⟩
    pointwise [gate]
    simp only [h0]
    exact congrArg (fun z : EReal => z + (m ((c.tc : Thread nD τ).loc main_arg4)) (ix3 (blockOf q) 0 (within q))) (Finset.sum_congr rfl fun k _ => (mul_comm _ _).trans
      (congrArg (fun z : EReal => z * (m ((c.tc : Thread nD τ).loc main_arg3)) (ix3 (blockOf q) k (within q))) (conv_ref (branch (m ((c.tc : Thread nD τ).loc main_arg0)) (column (blockOf q) k)) (taps (m ((c.tc : Thread nD τ).loc main_arg1)) (column (blockOf q) k)) ((m ((c.tc : Thread nD τ).loc main_arg2)) (ix2 0 (column (blockOf q) k))) r _ _ _)))
  · simp only [h1, h2, h3, h4, h5, h6, h7, h8, h9]
    funext i
    obtain ⟨r, q, rfl⟩ : ∃ (r : Fin 2048) (q : Fin 2816), i = ix2 r q := ⟨i 0, i 1, eq_ix2 i⟩
    pointwise [gate]
    simp only [h0]
    exact congrArg (fun z : EReal => z + (m ((c.tc : Thread nD τ).loc main_arg6)) (ix3 (blockOf q) 0 (within q))) (Finset.sum_congr rfl fun k _ => (mul_comm _ _).trans
      (congrArg (fun z : EReal => z * (m ((c.tc : Thread nD τ).loc main_arg5)) (ix3 (blockOf q) k (within q))) (conv_ref (branch (m ((c.tc : Thread nD τ).loc main_arg0)) (column (blockOf q) k)) (taps (m ((c.tc : Thread nD τ).loc main_arg1)) (column (blockOf q) k)) ((m ((c.tc : Thread nD τ).loc main_arg2)) (ix2 0 (column (blockOf q) k))) r _ _ _)))
  · unfold Cert.Reference14Ideal.Value.res_main_v125
    simp only [h1, h2, h3, h4, h5, h6, h7, h8, h9]
    funext i
    obtain ⟨r, q, rfl⟩ : ∃ (r : Fin 2048) (q : Fin 2816), i = ix2 r q := ⟨i 0, i 1, eq_ix2 i⟩
    pointwise [dbranch]
    exact back_ref (fun s => dxc m c (ix2 s q)) (taps (m ((c.tc : Thread nD τ).loc main_arg1)) q) r _ _ _
  · unfold Cert.Reference14Ideal.Value.res_main_v120
    simp only [h1, h2, h3, h4, h5, h6, h7, h8, h9]
    funext i
    obtain ⟨r, q, rfl⟩ : ∃ (r : Fin 4) (q : Fin 2816), i = ix2 r q := ⟨i 0, i 1, eq_ix2 i⟩
    pointwise [dtaps]
    simp only [h0]
    exact stacked r _ _ _ _ (fun r => ∑ s, dxc m c (ix2 s q) * delayed (branch (m ((c.tc : Thread nD τ).loc main_arg0)) q) r.val s)
      (fun _ => (Fin.sum_univ_one _).trans (Finset.sum_congr rfl fun s _ => (mul_comm _ _).trans (congrArg (fun z : EReal => dxc m c (ix2 s q) * z) (delayed_zero (branch (m ((c.tc : Thread nD τ).loc main_arg0)) q) s).symm)))
      (fun _ => (Fin.sum_univ_one _).trans (tap_ref (n := 1) (k := 2) rfl (fun s => dxc m c (ix2 s q)) (branch (m ((c.tc : Thread nD τ).loc main_arg0)) q) _))
      (fun _ => (Fin.sum_univ_one _).trans (tap_ref (n := 2) (k := 1) rfl (fun s => dxc m c (ix2 s q)) (branch (m ((c.tc : Thread nD τ).loc main_arg0)) q) _))
      (fun _ => (Fin.sum_univ_one _).trans (last_tap_ref (fun s => dxc m c (ix2 s q)) (branch (m ((c.tc : Thread nD τ).loc main_arg0)) q) _ _ _))
  · simp only [h1, h2, h3, h4, h5, h6, h7, h8, h9]
    funext i
    obtain ⟨r, q, rfl⟩ : ∃ (r : Fin 1) (q : Fin 2816), i = ix2 r q := ⟨i 0, i 1, eq_ix2 i⟩
    pointwise [dbias]
    exact Fin.sum_univ_one _
  · simp only [h1, h2, h3, h4, h5, h6, h7, h8, h9]
    funext i
    obtain ⟨r, q, k, rfl⟩ : ∃ (r : Fin 11) (q : Fin 256) (k : Fin 256), i = ix3 r q k := ⟨i 0, i 1, i 2, eq_ix3 i⟩
    pointwise [dgate]
    simp only [h0]
    exact dgate_ref (branch (m ((c.tc : Thread nD τ).loc main_arg0)) (column r q)) (taps (m ((c.tc : Thread nD τ).loc main_arg1)) (column r q)) _ (fun s => (m ((c.tc : Thread nD τ).loc main_arg7)) (ix2 s (column r k))) _ _ _ _ _ _ _
  · rw [h7]
    funext i
    obtain ⟨r, q, k, rfl⟩ : ∃ (r : Fin 11) (q : Fin 1) (k : Fin 256), i = ix3 r q k := ⟨i 0, i 1, i 2, eq_ix3 i⟩
    pointwise [dgateBias]
    exact Fin.sum_univ_one _
  · simp only [h1, h2, h3, h4, h5, h6, h7, h8, h9]
    funext i
    obtain ⟨r, q, k, rfl⟩ : ∃ (r : Fin 11) (q : Fin 256) (k : Fin 256), i = ix3 r q k := ⟨i 0, i 1, i 2, eq_ix3 i⟩
    pointwise [dgate]
    simp only [h0]
    exact dgate_ref (branch (m ((c.tc : Thread nD τ).loc main_arg0)) (column r q)) (taps (m ((c.tc : Thread nD τ).loc main_arg1)) (column r q)) _ (fun s => (m ((c.tc : Thread nD τ).loc main_arg8)) (ix2 s (column r k))) _ _ _ _ _ _ _
  · rw [h8]
    funext i
    obtain ⟨r, q, k, rfl⟩ : ∃ (r : Fin 11) (q : Fin 1) (k : Fin 256), i = ix3 r q k := ⟨i 0, i 1, i 2, eq_ix3 i⟩
    pointwise [dgateBias]
    exact Fin.sum_univ_one _

end Cert.Gates

end
-- ==== Proof.RowNorm.lean ====
/-
  Norms of rows of extended reals: a row divided by the root of its mean square, times a gain; the gradients of the row
  and of the gain; and the sum over all the rows of an array as the sum over its eight tiles of rows.
-/
module

public import Idealize.ShloMosaic.Lib.Pipeline.ValueKit
public import Idealize.ShloMosaic.Lib.Pointwise

@[expose] public section

noncomputable section

namespace Cert.RowNorm

open Idealize.ShloMosaic

/-- A row of an array. -/
def row {m n : ℕ} (A : (⟨2, ![m, n]⟩ : Shape).Idx → EReal) (r : Fin m) : Fin n → EReal := fun k => A (ix2 r k)

/-- The mean square of a row of 2048 plus the constant 1e-6, and the inverse of its root. -/
def square (x : Fin 2048 → EReal) : EReal :=
  Ideal.div (∑ k, x k * x k) (Ideal.ofBits .f32 0x45000000#32) + Ideal.ofBits .f32 0x358637BD#32
def scale (x : Fin 2048 → EReal) : EReal := Ideal.rsqrt (square x)

/-- The norm of a row with a gain. -/
def norm (x g : Fin 2048 → EReal) (q : Fin 2048) : EReal := x q * scale x * g q

/-- The gradient of the mean square, from the gradient `d` of the norm; -/
def slope (x d g : Fin 2048 → EReal) : EReal :=
  ∑ _ : Fin 1, Ideal.div ((∑ k, x k * (d k * g k)) * (Ideal.ofBits .f32 0xBF000000#32 * Ideal.div (scale x) (square x)))
    (Ideal.ofBits .f32 0x45000000#32)
/-- of the row; -/
def back (x d g : Fin 2048 → EReal) (q : Fin 2048) : EReal := d q * g q * scale x + x q * slope x d g + slope x d g * x q
/-- and, from all the rows, of the gain. -/
def gain {n : ℕ} (x d : Fin n → Fin 2048 → EReal) (q : Fin 2048) : EReal := ∑ r, x r q * scale (x r) * d r q

/-- The same over the rows of an array, with one gain. -/
def norms (x : (⟨2, ![2048, 2048]⟩ : Shape).Idx → EReal) (g : (⟨2, ![1, 2048]⟩ : Shape).Idx → EReal) : (⟨2, ![2048, 2048]⟩ : Shape).Idx → EReal :=
  fun i => norm (row x (i 0)) (row g 0) (i 1)
def backs (x d : (⟨2, ![2048, 2048]⟩ : Shape).Idx → EReal) (g : (⟨2, ![1, 2048]⟩ : Shape).Idx → EReal) : (⟨2, ![2048, 2048]⟩ : Shape).Idx → EReal :=
  fun i => back (row x (i 0)) (row d (i 0)) (row g 0) (i 1)
def gains (x d : (⟨2, ![2048, 2048]⟩ : Shape).Idx → EReal) : (⟨2, ![1, 2048]⟩ : Shape).Idx → EReal := fun i => gain (row x) (row d) (i 1)

/-- The sum of two arrays, entry by entry. -/
def both (y d : (⟨2, ![2048, 2048]⟩ : Shape).Idx → EReal) : (⟨2, ![2048, 2048]⟩ : Shape).Idx → EReal := fun i => y i + d i

/-- An array gated by the logistic of another. -/
def gated (a b : (⟨2, ![2048, 2048]⟩ : Shape).Idx → EReal) : (⟨2, ![2048, 2048]⟩ : Shape).Idx → EReal := fun i => Ideal.logistic (a i) * b i

/-- The row that is the `r`-th of the `l`-th tile. -/
def rowOf (l : Fin 8) (r : Fin 256) : Fin 2048 := ⟨l.val * 256 + r.val, by omega⟩

/-- What starts with the sum over the first tile, and at each later one has that tile's sum added, is the whole sum. -/
theorem sum_tiles (f : Fin 2048 → EReal) (o : (l : ℕ) → l < 8 → EReal) (first : o 0 (by omega) = ∑ r, f (rowOf 0 r))
    (later : ∀ l (h : l + 1 < 8), o (l + 1) h = o l (by omega) + ∑ r, f (rowOf ⟨l + 1, h⟩ r)) : o 7 (by omega) = ∑ r, f r := by
  have e : ∑ r, f r = ∑ l : Fin 8, ∑ r, f (rowOf l r) := by
    rw [← Fintype.sum_prod_type' (f := fun l r => f (rowOf l r))]
    refine (Fintype.sum_equiv (finProdFinEquiv (m := 8) (n := 256)) _ _ fun p => congrArg f (Fin.ext ?_)).symm
    show p.1.val * 256 + p.2.val = p.2.val + 256 * p.1.val
    ring
  rw [e, Fin.sum_univ_eight, later 6, later 5, later 4, later 3, later 2, later 1, later 0, first]
  rfl

/-- So with the gradient of a gain, each tile's part of which is added as the tile comes. -/
theorem gain_tiles (x d : Fin 2048 → Fin 2048 → EReal) (q : Fin 2048) (o : (l : ℕ) → l < 8 → EReal)
    (first : o 0 (by omega) = gain (fun r => x (rowOf 0 r)) (fun r => d (rowOf 0 r)) q)
    (later : ∀ l (h : l + 1 < 8), o (l + 1) h = o l (by omega) + gain (fun r => x (rowOf ⟨l + 1, h⟩ r)) (fun r => d (rowOf ⟨l + 1, h⟩ r)) q)
    (l : ℕ) (hl : l < 8) (h : l = 7) : o l hl = gain x d q := by
  subst h
  exact sum_tiles (fun r => x r q * scale (x r) * d r q) o first later

/-- An entry of an array, by its two coordinates. -/
theorem at_two {m n : ℕ} {A : (⟨2, ![m, n]⟩ : Shape).Idx → EReal} {i : (⟨2, ![m, n]⟩ : Shape).Idx} {a : Fin m} {b : Fin n}
    (h0 : (i 0).val = a.val) (h1 : (i 1).val = b.val) : A i = A (ix2 a b) := by
  obtain rfl : i 0 = a := Fin.ext h0
  obtain rfl : i 1 = b := Fin.ext h1
  exact congrArg A (eq_ix2 i)

end Cert.RowNorm

end
-- ==== Proof.RefNorm.lean ====
/-
  The norm of the rows of an array with a gain, its gradients, and the logistic, as the references write them over whole arrays, read
  at an entry as functions of the entry's row.
-/
module

public import proofs.«01_k».proof.Proof.Gen.Reference16Ideal.Run
public import proofs.«01_k».proof.Proof.RowNorm

@[expose] public section

set_option maxRecDepth 16384

noncomputable section

namespace Cert.RefNorm

open Idealize.ShloMosaic Idealize.ShloMosaic.TcCoe Idealize.ShloMosaic.Tactic
open Cert.Reference16Ideal Cert.Reference16Ideal.Gen Cert.RowNorm

/-- The logistic, and a gated array. -/
def sigmoid (a : FVec Ideal S2048x2048 .f32) : FVec Ideal S2048x2048 .f32 :=
  Host.divf (broadcastInDim S2048x2048 ![] bcast_S_S2048x2048 (constant S_ .f32 0x3F800000#32))
    (addf (broadcastInDim S2048x2048 ![] bcast_S_S2048x2048 (constant S_ .f32 0x3F800000#32)) (Host.exp (Host.negf a)))
def gatedOf (a b : FVec Ideal S2048x2048 .f32) : FVec Ideal S2048x2048 .f32 := mulf (sigmoid a) b

theorem sigmoid_eq (a : FVec Ideal S2048x2048 .f32) : sigmoid a = fun i => Ideal.logistic (a i) := by
  funext i
  pointwise [sigmoid, Ideal.logistic]

theorem gatedOf_eq (a b : FVec Ideal S2048x2048 .f32) : gatedOf a b = gated a b := by
  unfold gatedOf
  rw [sigmoid_eq]
  rfl

variable (x d : FVec Ideal S2048x2048 .f32) (g : FVec Ideal S1x2048 .f32)

/-- The mean squares of the rows, with the constant; the inverses of their roots along the rows; the gain under each other. -/
def squares : FVec Ideal S2048x1 .f32 :=
  addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32))
def scales : FVec Ideal S2048x2048 .f32 := broadcastInDim S2048x2048 ![0, 1] bcast_S2048x1_S2048x2048_0_1 (Host.rsqrt (squares x))
def gainRows : FVec Ideal S2048x2048 .f32 :=
  broadcastInDim S2048x2048 ![0, 1] bcast_S1x2048_S2048x2048_0_1
    (broadcastInDim S1x2048 ![1] bcast_S2048_S1x2048_1 (shapeCast S2048 g shapeCasts_S1x2048_S2048))

/-- The norm, and its gradients. -/
def normOf : FVec Ideal S2048x2048 .f32 := mulf (mulf x (scales x)) (gainRows g)
def slopes : FVec Ideal S2048x2048 .f32 :=
  broadcastInDim S2048x2048 ![0] bcast_S2048_S2048x2048_0 (Host.reduceAdd (Host.divf
    (mulf (shapeCast S2048x1 (Host.reduceAdd (mulf x (mulf d (gainRows g))) (constant S_ .f32 0x00000000#32) reducesTo_S2048x2048_S2048_d1 h_S_)
        shapeCasts_S2048_S2048x1)
      (mulf (broadcastInDim S2048x1 ![] bcast_S_S2048x1 (constant S_ .f32 0xBF000000#32)) (Host.divf (Host.rsqrt (squares x)) (squares x))))
    (broadcastInDim S2048x1 ![] bcast_S_S2048x1 (constant S_ .f32 0x45000000#32)))
    (constant S_ .f32 0x00000000#32) reducesTo_S2048x1_S2048_d1 h_S_)
def backOf : FVec Ideal S2048x2048 .f32 :=
  addf (addf (mulf (mulf d (gainRows g)) (scales x)) (mulf x (slopes x d g))) (mulf (slopes x d g) x)
def gainOf : FVec Ideal S1x2048 .f32 :=
  broadcastInDim S1x2048 ![1] bcast_S2048_S1x2048_1 (Host.reduceAdd (shapeCast S1x2048
    (Host.reduceAdd (mulf (mulf x (scales x)) d) (constant S_ .f32 0x00000000#32) reducesTo_S2048x2048_S2048_d0 h_S_) shapeCasts_S2048_S1x2048)
    (constant S_ .f32 0x00000000#32) reducesTo_S1x2048_S2048_d0 h_S_)

theorem squares_at (r : Fin 2048) (q : Fin 1) : squares x (ix2 r q) = square (row x r) := by
  pointwise [squares]
  rfl

theorem scales_at (r q : Fin 2048) : scales x (ix2 r q) = scale (row x r) := by
  pointwise [scales]
  rw [squares_at]
  rfl

theorem gainRows_at (r q : Fin 2048) : gainRows g (ix2 r q) = row g 0 q := by
  pointwise [gainRows]
  rfl

theorem normOf_eq : normOf x g = norms x g := by
  funext i
  obtain ⟨r, q, rfl⟩ : ∃ (r q : Fin 2048), i = ix2 r q := ⟨i 0, i 1, eq_ix2 i⟩
  pointwise [normOf]
  rw [scales_at, gainRows_at]
  rfl

theorem slopes_at (r q : Fin 2048) : slopes x d g (ix2 r q) = slope (row x r) (row d r) (row g 0) := by
  pointwise [slopes]
  simp only [squares_at, gainRows_at]
  rfl

theorem backOf_eq : backOf x d g = backs x d g := by
  funext i
  obtain ⟨r, q, rfl⟩ : ∃ (r q : Fin 2048), i = ix2 r q := ⟨i 0, i 1, eq_ix2 i⟩
  pointwise [backOf]
  rw [scales_at, gainRows_at, slopes_at]
  rfl

theorem gainOf_eq : gainOf x d = gains x d := by
  funext i
  obtain ⟨r, q, rfl⟩ : ∃ (r : Fin 1) (q : Fin 2048), i = ix2 r q := ⟨i 0, i 1, eq_ix2 i⟩
  pointwise [gainOf]
  simp only [scales_at]
  exact Fin.sum_univ_one _

end Cert.RefNorm

end
-- ==== Proof.Norms.lean ====
/-
  The norms of the forward pass, with the sums of the residual. Four calls in turn: the norm before the mixer; the norm
  after it, added to the residual, with the norm of the sum before the feed-forward product; the norm after that, added;
  and the norm of the gated per-layer embedding, added. A point of each grid treats a tile of 256 rows.
-/
module

public import proofs.«01_k».proof.Proof.Gen.Kernel15Ideal.Frame
public import proofs.«01_k».proof.Proof.Gen.Reference15Ideal.Run
public import proofs.«01_k».proof.Proof.Products
public import proofs.«01_k».proof.Defs
public import proofs.«01_k».proof.Proof.RefNorm

@[expose] public section

set_option maxRecDepth 16384

noncomputable section

namespace Cert.Norms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal Cert.Kernel15Ideal.Gen
open Cert.Products Cert.RowNorm Cert.RefNorm
open Finset

section Entries

variable (y x a b : Vec Ideal S256x2048 .f32) (g k : Vec Ideal S1x2048 .f32) (r : Fin 256) (q : Fin 2048)

theorem pay_pre : k0_pay1 (F := Ideal) x g (ix2 r q) = norm (row x r) (row g 0) q := by
  pointwise [k0_pay1]
  rfl

theorem pay_mix : k1_pay1 (F := Ideal) y x g (ix2 r q) = y (ix2 r q) + norm (row x r) (row g 0) q := by
  pointwise [k1_pay1]
  rfl

theorem pay_next : k1_pay2 (F := Ideal) y x g k (ix2 r q) = norm (row (k1_pay1 (F := Ideal) y x g) r) (row k 0) q := by
  pointwise [k1_pay2]
  rfl

theorem pay_ffn : k2_pay1 (F := Ideal) y x g (ix2 r q) = y (ix2 r q) + norm (row x r) (row g 0) q := by
  pointwise [k2_pay1]
  rfl

theorem pay_ffn' : k2_pay2 (F := Ideal) y x g (ix2 r q) = k2_pay1 (F := Ideal) y x g (ix2 r q) := by
  pointwise [k2_pay2]

theorem pay_ple : k3_pay1 (F := Ideal) y a b g (ix2 r q)
    = y (ix2 r q) + norm (fun j => Ideal.logistic (a (ix2 r j)) * b (ix2 r j)) (row g 0) q := by
  pointwise [k3_pay1]
  rfl

end Entries

/-! ## What the four calls write -/

section Regions

variable (V : (c : Dev nD) → (b : Ref sig .tc) → Buf (Elt Ideal) ((c : Thread nD τ).loc b)) (c : Dev nD)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index1_0 : ∀ t : Fin cfg1.N, win1_0.index t = ![t.val, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![t.val, 0] := (by decide +kernel : ∀ t : Fin grid1.N, _)
theorem index1_5 : ∀ t : Fin cfg1.N, win1_5.index t = ![t.val, 0] := (by decide +kernel : ∀ t : Fin grid1.N, _)
theorem index2_0 : ∀ t : Fin cfg2.N, win2_0.index t = ![t.val, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![t.val, 0] := (by decide +kernel : ∀ t : Fin grid2.N, _)
theorem index2_4 : ∀ t : Fin cfg2.N, win2_4.index t = ![t.val, 0] := (by decide +kernel : ∀ t : Fin grid2.N, _)
theorem index3_0 : ∀ t : Fin cfg3.N, win3_0.index t = ![t.val, 0] := (by decide +kernel : ∀ t : Fin grid3.N, _)
theorem index3_1 : ∀ t : Fin cfg3.N, win3_1.index t = ![t.val, 0] := (by decide +kernel : ∀ t : Fin grid3.N, _)
theorem index3_2 : ∀ t : Fin cfg3.N, win3_2.index t = ![t.val, 0] := (by decide +kernel : ∀ t : Fin grid3.N, _)
theorem index3_3 : ∀ t : Fin cfg3.N, win3_3.index t = ![0, 0] := (by decide +kernel : ∀ t : Fin grid3.N, _)
theorem index3_4 : ∀ t : Fin cfg3.N, win3_4.index t = ![t.val, 0] := (by decide +kernel : ∀ t : Fin grid3.N, _)

/-- The tile that a point of the grid treats. -/
abbrev pt0 (t : Fin cfg0.N) : Fin 8 := ⟨t.val, t.isLt⟩
abbrev pt1 (t : Fin cfg1.N) : Fin 8 := ⟨t.val, t.isLt⟩
abbrev pt2 (t : Fin cfg2.N) : Fin 8 := ⟨t.val, t.isLt⟩
abbrev pt3 (t : Fin cfg3.N) : Fin 8 := ⟨t.val, t.isLt⟩

theorem in0_0 (t : Fin cfg0.N) : row (iblk0 (F := Ideal) V c 0 t) = fun r => row (V c main_arg0) (rowOf (pt0 t) r) := by
  funext r q; unfold row; blk_simp [iblk0]; exact congrArg _ (by blk_ext [index0_0 t, rowOf])
theorem in0_1 (t : Fin cfg0.N) : row (iblk0 (F := Ideal) V c 1 t) 0 = row (V c main_arg5) 0 := by
  funext q; unfold row; blk_simp [iblk0]; exact congrArg _ (by blk_ext [index0_1 t])
theorem in1_0 (t : Fin cfg1.N) (r : Fin 256) (q : Fin 2048) : iblk1 (F := Ideal) V c 0 t (ix2 r q) = V c main_arg0 (ix2 (rowOf (pt1 t) r) q) := by
  blk_simp [iblk1]; exact congrArg _ (by blk_ext [index1_0 t, rowOf])
theorem in1_1 (t : Fin cfg1.N) : row (iblk1 (F := Ideal) V c 1 t) = fun r => row (V c main_arg1) (rowOf (pt1 t) r) := by
  funext r q; unfold row; blk_simp [iblk1]; exact congrArg _ (by blk_ext [index1_1 t, rowOf])
theorem in1_2 (t : Fin cfg1.N) : row (iblk1 (F := Ideal) V c 2 t) 0 = row (V c main_arg6) 0 := by
  funext q; unfold row; blk_simp [iblk1]; exact congrArg _ (by blk_ext [index1_2 t])
theorem in1_3 (t : Fin cfg1.N) : row (iblk1 (F := Ideal) V c 3 t) 0 = row (V c main_arg7) 0 := by
  funext q; unfold row; blk_simp [iblk1]; exact congrArg _ (by blk_ext [index1_3 t])
theorem in2_0 (t : Fin cfg2.N) (r : Fin 256) (q : Fin 2048) : iblk2 (F := Ideal) V c 0 t (ix2 r q) = V c main_v1_0 (ix2 (rowOf (pt2 t) r) q) := by
  blk_simp [iblk2]; exact congrArg _ (by blk_ext [index2_0 t, rowOf])
theorem in2_1 (t : Fin cfg2.N) : row (iblk2 (F := Ideal) V c 1 t) = fun r => row (V c main_arg2) (rowOf (pt2 t) r) := by
  funext r q; unfold row; blk_simp [iblk2]; exact congrArg _ (by blk_ext [index2_1 t, rowOf])
theorem in2_2 (t : Fin cfg2.N) : row (iblk2 (F := Ideal) V c 2 t) 0 = row (V c main_arg8) 0 := by
  funext q; unfold row; blk_simp [iblk2]; exact congrArg _ (by blk_ext [index2_2 t])
theorem in3_0 (t : Fin cfg3.N) (r : Fin 256) (q : Fin 2048) : iblk3 (F := Ideal) V c 0 t (ix2 r q) = V c main_v2_0 (ix2 (rowOf (pt3 t) r) q) := by
  blk_simp [iblk3]; exact congrArg _ (by blk_ext [index3_0 t, rowOf])
theorem in3_1 (t : Fin cfg3.N) (r : Fin 256) (q : Fin 2048) : iblk3 (F := Ideal) V c 1 t (ix2 r q) = V c main_arg3 (ix2 (rowOf (pt3 t) r) q) := by
  blk_simp [iblk3]; exact congrArg _ (by blk_ext [index3_1 t, rowOf])
theorem in3_2 (t : Fin cfg3.N) (r : Fin 256) (q : Fin 2048) : iblk3 (F := Ideal) V c 2 t (ix2 r q) = V c main_arg4 (ix2 (rowOf (pt3 t) r) q) := by
  blk_simp [iblk3]; exact congrArg _ (by blk_ext [index3_2 t, rowOf])
theorem in3_3 (t : Fin cfg3.N) : row (iblk3 (F := Ideal) V c 3 t) 0 = row (V c main_arg9) 0 := by
  funext q; unfold row; blk_simp [iblk3]; exact congrArg _ (by blk_ext [index3_3 t])

theorem final_pre : (dat0 (F := Ideal) V c).arrAt 2 cfg0.N = norms (V c main_arg0) (V c main_arg5) := by
  refine (dat0 V c).arrAt_eq_of_covers 2 _ (by decide +kernel) fun t hf y => ?_
  obtain ⟨r, q, rfl⟩ : ∃ (r : Fin 256) (q : Fin 2048), y = ix2 r q := ⟨y 0, y 1, eq_ix2 y⟩
  refine Eq.trans (b := k0_pay1 (F := Ideal) (iblk0 V c 0 t) (iblk0 V c 1 t) (ix2 r q)) (by blk_simp; rw [after0_2]; frame_out)
    ((pay_pre _ _ r q).trans (Eq.trans ?_ (at_two (A := norms (V c main_arg0) (V c main_arg5)) (a := rowOf (pt0 t) r) (b := q) ?_ ?_).symm))
  · rw [in0_0, in0_1]
    rfl
  · blk_simp [index0_2 t]; rfl
  · blk_simp [index0_2 t]

theorem final_mix : (dat1 (F := Ideal) V c).arrAt 4 cfg1.N = both (V c main_arg0) (norms (V c main_arg1) (V c main_arg6)) := by
  refine (dat1 V c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := k1_pay1 (F := Ideal) (iblk1 V c 0 t) (iblk1 V c 1 t) (iblk1 V c 2 t) (ix2 r q)) (by blk_simp; rw [after1_4]; frame_out)
    ((pay_mix _ _ _ r q).trans (Eq.trans ?_ (at_two (A := both (V c main_arg0) (norms (V c main_arg1) (V c main_arg6))) (a := rowOf (pt1 t) r) (b := q) ?_ ?_).symm))
  · rw [in1_0, in1_1, in1_2]
    rfl
  · blk_simp [index1_4 t]; rfl
  · blk_simp [index1_4 t]

theorem in1_sum (t : Fin cfg1.N) : row (k1_pay1 (F := Ideal) (iblk1 V c 0 t) (iblk1 V c 1 t) (iblk1 V c 2 t)) = fun r =>
    row (both (V c main_arg0) (norms (V c main_arg1) (V c main_arg6))) (rowOf (pt1 t) r) := by
  funext r q
  refine (pay_mix _ _ _ r q).trans ?_
  rw [in1_0, in1_1, in1_2]
  rfl

theorem final_next : (dat1 (F := Ideal) V c).arrAt 5 cfg1.N = norms (both (V c main_arg0) (norms (V c main_arg1) (V c main_arg6))) (V c main_arg7) := by
  refine (dat1 V c).arrAt_eq_of_covers 5 _ (by decide +kernel) fun t hf y => ?_
  obtain ⟨r, q, rfl⟩ : ∃ (r : Fin 256) (q : Fin 2048), y = ix2 r q := ⟨y 0, y 1, eq_ix2 y⟩
  refine Eq.trans (b := k1_pay2 (F := Ideal) (iblk1 V c 0 t) (iblk1 V c 1 t) (iblk1 V c 2 t) (iblk1 V c 3 t) (ix2 r q)) (by blk_simp; rw [after1_5]; frame_out)
    ((pay_next _ _ _ _ r q).trans (Eq.trans ?_ (at_two (A := norms (both (V c main_arg0) (norms (V c main_arg1) (V c main_arg6))) (V c main_arg7)) (a := rowOf (pt1 t) r) (b := q) ?_ ?_).symm))
  · rw [in1_sum, in1_3]
    rfl
  · blk_simp [index1_5 t]; rfl
  · blk_simp [index1_5 t]

theorem final_ffn : (dat2 (F := Ideal) V c).arrAt 3 cfg2.N = both (V c main_v1_0) (norms (V c main_arg2) (V c main_arg8)) := by
  refine (dat2 V c).arrAt_eq_of_covers 3 _ (by decide +kernel) fun t hf y => ?_
  obtain ⟨r, q, rfl⟩ : ∃ (r : Fin 256) (q : Fin 2048), y = ix2 r q := ⟨y 0, y 1, eq_ix2 y⟩
  refine Eq.trans (b := k2_pay1 (F := Ideal) (iblk2 V c 0 t) (iblk2 V c 1 t) (iblk2 V c 2 t) (ix2 r q)) (by blk_simp; rw [after2_3]; frame_out)
    ((pay_ffn _ _ _ r q).trans (Eq.trans ?_ (at_two (A := both (V c main_v1_0) (norms (V c main_arg2) (V c main_arg8))) (a := rowOf (pt2 t) r) (b := q) ?_ ?_).symm))
  · rw [in2_0, in2_1, in2_2]
    rfl
  · blk_simp [index2_3 t]; rfl
  · blk_simp [index2_3 t]

theorem final_ffn' : (dat2 (F := Ideal) V c).arrAt 4 cfg2.N = both (V c main_v1_0) (norms (V c main_arg2) (V c main_arg8)) := by
  refine (dat2 V c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := k2_pay2 (F := Ideal) (iblk2 V c 0 t) (iblk2 V c 1 t) (iblk2 V c 2 t) (ix2 r q)) (by blk_simp; rw [after2_4]; frame_out)
    ((pay_ffn' _ _ _ r q).trans (Eq.trans ?_ (at_two (A := both (V c main_v1_0) (norms (V c main_arg2) (V c main_arg8))) (a := rowOf (pt2 t) r) (b := q) ?_ ?_).symm))
  · rw [pay_ffn, in2_0, in2_1, in2_2]
    rfl
  · blk_simp [index2_4 t]; rfl
  · blk_simp [index2_4 t]

theorem final_ple : (dat3 (F := Ideal) V c).arrAt 4 cfg3.N = both (V c main_v2_0) (norms (gated (V c main_arg3) (V c main_arg4)) (V c main_arg9)) := by
  refine (dat3 V c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := k3_pay1 (F := Ideal) (iblk3 V c 0 t) (iblk3 V c 1 t) (iblk3 V c 2 t) (iblk3 V c 3 t) (ix2 r q)) (by blk_simp; rw [after3_4]; frame_out)
    ((pay_ple _ _ _ _ r q).trans (Eq.trans ?_ (at_two (A := both (V c main_v2_0) (norms (gated (V c main_arg3) (V c main_arg4)) (V c main_arg9))) (a := rowOf (pt3 t) r) (b := q) ?_ ?_).symm))
  · simp only [in3_0, in3_1, in3_2]
    rw [in3_3]
    rfl
  · blk_simp [index3_4 t]; rfl
  · blk_simp [index3_4 t]

end Regions

/-! ## The four calls in turn -/

section Chain

variable (m : (ℓ : Loc nD τ sig) → Buf (Elt Ideal) ℓ) (ρ : Dev nD → PrngReg) (c : Dev nD)

/-- The residual after the mixer, after the feed-forward product and at the end, from the arguments. -/
def resMix : (⟨2, ![2048, 2048]⟩ : Shape).Idx → EReal := both (m ((c.tc : Thread nD τ).loc main_arg0)) (norms (m ((c.tc : Thread nD τ).loc main_arg1)) (m ((c.tc : Thread nD τ).loc main_arg6)))
def resFfn : (⟨2, ![2048, 2048]⟩ : Shape).Idx → EReal := both (resMix m c) (norms (m ((c.tc : Thread nD τ).loc main_arg2)) (m ((c.tc : Thread nD τ).loc main_arg8)))
def resEnd : (⟨2, ![2048, 2048]⟩ : Shape).Idx → EReal := both (resFfn m c) (norms (gated (m ((c.tc : Thread nD τ).loc main_arg3)) (m ((c.tc : Thread nD τ).loc main_arg4))) (m ((c.tc : Thread nD τ).loc main_arg9)))

theorem arg0 (b : Ref sig .tc) (h : b ∈ argRefs) : V0 m ρ c b = m ((c : Thread nD τ).loc b) := W0_args m ρ c b h
theorem arg1 (b : Ref sig .tc) (h : b ∈ argRefs) : V1 m ρ c b = m ((c : Thread nD τ).loc b) := W1_args m ρ c b h
theorem arg2 (b : Ref sig .tc) (h : b ∈ argRefs) : V2 m ρ c b = m ((c : Thread nD τ).loc b) := W2_args m ρ c b h
theorem arg3 (b : Ref sig .tc) (h : b ∈ argRefs) : V3 m ρ c b = m ((c : Thread nD τ).loc b) := W3_args m ρ c b h

/-- Each call reads what the one before it left. -/
theorem mix_left : V2 m ρ c main_v1_0 = resMix m c := by
  refine (W2_arr m ρ c 4).trans ((final_mix (V1 m ρ) c).trans ?_)
  rw [arg1 m ρ c main_arg0 (by decide), arg1 m ρ c main_arg1 (by decide), arg1 m ρ c main_arg6 (by decide)]
  rfl

theorem ffn_left : V3 m ρ c main_v2_0 = resFfn m c := by
  refine (W3_arr m ρ c 3).trans ((final_ffn (V2 m ρ) c).trans ?_)
  rw [mix_left m ρ c, arg2 m ρ c main_arg2 (by decide), arg2 m ρ c main_arg8 (by decide)]
  rfl

theorem at_main_v0 : W4 m ρ c (Proc.devRef .tc main_v0) = norms (m ((c.tc : Thread nD τ).loc main_arg0)) (m ((c.tc : Thread nD τ).loc main_arg5)) := by
  refine (W4_of m ρ c main_v0 (by decide)).trans ((W3_of m ρ c main_v0 (by decide)).trans ((W2_of m ρ c main_v0 (by decide)).trans
    ((W1_arr m ρ c 2).trans ((final_pre (V0 m ρ) c).trans ?_))))
  rw [arg0 m ρ c main_arg0 (by decide), arg0 m ρ c main_arg5 (by decide)]

theorem at_main_v1_0 : W4 m ρ c (Proc.devRef .tc main_v1_0) = resMix m c :=
  (W4_of m ρ c main_v1_0 (by decide)).trans ((W3_of m ρ c main_v1_0 (by decide)).trans (mix_left m ρ c))

theorem at_main_v1_1 : W4 m ρ c (Proc.devRef .tc main_v1_1) = norms (resMix m c) (m ((c.tc : Thread nD τ).loc main_arg7)) := by
  refine (W4_of m ρ c main_v1_1 (by decide)).trans ((W3_of m ρ c main_v1_1 (by decide)).trans
    ((W2_arr m ρ c 5).trans ((final_next (V1 m ρ) c).trans ?_)))
  rw [arg1 m ρ c main_arg0 (by decide), arg1 m ρ c main_arg1 (by decide), arg1 m ρ c main_arg6 (by decide), arg1 m ρ c main_arg7 (by decide)]
  rfl

theorem at_main_v2_0 : W4 m ρ c (Proc.devRef .tc main_v2_0) = resFfn m c :=
  (W4_of m ρ c main_v2_0 (by decide)).trans (ffn_left m ρ c)

theorem at_main_v2_1 : W4 m ρ c (Proc.devRef .tc main_v2_1) = resFfn m c := by
  refine (W4_of m ρ c main_v2_1 (by decide)).trans ((W3_arr m ρ c 4).trans ((final_ffn' (V2 m ρ) c).trans ?_))
  rw [mix_left m ρ c, arg2 m ρ c main_arg2 (by decide), arg2 m ρ c main_arg8 (by decide)]
  rfl

theorem at_main_v3 : W4 m ρ c (Proc.devRef .tc main_v3) = resEnd m c := by
  refine (W4_arr m ρ c 4).trans ((final_ple (V3 m ρ) c).trans ?_)
  rw [ffn_left m ρ c, arg3 m ρ c main_arg3 (by decide), arg3 m ρ c main_arg4 (by decide), arg3 m ρ c main_arg9 (by decide)]
  rfl

local notation "𝕄" => MT nD τ sig Unit (Elt Ideal) ℕ (UR sig nD τ) ℕ

set_option backward.isDefEq.respectTransparency.types false in
/-- The run of the four calls, with what the results hold at its end. -/
theorem run : θ_run defs (onTc (τ := τ) (main (F := Ideal))) ⟨m, fun _ => 0, ρ⟩ (fun r => ∀ c : Dev nD,
      r.2.mem ((c.tc : Thread nD τ).loc main_v0) = norms (m ((c.tc : Thread nD τ).loc main_arg0)) (m ((c.tc : Thread nD τ).loc main_arg5))
      ∧ r.2.mem ((c.tc : Thread nD τ).loc main_v1_0) = resMix m c
      ∧ r.2.mem ((c.tc : Thread nD τ).loc main_v1_1) = norms (resMix m c) (m ((c.tc : Thread nD τ).loc main_arg7))
      ∧ r.2.mem ((c.tc : Thread nD τ).loc main_v2_0) = resFfn m c
      ∧ r.2.mem ((c.tc : Thread nD τ).loc main_v2_1) = resFfn m c
      ∧ r.2.mem ((c.tc : Thread nD τ).loc main_v3) = resEnd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v0 (by decide))).trans (at_main_v0 m ρ c),
       (h c _ (mem_uc main_v1_0 (by decide))).trans (at_main_v1_0 m ρ c),
       (h c _ (mem_uc main_v1_1 (by decide))).trans (at_main_v1_1 m ρ c),
       (h c _ (mem_uc main_v2_0 (by decide))).trans (at_main_v2_0 m ρ c),
       (h c _ (mem_uc main_v2_1 (by decide))).trans (at_main_v2_1 m ρ c),
       (h c _ (mem_uc main_v3 (by decide))).trans (at_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Chain

section Reference

variable (m' : (ℓ : Loc Cert.Reference15Ideal.nD Cert.Reference15Ideal.τ Cert.Reference15Ideal.sig) → Buf (Elt Ideal) ℓ) (c : Dev Cert.Reference15Ideal.nD)

/-- The residual as the reference writes it. -/
def refMix : FVec Ideal Cert.Reference15Ideal.S2048x2048 .f32 := addf (m' ((c.tc : Thread Cert.Reference15Ideal.nD Cert.Reference15Ideal.τ).loc Cert.Reference15Ideal.main_arg0)) (normOf (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg6)))
def refFfn : FVec Ideal Cert.Reference15Ideal.S2048x2048 .f32 := addf (refMix m' c) (normOf (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg8)))
def refEnd : FVec Ideal Cert.Reference15Ideal.S2048x2048 .f32 := addf (refFfn m' c) (normOf (gatedOf (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4))) (m' ((c.tc : Thread Cert.Reference15Ideal.nD Cert.Reference15Ideal.τ).loc Cert.Reference15Ideal.main_arg9)))

end Reference

/-- The kernel and the reference end with the same six arrays. -/
theorem algebraic : Cert.algebraic_Kernel15Ideal_Reference15Ideal := by
  intro m g m' g' _ heq
  have mix (c) : refMix m' c = resMix m c := by
    unfold refMix
    rw [(heq c).1, (heq c).2.1, (heq c).2.2.2.2.2.2.1, normOf_eq]
    rfl
  have ffn (c) : refFfn m' c = resFfn m c := by
    unfold refFfn
    rw [mix, (heq c).2.2.1, (heq c).2.2.2.2.2.2.2.2.1, normOf_eq]
    rfl
  refine ⟨fun c => norms (m ((c.tc : Thread nD τ).loc main_arg0)) (m ((c.tc : Thread nD τ).loc main_arg5)), fun c => resMix m c, fun c => norms (resMix m c) (m ((c.tc : Thread nD τ).loc main_arg7)), fun c => resFfn m c, fun c => resFfn m c, fun c => resEnd m c,
    (θ_run defs _ _).mono (fun _ h c => h c) (run m g),
    (θ_run Cert.Reference15Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference15Ideal.Value.run m' g')⟩
  · refine Eq.trans (b := normOf (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg5))) rfl ?_
    rw [(heq c).1, (heq c).2.2.2.2.2.1, normOf_eq]
  · exact Eq.trans (b := refMix m' c) rfl (mix c)
  · refine Eq.trans (b := normOf (refMix m' c) (m' ((c.tc : Thread Cert.Reference15Ideal.nD Cert.Reference15Ideal.τ).loc Cert.Reference15Ideal.main_arg7))) rfl ?_
    rw [mix, (heq c).2.2.2.2.2.2.2.1, normOf_eq]
  · exact Eq.trans (b := refFfn m' c) rfl (ffn c)
  · exact Eq.trans (b := refFfn m' c) rfl (ffn c)
  · refine Eq.trans (b := refEnd m' c) rfl ?_
    unfold refEnd
    rw [ffn, (heq c).2.2.2.1, (heq c).2.2.2.2.1, (heq c).2.2.2.2.2.2.2.2.2, gatedOf_eq, normOf_eq]
    rfl

end Cert.Norms

end
-- ==== Proof.PleNormGrad.lean ====
/-
  The gradient of the norm of the gated per-layer embedding. A point of the grid treats a tile of 256 rows: it takes the
  gradient back through the norm of the gated rows, writes from it the tiles of the gradients of the gate's argument and
  of the embedding, and adds to the gradient of the gain, which stays in place, the tile's part.
-/
module

public import proofs.«01_k».proof.Proof.Gen.Kernel16Ideal.Value
public import proofs.«01_k».proof.Proof.Gen.Reference16Ideal.Run
public import proofs.«01_k».proof.Defs
public import proofs.«01_k».proof.Proof.Products
public import proofs.«01_k».proof.Proof.RefNorm

@[expose] public section

set_option maxRecDepth 16384

noncomputable section

namespace Cert.PleNormGrad

open Idealize.ShloMosaic Idealize.ShloMosaic.TcCoe Idealize.ShloMosaic.Tactic
open Idealize.SL Idealize.SL.Sem
open Cert.Kernel16Ideal Cert.Kernel16Ideal.Gen Cert.Kernel16Ideal.Value Cert.Products Cert.RowNorm Cert.RefNorm
open Finset

/-- A tile of the gradients of the gate's argument and of the embedding. -/
def gates (d a b : Vec Ideal S256x2048 .f32) (g : Vec Ideal S1x2048 .f32) : Vec Ideal S256x2048 .bf16 :=
  k0_pay2 b (k0_pay6 a) (k0_pay13 d a b g) (k0_pay14 d a b g)
def embeds (d a b : Vec Ideal S256x2048 .f32) (g : Vec Ideal S1x2048 .f32) : Vec Ideal S256x2048 .bf16 :=
  k0_pay3 (k0_pay5 a) (k0_pay13 d a b g) (k0_pay14 d a b g)

section Point

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole) (a6 : Memref sig .tc .vmem S256x2048 .bf16) (h6 : a6.IsWhole)
  (a7 : Memref sig .tc .vmem S256x2048 .bf16) (h7 : a7.IsWhole) (a8 : Memref sig .tc .vmem S1x2048 .f32) (h8 : a8.IsWhole)
  (d a b : Vec Ideal S256x2048 .f32) (g : Vec Ideal S1x2048 .f32) (s : Vec Ideal S1x2048 .f32)

/-- The first point writes the tile of each gradient and leaves the gradient of the gain from its rows; -/
theorem out_first (hc : cond0_0 i) (hc1 : ¬cond0_1 i) :
    out0_A_4 (F := Ideal) c i a2 h2 a3 h3 a4 h4 a5 h5 a6 h6 a7 h7 a8 h8 hc hc1 d a b g = gates d a b g
    ∧ out0_A_5 (F := Ideal) c i a2 h2 a3 h3 a4 h4 a5 h5 a6 h6 a7 h7 a8 h8 hc hc1 d a b g = embeds d a b g
    ∧ out0_A_6 (F := Ideal) c i a2 h2 a3 h3 a4 h4 a5 h5 a6 h6 a7 h7 a8 h8 hc hc1 d a b g = k0_pay10 d a b := by
  refine ⟨?_, ?_, ?_⟩
  · unfold out0_A_4
    rw [View.read_writes_eq_canon _ _ _ (cover0_A_4 c i a2 h2 a3 h3 a4 h4 a5 h5 a6 h6 a7 h7 a8 h8 hc hc1 d a b g)]
    unfold kernelRun0_A
    dsimp only
    sl_unfold_words
    rw [View.canon_unit_zero origin]
    simp only [gates, View.readAt_eq_ld, h2.read_unread, h3.read_unread, h4.read_unread, h5.read_unread,
      View.ld_unit_zero (S := S256x2048) origin, View.ld_unit_zero (S := S1x2048) origin]
  · unfold out0_A_5
    rw [View.read_writes_eq_canon _ _ _ (cover0_A_5 c i a2 h2 a3 h3 a4 h4 a5 h5 a6 h6 a7 h7 a8 h8 hc hc1 d a b g)]
    unfold kernelRun0_A
    dsimp only
    sl_unfold_words
    rw [View.canon_unit_zero origin]
    simp only [embeds, View.readAt_eq_ld, h2.read_unread, h3.read_unread, h4.read_unread, h5.read_unread,
      View.ld_unit_zero (S := S256x2048) origin, View.ld_unit_zero (S := S1x2048) origin]
  · unfold out0_A_6
    rw [View.read_writes_eq_canon _ _ _ (cover0_A_6 c i a2 h2 a3 h3 a4 h4 a5 h5 a6 h6 a7 h7 a8 h8 hc hc1 d a b g)]
    unfold kernelRun0_A
    dsimp only
    sl_unfold_words
    rw [View.canon_unit_zero origin]
    simp only [View.readAt_eq_ld, h2.read_unread, h3.read_unread, h4.read_unread,
      View.ld_unit_zero (S := S256x2048) origin, View.ld_unit_zero (S := S1x2048) origin]

/-- the others write theirs, and add to what the gradient of the gain holds. -/
theorem out_later (hc : ¬cond0_0 i) (hc1 : cond0_1 i) :
    out0_B_4 (F := Ideal) c i a2 h2 a3 h3 a4 h4 a5 h5 a6 h6 a7 h7 a8 h8 hc hc1 d a b g s = gates d a b g
    ∧ out0_B_5 (F := Ideal) c i a2 h2 a3 h3 a4 h4 a5 h5 a6 h6 a7 h7 a8 h8 hc hc1 d a b g s = embeds d a b g
    ∧ out0_B_6 (F := Ideal) c i a2 h2 a3 h3 a4 h4 a5 h5 a6 h6 a7 h7 a8 h8 hc hc1 d a b g s = k0_pay4 (k0_pay10 d a b) s := by
  refine ⟨?_, ?_, ?_⟩
  · unfold out0_B_4
    rw [View.read_writes_eq_canon _ _ _ (cover0_B_4 c i a2 h2 a3 h3 a4 h4 a5 h5 a6 h6 a7 h7 a8 h8 hc hc1 d a b g s)]
    unfold kernelRun0_B
    dsimp only
    sl_unfold_words
    rw [View.canon_unit_zero origin]
    simp only [gates, View.readAt_eq_ld, h2.read_unread, h3.read_unread, h4.read_unread, h5.read_unread,
      View.ld_unit_zero (S := S256x2048) origin, View.ld_unit_zero (S := S1x2048) origin]
  · unfold out0_B_5
    rw [View.read_writes_eq_canon _ _ _ (cover0_B_5 c i a2 h2 a3 h3 a4 h4 a5 h5 a6 h6 a7 h7 a8 h8 hc hc1 d a b g s)]
    unfold kernelRun0_B
    dsimp only
    sl_unfold_words
    rw [View.canon_unit_zero origin]
    simp only [embeds, View.readAt_eq_ld, h2.read_unread, h3.read_unread, h4.read_unread, h5.read_unread,
      View.ld_unit_zero (S := S256x2048) origin, View.ld_unit_zero (S := S1x2048) origin]
  · unfold out0_B_6
    rw [View.read_writes_eq_canon _ _ _ (cover0_B_6 c i a2 h2 a3 h3 a4 h4 a5 h5 a6 h6 a7 h7 a8 h8 hc hc1 d a b g s)]
    unfold kernelRun0_B
    dsimp only
    sl_unfold_words
    rw [View.canon_unit_zero origin]
    simp only [View.readAt_eq_ld, h2.read_unread, h3.read_unread, h4.read_unread, h8.read_unread,
      View.ld_unit_zero (S := S256x2048) origin, View.ld_unit_zero (S := S1x2048) origin]

end Point

section Entries

variable (d a b : Vec Ideal S256x2048 .f32) (g : Vec Ideal S1x2048 .f32) (r : Fin 256) (q : Fin 2048)

/-- The gradient of a gated row. -/
theorem pay_back : k0_pay1 (k0_pay13 (F := Ideal) d a b g) (k0_pay14 d a b g) (ix2 r q)
    = back (row (k0_pay7 (F := Ideal) a b) r) (row d r) (row g 0) q := by
  pointwise [k0_pay1, k0_pay13, k0_pay14, k0_pay12, k0_pay11, k0_pay9, k0_pay8]
  rfl

theorem pay_gates : gates d a b g (ix2 r q) = back (row (k0_pay7 (F := Ideal) a b) r) (row d r) (row g 0) q * b (ix2 r q)
    * (Ideal.logistic (a (ix2 r q)) * (1 - Ideal.logistic (a (ix2 r q)))) := by
  rw [← pay_back]
  unfold gates
  pointwise [k0_pay2, k0_pay6, k0_pay5]

theorem pay_embeds : embeds d a b g (ix2 r q)
    = Ideal.logistic (a (ix2 r q)) * back (row (k0_pay7 (F := Ideal) a b) r) (row d r) (row g 0) q := by
  rw [← pay_back]
  unfold embeds
  pointwise [k0_pay3, k0_pay5]

theorem pay_gain : k0_pay10 (F := Ideal) d a b (ix2 0 q) = gain (row (k0_pay7 (F := Ideal) a b)) (row d) q := by
  pointwise [k0_pay10, k0_pay9, k0_pay8]
  rfl

theorem pay_add (x y : Vec Ideal S1x2048 .f32) : k0_pay4 (F := Ideal) x y (ix2 0 q) = y (ix2 0 q) + x (ix2 0 q) := by
  pointwise [k0_pay4]

end Entries

variable (m : (ℓ : Loc nD τ sig) → Buf (Elt Ideal) ℓ) (c : Dev nD)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![0, 0] := (by decide +kernel : ∀ t : Fin grid0.N, _)

/-- The tile that a point of the grid treats. -/
abbrev pt (t : Fin cfg0.N) : Fin 8 := ⟨t.val, t.isLt⟩

theorem in_0 (t : Fin cfg0.N) : row (iblk (F := Ideal) m c 0 t) = fun r => row (m ((c : Thread nD τ).loc main_arg0)) (rowOf (pt t) r) := by
  funext r q; unfold row; blk_simp [iblk, V]; exact congrArg _ (by blk_ext [index_0 t, rowOf])
theorem in_1 (t : Fin cfg0.N) (r : Fin 256) (q : Fin 2048) : iblk (F := Ideal) m c 1 t (ix2 r q) = m ((c : Thread nD τ).loc main_arg1) (ix2 (rowOf (pt t) r) q) := by
  blk_simp [iblk, V]; exact congrArg _ (by blk_ext [index_1 t, rowOf])
theorem in_2 (t : Fin cfg0.N) (r : Fin 256) (q : Fin 2048) : iblk (F := Ideal) m c 2 t (ix2 r q) = m ((c : Thread nD τ).loc main_arg2) (ix2 (rowOf (pt t) r) q) := by
  blk_simp [iblk, V]; exact congrArg _ (by blk_ext [index_2 t, rowOf])
theorem in_3 (t : Fin cfg0.N) : row (iblk (F := Ideal) m c 3 t) 0 = row (m ((c : Thread nD τ).loc main_arg3)) 0 := by
  funext q; unfold row; blk_simp [iblk, V]; exact congrArg _ (by blk_ext [index_3 t])

theorem in_gated (t : Fin cfg0.N) : row (k0_pay7 (F := Ideal) (iblk m c 1 t) (iblk m c 2 t)) = fun r => row (gated (m ((c : Thread nD τ).loc main_arg1)) (m ((c : Thread nD τ).loc main_arg2))) (rowOf (pt t) r) := by
  funext r q
  unfold row gated
  pointwise [k0_pay7, k0_pay5]
  rw [in_1, in_2]

/-- The gradients of the gate's argument and of the embedding, from the gradient of the gated array. -/
def dgate (a b z : (⟨2, ![2048, 2048]⟩ : Shape).Idx → EReal) : (⟨2, ![2048, 2048]⟩ : Shape).Idx → EReal := fun i => z i * b i * (Ideal.logistic (a i) * (1 - Ideal.logistic (a i)))
def demb (a z : (⟨2, ![2048, 2048]⟩ : Shape).Idx → EReal) : (⟨2, ![2048, 2048]⟩ : Shape).Idx → EReal := fun i => Ideal.logistic (a i) * z i

theorem outs_first (t : Fin cfg0.N) (h : t.val % 8 = 0) : outsAt0 (F := Ideal) m c t.val t.isLt
    = (gates (iblk m c 0 t) (iblk m c 1 t) (iblk m c 2 t) (iblk m c 3 t), embeds (iblk m c 0 t) (iblk m c 1 t) (iblk m c 2 t) (iblk m c 3 t),
      k0_pay10 (iblk m c 0 t) (iblk m c 1 t) (iblk m c 2 t)) := by
  rw [outsAt0_A m c t h (by have := t.isLt; change t.val < 8 at this; omega), (out_first ..).1, (out_first ..).2.1, (out_first ..).2.2]

theorem outs_later (t : Fin cfg0.N) (h : ¬t.val % 8 = 0) : outsAt0 (F := Ideal) m c t.val t.isLt
    = (gates (iblk m c 0 t) (iblk m c 1 t) (iblk m c 2 t) (iblk m c 3 t), embeds (iblk m c 0 t) (iblk m c 1 t) (iblk m c 2 t) (iblk m c 3 t),
      k0_pay4 (k0_pay10 (iblk m c 0 t) (iblk m c 1 t) (iblk m c 2 t)) (outsAt0 m c (t.val - 1) (Nat.lt_of_le_of_lt (Nat.sub_le _ _) t.isLt)).2.2) := by
  rw [outsAt0_B m c t h (by omega), (out_later ..).1, (out_later ..).2.1, (out_later ..).2.2]

/-- The gradient of the gated array, from the arguments. -/
def mid : (⟨2, ![2048, 2048]⟩ : Shape).Idx → EReal := backs (gated (m ((c : Thread nD τ).loc main_arg1)) (m ((c : Thread nD τ).loc main_arg2))) (m ((c : Thread nD τ).loc main_arg0)) (m ((c : Thread nD τ).loc main_arg3))

theorem final_gates : (dats (F := Ideal) m 0 c).arrAt 4 cfg0.N = dgate (m ((c : Thread nD τ).loc main_arg1)) (m ((c : Thread nD τ).loc main_arg2)) (mid m c) := by
  refine (dats m 0 c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := gates (iblk m c 0 t) (iblk m c 1 t) (iblk m c 2 t) (iblk m c 3 t) (ix2 r q)) ?_
    ((pay_gates _ _ _ _ r q).trans (Eq.trans ?_ (at_two (A := dgate (m ((c : Thread nD τ).loc main_arg1)) (m ((c : Thread nD τ).loc main_arg2)) (mid m c)) (a := rowOf (pt t) r) (b := q) ?_ ?_).symm))
  · blk_simp
    rw [after0_4]
    by_cases h : t.val % 8 = 0
    · rw [outs_first m c t h]
    · rw [outs_later m c t h]
  · rw [in_gated, in_0, in_3, in_1, in_2]
    rfl
  · blk_simp [index_4 t]; rfl
  · blk_simp [index_4 t]

theorem final_embeds : (dats (F := Ideal) m 0 c).arrAt 5 cfg0.N = demb (m ((c : Thread nD τ).loc main_arg1)) (mid m c) := by
  refine (dats m 0 c).arrAt_eq_of_covers 5 _ (by decide +kernel) fun t hf y => ?_
  obtain ⟨r, q, rfl⟩ : ∃ (r : Fin 256) (q : Fin 2048), y = ix2 r q := ⟨y 0, y 1, eq_ix2 y⟩
  refine Eq.trans (b := embeds (iblk m c 0 t) (iblk m c 1 t) (iblk m c 2 t) (iblk m c 3 t) (ix2 r q)) ?_
    ((pay_embeds _ _ _ _ r q).trans (Eq.trans ?_ (at_two (A := demb (m ((c : Thread nD τ).loc main_arg1)) (mid m c)) (a := rowOf (pt t) r) (b := q) ?_ ?_).symm))
  · blk_simp
    rw [after0_5]
    by_cases h : t.val % 8 = 0
    · rw [outs_first m c t h]
    · rw [outs_later m c t h]
  · rw [in_gated, in_0, in_3, in_1]
    rfl
  · blk_simp [index_5 t]; rfl
  · blk_simp [index_5 t]

theorem final_gain : (dats (F := Ideal) m 0 c).arrAt 6 cfg0.N = gains (gated (m ((c : Thread nD τ).loc main_arg1)) (m ((c : Thread nD τ).loc main_arg2))) (m ((c : Thread nD τ).loc main_arg0)) := by
  refine (dats m 0 c).arrAt_eq_of_covers 6 _ (by decide +kernel) fun t hf y => ?_
  obtain ⟨r, q, rfl⟩ : ∃ (r : Fin 1) (q : Fin 2048), y = ix2 r q := ⟨y 0, y 1, eq_ix2 y⟩
  obtain rfl : r = 0 := Subsingleton.elim _ _
  have e : t.val = 7 := by have := (flush0_6 t).mp hf; have := t.isLt; change t.val < 8 at this; omega
  refine Eq.trans (b := (outsAt0 (F := Ideal) m c t.val t.isLt).2.2 (ix2 0 q)) (by blk_simp; rw [after0_6])
    ((gain_tiles (row (gated (m ((c : Thread nD τ).loc main_arg1)) (m ((c : Thread nD τ).loc main_arg2)))) (row (m ((c : Thread nD τ).loc main_arg0))) q
      (fun l hl => (outsAt0 (F := Ideal) m c l hl).2.2 (ix2 0 q)) ?_ (fun l hl => ?_) t.val t.isLt e).trans
      (at_two (A := gains _ _) (a := (0 : Fin 1)) (b := q) ?_ ?_).symm)
  · refine (congrArg (fun p => p.2.2 (ix2 0 q)) (outs_first m c ⟨0, by decide⟩ rfl)).trans ?_
    dsimp only
    rw [pay_gain, in_gated, in_0]
    rfl
  · refine (congrArg (fun p => p.2.2 (ix2 0 q)) (outs_later m c ⟨l + 1, hl⟩ (by dsimp only; omega))).trans ?_
    dsimp only
    rw [pay_add, pay_gain, in_gated, in_0]
    rfl
  · blk_simp [index_6 t]
  · blk_simp [index_6 t]

/-- The gradient of the gate's argument as the reference writes it. -/
def slopeOf (a b z : FVec Ideal S2048x2048 .f32) : FVec Ideal S2048x2048 .f32 :=
  mulf (mulf z b) (mulf (sigmoid a) (subf (broadcastInDim S2048x2048 ![] Cert.Reference16Ideal.Gen.bcast_S_S2048x2048 (constant Cert.Reference16Ideal.S_ .f32 0x3F800000#32)) (sigmoid a)))

theorem slopeOf_eq (a b z : FVec Ideal S2048x2048 .f32) : slopeOf a b z = dgate a b z := by
  funext i
  unfold slopeOf dgate
  rw [sigmoid_eq]
  pointwise

/-- The kernel and the reference end with the same results. -/
theorem algebraic : Cert.algebraic_Kernel16Ideal_Reference16Ideal := by
  intro m g m' g' _ heq
  refine ⟨fun c => dgate (m ((c.tc : Thread nD τ).loc main_arg1)) (m ((c.tc : Thread nD τ).loc main_arg2)) (mid m c), fun c => demb (m ((c.tc : Thread nD τ).loc main_arg1)) (mid m c),
    fun c => gains (gated (m ((c.tc : Thread nD τ).loc main_arg1)) (m ((c.tc : Thread nD τ).loc main_arg2))) (m ((c.tc : Thread nD τ).loc main_arg0)),
    (θ_run defs _ _).mono (fun _ h c => ⟨(h c).1.trans (final_gates m c), (h c).2.1.trans (final_embeds m c), (h c).2.2.1.trans (final_gain m c),
      (h c).2.2.2⟩) (run_blocks m g),
    (θ_run Cert.Reference16Ideal.defs _ _).mono (fun r h c => ⟨(h c).1.trans ?_, (h c).2.1.trans ?_, (h c).2.2.1.trans ?_, (h c).2.2.2⟩)
      (Cert.Reference16Ideal.Value.run m' g')⟩
  · refine Eq.trans (b := slopeOf (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2))
      (backOf (gatedOf (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)))
        (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg3)))) rfl ?_
    rw [(heq c).1, (heq c).2.1, (heq c).2.2.1, (heq c).2.2.2, gatedOf_eq, backOf_eq, slopeOf_eq]
    rfl
  · refine Eq.trans (b := mulf (sigmoid (m' ((c.tc : Thread Cert.Reference16Ideal.nD Cert.Reference16Ideal.τ).loc Cert.Reference16Ideal.main_arg1)))
      (backOf (gatedOf (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)))
        (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg3)))) rfl ?_
    rw [(heq c).1, (heq c).2.1, (heq c).2.2.1, (heq c).2.2.2, gatedOf_eq, backOf_eq, sigmoid_eq]
    rfl
  · refine Eq.trans (b := gainOf (gatedOf (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)))
      (m' ((c.tc : Thread Cert.Reference16Ideal.nD Cert.Reference16Ideal.τ).loc Cert.Reference16Ideal.main_arg0))) rfl ?_
    rw [(heq c).1, (heq c).2.1, (heq c).2.2.1, gatedOf_eq, gainOf_eq]

end Cert.PleNormGrad

end
-- ==== Proof.FfnNormGrad.lean ====
/-
  The gradient of the norm after the feed-forward product. A point of the grid treats a tile of 256 rows: it adds the two
  gradients of the residual and writes the sum, writes the tile of the gradient of the product, and adds to the gradient
  of the gain, which stays in place, the tile's part.
-/
module

public import proofs.«01_k».proof.Proof.Gen.Kernel17Ideal.Value
public import proofs.«01_k».proof.Proof.Gen.Reference17Ideal.Run
public import proofs.«01_k».proof.Defs
public import proofs.«01_k».proof.Proof.Products
public import proofs.«01_k».proof.Proof.RefNorm

@[expose] public section

set_option maxRecDepth 16384

noncomputable section

namespace Cert.FfnNormGrad

open Idealize.ShloMosaic Idealize.ShloMosaic.TcCoe Idealize.ShloMosaic.Tactic
open Idealize.SL Idealize.SL.Sem
open Cert.Kernel17Ideal Cert.Kernel17Ideal.Gen Cert.Kernel17Ideal.Value Cert.Products Cert.RowNorm Cert.RefNorm
open Finset

section Point

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole) (a6 : Memref sig .tc .vmem S256x2048 .f32) (h6 : a6.IsWhole)
  (a7 : Memref sig .tc .vmem S256x2048 .bf16) (h7 : a7.IsWhole) (a8 : Memref sig .tc .vmem S1x2048 .f32) (h8 : a8.IsWhole)
  (y d x : Vec Ideal S256x2048 .f32) (g : Vec Ideal S1x2048 .f32) (s : Vec Ideal S1x2048 .f32)

/-- The first point writes the tile of each gradient and leaves the gradient of the gain from its rows; -/
theorem out_first (hc : cond0_0 i) (hc1 : ¬cond0_1 i) :
    out0_A_4 (F := Ideal) c i a2 h2 a3 h3 a4 h4 a5 h5 a6 h6 a7 h7 a8 h8 hc hc1 y d x g = k0_pay3 y d
    ∧ out0_A_5 (F := Ideal) c i a2 h2 a3 h3 a4 h4 a5 h5 a6 h6 a7 h7 a8 h8 hc hc1 y d x g = k0_pay1 (k0_pay7 y d x g)
    ∧ out0_A_6 (F := Ideal) c i a2 h2 a3 h3 a4 h4 a5 h5 a6 h6 a7 h7 a8 h8 hc hc1 y d x g = k0_pay6 y d x := by
  refine ⟨?_, ?_, ?_⟩
  · unfold out0_A_4
    rw [View.read_writes_eq_canon _ _ _ (cover0_A_4 c i a2 h2 a3 h3 a4 h4 a5 h5 a6 h6 a7 h7 a8 h8 hc hc1 y d x g)]
    unfold kernelRun0_A
    dsimp only
    sl_unfold_words
    rw [View.canon_unit_zero origin]
    simp only [View.readAt_eq_ld, h2.read_unread, h3.read_unread, View.ld_unit_zero (S := S256x2048) origin]
  · unfold out0_A_5
    rw [View.read_writes_eq_canon _ _ _ (cover0_A_5 c i a2 h2 a3 h3 a4 h4 a5 h5 a6 h6 a7 h7 a8 h8 hc hc1 y d x g)]
    unfold kernelRun0_A
    dsimp only
    sl_unfold_words
    rw [View.canon_unit_zero origin]
    simp only [View.readAt_eq_ld, h2.read_unread, h3.read_unread, h4.read_unread, h5.read_unread,
      View.ld_unit_zero (S := S256x2048) origin, View.ld_unit_zero (S := S1x2048) origin]
  · unfold out0_A_6
    rw [View.read_writes_eq_canon _ _ _ (cover0_A_6 c i a2 h2 a3 h3 a4 h4 a5 h5 a6 h6 a7 h7 a8 h8 hc hc1 y d x g)]
    unfold kernelRun0_A
    dsimp only
    sl_unfold_words
    rw [View.canon_unit_zero origin]
    simp only [View.readAt_eq_ld, h2.read_unread, h3.read_unread, h4.read_unread, View.ld_unit_zero (S := S256x2048) origin]

/-- the others write theirs, and add to what the gradient of the gain holds. -/
theorem out_later (hc : ¬cond0_0 i) (hc1 : cond0_1 i) :
    out0_B_4 (F := Ideal) c i a2 h2 a3 h3 a4 h4 a5 h5 a6 h6 a7 h7 a8 h8 hc hc1 y d x g s = k0_pay3 y d
    ∧ out0_B_5 (F := Ideal) c i a2 h2 a3 h3 a4 h4 a5 h5 a6 h6 a7 h7 a8 h8 hc hc1 y d x g s = k0_pay1 (k0_pay7 y d x g)
    ∧ out0_B_6 (F := Ideal) c i a2 h2 a3 h3 a4 h4 a5 h5 a6 h6 a7 h7 a8 h8 hc hc1 y d x g s = k0_pay2 (k0_pay6 y d x) s := by
  refine ⟨?_, ?_, ?_⟩
  · unfold out0_B_4
    rw [View.read_writes_eq_canon _ _ _ (cover0_B_4 c i a2 h2 a3 h3 a4 h4 a5 h5 a6 h6 a7 h7 a8 h8 hc hc1 y d x g s)]
    unfold kernelRun0_B
    dsimp only
    sl_unfold_words
    rw [View.canon_unit_zero origin]
    simp only [View.readAt_eq_ld, h2.read_unread, h3.read_unread, View.ld_unit_zero (S := S256x2048) origin]
  · unfold out0_B_5
    rw [View.read_writes_eq_canon _ _ _ (cover0_B_5 c i a2 h2 a3 h3 a4 h4 a5 h5 a6 h6 a7 h7 a8 h8 hc hc1 y d x g s)]
    unfold kernelRun0_B
    dsimp only
    sl_unfold_words
    rw [View.canon_unit_zero origin]
    simp only [View.readAt_eq_ld, h2.read_unread, h3.read_unread, h4.read_unread, h5.read_unread,
      View.ld_unit_zero (S := S256x2048) origin, View.ld_unit_zero (S := S1x2048) origin]
  · unfold out0_B_6
    rw [View.read_writes_eq_canon _ _ _ (cover0_B_6 c i a2 h2 a3 h3 a4 h4 a5 h5 a6 h6 a7 h7 a8 h8 hc hc1 y d x g s)]
    unfold kernelRun0_B
    dsimp only
    sl_unfold_words
    rw [View.canon_unit_zero origin]
    simp only [View.readAt_eq_ld, h2.read_unread, h3.read_unread, h4.read_unread, h8.read_unread,
      View.ld_unit_zero (S := S256x2048) origin, View.ld_unit_zero (S := S1x2048) origin]

end Point

section Entries

variable (y d x : Vec Ideal S256x2048 .f32) (g : Vec Ideal S1x2048 .f32) (r : Fin 256) (q : Fin 2048)

theorem pay_rows : k0_pay1 (k0_pay7 (F := Ideal) y d x g) (ix2 r q) = back (row x r) (row (k0_pay3 (F := Ideal) y d) r) (row g 0) q := by
  pointwise [k0_pay1, k0_pay7, k0_pay5, k0_pay4]
  rfl

theorem pay_gain : k0_pay6 (F := Ideal) y d x (ix2 0 q) = gain (row x) (row (k0_pay3 (F := Ideal) y d)) q := by
  pointwise [k0_pay6, k0_pay5, k0_pay4]
  rfl

theorem pay_add (a b : Vec Ideal S1x2048 .f32) : k0_pay2 (F := Ideal) a b (ix2 0 q) = b (ix2 0 q) + a (ix2 0 q) := by
  pointwise [k0_pay2]

end Entries

variable (m : (ℓ : Loc nD τ sig) → Buf (Elt Ideal) ℓ) (c : Dev nD)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![0, 0] := (by decide +kernel : ∀ t : Fin grid0.N, _)

/-- The tile that a point of the grid treats. -/
abbrev pt (t : Fin cfg0.N) : Fin 8 := ⟨t.val, t.isLt⟩

theorem in_0 (t : Fin cfg0.N) (r : Fin 256) (q : Fin 2048) : iblk (F := Ideal) m c 0 t (ix2 r q) = m ((c : Thread nD τ).loc main_arg0) (ix2 (rowOf (pt t) r) q) := by
  blk_simp [iblk, V]; exact congrArg _ (by blk_ext [index_0 t, rowOf])
theorem in_1 (t : Fin cfg0.N) (r : Fin 256) (q : Fin 2048) : iblk (F := Ideal) m c 1 t (ix2 r q) = m ((c : Thread nD τ).loc main_arg1) (ix2 (rowOf (pt t) r) q) := by
  blk_simp [iblk, V]; exact congrArg _ (by blk_ext [index_1 t, rowOf])
theorem in_2 (t : Fin cfg0.N) : row (iblk (F := Ideal) m c 2 t) = fun r => row (m ((c : Thread nD τ).loc main_arg2)) (rowOf (pt t) r) := by
  funext r q; unfold row; blk_simp [iblk, V]; exact congrArg _ (by blk_ext [index_2 t, rowOf])
theorem in_3 (t : Fin cfg0.N) : row (iblk (F := Ideal) m c 3 t) 0 = row (m ((c : Thread nD τ).loc main_arg3)) 0 := by
  funext q; unfold row; blk_simp [iblk, V]; exact congrArg _ (by blk_ext [index_3 t])

/-- The gradient of the residual is the sum of two. -/
theorem in_both (t : Fin cfg0.N) : row (k0_pay3 (F := Ideal) (iblk m c 0 t) (iblk m c 1 t))
    = fun r => row (both (m ((c : Thread nD τ).loc main_arg0)) (m ((c : Thread nD τ).loc main_arg1))) (rowOf (pt t) r) := by
  funext r q
  unfold row both
  pointwise [k0_pay3]
  rw [in_0, in_1]

theorem outs_first (t : Fin cfg0.N) (h : t.val % 8 = 0) : outsAt0 (F := Ideal) m c t.val t.isLt
    = (k0_pay3 (iblk m c 0 t) (iblk m c 1 t), k0_pay1 (k0_pay7 (iblk m c 0 t) (iblk m c 1 t) (iblk m c 2 t) (iblk m c 3 t)),
      k0_pay6 (iblk m c 0 t) (iblk m c 1 t) (iblk m c 2 t)) := by
  rw [outsAt0_A m c t h (by have := t.isLt; change t.val < 8 at this; omega), (out_first ..).1, (out_first ..).2.1, (out_first ..).2.2]

theorem outs_later (t : Fin cfg0.N) (h : ¬t.val % 8 = 0) : outsAt0 (F := Ideal) m c t.val t.isLt
    = (k0_pay3 (iblk m c 0 t) (iblk m c 1 t), k0_pay1 (k0_pay7 (iblk m c 0 t) (iblk m c 1 t) (iblk m c 2 t) (iblk m c 3 t)),
      k0_pay2 (k0_pay6 (iblk m c 0 t) (iblk m c 1 t) (iblk m c 2 t)) (outsAt0 m c (t.val - 1) (Nat.lt_of_le_of_lt (Nat.sub_le _ _) t.isLt)).2.2) := by
  rw [outsAt0_B m c t h (by omega), (out_later ..).1, (out_later ..).2.1, (out_later ..).2.2]

theorem final_both : (dats (F := Ideal) m 0 c).arrAt 4 cfg0.N = both (m ((c : Thread nD τ).loc main_arg0)) (m ((c : Thread nD τ).loc main_arg1)) := by
  refine (dats m 0 c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := row (k0_pay3 (F := Ideal) (iblk m c 0 t) (iblk m c 1 t)) r q) ?_
    ((congrArg (fun f => f r q) (in_both m c t)).trans (at_two (a := rowOf (pt t) r) (b := q) ?_ ?_).symm)
  · blk_simp
    rw [after0_4]
    by_cases h : t.val % 8 = 0
    · rw [outs_first m c t h]; rfl
    · rw [outs_later m c t h]; rfl
  · blk_simp [index_4 t]; rfl
  · blk_simp [index_4 t]

theorem final_rows : (dats (F := Ideal) m 0 c).arrAt 5 cfg0.N = backs (m ((c : Thread nD τ).loc main_arg2))
    (both (m ((c : Thread nD τ).loc main_arg0)) (m ((c : Thread nD τ).loc main_arg1))) (m ((c : Thread nD τ).loc main_arg3)) := by
  refine (dats m 0 c).arrAt_eq_of_covers 5 _ (by decide +kernel) fun t hf y => ?_
  obtain ⟨r, q, rfl⟩ : ∃ (r : Fin 256) (q : Fin 2048), y = ix2 r q := ⟨y 0, y 1, eq_ix2 y⟩
  refine Eq.trans (b := k0_pay1 (k0_pay7 (F := Ideal) (iblk m c 0 t) (iblk m c 1 t) (iblk m c 2 t) (iblk m c 3 t)) (ix2 r q)) ?_
    ((pay_rows _ _ _ _ r q).trans (Eq.trans ?_ (at_two (a := rowOf (pt t) r) (b := q) ?_ ?_).symm))
  · blk_simp
    rw [after0_5]
    by_cases h : t.val % 8 = 0
    · rw [outs_first m c t h]
    · rw [outs_later m c t h]
  · rw [in_both, in_2, in_3]
    rfl
  · blk_simp [index_5 t]; rfl
  · blk_simp [index_5 t]

theorem final_gain : (dats (F := Ideal) m 0 c).arrAt 6 cfg0.N = gains (m ((c : Thread nD τ).loc main_arg2))
    (both (m ((c : Thread nD τ).loc main_arg0)) (m ((c : Thread nD τ).loc main_arg1))) := by
  refine (dats m 0 c).arrAt_eq_of_covers 6 _ (by decide +kernel) fun t hf y => ?_
  obtain ⟨r, q, rfl⟩ : ∃ (r : Fin 1) (q : Fin 2048), y = ix2 r q := ⟨y 0, y 1, eq_ix2 y⟩
  obtain rfl : r = 0 := Subsingleton.elim _ _
  have e : t.val = 7 := by have := (flush0_6 t).mp hf; have := t.isLt; change t.val < 8 at this; omega
  refine Eq.trans (b := (outsAt0 (F := Ideal) m c t.val t.isLt).2.2 (ix2 0 q)) (by blk_simp; rw [after0_6])
    ((gain_tiles (row (m ((c : Thread nD τ).loc main_arg2))) (row (both (m ((c : Thread nD τ).loc main_arg0)) (m ((c : Thread nD τ).loc main_arg1)))) q
      (fun l hl => (outsAt0 (F := Ideal) m c l hl).2.2 (ix2 0 q)) ?_ (fun l hl => ?_) t.val t.isLt e).trans
      (at_two (A := gains _ _) (a := (0 : Fin 1)) (b := q) ?_ ?_).symm)
  · refine (congrArg (fun p => p.2.2 (ix2 0 q)) (outs_first m c ⟨0, by decide⟩ rfl)).trans ?_
    dsimp only
    rw [pay_gain, in_both, in_2]
    rfl
  · refine (congrArg (fun p => p.2.2 (ix2 0 q)) (outs_later m c ⟨l + 1, hl⟩ (by dsimp only; omega))).trans ?_
    dsimp only
    rw [pay_add, pay_gain, in_both, in_2]
    rfl
  · blk_simp [index_6 t]
  · blk_simp [index_6 t]

/-- The kernel and the reference end with the same results. -/
theorem algebraic : Cert.algebraic_Kernel17Ideal_Reference17Ideal := by
  intro m g m' g' _ heq
  refine ⟨fun c => both (m ((c.tc : Thread nD τ).loc main_arg0)) (m ((c.tc : Thread nD τ).loc main_arg1)),
    fun c => backs (m ((c.tc : Thread nD τ).loc main_arg2)) (both (m ((c.tc : Thread nD τ).loc main_arg0)) (m ((c.tc : Thread nD τ).loc main_arg1)))
      (m ((c.tc : Thread nD τ).loc main_arg3)),
    fun c => gains (m ((c.tc : Thread nD τ).loc main_arg2)) (both (m ((c.tc : Thread nD τ).loc main_arg0)) (m ((c.tc : Thread nD τ).loc main_arg1))),
    (θ_run defs _ _).mono (fun _ h c => ⟨(h c).1.trans (final_both m c), (h c).2.1.trans (final_rows m c), (h c).2.2.1.trans (final_gain m c), (h c).2.2.2⟩)
      (run_blocks m g),
    (θ_run Cert.Reference17Ideal.defs _ _).mono (fun r h c => ⟨(h c).1.trans ?_, (h c).2.1.trans ?_, (h c).2.2.1.trans ?_, (h c).2.2.2⟩)
      (Cert.Reference17Ideal.Value.run m' g')⟩
  · rw [(heq c).1, (heq c).2.1]
    rfl
  · refine Eq.trans (b := backOf (m' ((c.tc : Thread Cert.Reference17Ideal.nD Cert.Reference17Ideal.τ).loc Cert.Reference17Ideal.main_arg2))
      (both (m' ((c.tc : Thread Cert.Reference17Ideal.nD Cert.Reference17Ideal.τ).loc Cert.Reference17Ideal.main_arg0))
        (m' ((c.tc : Thread Cert.Reference17Ideal.nD Cert.Reference17Ideal.τ).loc Cert.Reference17Ideal.main_arg1)))
      (m' ((c.tc : Thread Cert.Reference17Ideal.nD Cert.Reference17Ideal.τ).loc Cert.Reference17Ideal.main_arg3))) rfl ?_
    rw [(heq c).1, (heq c).2.1, (heq c).2.2.1, (heq c).2.2.2, backOf_eq]
  · refine Eq.trans (b := gainOf (m' ((c.tc : Thread Cert.Reference17Ideal.nD Cert.Reference17Ideal.τ).loc Cert.Reference17Ideal.main_arg2))
      (both (m' ((c.tc : Thread Cert.Reference17Ideal.nD Cert.Reference17Ideal.τ).loc Cert.Reference17Ideal.main_arg0))
        (m' ((c.tc : Thread Cert.Reference17Ideal.nD Cert.Reference17Ideal.τ).loc Cert.Reference17Ideal.main_arg1)))) rfl ?_
    rw [(heq c).1, (heq c).2.1, (heq c).2.2.1, gainOf_eq]

end Cert.FfnNormGrad

end
-- ==== Proof.MixNormGrad.lean ====
/-
  The gradients of the norms after the mixer and before the feed-forward product. A point of the grid treats a tile of 256
  rows: it takes the gradient back through the later norm, adds it to that of the residual and writes the sum, takes the
  sum back through the earlier norm and writes the tile of the gradient of the mixer's product, and adds to the gradients
  of the two gains, which stay in place, the tile's parts.
-/
module

public import proofs.«01_k».proof.Proof.Gen.Kernel18Ideal.Value
public import proofs.«01_k».proof.Proof.Gen.Reference18Ideal.Run
public import proofs.«01_k».proof.Defs
public import proofs.«01_k».proof.Proof.Products
public import proofs.«01_k».proof.Proof.RefNorm

@[expose] public section

set_option maxRecDepth 16384

noncomputable section

namespace Cert.MixNormGrad

open Idealize.ShloMosaic Idealize.ShloMosaic.TcCoe Idealize.ShloMosaic.Tactic
open Idealize.SL Idealize.SL.Sem
open Cert.Kernel18Ideal Cert.Kernel18Ideal.Gen Cert.Kernel18Ideal.Value Cert.Products Cert.RowNorm Cert.RefNorm
open Finset

/-- A tile of the gradient of the residual: with the gradient through the later norm added; of the mixer's product; -/
def sums (y d x : Vec Ideal S256x2048 .f32) (g : Vec Ideal S1x2048 .f32) : Vec Ideal S256x2048 .f32 := k0_pay10 y (k0_pay8 d x g) (k0_pay9 d x g)
def mixed (y d x z : Vec Ideal S256x2048 .f32) (k g : Vec Ideal S1x2048 .f32) : Vec Ideal S256x2048 .bf16 :=
  k0_pay14 y z k (k0_pay8 d x g) (k0_pay9 d x g)
/-- and the part of a tile in the gradient of the earlier norm's gain. -/
def part (y d x z : Vec Ideal S256x2048 .f32) (g : Vec Ideal S1x2048 .f32) : Vec Ideal S1x2048 .f32 :=
  k0_pay13 y z (k0_pay8 d x g) (k0_pay9 d x g)

section Point

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (a7 : Memref sig .tc .vmem S1x2048 .f32) (h7 : a7.IsWhole) (a8 : Memref sig .tc .vmem S256x2048 .f32) (h8 : a8.IsWhole)
  (a9 : Memref sig .tc .vmem S256x2048 .bf16) (h9 : a9.IsWhole) (a10 : Memref sig .tc .vmem S1x2048 .f32) (h10 : a10.IsWhole)
  (a11 : Memref sig .tc .vmem S1x2048 .f32) (h11 : a11.IsWhole) (y d x z : Vec Ideal S256x2048 .f32) (k g s s' : Vec Ideal S1x2048 .f32)

/-- The first point writes the tile of each gradient and leaves the gradients of the gains from its rows; -/
theorem out_first (hc : cond0_0 i) (hc1 : ¬cond0_1 i) (hc2 : cond0_2 i) (hc3 : ¬cond0_3 i) :
    out0_A_6 (F := Ideal) c i a2 h2 a3 h3 a4 h4 a5 h5 a6 h6 a7 h7 a8 h8 a9 h9 a10 h10 a11 h11 hc hc1 hc2 hc3 y d x z k g = sums y d x g
    ∧ out0_A_7 (F := Ideal) c i a2 h2 a3 h3 a4 h4 a5 h5 a6 h6 a7 h7 a8 h8 a9 h9 a10 h10 a11 h11 hc hc1 hc2 hc3 y d x z k g = mixed y d x z k g
    ∧ out0_A_8 (F := Ideal) c i a2 h2 a3 h3 a4 h4 a5 h5 a6 h6 a7 h7 a8 h8 a9 h9 a10 h10 a11 h11 hc hc1 hc2 hc3 y d x z k g = k0_pay5 d x
    ∧ out0_A_9 (F := Ideal) c i a2 h2 a3 h3 a4 h4 a5 h5 a6 h6 a7 h7 a8 h8 a9 h9 a10 h10 a11 h11 hc hc1 hc2 hc3 y d x z k g = part y d x z g := by
  refine ⟨?_, ?_, ?_, ?_⟩
  · unfold out0_A_6
    rw [View.read_writes_eq_canon _ _ _ (cover0_A_6 c i a2 h2 a3 h3 a4 h4 a5 h5 a6 h6 a7 h7 a8 h8 a9 h9 a10 h10 a11 h11 hc hc1 hc2 hc3 y d x z k g)]
    unfold kernelRun0_A
    dsimp only
    sl_unfold_words
    rw [View.canon_unit_zero origin]
    simp only [sums, View.readAt_eq_ld, h2.read_unread, h3.read_unread, h4.read_unread, h7.read_unread,
      View.ld_unit_zero (S := S256x2048) origin, View.ld_unit_zero (S := S1x2048) origin]
  · unfold out0_A_7
    rw [View.read_writes_eq_canon _ _ _ (cover0_A_7 c i a2 h2 a3 h3 a4 h4 a5 h5 a6 h6 a7 h7 a8 h8 a9 h9 a10 h10 a11 h11 hc hc1 hc2 hc3 y d x z k g)]
    unfold kernelRun0_A
    dsimp only
    sl_unfold_words
    rw [View.canon_unit_zero origin]
    simp only [mixed, View.readAt_eq_ld, h2.read_unread, h3.read_unread, h4.read_unread, h5.read_unread, h6.read_unread, h7.read_unread,
      View.ld_unit_zero (S := S256x2048) origin, View.ld_unit_zero (S := S1x2048) origin]
  · unfold out0_A_8
    rw [View.read_writes_eq_canon _ _ _ (cover0_A_8 c i a2 h2 a3 h3 a4 h4 a5 h5 a6 h6 a7 h7 a8 h8 a9 h9 a10 h10 a11 h11 hc hc1 hc2 hc3 y d x z k g)]
    unfold kernelRun0_A
    dsimp only
    sl_unfold_words
    rw [View.canon_unit_zero origin]
    simp only [View.readAt_eq_ld, h3.read_unread, h4.read_unread,
      View.ld_unit_zero (S := S256x2048) origin, View.ld_unit_zero (S := S1x2048) origin]
  · unfold out0_A_9
    rw [View.read_writes_eq_canon _ _ _ (cover0_A_9 c i a2 h2 a3 h3 a4 h4 a5 h5 a6 h6 a7 h7 a8 h8 a9 h9 a10 h10 a11 h11 hc hc1 hc2 hc3 y d x z k g)]
    unfold kernelRun0_A
    dsimp only
    sl_unfold_words
    rw [View.canon_unit_zero origin]
    simp only [part, View.readAt_eq_ld, h2.read_unread, h3.read_unread, h4.read_unread, h5.read_unread, h7.read_unread,
      View.ld_unit_zero (S := S256x2048) origin, View.ld_unit_zero (S := S1x2048) origin]

/-- the others write theirs, and add to what the gradients of the gains hold. -/
theorem out_later (hc : ¬cond0_0 i) (hc1 : cond0_1 i) (hc2 : ¬cond0_2 i) (hc3 : cond0_3 i) :
    out0_B_6 (F := Ideal) c i a2 h2 a3 h3 a4 h4 a5 h5 a6 h6 a7 h7 a8 h8 a9 h9 a10 h10 a11 h11 hc hc1 hc2 hc3 y d x z k g s s' = sums y d x g
    ∧ out0_B_7 (F := Ideal) c i a2 h2 a3 h3 a4 h4 a5 h5 a6 h6 a7 h7 a8 h8 a9 h9 a10 h10 a11 h11 hc hc1 hc2 hc3 y d x z k g s s' = mixed y d x z k g
    ∧ out0_B_8 (F := Ideal) c i a2 h2 a3 h3 a4 h4 a5 h5 a6 h6 a7 h7 a8 h8 a9 h9 a10 h10 a11 h11 hc hc1 hc2 hc3 y d x z k g s s' = k0_pay1 (k0_pay5 d x) s
    ∧ out0_B_9 (F := Ideal) c i a2 h2 a3 h3 a4 h4 a5 h5 a6 h6 a7 h7 a8 h8 a9 h9 a10 h10 a11 h11 hc hc1 hc2 hc3 y d x z k g s s' = k0_pay2 (part y d x z g) s' := by
  refine ⟨?_, ?_, ?_, ?_⟩
  · unfold out0_B_6
    rw [View.read_writes_eq_canon _ _ _ (cover0_B_6 c i a2 h2 a3 h3 a4 h4 a5 h5 a6 h6 a7 h7 a8 h8 a9 h9 a10 h10 a11 h11 hc hc1 hc2 hc3 y d x z k g s s')]
    unfold kernelRun0_B
    dsimp only
    sl_unfold_words
    rw [View.canon_unit_zero origin]
    simp only [sums, View.readAt_eq_ld, h2.read_unread, h3.read_unread, h4.read_unread, h7.read_unread,
      View.ld_unit_zero (S := S256x2048) origin, View.ld_unit_zero (S := S1x2048) origin]
  · unfold out0_B_7
    rw [View.read_writes_eq_canon _ _ _ (cover0_B_7 c i a2 h2 a3 h3 a4 h4 a5 h5 a6 h6 a7 h7 a8 h8 a9 h9 a10 h10 a11 h11 hc hc1 hc2 hc3 y d x z k g s s')]
    unfold kernelRun0_B
    dsimp only
    sl_unfold_words
    rw [View.canon_unit_zero origin]
    simp only [mixed, View.readAt_eq_ld, h2.read_unread, h3.read_unread, h4.read_unread, h5.read_unread, h6.read_unread, h7.read_unread,
      View.ld_unit_zero (S := S256x2048) origin, View.ld_unit_zero (S := S1x2048) origin]
  · unfold out0_B_8
    rw [View.read_writes_eq_canon _ _ _ (cover0_B_8 c i a2 h2 a3 h3 a4 h4 a5 h5 a6 h6 a7 h7 a8 h8 a9 h9 a10 h10 a11 h11 hc hc1 hc2 hc3 y d x z k g s s')]
    unfold kernelRun0_B
    dsimp only
    sl_unfold_words
    rw [View.canon_unit_zero origin]
    simp only [View.readAt_eq_ld, h3.read_unread, h4.read_unread, h10.read_unread,
      View.ld_unit_zero (S := S256x2048) origin, View.ld_unit_zero (S := S1x2048) origin]
  · unfold out0_B_9
    rw [View.read_writes_eq_canon _ _ _ (cover0_B_9 c i a2 h2 a3 h3 a4 h4 a5 h5 a6 h6 a7 h7 a8 h8 a9 h9 a10 h10 a11 h11 hc hc1 hc2 hc3 y d x z k g s s')]
    unfold kernelRun0_B
    dsimp only
    sl_unfold_words
    rw [View.canon_unit_zero origin]
    simp only [part, View.readAt_eq_ld, h2.read_unread, h3.read_unread, h4.read_unread, h5.read_unread, h7.read_unread, h11.read_unread,
      View.ld_unit_zero (S := S256x2048) origin, View.ld_unit_zero (S := S1x2048) origin]

end Point

section Entries

variable (y d x z : Vec Ideal S256x2048 .f32) (k g : Vec Ideal S1x2048 .f32) (r : Fin 256) (q : Fin 2048)

theorem pay_sums : sums y d x g (ix2 r q) = y (ix2 r q) + back (row x r) (row d r) (row g 0) q := by
  pointwise [sums, k0_pay10, k0_pay9, k0_pay8, k0_pay7, k0_pay6, k0_pay4, k0_pay3]
  rfl

theorem pay_later : k0_pay5 (F := Ideal) d x (ix2 0 q) = gain (row x) (row d) q := by
  pointwise [k0_pay5, k0_pay4, k0_pay3]
  rfl

theorem pay_mixed : mixed y d x z k g (ix2 r q) = back (row z r) (row (sums y d x g) r) (row k 0) q := by
  unfold sums mixed
  pointwise [k0_pay14, k0_pay12, k0_pay11]
  rfl

theorem pay_part : part y d x z g (ix2 0 q) = gain (row z) (row (sums y d x g)) q := by
  unfold sums part
  pointwise [k0_pay13, k0_pay12, k0_pay11]
  rfl

theorem pay_add (a b : Vec Ideal S1x2048 .f32) : k0_pay1 (F := Ideal) a b (ix2 0 q) = b (ix2 0 q) + a (ix2 0 q) := by
  pointwise [k0_pay1]

theorem pay_add' (a b : Vec Ideal S1x2048 .f32) : k0_pay2 (F := Ideal) a b (ix2 0 q) = b (ix2 0 q) + a (ix2 0 q) := by
  pointwise [k0_pay2]

end Entries

variable (m : (ℓ : Loc nD τ sig) → Buf (Elt Ideal) ℓ) (c : Dev nD)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)

/-- The tile that a point of the grid treats. -/
abbrev pt (t : Fin cfg0.N) : Fin 8 := ⟨t.val, t.isLt⟩

theorem in_0 (t : Fin cfg0.N) (r : Fin 256) (q : Fin 2048) : iblk (F := Ideal) m c 0 t (ix2 r q) = m ((c : Thread nD τ).loc main_arg0) (ix2 (rowOf (pt t) r) q) := by
  blk_simp [iblk, V]; exact congrArg _ (by blk_ext [index_0 t, rowOf])
theorem in_1 (t : Fin cfg0.N) : row (iblk (F := Ideal) m c 1 t) = fun r => row (m ((c : Thread nD τ).loc main_arg1)) (rowOf (pt t) r) := by
  funext r q; unfold row; blk_simp [iblk, V]; exact congrArg _ (by blk_ext [index_1 t, rowOf])
theorem in_2 (t : Fin cfg0.N) : row (iblk (F := Ideal) m c 2 t) = fun r => row (m ((c : Thread nD τ).loc main_arg2)) (rowOf (pt t) r) := by
  funext r q; unfold row; blk_simp [iblk, V]; exact congrArg _ (by blk_ext [index_2 t, rowOf])
theorem in_3 (t : Fin cfg0.N) : row (iblk (F := Ideal) m c 3 t) = fun r => row (m ((c : Thread nD τ).loc main_arg3)) (rowOf (pt t) r) := by
  funext r q; unfold row; blk_simp [iblk, V]; exact congrArg _ (by blk_ext [index_3 t, rowOf])
theorem in_4 (t : Fin cfg0.N) : row (iblk (F := Ideal) m c 4 t) 0 = row (m ((c : Thread nD τ).loc main_arg4)) 0 := by
  funext q; unfold row; blk_simp [iblk, V]; exact congrArg _ (by blk_ext [index_4 t])
theorem in_5 (t : Fin cfg0.N) : row (iblk (F := Ideal) m c 5 t) 0 = row (m ((c : Thread nD τ).loc main_arg5)) 0 := by
  funext q; unfold row; blk_simp [iblk, V]; exact congrArg _ (by blk_ext [index_5 t])

/-- The gradient of the residual, from the arguments. -/
def total : (⟨2, ![2048, 2048]⟩ : Shape).Idx → EReal := both (m ((c : Thread nD τ).loc main_arg0)) (backs (m ((c : Thread nD τ).loc main_arg2)) (m ((c : Thread nD τ).loc main_arg1)) (m ((c : Thread nD τ).loc main_arg5)))

theorem in_total (t : Fin cfg0.N) : row (sums (iblk m c 0 t) (iblk m c 1 t) (iblk m c 2 t) (iblk m c 5 t)) = fun r => row (total m c) (rowOf (pt t) r) := by
  funext r q
  refine (pay_sums _ _ _ _ r q).trans ?_
  rw [in_0, in_1, in_2, in_5]
  rfl

theorem outs_first (t : Fin cfg0.N) (h : t.val % 8 = 0) : outsAt0 (F := Ideal) m c t.val t.isLt
    = (sums (iblk m c 0 t) (iblk m c 1 t) (iblk m c 2 t) (iblk m c 5 t), mixed (iblk m c 0 t) (iblk m c 1 t) (iblk m c 2 t) (iblk m c 3 t) (iblk m c 4 t) (iblk m c 5 t),
      k0_pay5 (iblk m c 1 t) (iblk m c 2 t), part (iblk m c 0 t) (iblk m c 1 t) (iblk m c 2 t) (iblk m c 3 t) (iblk m c 5 t)) := by
  have h1 : ¬1 ≤ t.val := by have := t.isLt; change t.val < 8 at this; omega
  rw [outsAt0_A m c t h h1 h h1, (out_first ..).1, (out_first ..).2.1, (out_first ..).2.2.1, (out_first ..).2.2.2]

theorem outs_later (t : Fin cfg0.N) (h : ¬t.val % 8 = 0) : outsAt0 (F := Ideal) m c t.val t.isLt
    = (sums (iblk m c 0 t) (iblk m c 1 t) (iblk m c 2 t) (iblk m c 5 t), mixed (iblk m c 0 t) (iblk m c 1 t) (iblk m c 2 t) (iblk m c 3 t) (iblk m c 4 t) (iblk m c 5 t),
      k0_pay1 (k0_pay5 (iblk m c 1 t) (iblk m c 2 t)) (outsAt0 m c (t.val - 1) (Nat.lt_of_le_of_lt (Nat.sub_le _ _) t.isLt)).2.2.1,
      k0_pay2 (part (iblk m c 0 t) (iblk m c 1 t) (iblk m c 2 t) (iblk m c 3 t) (iblk m c 5 t)) (outsAt0 m c (t.val - 1) (Nat.lt_of_le_of_lt (Nat.sub_le _ _) t.isLt)).2.2.2) := by
  have h1 : 1 ≤ t.val := by omega
  rw [outsAt0_B m c t h h1 h h1, (out_later ..).1, (out_later ..).2.1, (out_later ..).2.2.1, (out_later ..).2.2.2]

theorem final_total : (dats (F := Ideal) m 0 c).arrAt 6 cfg0.N = total m c := by
  refine (dats m 0 c).arrAt_eq_of_covers 6 _ (by decide +kernel) fun t hf y => ?_
  obtain ⟨r, q, rfl⟩ : ∃ (r : Fin 256) (q : Fin 2048), y = ix2 r q := ⟨y 0, y 1, eq_ix2 y⟩
  refine Eq.trans (b := row (sums (iblk m c 0 t) (iblk m c 1 t) (iblk m c 2 t) (iblk m c 5 t)) r q) ?_
    ((congrArg (fun f => f r q) (in_total m c t)).trans (at_two (a := rowOf (pt t) r) (b := q) ?_ ?_).symm)
  · blk_simp
    rw [after0_6]
    by_cases h : t.val % 8 = 0
    · rw [outs_first m c t h]; rfl
    · rw [outs_later m c t h]; rfl
  · blk_simp [index_6 t]; rfl
  · blk_simp [index_6 t]

theorem final_mixed : (dats (F := Ideal) m 0 c).arrAt 7 cfg0.N = backs (m ((c : Thread nD τ).loc main_arg3)) (total m c) (m ((c : Thread nD τ).loc main_arg4)) := by
  refine (dats m 0 c).arrAt_eq_of_covers 7 _ (by decide +kernel) fun t hf y => ?_
  obtain ⟨r, q, rfl⟩ : ∃ (r : Fin 256) (q : Fin 2048), y = ix2 r q := ⟨y 0, y 1, eq_ix2 y⟩
  refine Eq.trans (b := mixed (iblk m c 0 t) (iblk m c 1 t) (iblk m c 2 t) (iblk m c 3 t) (iblk m c 4 t) (iblk m c 5 t) (ix2 r q)) ?_
    ((pay_mixed _ _ _ _ _ _ r q).trans (Eq.trans ?_ (at_two (a := rowOf (pt t) r) (b := q) ?_ ?_).symm))
  · blk_simp
    rw [after0_7]
    by_cases h : t.val % 8 = 0
    · rw [outs_first m c t h]
    · rw [outs_later m c t h]
  · rw [in_total, in_3, in_4]
    rfl
  · blk_simp [index_7 t]; rfl
  · blk_simp [index_7 t]

theorem final_later : (dats (F := Ideal) m 0 c).arrAt 8 cfg0.N = gains (m ((c : Thread nD τ).loc main_arg2)) (m ((c : Thread nD τ).loc main_arg1)) := by
  refine (dats m 0 c).arrAt_eq_of_covers 8 _ (by decide +kernel) fun t hf y => ?_
  obtain ⟨r, q, rfl⟩ : ∃ (r : Fin 1) (q : Fin 2048), y = ix2 r q := ⟨y 0, y 1, eq_ix2 y⟩
  obtain rfl : r = 0 := Subsingleton.elim _ _
  have e : t.val = 7 := by have := (flush0_8 t).mp hf; have := t.isLt; change t.val < 8 at this; omega
  refine Eq.trans (b := (outsAt0 (F := Ideal) m c t.val t.isLt).2.2.1 (ix2 0 q)) (by blk_simp; rw [after0_8])
    ((gain_tiles (row (m ((c : Thread nD τ).loc main_arg2))) (row (m ((c : Thread nD τ).loc main_arg1))) q
      (fun l hl => (outsAt0 (F := Ideal) m c l hl).2.2.1 (ix2 0 q)) ?_ (fun l hl => ?_) t.val t.isLt e).trans
      (at_two (A := gains _ _) (a := (0 : Fin 1)) (b := q) ?_ ?_).symm)
  · refine (congrArg (fun p => p.2.2.1 (ix2 0 q)) (outs_first m c ⟨0, by decide⟩ rfl)).trans ?_
    dsimp only
    rw [pay_later, in_1, in_2]
    rfl
  · refine (congrArg (fun p => p.2.2.1 (ix2 0 q)) (outs_later m c ⟨l + 1, hl⟩ (by dsimp only; omega))).trans ?_
    dsimp only
    rw [pay_add, pay_later, in_1, in_2]
    rfl
  · blk_simp [index_8 t]
  · blk_simp [index_8 t]

theorem final_earlier : (dats (F := Ideal) m 0 c).arrAt 9 cfg0.N = gains (m ((c : Thread nD τ).loc main_arg3)) (total m c) := by
  refine (dats m 0 c).arrAt_eq_of_covers 9 _ (by decide +kernel) fun t hf y => ?_
  obtain ⟨r, q, rfl⟩ : ∃ (r : Fin 1) (q : Fin 2048), y = ix2 r q := ⟨y 0, y 1, eq_ix2 y⟩
  obtain rfl : r = 0 := Subsingleton.elim _ _
  have e : t.val = 7 := by have := (flush0_9 t).mp hf; have := t.isLt; change t.val < 8 at this; omega
  refine Eq.trans (b := (outsAt0 (F := Ideal) m c t.val t.isLt).2.2.2 (ix2 0 q)) (by blk_simp; rw [after0_9])
    ((gain_tiles (row (m ((c : Thread nD τ).loc main_arg3))) (row (total m c)) q
      (fun l hl => (outsAt0 (F := Ideal) m c l hl).2.2.2 (ix2 0 q)) ?_ (fun l hl => ?_) t.val t.isLt e).trans
      (at_two (A := gains _ _) (a := (0 : Fin 1)) (b := q) ?_ ?_).symm)
  · refine (congrArg (fun p => p.2.2.2 (ix2 0 q)) (outs_first m c ⟨0, by decide⟩ rfl)).trans ?_
    dsimp only
    rw [pay_part, in_total, in_3]
    rfl
  · refine (congrArg (fun p => p.2.2.2 (ix2 0 q)) (outs_later m c ⟨l + 1, hl⟩ (by dsimp only; omega))).trans ?_
    dsimp only
    rw [pay_add', pay_part, in_total, in_3]
    rfl
  · blk_simp [index_9 t]
  · blk_simp [index_9 t]

/-- The kernel and the reference end with the same results. -/
theorem algebraic : Cert.algebraic_Kernel18Ideal_Reference18Ideal := by
  intro m g m' g' _ heq
  refine ⟨fun c => total m c, fun c => backs (m ((c.tc : Thread nD τ).loc main_arg3)) (total m c) (m ((c.tc : Thread nD τ).loc main_arg4)),
    fun c => gains (m ((c.tc : Thread nD τ).loc main_arg2)) (m ((c.tc : Thread nD τ).loc main_arg1)), fun c => gains (m ((c.tc : Thread nD τ).loc main_arg3)) (total m c),
    (θ_run defs _ _).mono (fun _ h c => ⟨(h c).1.trans (final_total m c), (h c).2.1.trans (final_mixed m c), (h c).2.2.1.trans (final_later m c),
      (h c).2.2.2.1.trans (final_earlier m c), (h c).2.2.2.2⟩) (run_blocks m g),
    (θ_run Cert.Reference18Ideal.defs _ _).mono (fun r h c => ⟨(h c).1.trans ?_, (h c).2.1.trans ?_, (h c).2.2.1.trans ?_, (h c).2.2.2.1.trans ?_, (h c).2.2.2.2⟩)
      (Cert.Reference18Ideal.Value.run m' g')⟩
  · refine Eq.trans (b := both (m' ((c.tc : Thread Cert.Reference18Ideal.nD Cert.Reference18Ideal.τ).loc Cert.Reference18Ideal.main_arg0))
      (backOf (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg5)))) rfl ?_
    rw [(heq c).1, (heq c).2.1, (heq c).2.2.1, (heq c).2.2.2.2.2, backOf_eq]
    rfl
  · refine Eq.trans (b := backOf (m' ((c.tc : Thread Cert.Reference18Ideal.nD Cert.Reference18Ideal.τ).loc Cert.Reference18Ideal.main_arg3))
      (both (m' ((c.tc : Thread Cert.Reference18Ideal.nD Cert.Reference18Ideal.τ).loc Cert.Reference18Ideal.main_arg0)) (backOf (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg5))))
      (m' ((c.tc : Thread Cert.Reference18Ideal.nD Cert.Reference18Ideal.τ).loc Cert.Reference18Ideal.main_arg4))) rfl ?_
    rw [(heq c).1, (heq c).2.1, (heq c).2.2.1, (heq c).2.2.2.1, (heq c).2.2.2.2.1, (heq c).2.2.2.2.2, backOf_eq, backOf_eq]
    rfl
  · refine Eq.trans (b := gainOf (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg1))) rfl ?_
    rw [(heq c).2.1, (heq c).2.2.1, gainOf_eq]
  · refine Eq.trans (b := gainOf (m' ((c.tc : Thread Cert.Reference18Ideal.nD Cert.Reference18Ideal.τ).loc Cert.Reference18Ideal.main_arg3))
      (both (m' ((c.tc : Thread Cert.Reference18Ideal.nD Cert.Reference18Ideal.τ).loc Cert.Reference18Ideal.main_arg0)) (backOf (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg5))))) rfl ?_
    rw [(heq c).1, (heq c).2.1, (heq c).2.2.1, (heq c).2.2.2.1, (heq c).2.2.2.2.2, backOf_eq, gainOf_eq]
    rfl

end Cert.MixNormGrad

end
-- ==== Proof.NormGrad.lean ====
/-
  The gradient of the norm before the mixer. A point of the grid treats a tile of 256 rows: it writes the tile of the
  gradient of the residual, and adds to the gradient of the gain, which stays in place, the tile's part.
-/
module

public import proofs.«01_k».proof.Proof.Gen.Kernel19Ideal.Value
public import proofs.«01_k».proof.Proof.Gen.Reference19Ideal.Run
public import proofs.«01_k».proof.Defs
public import proofs.«01_k».proof.Proof.Products
public import proofs.«01_k».proof.Proof.RefNorm

@[expose] public section

set_option maxRecDepth 16384

noncomputable section

namespace Cert.NormGrad

open Idealize.ShloMosaic Idealize.ShloMosaic.TcCoe Idealize.ShloMosaic.Tactic
open Idealize.SL Idealize.SL.Sem
open Cert.Kernel19Ideal Cert.Kernel19Ideal.Gen Cert.Kernel19Ideal.Value Cert.Products Cert.RowNorm Cert.RefNorm
open Finset

section Point

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole) (a6 : Memref sig .tc .vmem S256x2048 .f32) (h6 : a6.IsWhole)
  (a7 : Memref sig .tc .vmem S1x2048 .f32) (h7 : a7.IsWhole)
  (y d x : Vec Ideal S256x2048 .f32) (g : Vec Ideal S1x2048 .f32) (s : Vec Ideal S1x2048 .f32)

/-- Every point writes the tile's gradient of the rows; -/
theorem rows_first (hc : cond0_0 i) (hc1 : ¬cond0_1 i) :
    out0_A_4 (F := Ideal) c i a2 h2 a3 h3 a4 h4 a5 h5 a6 h6 a7 h7 hc hc1 y d x g = k0_pay5 y d x g := by
  unfold out0_A_4
  rw [View.read_writes_eq_canon _ _ _ (cover0_A_4 c i a2 h2 a3 h3 a4 h4 a5 h5 a6 h6 a7 h7 hc hc1 y d x g)]
  unfold kernelRun0_A
  dsimp only
  sl_unfold_words
  rw [View.canon_unit_zero origin]
  simp only [View.readAt_eq_ld, h2.read_unread, h3.read_unread, h4.read_unread, h5.read_unread,
    View.ld_unit_zero (S := S256x2048) origin, View.ld_unit_zero (S := S1x2048) origin]

theorem rows_later (hc : ¬cond0_0 i) (hc1 : cond0_1 i) :
    out0_B_4 (F := Ideal) c i a2 h2 a3 h3 a4 h4 a5 h5 a6 h6 a7 h7 hc hc1 y d x g s = k0_pay5 y d x g := by
  unfold out0_B_4
  rw [View.read_writes_eq_canon _ _ _ (cover0_B_4 c i a2 h2 a3 h3 a4 h4 a5 h5 a6 h6 a7 h7 hc hc1 y d x g s)]
  unfold kernelRun0_B
  dsimp only
  sl_unfold_words
  rw [View.canon_unit_zero origin]
  simp only [View.readAt_eq_ld, h2.read_unread, h3.read_unread, h4.read_unread, h5.read_unread,
    View.ld_unit_zero (S := S256x2048) origin, View.ld_unit_zero (S := S1x2048) origin]

/-- the first point leaves the gradient of the gain from its rows, -/
theorem gain_first (hc : cond0_0 i) (hc1 : ¬cond0_1 i) :
    out0_A_5 (F := Ideal) c i a2 h2 a3 h3 a4 h4 a5 h5 a6 h6 a7 h7 hc hc1 y d x g = k0_pay4 d x := by
  unfold out0_A_5
  rw [View.read_writes_eq_canon _ _ _ (cover0_A_5 c i a2 h2 a3 h3 a4 h4 a5 h5 a6 h6 a7 h7 hc hc1 y d x g)]
  unfold kernelRun0_A
  dsimp only
  sl_unfold_words
  rw [View.canon_unit_zero origin]
  simp only [View.readAt_eq_ld, h3.read_unread, h4.read_unread, View.ld_unit_zero (S := S256x2048) origin]

/-- and the others add theirs to what it holds. -/
theorem gain_later (hc : ¬cond0_0 i) (hc1 : cond0_1 i) :
    out0_B_5 (F := Ideal) c i a2 h2 a3 h3 a4 h4 a5 h5 a6 h6 a7 h7 hc hc1 y d x g s = k0_pay1 (k0_pay4 d x) s := by
  unfold out0_B_5
  rw [View.read_writes_eq_canon _ _ _ (cover0_B_5 c i a2 h2 a3 h3 a4 h4 a5 h5 a6 h6 a7 h7 hc hc1 y d x g s)]
  unfold kernelRun0_B
  dsimp only
  sl_unfold_words
  rw [View.canon_unit_zero origin]
  simp only [View.readAt_eq_ld, h3.read_unread, h4.read_unread, h7.read_unread, View.ld_unit_zero (S := S256x2048) origin,
    View.ld_unit_zero (S := S1x2048) origin]

end Point

theorem pay_rows (y d x : Vec Ideal S256x2048 .f32) (g : Vec Ideal S1x2048 .f32) (r : Fin 256) (q : Fin 2048) :
    k0_pay5 (F := Ideal) y d x g (ix2 r q) = y (ix2 r q) + back (row x r) (row d r) (row g 0) q := by
  pointwise [k0_pay5, k0_pay3, k0_pay2]
  rfl

theorem pay_gain (d x : Vec Ideal S256x2048 .f32) (q : Fin 2048) : k0_pay4 (F := Ideal) d x (ix2 0 q) = gain (row x) (row d) q := by
  pointwise [k0_pay4, k0_pay3, k0_pay2]
  rfl

theorem pay_add (a b : Vec Ideal S1x2048 .f32) (q : Fin 2048) : k0_pay1 (F := Ideal) a b (ix2 0 q) = b (ix2 0 q) + a (ix2 0 q) := by
  pointwise [k0_pay1]

variable (m : (ℓ : Loc nD τ sig) → Buf (Elt Ideal) ℓ) (c : Dev nD)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)

/-- The tile that a point of the grid treats. -/
abbrev pt (t : Fin cfg0.N) : Fin 8 := ⟨t.val, t.isLt⟩

theorem in_0 (t : Fin cfg0.N) (r : Fin 256) (q : Fin 2048) : iblk (F := Ideal) m c 0 t (ix2 r q) = m ((c : Thread nD τ).loc main_arg0) (ix2 (rowOf (pt t) r) q) := by
  blk_simp [iblk, V]; exact congrArg _ (by blk_ext [index_0 t, rowOf])
theorem in_1 (t : Fin cfg0.N) : row (iblk (F := Ideal) m c 1 t) = fun r => row (m ((c : Thread nD τ).loc main_arg1)) (rowOf (pt t) r) := by
  funext r q; unfold row; blk_simp [iblk, V]; exact congrArg _ (by blk_ext [index_1 t, rowOf])
theorem in_2 (t : Fin cfg0.N) : row (iblk (F := Ideal) m c 2 t) = fun r => row (m ((c : Thread nD τ).loc main_arg2)) (rowOf (pt t) r) := by
  funext r q; unfold row; blk_simp [iblk, V]; exact congrArg _ (by blk_ext [index_2 t, rowOf])
theorem in_3 (t : Fin cfg0.N) : row (iblk (F := Ideal) m c 3 t) 0 = row (m ((c : Thread nD τ).loc main_arg3)) 0 := by
  funext q; unfold row; blk_simp [iblk, V]; exact congrArg _ (by blk_ext [index_3 t])

theorem out_rows (t : Fin cfg0.N) : (outsAt0 (F := Ideal) m c t.val t.isLt).1 = k0_pay5 (iblk m c 0 t) (iblk m c 1 t) (iblk m c 2 t) (iblk m c 3 t) := by
  by_cases h : t.val % 8 = 0
  · rw [outsAt0_A m c t h (by have := t.isLt; change t.val < 8 at this; omega)]
    dsimp only
    rw [rows_first]
  · rw [outsAt0_B m c t h (by omega)]
    dsimp only
    rw [rows_later]

theorem final_rows : (dats (F := Ideal) m 0 c).arrAt 4 cfg0.N = both (m ((c : Thread nD τ).loc main_arg0))
    (backs (m ((c : Thread nD τ).loc main_arg2)) (m ((c : Thread nD τ).loc main_arg1)) (m ((c : Thread nD τ).loc main_arg3))) := by
  refine (dats m 0 c).arrAt_eq_of_covers 4 _ (by decide +kernel) fun t hf y => ?_
  obtain ⟨r, q, rfl⟩ : ∃ (r : Fin 256) (q : Fin 2048), y = ix2 r q := ⟨y 0, y 1, eq_ix2 y⟩
  refine Eq.trans (b := k0_pay5 (F := Ideal) (iblk m c 0 t) (iblk m c 1 t) (iblk m c 2 t) (iblk m c 3 t) (ix2 r q))
    (by blk_simp; rw [after0_4, out_rows]) ((pay_rows _ _ _ _ r q).trans (Eq.trans ?_ (at_two (a := rowOf (pt t) r) (b := q) ?_ ?_).symm))
  · rw [in_0, in_1, in_2, in_3]
    rfl
  · blk_simp [index_4 t]; rfl
  · blk_simp [index_4 t]

theorem final_gain : (dats (F := Ideal) m 0 c).arrAt 5 cfg0.N
    = gains (m ((c : Thread nD τ).loc main_arg2)) (m ((c : Thread nD τ).loc main_arg1)) := by
  refine (dats m 0 c).arrAt_eq_of_covers 5 _ (by decide +kernel) fun t hf y => ?_
  obtain ⟨r, q, rfl⟩ : ∃ (r : Fin 1) (q : Fin 2048), y = ix2 r q := ⟨y 0, y 1, eq_ix2 y⟩
  obtain rfl : r = 0 := Subsingleton.elim _ _
  have e : t.val = 7 := by have := (flush0_5 t).mp hf; have := t.isLt; change t.val < 8 at this; omega
  refine Eq.trans (b := (outsAt0 (F := Ideal) m c t.val t.isLt).2 (ix2 0 q)) (by blk_simp; rw [after0_5])
    ((gain_tiles (row (m ((c : Thread nD τ).loc main_arg2))) (row (m ((c : Thread nD τ).loc main_arg1))) q
      (fun l hl => (outsAt0 (F := Ideal) m c l hl).2 (ix2 0 q)) ?_ (fun l hl => ?_) t.val t.isLt e).trans
      (at_two (A := gains _ _) (a := (0 : Fin 1)) (b := q) ?_ ?_).symm)
  · refine (congrArg (fun p => p.2 (ix2 0 q)) (outsAt0_A m c ⟨0, by decide⟩ rfl (by decide))).trans ?_
    dsimp only
    rw [gain_first, pay_gain, in_1, in_2]
    rfl
  · refine (congrArg (fun p => p.2 (ix2 0 q)) (outsAt0_B m c ⟨l + 1, hl⟩ (by dsimp only; omega) (by dsimp only; omega))).trans ?_
    dsimp only
    rw [gain_later, pay_add, pay_gain, in_1, in_2]
    rfl
  · blk_simp [index_5 t]
  · blk_simp [index_5 t]

/-- The kernel and the reference end with the same results. -/
theorem algebraic : Cert.algebraic_Kernel19Ideal_Reference19Ideal := by
  intro m g m' g' _ heq
  refine ⟨fun c => both (m ((c.tc : Thread nD τ).loc main_arg0))
      (backs (m ((c.tc : Thread nD τ).loc main_arg2)) (m ((c.tc : Thread nD τ).loc main_arg1)) (m ((c.tc : Thread nD τ).loc main_arg3))),
    fun c => gains (m ((c.tc : Thread nD τ).loc main_arg2)) (m ((c.tc : Thread nD τ).loc main_arg1)),
    (θ_run defs _ _).mono (fun _ h c => ⟨(h c).1.trans (final_rows m c), (h c).2.1.trans (final_gain m c), (h c).2.2⟩) (run_blocks m g),
    (θ_run Cert.Reference19Ideal.defs _ _).mono (fun r h c => ⟨(h c).1.trans ?_, (h c).2.1.trans ?_, (h c).2.2⟩) (Cert.Reference19Ideal.Value.run m' g')⟩
  · refine Eq.trans (b := addf (m' ((c.tc : Thread Cert.Reference19Ideal.nD Cert.Reference19Ideal.τ).loc Cert.Reference19Ideal.main_arg0))
      (backOf (m' ((c.tc : Thread Cert.Reference19Ideal.nD Cert.Reference19Ideal.τ).loc Cert.Reference19Ideal.main_arg2))
        (m' ((c.tc : Thread Cert.Reference19Ideal.nD Cert.Reference19Ideal.τ).loc Cert.Reference19Ideal.main_arg1))
        (m' ((c.tc : Thread Cert.Reference19Ideal.nD Cert.Reference19Ideal.τ).loc Cert.Reference19Ideal.main_arg3)))) rfl ?_
    rw [(heq c).1, (heq c).2.1, (heq c).2.2.1, (heq c).2.2.2, backOf_eq]
    rfl
  · refine Eq.trans (b := gainOf (m' ((c.tc : Thread Cert.Reference19Ideal.nD Cert.Reference19Ideal.τ).loc Cert.Reference19Ideal.main_arg2))
      (m' ((c.tc : Thread Cert.Reference19Ideal.nD Cert.Reference19Ideal.τ).loc Cert.Reference19Ideal.main_arg1))) rfl ?_
    rw [(heq c).2.1, (heq c).2.2.1, gainOf_eq]

end Cert.NormGrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Loops
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Loops
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Loops
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Loops
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Frame
public import proofs.«01_k».proof.Proof.Twin
public import proofs.«01_k».proof.Proof.Grad
public import proofs.«01_k».proof.Proof.SbForwardRun
public import proofs.«01_k».proof.Proof.ScanForward
public import proofs.«01_k».proof.Proof.Swiglu
public import proofs.«01_k».proof.Proof.DGateUp
public import proofs.«01_k».proof.Proof.DxGateUp
public import proofs.«01_k».proof.Proof.DDown
public import proofs.«01_k».proof.Proof.Forward
public import proofs.«01_k».proof.Proof.Back
public import proofs.«01_k».proof.Proof.DxInEven
public import proofs.«01_k».proof.Proof.DOutEven
public import proofs.«01_k».proof.Proof.DInEven
public import proofs.«01_k».proof.Proof.DOutOdd
public import proofs.«01_k».proof.Proof.DInOdd
public import proofs.«01_k».proof.Proof.DPleUp
public import proofs.«01_k».proof.Proof.Gates
public import proofs.«01_k».proof.Proof.Norms
public import proofs.«01_k».proof.Proof.PleNormGrad
public import proofs.«01_k».proof.Proof.FfnNormGrad
public import proofs.«01_k».proof.Proof.MixNormGrad
public import proofs.«01_k».proof.Proof.NormGrad
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs to its end, leaves its arguments and every counter at zero: the run holds of any floats. -/
theorem frame_kernel : Cert.quiescent_Kernel := fun m ρ _ =>
  (congrArg (fun d => θ_run d (onTc (τ := Cert.Kernel.τ) (Cert.Kernel.main (F := Bits))) ⟨m, fun _ => 0, ρ⟩ (fun r =>
      (∀ c : Dev Cert.Kernel.nD, r.2.mem (c.tc.loc Cert.Kernel.main_arg0) = m (c.tc.loc Cert.Kernel.main_arg0)
        ∧ r.2.mem (c.tc.loc Cert.Kernel.main_arg1) = m (c.tc.loc Cert.Kernel.main_arg1)) ∧ r.2.sem = fun _ => 0))
    (Cert.Sb.defs_twin (F := Bits))).mpr (Cert.Sb.run_frame (F := Bits) m ρ)

/-- So does its idealization. -/
theorem frame_ideal : Cert.quiescent_KernelIdeal := fun m ρ _ => Cert.Sb.run_frame (F := Ideal) m ρ

/-- So does the reference. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

theorem frame_reference2 : Cert.quiescent_Reference2Ideal := fun m ρ _ =>
  (θ_run Cert.Reference2Ideal.defs _ _).mono (fun r h => ⟨fun c => (h c).2.2, sem_eq_zero_of_no_sems (by decide) r.2⟩) (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

theorem frame_reference6 : Cert.quiescent_Reference6Ideal := fun m ρ _ =>
  (θ_run Cert.Reference6Ideal.defs _ _).mono (fun r h => ⟨fun c => (h c).2.2.2.2.2.2, sem_eq_zero_of_no_sems (by decide) r.2⟩) (Cert.Reference6Ideal.Value.run m ρ)

theorem frame_reference7 : Cert.quiescent_Reference7Ideal := fun m ρ _ =>
  (θ_run Cert.Reference7Ideal.defs _ _).mono (fun r h => ⟨fun c => (h c).2.2.2.2, sem_eq_zero_of_no_sems (by decide) r.2⟩) (Cert.Reference7Ideal.Value.run m ρ)

theorem frame_reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

theorem frame_reference11 : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

theorem frame_reference12 : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

theorem frame_reference13 : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

theorem frame_reference14 : Cert.quiescent_Reference14Ideal := fun m ρ _ =>
  (θ_run Cert.Reference14Ideal.defs _ _).mono (fun r h => ⟨fun c => (h c).2.2.2.2.2.2.2.2.2.2, sem_eq_zero_of_no_sems (by decide) r.2⟩) (Cert.Reference14Ideal.Value.run m ρ)

theorem frame_reference15 : Cert.quiescent_Reference15Ideal := fun m ρ _ =>
  (θ_run Cert.Reference15Ideal.defs _ _).mono (fun r h => ⟨fun c => (h c).2.2.2.2.2.2, sem_eq_zero_of_no_sems (by decide) r.2⟩) (Cert.Reference15Ideal.Value.run m ρ)

theorem frame_reference16 : Cert.quiescent_Reference16Ideal := fun m ρ _ =>
  (θ_run Cert.Reference16Ideal.defs _ _).mono (fun r h => ⟨fun c => (h c).2.2.2, sem_eq_zero_of_no_sems (by decide) r.2⟩) (Cert.Reference16Ideal.Value.run m ρ)

theorem frame_reference17 : Cert.quiescent_Reference17Ideal := fun m ρ _ =>
  (θ_run Cert.Reference17Ideal.defs _ _).mono (fun r h => ⟨fun c => (h c).2.2.2, sem_eq_zero_of_no_sems (by decide) r.2⟩) (Cert.Reference17Ideal.Value.run m ρ)

theorem frame_reference18 : Cert.quiescent_Reference18Ideal := fun m ρ _ =>
  (θ_run Cert.Reference18Ideal.defs _ _).mono (fun r h => ⟨fun c => (h c).2.2.2.2, sem_eq_zero_of_no_sems (by decide) r.2⟩) (Cert.Reference18Ideal.Value.run m ρ)

theorem frame_reference19 : Cert.quiescent_Reference19Ideal := fun m ρ _ =>
  (θ_run Cert.Reference19Ideal.defs _ _).mono (fun r h => ⟨fun c => (h c).2.2, sem_eq_zero_of_no_sems (by decide) r.2⟩) (Cert.Reference19Ideal.Value.run m ρ)

theorem frame_reference20 : Cert.quiescent_Reference20Ideal := fun m ρ _ =>
  (θ_run Cert.Reference20Ideal.defs _ _).mono (fun r h => ⟨fun c => (h c).2, sem_eq_zero_of_no_sems (by decide) r.2⟩) (Cert.Reference20Ideal.Value.run m ρ)

theorem frame_kernel21 : Cert.quiescent_Kernel21 := fun m ρ _ =>
  (congrArg (fun d => θ_run d (onTc (τ := Cert.Kernel21.τ) (Cert.Kernel21.main (F := Bits))) ⟨m, fun _ => 0, ρ⟩ _) (Cert.Scan.defs_twin (F := Bits))).mpr
    (Cert.Scan.run_frame (F := Bits) m ρ)
theorem frame_ideal21 : Cert.quiescent_Kernel21Ideal := fun m ρ _ => Cert.Scan.run_frame (F := Ideal) m ρ
theorem frame_reference21 : Cert.quiescent_Reference21Ideal := fun m ρ _ =>
  (θ_run Cert.Reference21Ideal.defs _ _).mono (fun r h => ⟨fun c => (h c).2.2, sem_eq_zero_of_no_sems (by decide) r.2⟩) (Cert.Reference21Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Sb.Finite.facts, Cert.Sb.Fwd.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ,
  fun m ρ _ => Cert.Kernel20Ideal.Gen.frame m ρ, frame_reference20, fun m ρ _ => frame_reference20 m ρ trivial,
  frame_kernel21, frame_ideal21, frame_reference21,
  trivial, Cert.Sb.algebraic,
  trivial, Cert.Swiglu.algebraic,
  trivial, Cert.DGateUp.algebraic,
  trivial, Cert.DxGateUp.algebraic,
  trivial, Cert.DDown.algebraic,
  trivial, Cert.Forward.algebraic,
  trivial, Cert.Back.algebraic,
  trivial, Cert.DxInEven.algebraic,
  trivial, Cert.DOutEven.algebraic,
  trivial, Cert.DInEven.algebraic,
  trivial, Cert.DOutOdd.algebraic,
  trivial, Cert.DInOdd.algebraic,
  trivial, Cert.DPleUp.algebraic,
  trivial, Cert.Gates.algebraic,
  trivial, Cert.Norms.algebraic,
  trivial, Cert.PleNormGrad.algebraic,
  trivial, Cert.FfnNormGrad.algebraic,
  trivial, Cert.MixNormGrad.algebraic,
  trivial, Cert.NormGrad.algebraic,
  trivial, Cert.Sb.Fwd.algebraic,
  trivial, Cert.Scan.algebraic⟩

end Cert.Proof

end
